-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_write_idx_zero [hPre_write_idx_zero : Cert.Pre_write_idx_zero.Facts] (m : (ℓ : Loc Cert.KernelIdeal.nD Cert.KernelIdeal.τ Cert.KernelIdeal.sig) → Buf (Elt Ideal) ℓ) : Prop :=
  ∀ c : Dev Cert.KernelIdeal.nD,
    (Cert.Pre_write_idx_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_write_idx_zero [hPre_write_idx_zero : Cert.Pre_write_idx_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_write_idx_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_write_idx_zero [hKernelIdeal : Cert.KernelIdeal.Facts] [hPre_write_idx_zero : Cert.Pre_write_idx_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_write_idx_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_write_idx_zero [hReferenceIdeal : Cert.ReferenceIdeal.Facts] [hPre_write_idx_zero : Cert.Pre_write_idx_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_write_idx_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_write_idx_zero [hKernelIdeal : Cert.KernelIdeal.Facts] [hReferenceIdeal : Cert.ReferenceIdeal.Facts] [hPre_write_idx_zero : Cert.Pre_write_idx_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_write_idx_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v61)) (v2 : (c : Dev Cert.KernelIdeal.nD) → Buf (Elt Ideal) ((c.tc : Thread Cert.KernelIdeal.nD Cert.KernelIdeal.τ).loc Cert.KernelIdeal.main_v40_3)) (v3 : (c : Dev Cert.KernelIdeal.nD) → Buf (Elt Ideal) ((c.tc : Thread Cert.KernelIdeal.nD Cert.KernelIdeal.τ).loc Cert.KernelIdeal.main_v62)) (v4 : (c : Dev Cert.KernelIdeal.nD) → Buf (Elt Ideal) ((c.tc : Thread Cert.KernelIdeal.nD Cert.KernelIdeal.τ).loc Cert.KernelIdeal.main_v63)) (v5 : (c : Dev Cert.KernelIdeal.nD) → Buf (Elt Ideal) ((c.tc : Thread Cert.KernelIdeal.nD Cert.KernelIdeal.τ).loc Cert.KernelIdeal.main_v41)) (v6 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_v40_3) = v2 c
          ∧ r.2.mem ((c.tc : Thread Cert.KernelIdeal.nD Cert.KernelIdeal.τ).loc Cert.KernelIdeal.main_v62) = v3 c
          ∧ r.2.mem ((c.tc : Thread Cert.KernelIdeal.nD Cert.KernelIdeal.τ).loc Cert.KernelIdeal.main_v63) = v4 c
          ∧ r.2.mem ((c.tc : Thread Cert.KernelIdeal.nD Cert.KernelIdeal.τ).loc Cert.KernelIdeal.main_v41) = v5 c
          ∧ r.2.mem ((c.tc : Thread Cert.KernelIdeal.nD Cert.KernelIdeal.τ).loc Cert.KernelIdeal.main_v42) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_v124) = v4 c
          ∧ r.2.mem ((c.tc : Thread Cert.ReferenceIdeal.nD Cert.ReferenceIdeal.τ).loc Cert.ReferenceIdeal.main_v69) = v5 c
          ∧ r.2.mem ((c.tc : Thread Cert.ReferenceIdeal.nD Cert.ReferenceIdeal.τ).loc Cert.ReferenceIdeal.main_v76) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_write_idx_zero : Cert.Pre_write_idx_zero.Facts),
    quiescent_Kernel (hKernel := hKernel)
    ∧ quiescent_KernelIdeal (hKernelIdeal := hKernelIdeal)
    ∧ quiescent_KernelIdeal_pre_write_idx_zero (hKernelIdeal := hKernelIdeal) (hPre_write_idx_zero := hPre_write_idx_zero)
    ∧ quiescent_ReferenceIdeal (hReferenceIdeal := hReferenceIdeal)
    ∧ quiescent_ReferenceIdeal_pre_write_idx_zero (hReferenceIdeal := hReferenceIdeal) (hPre_write_idx_zero := hPre_write_idx_zero)
    ∧ preserves_Kernel_KernelIdeal
    ∧ algebraic_KernelIdeal_ReferenceIdeal_pre_write_idx_zero (hKernelIdeal := hKernelIdeal) (hReferenceIdeal := hReferenceIdeal) (hPre_write_idx_zero := hPre_write_idx_zero)
-- ==== Pre_write_idx_zero.lean ====
abbrev S1024x14 : Shape := ⟨2, ![1024, 14]⟩
abbrev S1x1024x64 : Shape := ⟨3, ![1, 1024, 64]⟩
abbrev S100000x10 : Shape := ⟨2, ![100000, 10]⟩
abbrev S100000x64 : Shape := ⟨2, ![100000, 64]⟩
abbrev S320x14 : Shape := ⟨2, ![320, 14]⟩
abbrev S320 : Shape := ⟨1, ![320]⟩
abbrev S320x64 : Shape := ⟨2, ![320, 64]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x64 : Shape := ⟨2, ![1, 64]⟩
abbrev S1 : Shape := ⟨1, ![1]⟩
abbrev S_ : Shape := ⟨0, ![]⟩

class Facts : Prop where

variable [Facts]

def fn {F : FTy → Type} [FloatOps F] (main_arg0 : FVec F S1024x14 .f32) (main_arg1 : FVec F S1x1024x64 .f32) (main_arg2 : FVec F S1x1024x64 .f32) (main_arg3 : FVec F S100000x10 .f32) (main_arg4 : FVec F S100000x64 .f32) (main_arg5 : FVec F S320x14 .f32) (main_arg6 : FVec F S320 .f32) (main_arg7 : FVec F S320x64 .f32) (main_arg8 : FVec F S320 .f32) (main_arg9 : FVec F S64x64 .f32) (main_arg10 : FVec F S64 .f32) (main_arg11 : FVec F S2x64 .f32) (main_arg12 : FVec F S2 .f32) (main_arg13 : FVec F S1x64 .f32) (main_arg14 : FVec F S1 .f32) (main_arg15 : IVec S_ 32) : IVec S_ 1 :=
  let main_c : IVec S_ 32 := constantI S_ 32 0#32
  let main_v0 : IVec S_ 1 := cmpi .eq main_arg15 main_c
  main_v0
-- ==== Kernel.lean ====
abbrev S1024x14 : Shape := ⟨2, ![1024, 14]⟩
abbrev S1x1024x64 : Shape := ⟨3, ![1, 1024, 64]⟩
abbrev S100000x10 : Shape := ⟨2, ![100000, 10]⟩
abbrev S100000x64 : Shape := ⟨2, ![100000, 64]⟩
abbrev S320x14 : Shape := ⟨2, ![320, 14]⟩
abbrev S320 : Shape := ⟨1, ![320]⟩
abbrev S320x64 : Shape := ⟨2, ![320, 64]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x64 : Shape := ⟨2, ![1, 64]⟩
abbrev S1 : Shape := ⟨1, ![1]⟩
abbrev S_ : Shape := ⟨0, ![]⟩
abbrev S1024x64 : Shape := ⟨2, ![1024, 64]⟩
abbrev S1024x1 : Shape := ⟨2, ![1024, 1]⟩
abbrev S1024x79 : Shape := ⟨2, ![1024, 79]⟩
abbrev S64x14 : Shape := ⟨2, ![64, 14]⟩
abbrev S64x1 : Shape := ⟨2, ![64, 1]⟩
abbrev S64x79 : Shape := ⟨2, ![64, 79]⟩
abbrev S1x2 : Shape := ⟨2, ![1, 2]⟩
abbrev S1x1 : Shape := ⟨2, ![1, 1]⟩
abbrev S10x100000 : Shape := ⟨2, ![10, 100000]⟩
abbrev S64x100000 : Shape := ⟨2, ![64, 100000]⟩
abbrev S1024x10 : Shape := ⟨2, ![1024, 10]⟩
abbrev S10x1024 : Shape := ⟨2, ![10, 1024]⟩
abbrev S1024x2 : Shape := ⟨2, ![1024, 2]⟩
abbrev S10x8192 : Shape := ⟨2, ![10, 8192]⟩
abbrev S64x8192 : Shape := ⟨2, ![64, 8192]⟩
abbrev S1024x128 : Shape := ⟨2, ![1024, 128]⟩
abbrev S128x8192 : Shape := ⟨2, ![128, 8192]⟩
abbrev S1024 : Shape := ⟨1, ![1024]⟩
abbrev S8192 : Shape := ⟨1, ![8192]⟩
abbrev S1x8192 : Shape := ⟨2, ![1, 8192]⟩
abbrev S1024x8192 : Shape := ⟨2, ![1024, 8192]⟩
abbrev S64x1024 : Shape := ⟨2, ![64, 1024]⟩
abbrev S1024x1x1 : Shape := ⟨3, ![1024, 1, 1]⟩
abbrev S1x1x1 : Shape := ⟨3, ![1, 1, 1]⟩

abbrev nBuf : Space → Nat
  | .hbm => 383
  | .vmem => 29
  | .smem => 0
  | _ => 0

abbrev hbmTy0_0 (i : Nat) : BufTy := match i % 128 with
  | 0 => ⟨S1024x14, .f32⟩
  | 1 => ⟨S1x1024x64, .f32⟩
  | 2 => ⟨S1x1024x64, .f32⟩
  | 3 => ⟨S100000x10, .f32⟩
  | 4 => ⟨S100000x64, .f32⟩
  | 5 => ⟨S320x14, .f32⟩
  | 6 => ⟨S320, .f32⟩
  | 7 => ⟨S320x64, .f32⟩
  | 8 => ⟨S320, .f32⟩
  | 9 => ⟨S64x64, .f32⟩
  | 10 => ⟨S64, .f32⟩
  | 11 => ⟨S2x64, .f32⟩
  | 12 => ⟨S2, .f32⟩
  | 13 => ⟨S1x64, .f32⟩
  | 14 => ⟨S1, .f32⟩
  | 15 => ⟨S_, .i32⟩
  | 16 => ⟨S1024x64, .f32⟩
  | 17 => ⟨S1024x64, .f32⟩
  | 18 => ⟨S_, .f32⟩
  | 19 => ⟨S1024x1, .f32⟩
  | 20 => ⟨S1024x79, .f32⟩
  | 21 => ⟨S320, .f32⟩
  | 22 => ⟨S64x14, .f32⟩
  | 23 => ⟨S64x64, .f32⟩
  | 24 => ⟨S64, .f32⟩
  | 25 => ⟨S64x1, .f32⟩
  | 26 => ⟨S64x79, .f32⟩
  | 27 => ⟨S64x14, .f32⟩
  | 28 => ⟨S64x64, .f32⟩
  | 29 => ⟨S64, .f32⟩
  | 30 => ⟨S64x1, .f32⟩
  | 31 => ⟨S64x79, .f32⟩
  | 32 => ⟨S64x14, .f32⟩
  | 33 => ⟨S64x64, .f32⟩
  | 34 => ⟨S64, .f32⟩
  | 35 => ⟨S64x1, .f32⟩
  | 36 => ⟨S64x79, .f32⟩
  | 37 => ⟨S64x14, .f32⟩
  | 38 => ⟨S64x64, .f32⟩
  | 39 => ⟨S64, .f32⟩
  | 40 => ⟨S64x1, .f32⟩
  | 41 => ⟨S64x79, .f32⟩
  | 42 => ⟨S64x14, .f32⟩
  | 43 => ⟨S64x64, .f32⟩
  | 44 => ⟨S64, .f32⟩
  | 45 => ⟨S64x1, .f32⟩
  | 46 => ⟨S64x79, .f32⟩
  | 47 => ⟨S1x64, .f32⟩
  | 48 => ⟨S1x2, .f32⟩
  | 49 => ⟨S1x1, .f32⟩
  | 50 => ⟨S1024x1, .f32⟩
  | 51 => ⟨S_, .f32⟩
  | 52 => ⟨S1x64, .f32⟩
  | 53 => ⟨S2x64, .f32⟩
  | 54 => ⟨S10x100000, .f32⟩
  | 55 => ⟨S64x100000, .f32⟩
  | 56 => ⟨S1024x10, .f32⟩
  | 57 => ⟨S10x1024, .f32⟩
  | 58 => ⟨S10x100000, .f32⟩
  | 59 => ⟨S64x100000, .f32⟩
  | 60 => ⟨S1024x2, .f32⟩
  | 61 => ⟨S1024x1, .f32⟩
  | 62 => ⟨S1024x64, .f32⟩
  | 63 => ⟨S1024x64, .f32⟩
  | 64 => ⟨S100000x10, .f32⟩
  | 65 => ⟨S100000x64, .f32⟩
  | 66 => ⟨S_, .i32⟩
  | 67 => ⟨S_, .i32⟩
  | 68 => ⟨S_, .i32⟩
  | 69 => ⟨S_, .i32⟩
  | 70 => ⟨S1, .i32⟩
  | 71 => ⟨S_, .i32⟩
  | 72 => ⟨S_, .i32⟩
  | 73 => ⟨S_, .i32⟩
  | 74 => ⟨S1, .i32⟩
  | 75 => ⟨S2, .i32⟩
  | 76 => ⟨S_, .f32⟩
  | 77 => ⟨S1024x2, .f32⟩
  | 78 => ⟨S1024x2, .f32⟩
  | 79 => ⟨S1024x2, .f32⟩
  | 80 => ⟨S_, .f32⟩
  | 81 => ⟨S_, .f32⟩
  | 82 => ⟨S_, .f32⟩
  | 83 => ⟨S1x1, .f32⟩
  | 84 => ⟨S1x1, .f32⟩
  | 85 => ⟨S1, .i32⟩
  | 86 => ⟨S_, .i32⟩
  | 87 => ⟨S1, .i32⟩
  | 88 => ⟨S_, .i32⟩
  | 89 => ⟨S1024x2, .i64⟩
  | 90 => ⟨S1024x2, .i64⟩
  | 91 => ⟨S_, .i64⟩
  | 92 => ⟨S1024x2, .i64⟩
  | 93 => ⟨S1024x2, .i64⟩
  | 94 => ⟨S_, .i64⟩
  | 95 => ⟨S1024x2, .i64⟩
  | 96 => ⟨S1024x2, .i64⟩
  | 97 => ⟨S1024x2, .i64⟩
  | 98 => ⟨S_, .i64⟩
  | 99 => ⟨S1024x2, .i64⟩
  | 100 => ⟨S1024x2, .i64⟩
  | 101 => ⟨S1024x2, .i32⟩
  | 102 => ⟨S1024x2, .i32⟩
  | 103 => ⟨S_, .i32⟩
  | 104 => ⟨S_, .i32⟩
  | 105 => ⟨S_, .i32⟩
  | 106 => ⟨S1024x2, .i32⟩
  | 107 => ⟨S1024x2, .i32⟩
  | 108 => ⟨S1024x2, .i32⟩
  | 109 => ⟨S1024x2, .i32⟩
  | 110 => ⟨S1024x2, .i32⟩
  | 111 => ⟨S_, .i32⟩
  | 112 => ⟨S1024x2, .i32⟩
  | 113 => ⟨S1024x2, .i32⟩
  | 114 => ⟨S_, .i32⟩
  | 115 => ⟨S1024x2, .i32⟩
  | 116 => ⟨S1024x2, .i32⟩
  | 117 => ⟨S1024x2, .i32⟩
  | 118 => ⟨S1024x2, .i32⟩
  | 119 => ⟨S1024x2, .i32⟩
  | 120 => ⟨S_, .i32⟩
  | 121 => ⟨S1024x2, .i32⟩
  | 122 => ⟨S1024x2, .i32⟩
  | 123 => ⟨S_, .i32⟩
  | 124 => ⟨S1024x2, .i32⟩
  | 125 => ⟨S1024x2, .i32⟩
  | 126 => ⟨S1024x2, .i32⟩
  | 127 => ⟨S1024x2, .i32⟩
  | _ => ⟨S1024x14, .f32⟩

abbrev hbmTy0_1 (i : Nat) : BufTy := match i % 128 with
  | 0 => ⟨S1024x2, .i32⟩
  | 1 => ⟨S_, .i32⟩
  | 2 => ⟨S1024x2, .i32⟩
  | 3 => ⟨S1024x2, .i32⟩
  | 4 => ⟨S_, .i32⟩
  | 5 => ⟨S1024x2, .i32⟩
  | 6 => ⟨S1024x2, .i32⟩
  | 7 => ⟨S1024x2, .i32⟩
  | 8 => ⟨S1024x2, .i32⟩
  | 9 => ⟨S1024x2, .i32⟩
  | 10 => ⟨S_, .i32⟩
  | 11 => ⟨S1024x2, .i32⟩
  | 12 => ⟨S1024x2, .i32⟩
  | 13 => ⟨S_, .i32⟩
  | 14 => ⟨S1024x2, .i32⟩
  | 15 => ⟨S1024x2, .i32⟩
  | 16 => ⟨S1024x2, .i32⟩
  | 17 => ⟨S1024x2, .i32⟩
  | 18 => ⟨S1024x2, .i32⟩
  | 19 => ⟨S1024x2, .i32⟩
  | 20 => ⟨S1024x2, .i32⟩
  | 21 => ⟨S1024x2, .i32⟩
  | 22 => ⟨S_, .i32⟩
  | 23 => ⟨S1024x2, .i32⟩
  | 24 => ⟨S1024x2, .i32⟩
  | 25 => ⟨S1024x2, .i32⟩
  | 26 => ⟨S_, .i32⟩
  | 27 => ⟨S1024x2, .i32⟩
  | 28 => ⟨S1024x2, .i32⟩
  | 29 => ⟨S_, .i32⟩
  | 30 => ⟨S1024x2, .i32⟩
  | 31 => ⟨S1024x2, .i32⟩
  | 32 => ⟨S1024x2, .i32⟩
  | 33 => ⟨S1024x2, .i32⟩
  | 34 => ⟨S1024x2, .i32⟩
  | 35 => ⟨S_, .i32⟩
  | 36 => ⟨S1024x2, .i32⟩
  | 37 => ⟨S1024x2, .i32⟩
  | 38 => ⟨S_, .i32⟩
  | 39 => ⟨S1024x2, .i32⟩
  | 40 => ⟨S1024x2, .i32⟩
  | 41 => ⟨S1024x2, .i32⟩
  | 42 => ⟨S1024x2, .i32⟩
  | 43 => ⟨S1024x2, .i32⟩
  | 44 => ⟨S_, .i32⟩
  | 45 => ⟨S1024x2, .i32⟩
  | 46 => ⟨S1024x2, .i32⟩
  | 47 => ⟨S_, .i32⟩
  | 48 => ⟨S1024x2, .i32⟩
  | 49 => ⟨S1024x2, .i32⟩
  | 50 => ⟨S1024x2, .i32⟩
  | 51 => ⟨S1024x2, .i32⟩
  | 52 => ⟨S1024x2, .i32⟩
  | 53 => ⟨S_, .i32⟩
  | 54 => ⟨S1024x2, .i32⟩
  | 55 => ⟨S1024x2, .i32⟩
  | 56 => ⟨S_, .i32⟩
  | 57 => ⟨S1024x2, .i32⟩
  | 58 => ⟨S1024x2, .i32⟩
  | 59 => ⟨S1024x2, .i32⟩
  | 60 => ⟨S1024x2, .i32⟩
  | 61 => ⟨S1024x2, .i32⟩
  | 62 => ⟨S1024x2, .i32⟩
  | 63 => ⟨S1024x2, .i32⟩
  | 64 => ⟨S1024x2, .i32⟩
  | 65 => ⟨S_, .i32⟩
  | 66 => ⟨S1024x2, .i32⟩
  | 67 => ⟨S1024x2, .i32⟩
  | 68 => ⟨S1024x2, .i32⟩
  | 69 => ⟨S_, .i32⟩
  | 70 => ⟨S1024x2, .i32⟩
  | 71 => ⟨S1024x2, .i32⟩
  | 72 => ⟨S_, .i32⟩
  | 73 => ⟨S1024x2, .i32⟩
  | 74 => ⟨S1024x2, .i32⟩
  | 75 => ⟨S1024x2, .i32⟩
  | 76 => ⟨S1024x2, .i32⟩
  | 77 => ⟨S1024x2, .i32⟩
  | 78 => ⟨S_, .i32⟩
  | 79 => ⟨S1024x2, .i32⟩
  | 80 => ⟨S1024x2, .i32⟩
  | 81 => ⟨S_, .i32⟩
  | 82 => ⟨S1024x2, .i32⟩
  | 83 => ⟨S1024x2, .i32⟩
  | 84 => ⟨S1024x2, .i32⟩
  | 85 => ⟨S1024x2, .i32⟩
  | 86 => ⟨S1024x2, .i32⟩
  | 87 => ⟨S_, .i32⟩
  | 88 => ⟨S1024x2, .i32⟩
  | 89 => ⟨S1024x2, .i32⟩
  | 90 => ⟨S_, .i32⟩
  | 91 => ⟨S1024x2, .i32⟩
  | 92 => ⟨S1024x2, .i32⟩
  | 93 => ⟨S1024x2, .i32⟩
  | 94 => ⟨S1024x2, .i32⟩
  | 95 => ⟨S1024x2, .i32⟩
  | 96 => ⟨S_, .i32⟩
  | 97 => ⟨S1024x2, .i32⟩
  | 98 => ⟨S1024x2, .i32⟩
  | 99 => ⟨S_, .i32⟩
  | 100 => ⟨S1024x2, .i32⟩
  | 101 => ⟨S1024x2, .i32⟩
  | 102 => ⟨S1024x2, .i32⟩
  | 103 => ⟨S1024x2, .i32⟩
  | 104 => ⟨S1024x2, .i32⟩
  | 105 => ⟨S1024x2, .i32⟩
  | 106 => ⟨S1024x2, .i32⟩
  | 107 => ⟨S1024x2, .i32⟩
  | 108 => ⟨S_, .i32⟩
  | 109 => ⟨S1024x2, .i32⟩
  | 110 => ⟨S1024x2, .i32⟩
  | 111 => ⟨S1024x2, .i32⟩
  | 112 => ⟨S_, .i32⟩
  | 113 => ⟨S1024x2, .i32⟩
  | 114 => ⟨S1024x2, .i32⟩
  | 115 => ⟨S_, .i32⟩
  | 116 => ⟨S1024x2, .i32⟩
  | 117 => ⟨S1024x2, .i32⟩
  | 118 => ⟨S1024x2, .i32⟩
  | 119 => ⟨S1024x2, .i32⟩
  | 120 => ⟨S1024x2, .i32⟩
  | 121 => ⟨S_, .i32⟩
  | 122 => ⟨S1024x2, .i32⟩
  | 123 => ⟨S1024x2, .i32⟩
  | 124 => ⟨S_, .i32⟩
  | 125 => ⟨S1024x2, .i32⟩
  | 126 => ⟨S1024x2, .i32⟩
  | 127 => ⟨S1024x2, .i32⟩
  | _ => ⟨S1024x14, .f32⟩

abbrev hbmTy0_2 (i : Nat) : BufTy := match i % 128 with
  | 0 => ⟨S1024x2, .i32⟩
  | 1 => ⟨S1024x2, .i32⟩
  | 2 => ⟨S_, .i32⟩
  | 3 => ⟨S1024x2, .i32⟩
  | 4 => ⟨S1024x2, .i32⟩
  | 5 => ⟨S_, .i32⟩
  | 6 => ⟨S1024x2, .i32⟩
  | 7 => ⟨S1024x2, .i32⟩
  | 8 => ⟨S1024x2, .i32⟩
  | 9 => ⟨S1024x2, .i32⟩
  | 10 => ⟨S1024x2, .i32⟩
  | 11 => ⟨S_, .i32⟩
  | 12 => ⟨S1024x2, .i32⟩
  | 13 => ⟨S1024x2, .i32⟩
  | 14 => ⟨S_, .i32⟩
  | 15 => ⟨S1024x2, .i32⟩
  | 16 => ⟨S1024x2, .i32⟩
  | 17 => ⟨S1024x2, .i32⟩
  | 18 => ⟨S1024x2, .i32⟩
  | 19 => ⟨S1024x2, .i32⟩
  | 20 => ⟨S1024x2, .i32⟩
  | 21 => ⟨S1024x2, .i32⟩
  | 22 => ⟨S1024x2, .i32⟩
  | 23 => ⟨S_, .i32⟩
  | 24 => ⟨S1024x2, .i32⟩
  | 25 => ⟨S1024x2, .i32⟩
  | 26 => ⟨S1024x2, .i32⟩
  | 27 => ⟨S_, .i32⟩
  | 28 => ⟨S1024x2, .i32⟩
  | 29 => ⟨S1024x2, .i32⟩
  | 30 => ⟨S_, .i32⟩
  | 31 => ⟨S1024x2, .i32⟩
  | 32 => ⟨S1024x2, .i32⟩
  | 33 => ⟨S1024x2, .i32⟩
  | 34 => ⟨S1024x2, .i32⟩
  | 35 => ⟨S1024x2, .i32⟩
  | 36 => ⟨S_, .i32⟩
  | 37 => ⟨S1024x2, .i32⟩
  | 38 => ⟨S1024x2, .i32⟩
  | 39 => ⟨S_, .i32⟩
  | 40 => ⟨S1024x2, .i32⟩
  | 41 => ⟨S1024x2, .i32⟩
  | 42 => ⟨S1024x2, .i32⟩
  | 43 => ⟨S1024x2, .i32⟩
  | 44 => ⟨S1024x2, .i32⟩
  | 45 => ⟨S_, .i32⟩
  | 46 => ⟨S1024x2, .i32⟩
  | 47 => ⟨S1024x2, .i32⟩
  | 48 => ⟨S_, .i32⟩
  | 49 => ⟨S1024x2, .i32⟩
  | 50 => ⟨S1024x2, .i32⟩
  | 51 => ⟨S1024x2, .i32⟩
  | 52 => ⟨S1024x2, .i32⟩
  | 53 => ⟨S1024x2, .i32⟩
  | 54 => ⟨S_, .i32⟩
  | 55 => ⟨S1024x2, .i32⟩
  | 56 => ⟨S1024x2, .i32⟩
  | 57 => ⟨S_, .i32⟩
  | 58 => ⟨S1024x2, .i32⟩
  | 59 => ⟨S1024x2, .i32⟩
  | 60 => ⟨S1024x2, .i32⟩
  | 61 => ⟨S1024x2, .i32⟩
  | 62 => ⟨S1024x2, .i32⟩
  | 63 => ⟨S1024x2, .i32⟩
  | 64 => ⟨S1024x2, .i32⟩
  | 65 => ⟨S1024x2, .i32⟩
  | 66 => ⟨S_, .i32⟩
  | 67 => ⟨S1024x2, .i32⟩
  | 68 => ⟨S1024x2, .i32⟩
  | 69 => ⟨S1024x2, .i32⟩
  | 70 => ⟨S_, .i32⟩
  | 71 => ⟨S1024x2, .i32⟩
  | 72 => ⟨S1024x2, .i32⟩
  | 73 => ⟨S_, .i32⟩
  | 74 => ⟨S1024x2, .i32⟩
  | 75 => ⟨S1024x2, .i32⟩
  | 76 => ⟨S1024x2, .f32⟩
  | 77 => ⟨S_, .f32⟩
  | 78 => ⟨S1024x2, .f32⟩
  | 79 => ⟨S1024x2, .f32⟩
  | 80 => ⟨S1x1, .f32⟩
  | 81 => ⟨S1024x2, .f32⟩
  | 82 => ⟨S1024x2, .f32⟩
  | 83 => ⟨S1024x2, .f32⟩
  | 84 => ⟨S1024x2, .f32⟩
  | 85 => ⟨S1024x2, .f32⟩
  | 86 => ⟨S1024x2, .f32⟩
  | 87 => ⟨S1024x2, .f32⟩
  | 88 => ⟨S1024x2, .f32⟩
  | 89 => ⟨S1024x2, .f32⟩
  | 90 => ⟨S1024x2, .f32⟩
  | 91 => ⟨S1024x2, .f32⟩
  | 92 => ⟨S1024x2, .i32⟩
  | 93 => ⟨S_, .f32⟩
  | 94 => ⟨S_, .i32⟩
  | 95 => ⟨S1024, .f32⟩
  | 96 => ⟨S1024, .i32⟩
  | 97 => ⟨S1024x1, .i32⟩
  | 98 => ⟨S_, .i32⟩
  | 99 => ⟨S1024x1, .i32⟩
  | 100 => ⟨S1024x1, .i1⟩
  | 101 => ⟨S_, .i32⟩
  | 102 => ⟨S1024x1, .i32⟩
  | 103 => ⟨S1024x1, .i32⟩
  | 104 => ⟨S1024x1, .i32⟩
  | 105 => ⟨S1024x1x1, .i32⟩
  | 106 => ⟨S1, .i32⟩
  | 107 => ⟨S_, .i32⟩
  | 108 => ⟨S1024x1x1, .i32⟩
  | 109 => ⟨S1024x1x1, .i1⟩
  | 110 => ⟨S1x1x1, .i32⟩
  | 111 => ⟨S1024x1x1, .i32⟩
  | 112 => ⟨S1024x1x1, .i1⟩
  | 113 => ⟨S1024x1x1, .i1⟩
  | 114 => ⟨S_, .i1⟩
  | 115 => ⟨S1024x1, .i1⟩
  | 116 => ⟨S1024x1, .f32⟩
  | 117 => ⟨S_, .f32⟩
  | 118 => ⟨S1024x1, .f32⟩
  | 119 => ⟨S1024x1, .f32⟩
  | 120 => ⟨S1024, .f32⟩
  | 121 => ⟨S_, .f32⟩
  | 122 => ⟨S1024, .f32⟩
  | 123 => ⟨S1024, .f32⟩
  | 124 => ⟨S1024, .f32⟩
  | 125 => ⟨S1x1024x64, .f32⟩
  | 126 => ⟨S1x1024x64, .f32⟩
  | _ => ⟨S1024x14, .f32⟩

abbrev hbmTy (i : Nat) : BufTy := match i / 128 with
  | 0 => hbmTy0_0 i
  | 1 => hbmTy0_1 i
  | 2 => hbmTy0_2 i
  | _ => ⟨S1024x14, .f32⟩

abbrev bufTy : (tb : Table) → Fin (tcTables nBuf tb) → BufTy
  | .hbm, ⟨i, _⟩ => hbmTy i
  | .local _ .vmem, ⟨0, _⟩ => ⟨S1024x79, .f32⟩
  | .local _ .vmem, ⟨1, _⟩ => ⟨S1024x64, .f32⟩
  | .local _ .vmem, ⟨2, _⟩ => ⟨S10x1024, .f32⟩
  | .local _ .vmem, ⟨3, _⟩ => ⟨S10x8192, .f32⟩
  | .local _ .vmem, ⟨4, _⟩ => ⟨S10x8192, .f32⟩
  | .local _ .vmem, ⟨5, _⟩ => ⟨S64x8192, .f32⟩
  | .local _ .vmem, ⟨6, _⟩ => ⟨S64x8192, .f32⟩
  | .local _ .vmem, ⟨7, _⟩ => ⟨S64x79, .f32⟩
  | .local _ .vmem, ⟨8, _⟩ => ⟨S64x79, .f32⟩
  | .local _ .vmem, ⟨9, _⟩ => ⟨S64x79, .f32⟩
  | .local _ .vmem, ⟨10, _⟩ => ⟨S64x79, .f32⟩
  | .local _ .vmem, ⟨11, _⟩ => ⟨S64x79, .f32⟩
  | .local _ .vmem, ⟨12, _⟩ => ⟨S64x64, .f32⟩
  | .local _ .vmem, ⟨13, _⟩ => ⟨S1x64, .f32⟩
  | .local _ .vmem, ⟨14, _⟩ => ⟨S2x64, .f32⟩
  | .local _ .vmem, ⟨15, _⟩ => ⟨S1x2, .f32⟩
  | .local _ .vmem, ⟨16, _⟩ => ⟨S2x64, .f32⟩
  | .local _ .vmem, ⟨17, _⟩ => ⟨S1024x1, .f32⟩
  | .local _ .vmem, ⟨18, _⟩ => ⟨S10x8192, .f32⟩
  | .local _ .vmem, ⟨19, _⟩ => ⟨S10x8192, .f32⟩
  | .local _ .vmem, ⟨20, _⟩ => ⟨S64x8192, .f32⟩
  | .local _ .vmem, ⟨21, _⟩ => ⟨S64x8192, .f32⟩
  | .local _ .vmem, ⟨22, _⟩ => ⟨S1024x2, .f32⟩
  | .local _ .vmem, ⟨23, _⟩ => ⟨S1024x1, .f32⟩
  | .local _ .vmem, ⟨24, _⟩ => ⟨S1024x64, .f32⟩
  | .local _ .vmem, ⟨25, _⟩ => ⟨S1024x64, .f32⟩
  | .local _ .vmem, ⟨26, _⟩ => ⟨S1024x128, .f32⟩
  | .local _ .vmem, ⟨27, _⟩ => ⟨S1024x10, .bf16⟩
  | .local _ .vmem, ⟨28, _⟩ => ⟨S128x8192, .bf16⟩
  | _, _ => ⟨S1024x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40_0 : Ref sig .tc := ⟨.hbm, 58, rfl⟩
abbrev main_v40_1 : Ref sig .tc := ⟨.hbm, 59, rfl⟩
abbrev main_v40_2 : Ref sig .tc := ⟨.hbm, 60, rfl⟩
abbrev main_v40_3 : Ref sig .tc := ⟨.hbm, 61, rfl⟩
abbrev main_v40_4 : Ref sig .tc := ⟨.hbm, 62, rfl⟩
abbrev main_v40_5 : Ref sig .tc := ⟨.hbm, 63, rfl⟩
abbrev main_v41 : Ref sig .tc := ⟨.hbm, 64, rfl⟩
abbrev main_v42 : Ref sig .tc := ⟨.hbm, 65, rfl⟩
abbrev main_c : Ref sig .tc := ⟨.hbm, 66, rfl⟩
abbrev main_c_1 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_2 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_3 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call0_cst : Ref sig .tc := ⟨.hbm, 80, rfl⟩
abbrev main_call0_cst_0 : Ref sig .tc := ⟨.hbm, 81, rfl⟩
abbrev main_call0_call0_v0 : Ref sig .tc := ⟨.hbm, 82, rfl⟩
abbrev main_call0_call0_v1 : Ref sig .tc := ⟨.hbm, 83, rfl⟩
abbrev main_call0_call0_v2 : Ref sig .tc := ⟨.hbm, 84, rfl⟩
abbrev main_call0_call0_v3 : Ref sig .tc := ⟨.hbm, 85, rfl⟩
abbrev main_call0_call0_v4 : Ref sig .tc := ⟨.hbm, 86, rfl⟩
abbrev main_call0_call0_v5 : Ref sig .tc := ⟨.hbm, 87, rfl⟩
abbrev main_call0_call0_v6 : Ref sig .tc := ⟨.hbm, 88, rfl⟩
abbrev main_call0_call0_v7 : Ref sig .tc := ⟨.hbm, 89, rfl⟩
abbrev main_call0_call0_v8 : Ref sig .tc := ⟨.hbm, 90, rfl⟩
abbrev main_call0_call0_c : Ref sig .tc := ⟨.hbm, 91, rfl⟩
abbrev main_call0_call0_v9 : Ref sig .tc := ⟨.hbm, 92, rfl⟩
abbrev main_call0_call0_v10 : Ref sig .tc := ⟨.hbm, 93, rfl⟩
abbrev main_call0_call0_c_0 : Ref sig .tc := ⟨.hbm, 94, rfl⟩
abbrev main_call0_call0_v11 : Ref sig .tc := ⟨.hbm, 95, rfl⟩
abbrev main_call0_call0_v12 : Ref sig .tc := ⟨.hbm, 96, rfl⟩
abbrev main_call0_call0_v13 : Ref sig .tc := ⟨.hbm, 97, rfl⟩
abbrev main_call0_call0_c_1 : Ref sig .tc := ⟨.hbm, 98, rfl⟩
abbrev main_call0_call0_v14 : Ref sig .tc := ⟨.hbm, 99, rfl⟩
abbrev main_call0_call0_v15 : Ref sig .tc := ⟨.hbm, 100, rfl⟩
abbrev main_call0_call0_v16 : Ref sig .tc := ⟨.hbm, 101, rfl⟩
abbrev main_call0_call0_v17 : Ref sig .tc := ⟨.hbm, 102, rfl⟩
abbrev main_call0_call0_call0_v0 : Ref sig .tc := ⟨.hbm, 103, rfl⟩
abbrev main_call0_call0_call0_c : Ref sig .tc := ⟨.hbm, 104, rfl⟩
abbrev main_call0_call0_call0_v1 : Ref sig .tc := ⟨.hbm, 105, rfl⟩
abbrev main_call0_call0_call0_v2 : Ref sig .tc := ⟨.hbm, 106, rfl⟩
abbrev main_call0_call0_call0_v3 : Ref sig .tc := ⟨.hbm, 107, rfl⟩
abbrev main_call0_call0_call0_v4 : Ref sig .tc := ⟨.hbm, 108, rfl⟩
abbrev main_call0_call0_call0_v5 : Ref sig .tc := ⟨.hbm, 109, rfl⟩
abbrev main_call0_call0_call0_v6 : Ref sig .tc := ⟨.hbm, 110, rfl⟩
abbrev main_call0_call0_call0_c_0 : Ref sig .tc := ⟨.hbm, 111, rfl⟩
abbrev main_call0_call0_call0_v7 : Ref sig .tc := ⟨.hbm, 112, rfl⟩
abbrev main_call0_call0_call0_v8 : Ref sig .tc := ⟨.hbm, 113, rfl⟩
abbrev main_call0_call0_call0_c_1 : Ref sig .tc := ⟨.hbm, 114, rfl⟩
abbrev main_call0_call0_call0_v9 : Ref sig .tc := ⟨.hbm, 115, rfl⟩
abbrev main_call0_call0_call0_v10 : Ref sig .tc := ⟨.hbm, 116, rfl⟩
abbrev main_call0_call0_call0_v11 : Ref sig .tc := ⟨.hbm, 117, rfl⟩
abbrev main_call0_call0_call0_v12 : Ref sig .tc := ⟨.hbm, 118, rfl⟩
abbrev main_call0_call0_call0_v13 : Ref sig .tc := ⟨.hbm, 119, rfl⟩
abbrev main_call0_call0_call0_c_2 : Ref sig .tc := ⟨.hbm, 120, rfl⟩
abbrev main_call0_call0_call0_v14 : Ref sig .tc := ⟨.hbm, 121, rfl⟩
abbrev main_call0_call0_call0_v15 : Ref sig .tc := ⟨.hbm, 122, rfl⟩
abbrev main_call0_call0_call0_c_3 : Ref sig .tc := ⟨.hbm, 123, rfl⟩
abbrev main_call0_call0_call0_v16 : Ref sig .tc := ⟨.hbm, 124, rfl⟩
abbrev main_call0_call0_call0_v17 : Ref sig .tc := ⟨.hbm, 125, rfl⟩
abbrev main_call0_call0_call0_v18 : Ref sig .tc := ⟨.hbm, 126, rfl⟩
abbrev main_call0_call0_call0_v19 : Ref sig .tc := ⟨.hbm, 127, rfl⟩
abbrev main_call0_call0_call0_v20 : Ref sig .tc := ⟨.hbm, 128, rfl⟩
abbrev main_call0_call0_call0_c_4 : Ref sig .tc := ⟨.hbm, 129, rfl⟩
abbrev main_call0_call0_call0_v21 : Ref sig .tc := ⟨.hbm, 130, rfl⟩
abbrev main_call0_call0_call0_v22 : Ref sig .tc := ⟨.hbm, 131, rfl⟩
abbrev main_call0_call0_call0_c_5 : Ref sig .tc := ⟨.hbm, 132, rfl⟩
abbrev main_call0_call0_call0_v23 : Ref sig .tc := ⟨.hbm, 133, rfl⟩
abbrev main_call0_call0_call0_v24 : Ref sig .tc := ⟨.hbm, 134, rfl⟩
abbrev main_call0_call0_call0_v25 : Ref sig .tc := ⟨.hbm, 135, rfl⟩
abbrev main_call0_call0_call0_v26 : Ref sig .tc := ⟨.hbm, 136, rfl⟩
abbrev main_call0_call0_call0_v27 : Ref sig .tc := ⟨.hbm, 137, rfl⟩
abbrev main_call0_call0_call0_c_6 : Ref sig .tc := ⟨.hbm, 138, rfl⟩
abbrev main_call0_call0_call0_v28 : Ref sig .tc := ⟨.hbm, 139, rfl⟩
abbrev main_call0_call0_call0_v29 : Ref sig .tc := ⟨.hbm, 140, rfl⟩
abbrev main_call0_call0_call0_c_7 : Ref sig .tc := ⟨.hbm, 141, rfl⟩
abbrev main_call0_call0_call0_v30 : Ref sig .tc := ⟨.hbm, 142, rfl⟩
abbrev main_call0_call0_call0_v31 : Ref sig .tc := ⟨.hbm, 143, rfl⟩
abbrev main_call0_call0_call0_v32 : Ref sig .tc := ⟨.hbm, 144, rfl⟩
abbrev main_call0_call0_call0_v33 : Ref sig .tc := ⟨.hbm, 145, rfl⟩
abbrev main_call0_call0_call0_v34 : Ref sig .tc := ⟨.hbm, 146, rfl⟩
abbrev main_call0_call0_call0_v35 : Ref sig .tc := ⟨.hbm, 147, rfl⟩
abbrev main_call0_call0_call0_v36 : Ref sig .tc := ⟨.hbm, 148, rfl⟩
abbrev main_call0_call0_call0_v37 : Ref sig .tc := ⟨.hbm, 149, rfl⟩
abbrev main_call0_call0_call0_c_8 : Ref sig .tc := ⟨.hbm, 150, rfl⟩
abbrev main_call0_call0_call0_v38 : Ref sig .tc := ⟨.hbm, 151, rfl⟩
abbrev main_call0_call0_call0_v39 : Ref sig .tc := ⟨.hbm, 152, rfl⟩
abbrev main_call0_call0_call0_v40 : Ref sig .tc := ⟨.hbm, 153, rfl⟩
abbrev main_call0_call0_call0_c_9 : Ref sig .tc := ⟨.hbm, 154, rfl⟩
abbrev main_call0_call0_call0_v41 : Ref sig .tc := ⟨.hbm, 155, rfl⟩
abbrev main_call0_call0_call0_v42 : Ref sig .tc := ⟨.hbm, 156, rfl⟩
abbrev main_call0_call0_call0_c_10 : Ref sig .tc := ⟨.hbm, 157, rfl⟩
abbrev main_call0_call0_call0_v43 : Ref sig .tc := ⟨.hbm, 158, rfl⟩
abbrev main_call0_call0_call0_v44 : Ref sig .tc := ⟨.hbm, 159, rfl⟩
abbrev main_call0_call0_call0_v45 : Ref sig .tc := ⟨.hbm, 160, rfl⟩
abbrev main_call0_call0_call0_v46 : Ref sig .tc := ⟨.hbm, 161, rfl⟩
abbrev main_call0_call0_call0_v47 : Ref sig .tc := ⟨.hbm, 162, rfl⟩
abbrev main_call0_call0_call0_c_11 : Ref sig .tc := ⟨.hbm, 163, rfl⟩
abbrev main_call0_call0_call0_v48 : Ref sig .tc := ⟨.hbm, 164, rfl⟩
abbrev main_call0_call0_call0_v49 : Ref sig .tc := ⟨.hbm, 165, rfl⟩
abbrev main_call0_call0_call0_c_12 : Ref sig .tc := ⟨.hbm, 166, rfl⟩
abbrev main_call0_call0_call0_v50 : Ref sig .tc := ⟨.hbm, 167, rfl⟩
abbrev main_call0_call0_call0_v51 : Ref sig .tc := ⟨.hbm, 168, rfl⟩
abbrev main_call0_call0_call0_v52 : Ref sig .tc := ⟨.hbm, 169, rfl⟩
abbrev main_call0_call0_call0_v53 : Ref sig .tc := ⟨.hbm, 170, rfl⟩
abbrev main_call0_call0_call0_v54 : Ref sig .tc := ⟨.hbm, 171, rfl⟩
abbrev main_call0_call0_call0_c_13 : Ref sig .tc := ⟨.hbm, 172, rfl⟩
abbrev main_call0_call0_call0_v55 : Ref sig .tc := ⟨.hbm, 173, rfl⟩
abbrev main_call0_call0_call0_v56 : Ref sig .tc := ⟨.hbm, 174, rfl⟩
abbrev main_call0_call0_call0_c_14 : Ref sig .tc := ⟨.hbm, 175, rfl⟩
abbrev main_call0_call0_call0_v57 : Ref sig .tc := ⟨.hbm, 176, rfl⟩
abbrev main_call0_call0_call0_v58 : Ref sig .tc := ⟨.hbm, 177, rfl⟩
abbrev main_call0_call0_call0_v59 : Ref sig .tc := ⟨.hbm, 178, rfl⟩
abbrev main_call0_call0_call0_v60 : Ref sig .tc := ⟨.hbm, 179, rfl⟩
abbrev main_call0_call0_call0_v61 : Ref sig .tc := ⟨.hbm, 180, rfl⟩
abbrev main_call0_call0_call0_c_15 : Ref sig .tc := ⟨.hbm, 181, rfl⟩
abbrev main_call0_call0_call0_v62 : Ref sig .tc := ⟨.hbm, 182, rfl⟩
abbrev main_call0_call0_call0_v63 : Ref sig .tc := ⟨.hbm, 183, rfl⟩
abbrev main_call0_call0_call0_c_16 : Ref sig .tc := ⟨.hbm, 184, rfl⟩
abbrev main_call0_call0_call0_v64 : Ref sig .tc := ⟨.hbm, 185, rfl⟩
abbrev main_call0_call0_call0_v65 : Ref sig .tc := ⟨.hbm, 186, rfl⟩
abbrev main_call0_call0_call0_v66 : Ref sig .tc := ⟨.hbm, 187, rfl⟩
abbrev main_call0_call0_call0_v67 : Ref sig .tc := ⟨.hbm, 188, rfl⟩
abbrev main_call0_call0_call0_v68 : Ref sig .tc := ⟨.hbm, 189, rfl⟩
abbrev main_call0_call0_call0_v69 : Ref sig .tc := ⟨.hbm, 190, rfl⟩
abbrev main_call0_call0_call0_v70 : Ref sig .tc := ⟨.hbm, 191, rfl⟩
abbrev main_call0_call0_call0_v71 : Ref sig .tc := ⟨.hbm, 192, rfl⟩
abbrev main_call0_call0_call0_c_17 : Ref sig .tc := ⟨.hbm, 193, rfl⟩
abbrev main_call0_call0_call0_v72 : Ref sig .tc := ⟨.hbm, 194, rfl⟩
abbrev main_call0_call0_call0_v73 : Ref sig .tc := ⟨.hbm, 195, rfl⟩
abbrev main_call0_call0_call0_v74 : Ref sig .tc := ⟨.hbm, 196, rfl⟩
abbrev main_call0_call0_call0_c_18 : Ref sig .tc := ⟨.hbm, 197, rfl⟩
abbrev main_call0_call0_call0_v75 : Ref sig .tc := ⟨.hbm, 198, rfl⟩
abbrev main_call0_call0_call0_v76 : Ref sig .tc := ⟨.hbm, 199, rfl⟩
abbrev main_call0_call0_call0_c_19 : Ref sig .tc := ⟨.hbm, 200, rfl⟩
abbrev main_call0_call0_call0_v77 : Ref sig .tc := ⟨.hbm, 201, rfl⟩
abbrev main_call0_call0_call0_v78 : Ref sig .tc := ⟨.hbm, 202, rfl⟩
abbrev main_call0_call0_call0_v79 : Ref sig .tc := ⟨.hbm, 203, rfl⟩
abbrev main_call0_call0_call0_v80 : Ref sig .tc := ⟨.hbm, 204, rfl⟩
abbrev main_call0_call0_call0_v81 : Ref sig .tc := ⟨.hbm, 205, rfl⟩
abbrev main_call0_call0_call0_c_20 : Ref sig .tc := ⟨.hbm, 206, rfl⟩
abbrev main_call0_call0_call0_v82 : Ref sig .tc := ⟨.hbm, 207, rfl⟩
abbrev main_call0_call0_call0_v83 : Ref sig .tc := ⟨.hbm, 208, rfl⟩
abbrev main_call0_call0_call0_c_21 : Ref sig .tc := ⟨.hbm, 209, rfl⟩
abbrev main_call0_call0_call0_v84 : Ref sig .tc := ⟨.hbm, 210, rfl⟩
abbrev main_call0_call0_call0_v85 : Ref sig .tc := ⟨.hbm, 211, rfl⟩
abbrev main_call0_call0_call0_v86 : Ref sig .tc := ⟨.hbm, 212, rfl⟩
abbrev main_call0_call0_call0_v87 : Ref sig .tc := ⟨.hbm, 213, rfl⟩
abbrev main_call0_call0_call0_v88 : Ref sig .tc := ⟨.hbm, 214, rfl⟩
abbrev main_call0_call0_call0_c_22 : Ref sig .tc := ⟨.hbm, 215, rfl⟩
abbrev main_call0_call0_call0_v89 : Ref sig .tc := ⟨.hbm, 216, rfl⟩
abbrev main_call0_call0_call0_v90 : Ref sig .tc := ⟨.hbm, 217, rfl⟩
abbrev main_call0_call0_call0_c_23 : Ref sig .tc := ⟨.hbm, 218, rfl⟩
abbrev main_call0_call0_call0_v91 : Ref sig .tc := ⟨.hbm, 219, rfl⟩
abbrev main_call0_call0_call0_v92 : Ref sig .tc := ⟨.hbm, 220, rfl⟩
abbrev main_call0_call0_call0_v93 : Ref sig .tc := ⟨.hbm, 221, rfl⟩
abbrev main_call0_call0_call0_v94 : Ref sig .tc := ⟨.hbm, 222, rfl⟩
abbrev main_call0_call0_call0_v95 : Ref sig .tc := ⟨.hbm, 223, rfl⟩
abbrev main_call0_call0_call0_c_24 : Ref sig .tc := ⟨.hbm, 224, rfl⟩
abbrev main_call0_call0_call0_v96 : Ref sig .tc := ⟨.hbm, 225, rfl⟩
abbrev main_call0_call0_call0_v97 : Ref sig .tc := ⟨.hbm, 226, rfl⟩
abbrev main_call0_call0_call0_c_25 : Ref sig .tc := ⟨.hbm, 227, rfl⟩
abbrev main_call0_call0_call0_v98 : Ref sig .tc := ⟨.hbm, 228, rfl⟩
abbrev main_call0_call0_call0_v99 : Ref sig .tc := ⟨.hbm, 229, rfl⟩
abbrev main_call0_call0_call0_v100 : Ref sig .tc := ⟨.hbm, 230, rfl⟩
abbrev main_call0_call0_call0_v101 : Ref sig .tc := ⟨.hbm, 231, rfl⟩
abbrev main_call0_call0_call0_v102 : Ref sig .tc := ⟨.hbm, 232, rfl⟩
abbrev main_call0_call0_call0_v103 : Ref sig .tc := ⟨.hbm, 233, rfl⟩
abbrev main_call0_call0_call0_v104 : Ref sig .tc := ⟨.hbm, 234, rfl⟩
abbrev main_call0_call0_call0_v105 : Ref sig .tc := ⟨.hbm, 235, rfl⟩
abbrev main_call0_call0_call0_c_26 : Ref sig .tc := ⟨.hbm, 236, rfl⟩
abbrev main_call0_call0_call0_v106 : Ref sig .tc := ⟨.hbm, 237, rfl⟩
abbrev main_call0_call0_call0_v107 : Ref sig .tc := ⟨.hbm, 238, rfl⟩
abbrev main_call0_call0_call0_v108 : Ref sig .tc := ⟨.hbm, 239, rfl⟩
abbrev main_call0_call0_call0_c_27 : Ref sig .tc := ⟨.hbm, 240, rfl⟩
abbrev main_call0_call0_call0_v109 : Ref sig .tc := ⟨.hbm, 241, rfl⟩
abbrev main_call0_call0_call0_v110 : Ref sig .tc := ⟨.hbm, 242, rfl⟩
abbrev main_call0_call0_call0_c_28 : Ref sig .tc := ⟨.hbm, 243, rfl⟩
abbrev main_call0_call0_call0_v111 : Ref sig .tc := ⟨.hbm, 244, rfl⟩
abbrev main_call0_call0_call0_v112 : Ref sig .tc := ⟨.hbm, 245, rfl⟩
abbrev main_call0_call0_call0_v113 : Ref sig .tc := ⟨.hbm, 246, rfl⟩
abbrev main_call0_call0_call0_v114 : Ref sig .tc := ⟨.hbm, 247, rfl⟩
abbrev main_call0_call0_call0_v115 : Ref sig .tc := ⟨.hbm, 248, rfl⟩
abbrev main_call0_call0_call0_c_29 : Ref sig .tc := ⟨.hbm, 249, rfl⟩
abbrev main_call0_call0_call0_v116 : Ref sig .tc := ⟨.hbm, 250, rfl⟩
abbrev main_call0_call0_call0_v117 : Ref sig .tc := ⟨.hbm, 251, rfl⟩
abbrev main_call0_call0_call0_c_30 : Ref sig .tc := ⟨.hbm, 252, rfl⟩
abbrev main_call0_call0_call0_v118 : Ref sig .tc := ⟨.hbm, 253, rfl⟩
abbrev main_call0_call0_call0_v119 : Ref sig .tc := ⟨.hbm, 254, rfl⟩
abbrev main_call0_call0_call0_v120 : Ref sig .tc := ⟨.hbm, 255, rfl⟩
abbrev main_call0_call0_call0_v121 : Ref sig .tc := ⟨.hbm, 256, rfl⟩
abbrev main_call0_call0_call0_v122 : Ref sig .tc := ⟨.hbm, 257, rfl⟩
abbrev main_call0_call0_call0_c_31 : Ref sig .tc := ⟨.hbm, 258, rfl⟩
abbrev main_call0_call0_call0_v123 : Ref sig .tc := ⟨.hbm, 259, rfl⟩
abbrev main_call0_call0_call0_v124 : Ref sig .tc := ⟨.hbm, 260, rfl⟩
abbrev main_call0_call0_call0_c_32 : Ref sig .tc := ⟨.hbm, 261, rfl⟩
abbrev main_call0_call0_call0_v125 : Ref sig .tc := ⟨.hbm, 262, rfl⟩
abbrev main_call0_call0_call0_v126 : Ref sig .tc := ⟨.hbm, 263, rfl⟩
abbrev main_call0_call0_call0_v127 : Ref sig .tc := ⟨.hbm, 264, rfl⟩
abbrev main_call0_call0_call0_v128 : Ref sig .tc := ⟨.hbm, 265, rfl⟩
abbrev main_call0_call0_call0_v129 : Ref sig .tc := ⟨.hbm, 266, rfl⟩
abbrev main_call0_call0_call0_c_33 : Ref sig .tc := ⟨.hbm, 267, rfl⟩
abbrev main_call0_call0_call0_v130 : Ref sig .tc := ⟨.hbm, 268, rfl⟩
abbrev main_call0_call0_call0_v131 : Ref sig .tc := ⟨.hbm, 269, rfl⟩
abbrev main_call0_call0_call0_c_34 : Ref sig .tc := ⟨.hbm, 270, rfl⟩
abbrev main_call0_call0_call0_v132 : Ref sig .tc := ⟨.hbm, 271, rfl⟩
abbrev main_call0_call0_call0_v133 : Ref sig .tc := ⟨.hbm, 272, rfl⟩
abbrev main_call0_call0_call0_v134 : Ref sig .tc := ⟨.hbm, 273, rfl⟩
abbrev main_call0_call0_call0_v135 : Ref sig .tc := ⟨.hbm, 274, rfl⟩
abbrev main_call0_call0_call0_v136 : Ref sig .tc := ⟨.hbm, 275, rfl⟩
abbrev main_call0_call0_call0_v137 : Ref sig .tc := ⟨.hbm, 276, rfl⟩
abbrev main_call0_call0_call0_v138 : Ref sig .tc := ⟨.hbm, 277, rfl⟩
abbrev main_call0_call0_call0_v139 : Ref sig .tc := ⟨.hbm, 278, rfl⟩
abbrev main_call0_call0_call0_c_35 : Ref sig .tc := ⟨.hbm, 279, rfl⟩
abbrev main_call0_call0_call0_v140 : Ref sig .tc := ⟨.hbm, 280, rfl⟩
abbrev main_call0_call0_call0_v141 : Ref sig .tc := ⟨.hbm, 281, rfl⟩
abbrev main_call0_call0_call0_v142 : Ref sig .tc := ⟨.hbm, 282, rfl⟩
abbrev main_call0_call0_call0_c_36 : Ref sig .tc := ⟨.hbm, 283, rfl⟩
abbrev main_call0_call0_call0_v143 : Ref sig .tc := ⟨.hbm, 284, rfl⟩
abbrev main_call0_call0_call0_v144 : Ref sig .tc := ⟨.hbm, 285, rfl⟩
abbrev main_call0_call0_call0_c_37 : Ref sig .tc := ⟨.hbm, 286, rfl⟩
abbrev main_call0_call0_call0_v145 : Ref sig .tc := ⟨.hbm, 287, rfl⟩
abbrev main_call0_call0_call0_v146 : Ref sig .tc := ⟨.hbm, 288, rfl⟩
abbrev main_call0_call0_call0_v147 : Ref sig .tc := ⟨.hbm, 289, rfl⟩
abbrev main_call0_call0_call0_v148 : Ref sig .tc := ⟨.hbm, 290, rfl⟩
abbrev main_call0_call0_call0_v149 : Ref sig .tc := ⟨.hbm, 291, rfl⟩
abbrev main_call0_call0_call0_c_38 : Ref sig .tc := ⟨.hbm, 292, rfl⟩
abbrev main_call0_call0_call0_v150 : Ref sig .tc := ⟨.hbm, 293, rfl⟩
abbrev main_call0_call0_call0_v151 : Ref sig .tc := ⟨.hbm, 294, rfl⟩
abbrev main_call0_call0_call0_c_39 : Ref sig .tc := ⟨.hbm, 295, rfl⟩
abbrev main_call0_call0_call0_v152 : Ref sig .tc := ⟨.hbm, 296, rfl⟩
abbrev main_call0_call0_call0_v153 : Ref sig .tc := ⟨.hbm, 297, rfl⟩
abbrev main_call0_call0_call0_v154 : Ref sig .tc := ⟨.hbm, 298, rfl⟩
abbrev main_call0_call0_call0_v155 : Ref sig .tc := ⟨.hbm, 299, rfl⟩
abbrev main_call0_call0_call0_v156 : Ref sig .tc := ⟨.hbm, 300, rfl⟩
abbrev main_call0_call0_call0_c_40 : Ref sig .tc := ⟨.hbm, 301, rfl⟩
abbrev main_call0_call0_call0_v157 : Ref sig .tc := ⟨.hbm, 302, rfl⟩
abbrev main_call0_call0_call0_v158 : Ref sig .tc := ⟨.hbm, 303, rfl⟩
abbrev main_call0_call0_call0_c_41 : Ref sig .tc := ⟨.hbm, 304, rfl⟩
abbrev main_call0_call0_call0_v159 : Ref sig .tc := ⟨.hbm, 305, rfl⟩
abbrev main_call0_call0_call0_v160 : Ref sig .tc := ⟨.hbm, 306, rfl⟩
abbrev main_call0_call0_call0_v161 : Ref sig .tc := ⟨.hbm, 307, rfl⟩
abbrev main_call0_call0_call0_v162 : Ref sig .tc := ⟨.hbm, 308, rfl⟩
abbrev main_call0_call0_call0_v163 : Ref sig .tc := ⟨.hbm, 309, rfl⟩
abbrev main_call0_call0_call0_c_42 : Ref sig .tc := ⟨.hbm, 310, rfl⟩
abbrev main_call0_call0_call0_v164 : Ref sig .tc := ⟨.hbm, 311, rfl⟩
abbrev main_call0_call0_call0_v165 : Ref sig .tc := ⟨.hbm, 312, rfl⟩
abbrev main_call0_call0_call0_c_43 : Ref sig .tc := ⟨.hbm, 313, rfl⟩
abbrev main_call0_call0_call0_v166 : Ref sig .tc := ⟨.hbm, 314, rfl⟩
abbrev main_call0_call0_call0_v167 : Ref sig .tc := ⟨.hbm, 315, rfl⟩
abbrev main_call0_call0_call0_v168 : Ref sig .tc := ⟨.hbm, 316, rfl⟩
abbrev main_call0_call0_call0_v169 : Ref sig .tc := ⟨.hbm, 317, rfl⟩
abbrev main_call0_call0_call0_v170 : Ref sig .tc := ⟨.hbm, 318, rfl⟩
abbrev main_call0_call0_v18_0 : Ref sig .tc := ⟨.hbm, 319, rfl⟩
abbrev main_call0_call0_call0_v172 : Ref sig .tc := ⟨.hbm, 320, rfl⟩
abbrev main_call0_call0_call0_v173 : Ref sig .tc := ⟨.hbm, 321, rfl⟩
abbrev main_call0_call0_call0_c_44 : Ref sig .tc := ⟨.hbm, 322, rfl⟩
abbrev main_call0_call0_call0_v174 : Ref sig .tc := ⟨.hbm, 323, rfl⟩
abbrev main_call0_call0_v18_1 : Ref sig .tc := ⟨.hbm, 324, rfl⟩
abbrev main_call0_call0_v19 : Ref sig .tc := ⟨.hbm, 325, rfl⟩
abbrev main_call0_call0_c_2 : Ref sig .tc := ⟨.hbm, 326, rfl⟩
abbrev main_call0_call0_v20 : Ref sig .tc := ⟨.hbm, 327, rfl⟩
abbrev main_call0_call0_v21 : Ref sig .tc := ⟨.hbm, 328, rfl⟩
abbrev main_call0_call0_c_3 : Ref sig .tc := ⟨.hbm, 329, rfl⟩
abbrev main_call0_call0_v22 : Ref sig .tc := ⟨.hbm, 330, rfl⟩
abbrev main_call0_call0_v23 : Ref sig .tc := ⟨.hbm, 331, rfl⟩
abbrev main_call0_call0_v24 : Ref sig .tc := ⟨.hbm, 332, rfl⟩
abbrev main_call0_call0_cst : Ref sig .tc := ⟨.hbm, 333, rfl⟩
abbrev main_call0_call0_v25 : Ref sig .tc := ⟨.hbm, 334, rfl⟩
abbrev main_call0_call0_v26 : Ref sig .tc := ⟨.hbm, 335, rfl⟩
abbrev main_call0_call0_v27 : Ref sig .tc := ⟨.hbm, 336, rfl⟩
abbrev main_call0_call0_v28 : Ref sig .tc := ⟨.hbm, 337, rfl⟩
abbrev main_call0_call0_v29 : Ref sig .tc := ⟨.hbm, 338, rfl⟩
abbrev main_call0_call0_v30 : Ref sig .tc := ⟨.hbm, 339, rfl⟩
abbrev main_call0_call0_v31 : Ref sig .tc := ⟨.hbm, 340, rfl⟩
abbrev main_call0_call0_v32 : Ref sig .tc := ⟨.hbm, 341, rfl⟩
abbrev main_call0_v0 : Ref sig .tc := ⟨.hbm, 342, rfl⟩
abbrev main_call0_v1 : Ref sig .tc := ⟨.hbm, 343, rfl⟩
abbrev main_call0_v2 : Ref sig .tc := ⟨.hbm, 344, rfl⟩
abbrev main_call0_v3 : Ref sig .tc := ⟨.hbm, 345, rfl⟩
abbrev main_v53 : Ref sig .tc := ⟨.hbm, 346, rfl⟩
abbrev main_v54 : Ref sig .tc := ⟨.hbm, 347, rfl⟩
abbrev main_call1_v0 : Ref sig .tc := ⟨.hbm, 348, rfl⟩
abbrev main_call1_cst : Ref sig .tc := ⟨.hbm, 349, rfl⟩
abbrev main_call1_c : Ref sig .tc := ⟨.hbm, 350, rfl⟩
abbrev main_call1_v1_0 : Ref sig .tc := ⟨.hbm, 351, rfl⟩
abbrev main_v55 : Ref sig .tc := ⟨.hbm, 352, rfl⟩
abbrev main_v56 : Ref sig .tc := ⟨.hbm, 353, rfl⟩
abbrev main_call2_c : Ref sig .tc := ⟨.hbm, 354, rfl⟩
abbrev main_call2_v0 : Ref sig .tc := ⟨.hbm, 355, rfl⟩
abbrev main_call2_v1 : Ref sig .tc := ⟨.hbm, 356, rfl⟩
abbrev main_call2_c_0 : Ref sig .tc := ⟨.hbm, 357, rfl⟩
abbrev main_call2_v2 : Ref sig .tc := ⟨.hbm, 358, rfl⟩
abbrev main_call2_v3 : Ref sig .tc := ⟨.hbm, 359, rfl⟩
abbrev main_call2_v4 : Ref sig .tc := ⟨.hbm, 360, rfl⟩
abbrev main_call2_v5 : Ref sig .tc := ⟨.hbm, 361, rfl⟩
abbrev main_call2_c_1 : Ref sig .tc := ⟨.hbm, 362, rfl⟩
abbrev main_call2_c_2 : Ref sig .tc := ⟨.hbm, 363, rfl⟩
abbrev main_call2_v6 : Ref sig .tc := ⟨.hbm, 364, rfl⟩
abbrev main_call2_v7 : Ref sig .tc := ⟨.hbm, 365, rfl⟩
abbrev main_call2_v8 : Ref sig .tc := ⟨.hbm, 366, rfl⟩
abbrev main_call2_v9 : Ref sig .tc := ⟨.hbm, 367, rfl⟩
abbrev main_call2_v10 : Ref sig .tc := ⟨.hbm, 368, rfl⟩
abbrev main_call2_v11 : Ref sig .tc := ⟨.hbm, 369, rfl⟩
abbrev main_call2_c_3 : Ref sig .tc := ⟨.hbm, 370, rfl⟩
abbrev main_call2_v12 : Ref sig .tc := ⟨.hbm, 371, rfl⟩
abbrev main_call2_v13 : Ref sig .tc := ⟨.hbm, 372, rfl⟩
abbrev main_call2_cst : Ref sig .tc := ⟨.hbm, 373, rfl⟩
abbrev main_call2_v14 : Ref sig .tc := ⟨.hbm, 374, rfl⟩
abbrev main_v57 : Ref sig .tc := ⟨.hbm, 375, rfl⟩
abbrev main_v58 : Ref sig .tc := ⟨.hbm, 376, rfl⟩
abbrev main_cst_4 : Ref sig .tc := ⟨.hbm, 377, rfl⟩
abbrev main_v59 : Ref sig .tc := ⟨.hbm, 378, rfl⟩
abbrev main_v60 : Ref sig .tc := ⟨.hbm, 379, rfl⟩
abbrev main_v61 : Ref sig .tc := ⟨.hbm, 380, rfl⟩
abbrev main_v62 : Ref sig .tc := ⟨.hbm, 381, rfl⟩
abbrev main_v63 : Ref sig .tc := ⟨.hbm, 382, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem19_0 : DmaSem sig := 23
abbrev cc0_sem20_0 : DmaSem sig := 24
abbrev cc0_sem21_0 : DmaSem sig := 25

abbrev nD : Nat := 1
abbrev τ : Topo := Topo.v7x

variable {F : FTy → Type} [FloatOps F]

abbrev grid0 : Pipeline.Grid := ⟨1, ![13], ![false]⟩

def k0_cond4 (i : grid0.Coords) : BitVec 1 :=
  let arg0 : BitVec 32 := BitVec.ofNat 32 (i 0).val
  let c12_i32 : BitVec 32 := 12#32
  let v35 : BitVec 1 := Scalar.cmpi .eq arg0 c12_i32
  let v36 : BitVec 32 := Scalar.extui v35
  let c0_i32_19 : BitVec 32 := 0#32
  let v37 : BitVec 1 := Scalar.cmpi .ne v36 c0_i32_19
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c13_i32 : BitVec 32 := 13#32
  let c0_i32 : BitVec 32 := 0#32
  let v1 : BitVec 1 := Scalar.cmpi .eq c13_i32 c0_i32
  let c1_i32_0 : BitVec 32 := 1#32
  let v2 : BitVec 32 := Scalar.select v1 c1_i32_0 c13_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![c0_i32_4.toNat, v10.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c13_i32 : BitVec 32 := 13#32
  let c0_i32 : BitVec 32 := 0#32
  let v1 : BitVec 1 := Scalar.cmpi .eq c13_i32 c0_i32
  let c1_i32_0 : BitVec 32 := 1#32
  let v2 : BitVec 32 := Scalar.select v1 c1_i32_0 c13_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![c0_i32_4.toNat, v10.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.addi arg0 c1_i32
  let c13_i32 : BitVec 32 := 13#32
  let c0_i32 : BitVec 32 := 0#32
  let v1 : BitVec 1 := Scalar.cmpi .eq c13_i32 c0_i32
  let c1_i32_0 : BitVec 32 := 1#32
  let v2 : BitVec 32 := Scalar.select v1 c1_i32_0 c13_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![c0_i32_4.toNat, v10.toNat]

def cc0_transform_17 (i : grid0.Coords) : Fin 2 → Nat :=
  let arg0 : BitVec 32 := BitVec.ofNat 32 (i 0).val
  let c1_i32 : BitVec 32 := 1#32
  let v0 : BitVec 32 := Scalar.addi arg0 c1_i32
  let c13_i32 : BitVec 32 := 13#32
  let c0_i32 : BitVec 32 := 0#32
  let v1 : BitVec 1 := Scalar.cmpi .eq c13_i32 c0_i32
  let c1_i32_0 : BitVec 32 := 1#32
  let v2 : BitVec 32 := Scalar.select v1 c1_i32_0 c13_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![c0_i32_4.toNat, v10.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x79 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x79 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x79 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x79 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x79 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x79 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S10x8192 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x8192 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1024x2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1024x14 : Shape := ⟨2, ![1024, 14]⟩
abbrev S1x1024x64 : Shape := ⟨3, ![1, 1024, 64]⟩
abbrev S100000x10 : Shape := ⟨2, ![100000, 10]⟩
abbrev S100000x64 : Shape := ⟨2, ![100000, 64]⟩
abbrev S320x14 : Shape := ⟨2, ![320, 14]⟩
abbrev S320 : Shape := ⟨1, ![320]⟩
abbrev S320x64 : Shape := ⟨2, ![320, 64]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x64 : Shape := ⟨2, ![1, 64]⟩
abbrev S1 : Shape := ⟨1, ![1]⟩
abbrev S_ : Shape := ⟨0, ![]⟩
abbrev S1024x64 : Shape := ⟨2, ![1024, 64]⟩
abbrev S14x320 : Shape := ⟨2, ![14, 320]⟩
abbrev S1024x320 : Shape := ⟨2, ![1024, 320]⟩
abbrev S1x320 : Shape := ⟨2, ![1, 320]⟩
abbrev S64x320 : Shape := ⟨2, ![64, 320]⟩
abbrev S1024x256 : Shape := ⟨2, ![1024, 256]⟩
abbrev S1024x10 : Shape := ⟨2, ![1024, 10]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S10x100000 : Shape := ⟨2, ![10, 100000]⟩
abbrev S1024x100000 : Shape := ⟨2, ![1024, 100000]⟩
abbrev S64x2 : Shape := ⟨2, ![64, 2]⟩
abbrev S1024x2 : Shape := ⟨2, ![1024, 2]⟩
abbrev S1x2 : Shape := ⟨2, ![1, 2]⟩
abbrev S64x1 : Shape := ⟨2, ![64, 1]⟩
abbrev S1x1 : Shape := ⟨2, ![1, 1]⟩
abbrev S1024x1x1 : Shape := ⟨3, ![1024, 1, 1]⟩
abbrev S1x1x1 : Shape := ⟨3, ![1, 1, 1]⟩

abbrev nBuf : Space → Nat
  | .hbm => 482
  | .vmem => 0
  | .smem => 0
  | _ => 0

abbrev hbmTy0_0 (i : Nat) : BufTy := match i % 128 with
  | 0 => ⟨S1024x14, .f32⟩
  | 1 => ⟨S1x1024x64, .f32⟩
  | 2 => ⟨S1x1024x64, .f32⟩
  | 3 => ⟨S100000x10, .f32⟩
  | 4 => ⟨S100000x64, .f32⟩
  | 5 => ⟨S320x14, .f32⟩
  | 6 => ⟨S320, .f32⟩
  | 7 => ⟨S320x64, .f32⟩
  | 8 => ⟨S320, .f32⟩
  | 9 => ⟨S64x64, .f32⟩
  | 10 => ⟨S64, .f32⟩
  | 11 => ⟨S2x64, .f32⟩
  | 12 => ⟨S2, .f32⟩
  | 13 => ⟨S1x64, .f32⟩
  | 14 => ⟨S1, .f32⟩
  | 15 => ⟨S_, .i32⟩
  | 16 => ⟨S1024x64, .f32⟩
  | 17 => ⟨S1024x64, .f32⟩
  | 18 => ⟨S14x320, .f32⟩
  | 19 => ⟨S1024x320, .f32⟩
  | 20 => ⟨S1x320, .f32⟩
  | 21 => ⟨S1024x320, .f32⟩
  | 22 => ⟨S1024x320, .f32⟩
  | 23 => ⟨S64x320, .f32⟩
  | 24 => ⟨S1024x320, .f32⟩
  | 25 => ⟨S1024x320, .f32⟩
  | 26 => ⟨S1x320, .f32⟩
  | 27 => ⟨S1024x320, .f32⟩
  | 28 => ⟨S1024x320, .f32⟩
  | 29 => ⟨S1024x256, .f32⟩
  | 30 => ⟨S1024x256, .f32⟩
  | 31 => ⟨S1024x256, .f32⟩
  | 32 => ⟨S_, .f32⟩
  | 33 => ⟨S1024x256, .f32⟩
  | 34 => ⟨S1024x256, .f32⟩
  | 35 => ⟨S_, .f32⟩
  | 36 => ⟨S1024x256, .f32⟩
  | 37 => ⟨S1024x256, .f32⟩
  | 38 => ⟨S1024x64, .f32⟩
  | 39 => ⟨S1024x64, .f32⟩
  | 40 => ⟨S1024x64, .f32⟩
  | 41 => ⟨S1024x64, .f32⟩
  | 42 => ⟨S1024x64, .f32⟩
  | 43 => ⟨S1024x64, .f32⟩
  | 44 => ⟨S1024x64, .f32⟩
  | 45 => ⟨S1024x64, .f32⟩
  | 46 => ⟨S1024x64, .f32⟩
  | 47 => ⟨S1024x10, .f32⟩
  | 48 => ⟨S1024x10, .f32⟩
  | 49 => ⟨S_, .f32⟩
  | 50 => ⟨S1024, .f32⟩
  | 51 => ⟨S1024x1, .f32⟩
  | 52 => ⟨S1024x1, .f32⟩
  | 53 => ⟨S_, .f32⟩
  | 54 => ⟨S1024x1, .f32⟩
  | 55 => ⟨S1024x1, .f32⟩
  | 56 => ⟨S1024x10, .f32⟩
  | 57 => ⟨S1024x10, .f32⟩
  | 58 => ⟨S100000x10, .f32⟩
  | 59 => ⟨S_, .f32⟩
  | 60 => ⟨S100000, .f32⟩
  | 61 => ⟨S100000x1, .f32⟩
  | 62 => ⟨S100000x1, .f32⟩
  | 63 => ⟨S_, .f32⟩
  | 64 => ⟨S100000x1, .f32⟩
  | 65 => ⟨S100000x1, .f32⟩
  | 66 => ⟨S100000x10, .f32⟩
  | 67 => ⟨S100000x10, .f32⟩
  | 68 => ⟨S10x100000, .f32⟩
  | 69 => ⟨S1024x100000, .f32⟩
  | 70 => ⟨S_, .f32⟩
  | 71 => ⟨S1024, .f32⟩
  | 72 => ⟨S_, .f32⟩
  | 73 => ⟨S1024, .f32⟩
  | 74 => ⟨S1024, .f32⟩
  | 75 => ⟨S1024x1, .f32⟩
  | 76 => ⟨S1024x100000, .f32⟩
  | 77 => ⟨S1024x100000, .f32⟩
  | 78 => ⟨S1024x100000, .f32⟩
  | 79 => ⟨S_, .f32⟩
  | 80 => ⟨S1024, .f32⟩
  | 81 => ⟨S1024x1, .f32⟩
  | 82 => ⟨S1024x100000, .f32⟩
  | 83 => ⟨S1024x100000, .f32⟩
  | 84 => ⟨S1024x64, .f32⟩
  | 85 => ⟨S1024x64, .f32⟩
  | 86 => ⟨S1024x64, .f32⟩
  | 87 => ⟨S1024x64, .f32⟩
  | 88 => ⟨S1024x64, .f32⟩
  | 89 => ⟨S1024x64, .f32⟩
  | 90 => ⟨S1024, .i32⟩
  | 91 => ⟨S1024, .i32⟩
  | 92 => ⟨S1024, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S1024, .i32⟩
  | 100 => ⟨S1024, .i32⟩
  | 101 => ⟨S_, .i32⟩
  | 102 => ⟨S1024, .i32⟩
  | 103 => ⟨S1024, .i1⟩
  | 104 => ⟨S_, .i32⟩
  | 105 => ⟨S1024, .i32⟩
  | 106 => ⟨S1024, .i1⟩
  | 107 => ⟨S_, .i32⟩
  | 108 => ⟨S_, .i1⟩
  | 109 => ⟨S1024, .i1⟩
  | 110 => ⟨S1024, .i1⟩
  | 111 => ⟨S1024, .i1⟩
  | 112 => ⟨S1024, .i32⟩
  | 113 => ⟨S1024, .i32⟩
  | 114 => ⟨S1024, .i32⟩
  | 115 => ⟨S_, .i32⟩
  | 116 => ⟨S1024, .i32⟩
  | 117 => ⟨S1024, .i1⟩
  | 118 => ⟨S_, .i32⟩
  | 119 => ⟨S1024, .i32⟩
  | 120 => ⟨S1024, .i32⟩
  | 121 => ⟨S1024, .i32⟩
  | 122 => ⟨S1024x1, .i32⟩
  | 123 => ⟨S100000x10, .f32⟩
  | 124 => ⟨S_, .i32⟩
  | 125 => ⟨S1024, .i32⟩
  | 126 => ⟨S1024, .i1⟩
  | 127 => ⟨S_, .i32⟩
  | _ => ⟨S1024x14, .f32⟩

abbrev hbmTy0_1 (i : Nat) : BufTy := match i % 128 with
  | 0 => ⟨S1024, .i32⟩
  | 1 => ⟨S1024, .i32⟩
  | 2 => ⟨S1024, .i32⟩
  | 3 => ⟨S1024x1, .i32⟩
  | 4 => ⟨S100000x64, .f32⟩
  | 5 => ⟨S64x64, .f32⟩
  | 6 => ⟨S1024x64, .f32⟩
  | 7 => ⟨S1x64, .f32⟩
  | 8 => ⟨S1024x64, .f32⟩
  | 9 => ⟨S1024x64, .f32⟩
  | 10 => ⟨S_, .f32⟩
  | 11 => ⟨S1024x64, .f32⟩
  | 12 => ⟨S1024x64, .f32⟩
  | 13 => ⟨S64x2, .f32⟩
  | 14 => ⟨S1024x2, .f32⟩
  | 15 => ⟨S1x2, .f32⟩
  | 16 => ⟨S1024x2, .f32⟩
  | 17 => ⟨S1024x2, .f32⟩
  | 18 => ⟨S_, .f32⟩
  | 19 => ⟨S1024, .f32⟩
  | 20 => ⟨S_, .f32⟩
  | 21 => ⟨S1024, .f32⟩
  | 22 => ⟨S1024, .f32⟩
  | 23 => ⟨S1024x1, .f32⟩
  | 24 => ⟨S1024x2, .f32⟩
  | 25 => ⟨S1024x2, .f32⟩
  | 26 => ⟨S1024x2, .f32⟩
  | 27 => ⟨S_, .f32⟩
  | 28 => ⟨S1024, .f32⟩
  | 29 => ⟨S1024x1, .f32⟩
  | 30 => ⟨S1024x2, .f32⟩
  | 31 => ⟨S1024x2, .f32⟩
  | 32 => ⟨S64x1, .f32⟩
  | 33 => ⟨S1024x1, .f32⟩
  | 34 => ⟨S1x1, .f32⟩
  | 35 => ⟨S1024x1, .f32⟩
  | 36 => ⟨S1024x1, .f32⟩
  | 37 => ⟨S_, .i32⟩
  | 38 => ⟨S_, .i32⟩
  | 39 => ⟨S_, .i32⟩
  | 40 => ⟨S_, .i32⟩
  | 41 => ⟨S1, .i32⟩
  | 42 => ⟨S_, .i32⟩
  | 43 => ⟨S_, .i32⟩
  | 44 => ⟨S_, .i32⟩
  | 45 => ⟨S1, .i32⟩
  | 46 => ⟨S2, .i32⟩
  | 47 => ⟨S_, .f32⟩
  | 48 => ⟨S1024x2, .f32⟩
  | 49 => ⟨S1024x2, .f32⟩
  | 50 => ⟨S1024x2, .f32⟩
  | 51 => ⟨S_, .f32⟩
  | 52 => ⟨S_, .f32⟩
  | 53 => ⟨S_, .f32⟩
  | 54 => ⟨S1x1, .f32⟩
  | 55 => ⟨S1x1, .f32⟩
  | 56 => ⟨S1, .i32⟩
  | 57 => ⟨S_, .i32⟩
  | 58 => ⟨S1, .i32⟩
  | 59 => ⟨S_, .i32⟩
  | 60 => ⟨S1024x2, .i64⟩
  | 61 => ⟨S1024x2, .i64⟩
  | 62 => ⟨S_, .i64⟩
  | 63 => ⟨S1024x2, .i64⟩
  | 64 => ⟨S1024x2, .i64⟩
  | 65 => ⟨S_, .i64⟩
  | 66 => ⟨S1024x2, .i64⟩
  | 67 => ⟨S1024x2, .i64⟩
  | 68 => ⟨S1024x2, .i64⟩
  | 69 => ⟨S_, .i64⟩
  | 70 => ⟨S1024x2, .i64⟩
  | 71 => ⟨S1024x2, .i64⟩
  | 72 => ⟨S1024x2, .i32⟩
  | 73 => ⟨S1024x2, .i32⟩
  | 74 => ⟨S_, .i32⟩
  | 75 => ⟨S_, .i32⟩
  | 76 => ⟨S_, .i32⟩
  | 77 => ⟨S1024x2, .i32⟩
  | 78 => ⟨S1024x2, .i32⟩
  | 79 => ⟨S1024x2, .i32⟩
  | 80 => ⟨S1024x2, .i32⟩
  | 81 => ⟨S1024x2, .i32⟩
  | 82 => ⟨S_, .i32⟩
  | 83 => ⟨S1024x2, .i32⟩
  | 84 => ⟨S1024x2, .i32⟩
  | 85 => ⟨S_, .i32⟩
  | 86 => ⟨S1024x2, .i32⟩
  | 87 => ⟨S1024x2, .i32⟩
  | 88 => ⟨S1024x2, .i32⟩
  | 89 => ⟨S1024x2, .i32⟩
  | 90 => ⟨S1024x2, .i32⟩
  | 91 => ⟨S_, .i32⟩
  | 92 => ⟨S1024x2, .i32⟩
  | 93 => ⟨S1024x2, .i32⟩
  | 94 => ⟨S_, .i32⟩
  | 95 => ⟨S1024x2, .i32⟩
  | 96 => ⟨S1024x2, .i32⟩
  | 97 => ⟨S1024x2, .i32⟩
  | 98 => ⟨S1024x2, .i32⟩
  | 99 => ⟨S1024x2, .i32⟩
  | 100 => ⟨S_, .i32⟩
  | 101 => ⟨S1024x2, .i32⟩
  | 102 => ⟨S1024x2, .i32⟩
  | 103 => ⟨S_, .i32⟩
  | 104 => ⟨S1024x2, .i32⟩
  | 105 => ⟨S1024x2, .i32⟩
  | 106 => ⟨S1024x2, .i32⟩
  | 107 => ⟨S1024x2, .i32⟩
  | 108 => ⟨S1024x2, .i32⟩
  | 109 => ⟨S_, .i32⟩
  | 110 => ⟨S1024x2, .i32⟩
  | 111 => ⟨S1024x2, .i32⟩
  | 112 => ⟨S_, .i32⟩
  | 113 => ⟨S1024x2, .i32⟩
  | 114 => ⟨S1024x2, .i32⟩
  | 115 => ⟨S1024x2, .i32⟩
  | 116 => ⟨S1024x2, .i32⟩
  | 117 => ⟨S1024x2, .i32⟩
  | 118 => ⟨S1024x2, .i32⟩
  | 119 => ⟨S1024x2, .i32⟩
  | 120 => ⟨S1024x2, .i32⟩
  | 121 => ⟨S_, .i32⟩
  | 122 => ⟨S1024x2, .i32⟩
  | 123 => ⟨S1024x2, .i32⟩
  | 124 => ⟨S1024x2, .i32⟩
  | 125 => ⟨S_, .i32⟩
  | 126 => ⟨S1024x2, .i32⟩
  | 127 => ⟨S1024x2, .i32⟩
  | _ => ⟨S1024x14, .f32⟩

abbrev hbmTy0_2 (i : Nat) : BufTy := match i % 128 with
  | 0 => ⟨S_, .i32⟩
  | 1 => ⟨S1024x2, .i32⟩
  | 2 => ⟨S1024x2, .i32⟩
  | 3 => ⟨S1024x2, .i32⟩
  | 4 => ⟨S1024x2, .i32⟩
  | 5 => ⟨S1024x2, .i32⟩
  | 6 => ⟨S_, .i32⟩
  | 7 => ⟨S1024x2, .i32⟩
  | 8 => ⟨S1024x2, .i32⟩
  | 9 => ⟨S_, .i32⟩
  | 10 => ⟨S1024x2, .i32⟩
  | 11 => ⟨S1024x2, .i32⟩
  | 12 => ⟨S1024x2, .i32⟩
  | 13 => ⟨S1024x2, .i32⟩
  | 14 => ⟨S1024x2, .i32⟩
  | 15 => ⟨S_, .i32⟩
  | 16 => ⟨S1024x2, .i32⟩
  | 17 => ⟨S1024x2, .i32⟩
  | 18 => ⟨S_, .i32⟩
  | 19 => ⟨S1024x2, .i32⟩
  | 20 => ⟨S1024x2, .i32⟩
  | 21 => ⟨S1024x2, .i32⟩
  | 22 => ⟨S1024x2, .i32⟩
  | 23 => ⟨S1024x2, .i32⟩
  | 24 => ⟨S_, .i32⟩
  | 25 => ⟨S1024x2, .i32⟩
  | 26 => ⟨S1024x2, .i32⟩
  | 27 => ⟨S_, .i32⟩
  | 28 => ⟨S1024x2, .i32⟩
  | 29 => ⟨S1024x2, .i32⟩
  | 30 => ⟨S1024x2, .i32⟩
  | 31 => ⟨S1024x2, .i32⟩
  | 32 => ⟨S1024x2, .i32⟩
  | 33 => ⟨S1024x2, .i32⟩
  | 34 => ⟨S1024x2, .i32⟩
  | 35 => ⟨S1024x2, .i32⟩
  | 36 => ⟨S_, .i32⟩
  | 37 => ⟨S1024x2, .i32⟩
  | 38 => ⟨S1024x2, .i32⟩
  | 39 => ⟨S1024x2, .i32⟩
  | 40 => ⟨S_, .i32⟩
  | 41 => ⟨S1024x2, .i32⟩
  | 42 => ⟨S1024x2, .i32⟩
  | 43 => ⟨S_, .i32⟩
  | 44 => ⟨S1024x2, .i32⟩
  | 45 => ⟨S1024x2, .i32⟩
  | 46 => ⟨S1024x2, .i32⟩
  | 47 => ⟨S1024x2, .i32⟩
  | 48 => ⟨S1024x2, .i32⟩
  | 49 => ⟨S_, .i32⟩
  | 50 => ⟨S1024x2, .i32⟩
  | 51 => ⟨S1024x2, .i32⟩
  | 52 => ⟨S_, .i32⟩
  | 53 => ⟨S1024x2, .i32⟩
  | 54 => ⟨S1024x2, .i32⟩
  | 55 => ⟨S1024x2, .i32⟩
  | 56 => ⟨S1024x2, .i32⟩
  | 57 => ⟨S1024x2, .i32⟩
  | 58 => ⟨S_, .i32⟩
  | 59 => ⟨S1024x2, .i32⟩
  | 60 => ⟨S1024x2, .i32⟩
  | 61 => ⟨S_, .i32⟩
  | 62 => ⟨S1024x2, .i32⟩
  | 63 => ⟨S1024x2, .i32⟩
  | 64 => ⟨S1024x2, .i32⟩
  | 65 => ⟨S1024x2, .i32⟩
  | 66 => ⟨S1024x2, .i32⟩
  | 67 => ⟨S_, .i32⟩
  | 68 => ⟨S1024x2, .i32⟩
  | 69 => ⟨S1024x2, .i32⟩
  | 70 => ⟨S_, .i32⟩
  | 71 => ⟨S1024x2, .i32⟩
  | 72 => ⟨S1024x2, .i32⟩
  | 73 => ⟨S1024x2, .i32⟩
  | 74 => ⟨S1024x2, .i32⟩
  | 75 => ⟨S1024x2, .i32⟩
  | 76 => ⟨S1024x2, .i32⟩
  | 77 => ⟨S1024x2, .i32⟩
  | 78 => ⟨S1024x2, .i32⟩
  | 79 => ⟨S_, .i32⟩
  | 80 => ⟨S1024x2, .i32⟩
  | 81 => ⟨S1024x2, .i32⟩
  | 82 => ⟨S1024x2, .i32⟩
  | 83 => ⟨S_, .i32⟩
  | 84 => ⟨S1024x2, .i32⟩
  | 85 => ⟨S1024x2, .i32⟩
  | 86 => ⟨S_, .i32⟩
  | 87 => ⟨S1024x2, .i32⟩
  | 88 => ⟨S1024x2, .i32⟩
  | 89 => ⟨S1024x2, .i32⟩
  | 90 => ⟨S1024x2, .i32⟩
  | 91 => ⟨S1024x2, .i32⟩
  | 92 => ⟨S_, .i32⟩
  | 93 => ⟨S1024x2, .i32⟩
  | 94 => ⟨S1024x2, .i32⟩
  | 95 => ⟨S_, .i32⟩
  | 96 => ⟨S1024x2, .i32⟩
  | 97 => ⟨S1024x2, .i32⟩
  | 98 => ⟨S1024x2, .i32⟩
  | 99 => ⟨S1024x2, .i32⟩
  | 100 => ⟨S1024x2, .i32⟩
  | 101 => ⟨S_, .i32⟩
  | 102 => ⟨S1024x2, .i32⟩
  | 103 => ⟨S1024x2, .i32⟩
  | 104 => ⟨S_, .i32⟩
  | 105 => ⟨S1024x2, .i32⟩
  | 106 => ⟨S1024x2, .i32⟩
  | 107 => ⟨S1024x2, .i32⟩
  | 108 => ⟨S1024x2, .i32⟩
  | 109 => ⟨S1024x2, .i32⟩
  | 110 => ⟨S_, .i32⟩
  | 111 => ⟨S1024x2, .i32⟩
  | 112 => ⟨S1024x2, .i32⟩
  | 113 => ⟨S_, .i32⟩
  | 114 => ⟨S1024x2, .i32⟩
  | 115 => ⟨S1024x2, .i32⟩
  | 116 => ⟨S1024x2, .i32⟩
  | 117 => ⟨S1024x2, .i32⟩
  | 118 => ⟨S1024x2, .i32⟩
  | 119 => ⟨S1024x2, .i32⟩
  | 120 => ⟨S1024x2, .i32⟩
  | 121 => ⟨S1024x2, .i32⟩
  | 122 => ⟨S_, .i32⟩
  | 123 => ⟨S1024x2, .i32⟩
  | 124 => ⟨S1024x2, .i32⟩
  | 125 => ⟨S1024x2, .i32⟩
  | 126 => ⟨S_, .i32⟩
  | 127 => ⟨S1024x2, .i32⟩
  | _ => ⟨S1024x14, .f32⟩

abbrev hbmTy0_3 (i : Nat) : BufTy := match i % 128 with
  | 0 => ⟨S1024x2, .i32⟩
  | 1 => ⟨S_, .i32⟩
  | 2 => ⟨S1024x2, .i32⟩
  | 3 => ⟨S1024x2, .i32⟩
  | 4 => ⟨S1024x2, .i32⟩
  | 5 => ⟨S1024x2, .i32⟩
  | 6 => ⟨S1024x2, .i32⟩
  | 7 => ⟨S_, .i32⟩
  | 8 => ⟨S1024x2, .i32⟩
  | 9 => ⟨S1024x2, .i32⟩
  | 10 => ⟨S_, .i32⟩
  | 11 => ⟨S1024x2, .i32⟩
  | 12 => ⟨S1024x2, .i32⟩
  | 13 => ⟨S1024x2, .i32⟩
  | 14 => ⟨S1024x2, .i32⟩
  | 15 => ⟨S1024x2, .i32⟩
  | 16 => ⟨S_, .i32⟩
  | 17 => ⟨S1024x2, .i32⟩
  | 18 => ⟨S1024x2, .i32⟩
  | 19 => ⟨S_, .i32⟩
  | 20 => ⟨S1024x2, .i32⟩
  | 21 => ⟨S1024x2, .i32⟩
  | 22 => ⟨S1024x2, .i32⟩
  | 23 => ⟨S1024x2, .i32⟩
  | 24 => ⟨S1024x2, .i32⟩
  | 25 => ⟨S_, .i32⟩
  | 26 => ⟨S1024x2, .i32⟩
  | 27 => ⟨S1024x2, .i32⟩
  | 28 => ⟨S_, .i32⟩
  | 29 => ⟨S1024x2, .i32⟩
  | 30 => ⟨S1024x2, .i32⟩
  | 31 => ⟨S1024x2, .i32⟩
  | 32 => ⟨S1024x2, .i32⟩
  | 33 => ⟨S1024x2, .i32⟩
  | 34 => ⟨S1024x2, .i32⟩
  | 35 => ⟨S1024x2, .i32⟩
  | 36 => ⟨S1024x2, .i32⟩
  | 37 => ⟨S_, .i32⟩
  | 38 => ⟨S1024x2, .i32⟩
  | 39 => ⟨S1024x2, .i32⟩
  | 40 => ⟨S1024x2, .i32⟩
  | 41 => ⟨S_, .i32⟩
  | 42 => ⟨S1024x2, .i32⟩
  | 43 => ⟨S1024x2, .i32⟩
  | 44 => ⟨S_, .i32⟩
  | 45 => ⟨S1024x2, .i32⟩
  | 46 => ⟨S1024x2, .i32⟩
  | 47 => ⟨S1024x2, .f32⟩
  | 48 => ⟨S_, .f32⟩
  | 49 => ⟨S1024x2, .f32⟩
  | 50 => ⟨S1024x2, .f32⟩
  | 51 => ⟨S1x1, .f32⟩
  | 52 => ⟨S1024x2, .f32⟩
  | 53 => ⟨S1024x2, .f32⟩
  | 54 => ⟨S1024x2, .f32⟩
  | 55 => ⟨S1024x2, .f32⟩
  | 56 => ⟨S1024x2, .f32⟩
  | 57 => ⟨S1024x2, .f32⟩
  | 58 => ⟨S1024x2, .f32⟩
  | 59 => ⟨S1024x2, .f32⟩
  | 60 => ⟨S1024x2, .f32⟩
  | 61 => ⟨S1024x2, .f32⟩
  | 62 => ⟨S1024x2, .f32⟩
  | 63 => ⟨S1024x2, .i32⟩
  | 64 => ⟨S_, .f32⟩
  | 65 => ⟨S_, .i32⟩
  | 66 => ⟨S1024, .f32⟩
  | 67 => ⟨S1024, .i32⟩
  | 68 => ⟨S1024x1, .i32⟩
  | 69 => ⟨S_, .i32⟩
  | 70 => ⟨S1024x1, .i32⟩
  | 71 => ⟨S1024x1, .i1⟩
  | 72 => ⟨S_, .i32⟩
  | 73 => ⟨S1024x1, .i32⟩
  | 74 => ⟨S1024x1, .i32⟩
  | 75 => ⟨S1024x1, .i32⟩
  | 76 => ⟨S1024x1x1, .i32⟩
  | 77 => ⟨S1, .i32⟩
  | 78 => ⟨S_, .i32⟩
  | 79 => ⟨S1024x1x1, .i32⟩
  | 80 => ⟨S1024x1x1, .i1⟩
  | 81 => ⟨S1x1x1, .i32⟩
  | 82 => ⟨S1024x1x1, .i32⟩
  | 83 => ⟨S1024x1x1, .i1⟩
  | 84 => ⟨S1024x1x1, .i1⟩
  | 85 => ⟨S_, .i1⟩
  | 86 => ⟨S1024x1, .i1⟩
  | 87 => ⟨S1024x1, .f32⟩
  | 88 => ⟨S_, .f32⟩
  | 89 => ⟨S1024x1, .f32⟩
  | 90 => ⟨S1024x1, .f32⟩
  | 91 => ⟨S1024, .f32⟩
  | 92 => ⟨S_, .f32⟩
  | 93 => ⟨S1024, .f32⟩
  | 94 => ⟨S1024, .f32⟩
  | 95 => ⟨S1024, .f32⟩
  | 96 => ⟨S1x1024x64, .f32⟩
  | 97 => ⟨S1x1024x64, .f32⟩
  | _ => ⟨S1024x14, .f32⟩

abbrev hbmTy (i : Nat) : BufTy := match i / 128 with
  | 0 => hbmTy0_0 i
  | 1 => hbmTy0_1 i
  | 2 => hbmTy0_2 i
  | 3 => hbmTy0_3 i
  | _ => ⟨S1024x14, .f32⟩

abbrev bufTy : (tb : Table) → Fin (tcTables nBuf tb) → BufTy
  | .hbm, ⟨i, _⟩ => hbmTy i
  | _, _ => ⟨S1024x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_v0 : Ref sig .tc := ⟨.hbm, 48, rfl⟩
abbrev main_call0_cst : Ref sig .tc := ⟨.hbm, 49, rfl⟩
abbrev main_call0_v1 : Ref sig .tc := ⟨.hbm, 50, rfl⟩
abbrev main_call0_v2 : Ref sig .tc := ⟨.hbm, 51, rfl⟩
abbrev main_v30 : Ref sig .tc := ⟨.hbm, 52, rfl⟩
abbrev main_cst_1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call1_v0 : Ref sig .tc := ⟨.hbm, 58, rfl⟩
abbrev main_call1_cst : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_cst_2 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_3 : Ref sig .tc := ⟨.hbm, 70, rfl⟩
abbrev main_v42 : Ref sig .tc := ⟨.hbm, 71, rfl⟩
abbrev main_cst_4 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_5 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c : Ref sig .tc := ⟨.hbm, 93, rfl⟩
abbrev main_call2_v0 : Ref sig .tc := ⟨.hbm, 94, rfl⟩
abbrev main_call2_c : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_c_1 : Ref sig .tc := ⟨.hbm, 101, rfl⟩
abbrev main_call2_v5 : Ref sig .tc := ⟨.hbm, 102, rfl⟩
abbrev main_call2_v6 : Ref sig .tc := ⟨.hbm, 103, rfl⟩
abbrev main_call2_c_2 : Ref sig .tc := ⟨.hbm, 104, rfl⟩
abbrev main_call2_v7 : Ref sig .tc := ⟨.hbm, 105, rfl⟩
abbrev main_call2_v8 : Ref sig .tc := ⟨.hbm, 106, rfl⟩
abbrev main_call2_c_3 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_v62 : Ref sig .tc := ⟨.hbm, 114, rfl⟩
abbrev main_c_6 : Ref sig .tc := ⟨.hbm, 115, rfl⟩
abbrev main_v63 : Ref sig .tc := ⟨.hbm, 116, rfl⟩
abbrev main_v64 : Ref sig .tc := ⟨.hbm, 117, rfl⟩
abbrev main_c_7 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_c_8 : Ref sig .tc := ⟨.hbm, 124, rfl⟩
abbrev main_v70 : Ref sig .tc := ⟨.hbm, 125, rfl⟩
abbrev main_v71 : Ref sig .tc := ⟨.hbm, 126, rfl⟩
abbrev main_c_9 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_call3_cst : Ref sig .tc := ⟨.hbm, 138, rfl⟩
abbrev main_call3_v0 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_cst_10 : Ref sig .tc := ⟨.hbm, 146, rfl⟩
abbrev main_v88 : Ref sig .tc := ⟨.hbm, 147, rfl⟩
abbrev main_cst_11 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_cst_12 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_c_13 : Ref sig .tc := ⟨.hbm, 165, rfl⟩
abbrev main_c_14 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_c_15 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_cst_16 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_call4_cst : Ref sig .tc := ⟨.hbm, 179, rfl⟩
abbrev main_call4_cst_0 : Ref sig .tc := ⟨.hbm, 180, rfl⟩
abbrev main_call4_call0_v0 : Ref sig .tc := ⟨.hbm, 181, rfl⟩
abbrev main_call4_call0_v1 : Ref sig .tc := ⟨.hbm, 182, rfl⟩
abbrev main_call4_call0_v2 : Ref sig .tc := ⟨.hbm, 183, rfl⟩
abbrev main_call4_call0_v3 : Ref sig .tc := ⟨.hbm, 184, rfl⟩
abbrev main_call4_call0_v4 : Ref sig .tc := ⟨.hbm, 185, rfl⟩
abbrev main_call4_call0_v5 : Ref sig .tc := ⟨.hbm, 186, rfl⟩
abbrev main_call4_call0_v6 : Ref sig .tc := ⟨.hbm, 187, rfl⟩
abbrev main_call4_call0_v7 : Ref sig .tc := ⟨.hbm, 188, rfl⟩
abbrev main_call4_call0_v8 : Ref sig .tc := ⟨.hbm, 189, rfl⟩
abbrev main_call4_call0_c : Ref sig .tc := ⟨.hbm, 190, rfl⟩
abbrev main_call4_call0_v9 : Ref sig .tc := ⟨.hbm, 191, rfl⟩
abbrev main_call4_call0_v10 : Ref sig .tc := ⟨.hbm, 192, rfl⟩
abbrev main_call4_call0_c_0 : Ref sig .tc := ⟨.hbm, 193, rfl⟩
abbrev main_call4_call0_v11 : Ref sig .tc := ⟨.hbm, 194, rfl⟩
abbrev main_call4_call0_v12 : Ref sig .tc := ⟨.hbm, 195, rfl⟩
abbrev main_call4_call0_v13 : Ref sig .tc := ⟨.hbm, 196, rfl⟩
abbrev main_call4_call0_c_1 : Ref sig .tc := ⟨.hbm, 197, rfl⟩
abbrev main_call4_call0_v14 : Ref sig .tc := ⟨.hbm, 198, rfl⟩
abbrev main_call4_call0_v15 : Ref sig .tc := ⟨.hbm, 199, rfl⟩
abbrev main_call4_call0_v16 : Ref sig .tc := ⟨.hbm, 200, rfl⟩
abbrev main_call4_call0_v17 : Ref sig .tc := ⟨.hbm, 201, rfl⟩
abbrev main_call4_call0_call0_v0 : Ref sig .tc := ⟨.hbm, 202, rfl⟩
abbrev main_call4_call0_call0_c : Ref sig .tc := ⟨.hbm, 203, rfl⟩
abbrev main_call4_call0_call0_v1 : Ref sig .tc := ⟨.hbm, 204, rfl⟩
abbrev main_call4_call0_call0_v2 : Ref sig .tc := ⟨.hbm, 205, rfl⟩
abbrev main_call4_call0_call0_v3 : Ref sig .tc := ⟨.hbm, 206, rfl⟩
abbrev main_call4_call0_call0_v4 : Ref sig .tc := ⟨.hbm, 207, rfl⟩
abbrev main_call4_call0_call0_v5 : Ref sig .tc := ⟨.hbm, 208, rfl⟩
abbrev main_call4_call0_call0_v6 : Ref sig .tc := ⟨.hbm, 209, rfl⟩
abbrev main_call4_call0_call0_c_0 : Ref sig .tc := ⟨.hbm, 210, rfl⟩
abbrev main_call4_call0_call0_v7 : Ref sig .tc := ⟨.hbm, 211, rfl⟩
abbrev main_call4_call0_call0_v8 : Ref sig .tc := ⟨.hbm, 212, rfl⟩
abbrev main_call4_call0_call0_c_1 : Ref sig .tc := ⟨.hbm, 213, rfl⟩
abbrev main_call4_call0_call0_v9 : Ref sig .tc := ⟨.hbm, 214, rfl⟩
abbrev main_call4_call0_call0_v10 : Ref sig .tc := ⟨.hbm, 215, rfl⟩
abbrev main_call4_call0_call0_v11 : Ref sig .tc := ⟨.hbm, 216, rfl⟩
abbrev main_call4_call0_call0_v12 : Ref sig .tc := ⟨.hbm, 217, rfl⟩
abbrev main_call4_call0_call0_v13 : Ref sig .tc := ⟨.hbm, 218, rfl⟩
abbrev main_call4_call0_call0_c_2 : Ref sig .tc := ⟨.hbm, 219, rfl⟩
abbrev main_call4_call0_call0_v14 : Ref sig .tc := ⟨.hbm, 220, rfl⟩
abbrev main_call4_call0_call0_v15 : Ref sig .tc := ⟨.hbm, 221, rfl⟩
abbrev main_call4_call0_call0_c_3 : Ref sig .tc := ⟨.hbm, 222, rfl⟩
abbrev main_call4_call0_call0_v16 : Ref sig .tc := ⟨.hbm, 223, rfl⟩
abbrev main_call4_call0_call0_v17 : Ref sig .tc := ⟨.hbm, 224, rfl⟩
abbrev main_call4_call0_call0_v18 : Ref sig .tc := ⟨.hbm, 225, rfl⟩
abbrev main_call4_call0_call0_v19 : Ref sig .tc := ⟨.hbm, 226, rfl⟩
abbrev main_call4_call0_call0_v20 : Ref sig .tc := ⟨.hbm, 227, rfl⟩
abbrev main_call4_call0_call0_c_4 : Ref sig .tc := ⟨.hbm, 228, rfl⟩
abbrev main_call4_call0_call0_v21 : Ref sig .tc := ⟨.hbm, 229, rfl⟩
abbrev main_call4_call0_call0_v22 : Ref sig .tc := ⟨.hbm, 230, rfl⟩
abbrev main_call4_call0_call0_c_5 : Ref sig .tc := ⟨.hbm, 231, rfl⟩
abbrev main_call4_call0_call0_v23 : Ref sig .tc := ⟨.hbm, 232, rfl⟩
abbrev main_call4_call0_call0_v24 : Ref sig .tc := ⟨.hbm, 233, rfl⟩
abbrev main_call4_call0_call0_v25 : Ref sig .tc := ⟨.hbm, 234, rfl⟩
abbrev main_call4_call0_call0_v26 : Ref sig .tc := ⟨.hbm, 235, rfl⟩
abbrev main_call4_call0_call0_v27 : Ref sig .tc := ⟨.hbm, 236, rfl⟩
abbrev main_call4_call0_call0_c_6 : Ref sig .tc := ⟨.hbm, 237, rfl⟩
abbrev main_call4_call0_call0_v28 : Ref sig .tc := ⟨.hbm, 238, rfl⟩
abbrev main_call4_call0_call0_v29 : Ref sig .tc := ⟨.hbm, 239, rfl⟩
abbrev main_call4_call0_call0_c_7 : Ref sig .tc := ⟨.hbm, 240, rfl⟩
abbrev main_call4_call0_call0_v30 : Ref sig .tc := ⟨.hbm, 241, rfl⟩
abbrev main_call4_call0_call0_v31 : Ref sig .tc := ⟨.hbm, 242, rfl⟩
abbrev main_call4_call0_call0_v32 : Ref sig .tc := ⟨.hbm, 243, rfl⟩
abbrev main_call4_call0_call0_v33 : Ref sig .tc := ⟨.hbm, 244, rfl⟩
abbrev main_call4_call0_call0_v34 : Ref sig .tc := ⟨.hbm, 245, rfl⟩
abbrev main_call4_call0_call0_v35 : Ref sig .tc := ⟨.hbm, 246, rfl⟩
abbrev main_call4_call0_call0_v36 : Ref sig .tc := ⟨.hbm, 247, rfl⟩
abbrev main_call4_call0_call0_v37 : Ref sig .tc := ⟨.hbm, 248, rfl⟩
abbrev main_call4_call0_call0_c_8 : Ref sig .tc := ⟨.hbm, 249, rfl⟩
abbrev main_call4_call0_call0_v38 : Ref sig .tc := ⟨.hbm, 250, rfl⟩
abbrev main_call4_call0_call0_v39 : Ref sig .tc := ⟨.hbm, 251, rfl⟩
abbrev main_call4_call0_call0_v40 : Ref sig .tc := ⟨.hbm, 252, rfl⟩
abbrev main_call4_call0_call0_c_9 : Ref sig .tc := ⟨.hbm, 253, rfl⟩
abbrev main_call4_call0_call0_v41 : Ref sig .tc := ⟨.hbm, 254, rfl⟩
abbrev main_call4_call0_call0_v42 : Ref sig .tc := ⟨.hbm, 255, rfl⟩
abbrev main_call4_call0_call0_c_10 : Ref sig .tc := ⟨.hbm, 256, rfl⟩
abbrev main_call4_call0_call0_v43 : Ref sig .tc := ⟨.hbm, 257, rfl⟩
abbrev main_call4_call0_call0_v44 : Ref sig .tc := ⟨.hbm, 258, rfl⟩
abbrev main_call4_call0_call0_v45 : Ref sig .tc := ⟨.hbm, 259, rfl⟩
abbrev main_call4_call0_call0_v46 : Ref sig .tc := ⟨.hbm, 260, rfl⟩
abbrev main_call4_call0_call0_v47 : Ref sig .tc := ⟨.hbm, 261, rfl⟩
abbrev main_call4_call0_call0_c_11 : Ref sig .tc := ⟨.hbm, 262, rfl⟩
abbrev main_call4_call0_call0_v48 : Ref sig .tc := ⟨.hbm, 263, rfl⟩
abbrev main_call4_call0_call0_v49 : Ref sig .tc := ⟨.hbm, 264, rfl⟩
abbrev main_call4_call0_call0_c_12 : Ref sig .tc := ⟨.hbm, 265, rfl⟩
abbrev main_call4_call0_call0_v50 : Ref sig .tc := ⟨.hbm, 266, rfl⟩
abbrev main_call4_call0_call0_v51 : Ref sig .tc := ⟨.hbm, 267, rfl⟩
abbrev main_call4_call0_call0_v52 : Ref sig .tc := ⟨.hbm, 268, rfl⟩
abbrev main_call4_call0_call0_v53 : Ref sig .tc := ⟨.hbm, 269, rfl⟩
abbrev main_call4_call0_call0_v54 : Ref sig .tc := ⟨.hbm, 270, rfl⟩
abbrev main_call4_call0_call0_c_13 : Ref sig .tc := ⟨.hbm, 271, rfl⟩
abbrev main_call4_call0_call0_v55 : Ref sig .tc := ⟨.hbm, 272, rfl⟩
abbrev main_call4_call0_call0_v56 : Ref sig .tc := ⟨.hbm, 273, rfl⟩
abbrev main_call4_call0_call0_c_14 : Ref sig .tc := ⟨.hbm, 274, rfl⟩
abbrev main_call4_call0_call0_v57 : Ref sig .tc := ⟨.hbm, 275, rfl⟩
abbrev main_call4_call0_call0_v58 : Ref sig .tc := ⟨.hbm, 276, rfl⟩
abbrev main_call4_call0_call0_v59 : Ref sig .tc := ⟨.hbm, 277, rfl⟩
abbrev main_call4_call0_call0_v60 : Ref sig .tc := ⟨.hbm, 278, rfl⟩
abbrev main_call4_call0_call0_v61 : Ref sig .tc := ⟨.hbm, 279, rfl⟩
abbrev main_call4_call0_call0_c_15 : Ref sig .tc := ⟨.hbm, 280, rfl⟩
abbrev main_call4_call0_call0_v62 : Ref sig .tc := ⟨.hbm, 281, rfl⟩
abbrev main_call4_call0_call0_v63 : Ref sig .tc := ⟨.hbm, 282, rfl⟩
abbrev main_call4_call0_call0_c_16 : Ref sig .tc := ⟨.hbm, 283, rfl⟩
abbrev main_call4_call0_call0_v64 : Ref sig .tc := ⟨.hbm, 284, rfl⟩
abbrev main_call4_call0_call0_v65 : Ref sig .tc := ⟨.hbm, 285, rfl⟩
abbrev main_call4_call0_call0_v66 : Ref sig .tc := ⟨.hbm, 286, rfl⟩
abbrev main_call4_call0_call0_v67 : Ref sig .tc := ⟨.hbm, 287, rfl⟩
abbrev main_call4_call0_call0_v68 : Ref sig .tc := ⟨.hbm, 288, rfl⟩
abbrev main_call4_call0_call0_v69 : Ref sig .tc := ⟨.hbm, 289, rfl⟩
abbrev main_call4_call0_call0_v70 : Ref sig .tc := ⟨.hbm, 290, rfl⟩
abbrev main_call4_call0_call0_v71 : Ref sig .tc := ⟨.hbm, 291, rfl⟩
abbrev main_call4_call0_call0_c_17 : Ref sig .tc := ⟨.hbm, 292, rfl⟩
abbrev main_call4_call0_call0_v72 : Ref sig .tc := ⟨.hbm, 293, rfl⟩
abbrev main_call4_call0_call0_v73 : Ref sig .tc := ⟨.hbm, 294, rfl⟩
abbrev main_call4_call0_call0_v74 : Ref sig .tc := ⟨.hbm, 295, rfl⟩
abbrev main_call4_call0_call0_c_18 : Ref sig .tc := ⟨.hbm, 296, rfl⟩
abbrev main_call4_call0_call0_v75 : Ref sig .tc := ⟨.hbm, 297, rfl⟩
abbrev main_call4_call0_call0_v76 : Ref sig .tc := ⟨.hbm, 298, rfl⟩
abbrev main_call4_call0_call0_c_19 : Ref sig .tc := ⟨.hbm, 299, rfl⟩
abbrev main_call4_call0_call0_v77 : Ref sig .tc := ⟨.hbm, 300, rfl⟩
abbrev main_call4_call0_call0_v78 : Ref sig .tc := ⟨.hbm, 301, rfl⟩
abbrev main_call4_call0_call0_v79 : Ref sig .tc := ⟨.hbm, 302, rfl⟩
abbrev main_call4_call0_call0_v80 : Ref sig .tc := ⟨.hbm, 303, rfl⟩
abbrev main_call4_call0_call0_v81 : Ref sig .tc := ⟨.hbm, 304, rfl⟩
abbrev main_call4_call0_call0_c_20 : Ref sig .tc := ⟨.hbm, 305, rfl⟩
abbrev main_call4_call0_call0_v82 : Ref sig .tc := ⟨.hbm, 306, rfl⟩
abbrev main_call4_call0_call0_v83 : Ref sig .tc := ⟨.hbm, 307, rfl⟩
abbrev main_call4_call0_call0_c_21 : Ref sig .tc := ⟨.hbm, 308, rfl⟩
abbrev main_call4_call0_call0_v84 : Ref sig .tc := ⟨.hbm, 309, rfl⟩
abbrev main_call4_call0_call0_v85 : Ref sig .tc := ⟨.hbm, 310, rfl⟩
abbrev main_call4_call0_call0_v86 : Ref sig .tc := ⟨.hbm, 311, rfl⟩
abbrev main_call4_call0_call0_v87 : Ref sig .tc := ⟨.hbm, 312, rfl⟩
abbrev main_call4_call0_call0_v88 : Ref sig .tc := ⟨.hbm, 313, rfl⟩
abbrev main_call4_call0_call0_c_22 : Ref sig .tc := ⟨.hbm, 314, rfl⟩
abbrev main_call4_call0_call0_v89 : Ref sig .tc := ⟨.hbm, 315, rfl⟩
abbrev main_call4_call0_call0_v90 : Ref sig .tc := ⟨.hbm, 316, rfl⟩
abbrev main_call4_call0_call0_c_23 : Ref sig .tc := ⟨.hbm, 317, rfl⟩
abbrev main_call4_call0_call0_v91 : Ref sig .tc := ⟨.hbm, 318, rfl⟩
abbrev main_call4_call0_call0_v92 : Ref sig .tc := ⟨.hbm, 319, rfl⟩
abbrev main_call4_call0_call0_v93 : Ref sig .tc := ⟨.hbm, 320, rfl⟩
abbrev main_call4_call0_call0_v94 : Ref sig .tc := ⟨.hbm, 321, rfl⟩
abbrev main_call4_call0_call0_v95 : Ref sig .tc := ⟨.hbm, 322, rfl⟩
abbrev main_call4_call0_call0_c_24 : Ref sig .tc := ⟨.hbm, 323, rfl⟩
abbrev main_call4_call0_call0_v96 : Ref sig .tc := ⟨.hbm, 324, rfl⟩
abbrev main_call4_call0_call0_v97 : Ref sig .tc := ⟨.hbm, 325, rfl⟩
abbrev main_call4_call0_call0_c_25 : Ref sig .tc := ⟨.hbm, 326, rfl⟩
abbrev main_call4_call0_call0_v98 : Ref sig .tc := ⟨.hbm, 327, rfl⟩
abbrev main_call4_call0_call0_v99 : Ref sig .tc := ⟨.hbm, 328, rfl⟩
abbrev main_call4_call0_call0_v100 : Ref sig .tc := ⟨.hbm, 329, rfl⟩
abbrev main_call4_call0_call0_v101 : Ref sig .tc := ⟨.hbm, 330, rfl⟩
abbrev main_call4_call0_call0_v102 : Ref sig .tc := ⟨.hbm, 331, rfl⟩
abbrev main_call4_call0_call0_v103 : Ref sig .tc := ⟨.hbm, 332, rfl⟩
abbrev main_call4_call0_call0_v104 : Ref sig .tc := ⟨.hbm, 333, rfl⟩
abbrev main_call4_call0_call0_v105 : Ref sig .tc := ⟨.hbm, 334, rfl⟩
abbrev main_call4_call0_call0_c_26 : Ref sig .tc := ⟨.hbm, 335, rfl⟩
abbrev main_call4_call0_call0_v106 : Ref sig .tc := ⟨.hbm, 336, rfl⟩
abbrev main_call4_call0_call0_v107 : Ref sig .tc := ⟨.hbm, 337, rfl⟩
abbrev main_call4_call0_call0_v108 : Ref sig .tc := ⟨.hbm, 338, rfl⟩
abbrev main_call4_call0_call0_c_27 : Ref sig .tc := ⟨.hbm, 339, rfl⟩
abbrev main_call4_call0_call0_v109 : Ref sig .tc := ⟨.hbm, 340, rfl⟩
abbrev main_call4_call0_call0_v110 : Ref sig .tc := ⟨.hbm, 341, rfl⟩
abbrev main_call4_call0_call0_c_28 : Ref sig .tc := ⟨.hbm, 342, rfl⟩
abbrev main_call4_call0_call0_v111 : Ref sig .tc := ⟨.hbm, 343, rfl⟩
abbrev main_call4_call0_call0_v112 : Ref sig .tc := ⟨.hbm, 344, rfl⟩
abbrev main_call4_call0_call0_v113 : Ref sig .tc := ⟨.hbm, 345, rfl⟩
abbrev main_call4_call0_call0_v114 : Ref sig .tc := ⟨.hbm, 346, rfl⟩
abbrev main_call4_call0_call0_v115 : Ref sig .tc := ⟨.hbm, 347, rfl⟩
abbrev main_call4_call0_call0_c_29 : Ref sig .tc := ⟨.hbm, 348, rfl⟩
abbrev main_call4_call0_call0_v116 : Ref sig .tc := ⟨.hbm, 349, rfl⟩
abbrev main_call4_call0_call0_v117 : Ref sig .tc := ⟨.hbm, 350, rfl⟩
abbrev main_call4_call0_call0_c_30 : Ref sig .tc := ⟨.hbm, 351, rfl⟩
abbrev main_call4_call0_call0_v118 : Ref sig .tc := ⟨.hbm, 352, rfl⟩
abbrev main_call4_call0_call0_v119 : Ref sig .tc := ⟨.hbm, 353, rfl⟩
abbrev main_call4_call0_call0_v120 : Ref sig .tc := ⟨.hbm, 354, rfl⟩
abbrev main_call4_call0_call0_v121 : Ref sig .tc := ⟨.hbm, 355, rfl⟩
abbrev main_call4_call0_call0_v122 : Ref sig .tc := ⟨.hbm, 356, rfl⟩
abbrev main_call4_call0_call0_c_31 : Ref sig .tc := ⟨.hbm, 357, rfl⟩
abbrev main_call4_call0_call0_v123 : Ref sig .tc := ⟨.hbm, 358, rfl⟩
abbrev main_call4_call0_call0_v124 : Ref sig .tc := ⟨.hbm, 359, rfl⟩
abbrev main_call4_call0_call0_c_32 : Ref sig .tc := ⟨.hbm, 360, rfl⟩
abbrev main_call4_call0_call0_v125 : Ref sig .tc := ⟨.hbm, 361, rfl⟩
abbrev main_call4_call0_call0_v126 : Ref sig .tc := ⟨.hbm, 362, rfl⟩
abbrev main_call4_call0_call0_v127 : Ref sig .tc := ⟨.hbm, 363, rfl⟩
abbrev main_call4_call0_call0_v128 : Ref sig .tc := ⟨.hbm, 364, rfl⟩
abbrev main_call4_call0_call0_v129 : Ref sig .tc := ⟨.hbm, 365, rfl⟩
abbrev main_call4_call0_call0_c_33 : Ref sig .tc := ⟨.hbm, 366, rfl⟩
abbrev main_call4_call0_call0_v130 : Ref sig .tc := ⟨.hbm, 367, rfl⟩
abbrev main_call4_call0_call0_v131 : Ref sig .tc := ⟨.hbm, 368, rfl⟩
abbrev main_call4_call0_call0_c_34 : Ref sig .tc := ⟨.hbm, 369, rfl⟩
abbrev main_call4_call0_call0_v132 : Ref sig .tc := ⟨.hbm, 370, rfl⟩
abbrev main_call4_call0_call0_v133 : Ref sig .tc := ⟨.hbm, 371, rfl⟩
abbrev main_call4_call0_call0_v134 : Ref sig .tc := ⟨.hbm, 372, rfl⟩
abbrev main_call4_call0_call0_v135 : Ref sig .tc := ⟨.hbm, 373, rfl⟩
abbrev main_call4_call0_call0_v136 : Ref sig .tc := ⟨.hbm, 374, rfl⟩
abbrev main_call4_call0_call0_v137 : Ref sig .tc := ⟨.hbm, 375, rfl⟩
abbrev main_call4_call0_call0_v138 : Ref sig .tc := ⟨.hbm, 376, rfl⟩
abbrev main_call4_call0_call0_v139 : Ref sig .tc := ⟨.hbm, 377, rfl⟩
abbrev main_call4_call0_call0_c_35 : Ref sig .tc := ⟨.hbm, 378, rfl⟩
abbrev main_call4_call0_call0_v140 : Ref sig .tc := ⟨.hbm, 379, rfl⟩
abbrev main_call4_call0_call0_v141 : Ref sig .tc := ⟨.hbm, 380, rfl⟩
abbrev main_call4_call0_call0_v142 : Ref sig .tc := ⟨.hbm, 381, rfl⟩
abbrev main_call4_call0_call0_c_36 : Ref sig .tc := ⟨.hbm, 382, rfl⟩
abbrev main_call4_call0_call0_v143 : Ref sig .tc := ⟨.hbm, 383, rfl⟩
abbrev main_call4_call0_call0_v144 : Ref sig .tc := ⟨.hbm, 384, rfl⟩
abbrev main_call4_call0_call0_c_37 : Ref sig .tc := ⟨.hbm, 385, rfl⟩
abbrev main_call4_call0_call0_v145 : Ref sig .tc := ⟨.hbm, 386, rfl⟩
abbrev main_call4_call0_call0_v146 : Ref sig .tc := ⟨.hbm, 387, rfl⟩
abbrev main_call4_call0_call0_v147 : Ref sig .tc := ⟨.hbm, 388, rfl⟩
abbrev main_call4_call0_call0_v148 : Ref sig .tc := ⟨.hbm, 389, rfl⟩
abbrev main_call4_call0_call0_v149 : Ref sig .tc := ⟨.hbm, 390, rfl⟩
abbrev main_call4_call0_call0_c_38 : Ref sig .tc := ⟨.hbm, 391, rfl⟩
abbrev main_call4_call0_call0_v150 : Ref sig .tc := ⟨.hbm, 392, rfl⟩
abbrev main_call4_call0_call0_v151 : Ref sig .tc := ⟨.hbm, 393, rfl⟩
abbrev main_call4_call0_call0_c_39 : Ref sig .tc := ⟨.hbm, 394, rfl⟩
abbrev main_call4_call0_call0_v152 : Ref sig .tc := ⟨.hbm, 395, rfl⟩
abbrev main_call4_call0_call0_v153 : Ref sig .tc := ⟨.hbm, 396, rfl⟩
abbrev main_call4_call0_call0_v154 : Ref sig .tc := ⟨.hbm, 397, rfl⟩
abbrev main_call4_call0_call0_v155 : Ref sig .tc := ⟨.hbm, 398, rfl⟩
abbrev main_call4_call0_call0_v156 : Ref sig .tc := ⟨.hbm, 399, rfl⟩
abbrev main_call4_call0_call0_c_40 : Ref sig .tc := ⟨.hbm, 400, rfl⟩
abbrev main_call4_call0_call0_v157 : Ref sig .tc := ⟨.hbm, 401, rfl⟩
abbrev main_call4_call0_call0_v158 : Ref sig .tc := ⟨.hbm, 402, rfl⟩
abbrev main_call4_call0_call0_c_41 : Ref sig .tc := ⟨.hbm, 403, rfl⟩
abbrev main_call4_call0_call0_v159 : Ref sig .tc := ⟨.hbm, 404, rfl⟩
abbrev main_call4_call0_call0_v160 : Ref sig .tc := ⟨.hbm, 405, rfl⟩
abbrev main_call4_call0_call0_v161 : Ref sig .tc := ⟨.hbm, 406, rfl⟩
abbrev main_call4_call0_call0_v162 : Ref sig .tc := ⟨.hbm, 407, rfl⟩
abbrev main_call4_call0_call0_v163 : Ref sig .tc := ⟨.hbm, 408, rfl⟩
abbrev main_call4_call0_call0_c_42 : Ref sig .tc := ⟨.hbm, 409, rfl⟩
abbrev main_call4_call0_call0_v164 : Ref sig .tc := ⟨.hbm, 410, rfl⟩
abbrev main_call4_call0_call0_v165 : Ref sig .tc := ⟨.hbm, 411, rfl⟩
abbrev main_call4_call0_call0_c_43 : Ref sig .tc := ⟨.hbm, 412, rfl⟩
abbrev main_call4_call0_call0_v166 : Ref sig .tc := ⟨.hbm, 413, rfl⟩
abbrev main_call4_call0_call0_v167 : Ref sig .tc := ⟨.hbm, 414, rfl⟩
abbrev main_call4_call0_call0_v168 : Ref sig .tc := ⟨.hbm, 415, rfl⟩
abbrev main_call4_call0_call0_v169 : Ref sig .tc := ⟨.hbm, 416, rfl⟩
abbrev main_call4_call0_call0_v170 : Ref sig .tc := ⟨.hbm, 417, rfl⟩
abbrev main_call4_call0_v18_0 : Ref sig .tc := ⟨.hbm, 418, rfl⟩
abbrev main_call4_call0_call0_v172 : Ref sig .tc := ⟨.hbm, 419, rfl⟩
abbrev main_call4_call0_call0_v173 : Ref sig .tc := ⟨.hbm, 420, rfl⟩
abbrev main_call4_call0_call0_c_44 : Ref sig .tc := ⟨.hbm, 421, rfl⟩
abbrev main_call4_call0_call0_v174 : Ref sig .tc := ⟨.hbm, 422, rfl⟩
abbrev main_call4_call0_v18_1 : Ref sig .tc := ⟨.hbm, 423, rfl⟩
abbrev main_call4_call0_v19 : Ref sig .tc := ⟨.hbm, 424, rfl⟩
abbrev main_call4_call0_c_2 : Ref sig .tc := ⟨.hbm, 425, rfl⟩
abbrev main_call4_call0_v20 : Ref sig .tc := ⟨.hbm, 426, rfl⟩
abbrev main_call4_call0_v21 : Ref sig .tc := ⟨.hbm, 427, rfl⟩
abbrev main_call4_call0_c_3 : Ref sig .tc := ⟨.hbm, 428, rfl⟩
abbrev main_call4_call0_v22 : Ref sig .tc := ⟨.hbm, 429, rfl⟩
abbrev main_call4_call0_v23 : Ref sig .tc := ⟨.hbm, 430, rfl⟩
abbrev main_call4_call0_v24 : Ref sig .tc := ⟨.hbm, 431, rfl⟩
abbrev main_call4_call0_cst : Ref sig .tc := ⟨.hbm, 432, rfl⟩
abbrev main_call4_call0_v25 : Ref sig .tc := ⟨.hbm, 433, rfl⟩
abbrev main_call4_call0_v26 : Ref sig .tc := ⟨.hbm, 434, rfl⟩
abbrev main_call4_call0_v27 : Ref sig .tc := ⟨.hbm, 435, rfl⟩
abbrev main_call4_call0_v28 : Ref sig .tc := ⟨.hbm, 436, rfl⟩
abbrev main_call4_call0_v29 : Ref sig .tc := ⟨.hbm, 437, rfl⟩
abbrev main_call4_call0_v30 : Ref sig .tc := ⟨.hbm, 438, rfl⟩
abbrev main_call4_call0_v31 : Ref sig .tc := ⟨.hbm, 439, rfl⟩
abbrev main_call4_call0_v32 : Ref sig .tc := ⟨.hbm, 440, rfl⟩
abbrev main_call4_v0 : Ref sig .tc := ⟨.hbm, 441, rfl⟩
abbrev main_call4_v1 : Ref sig .tc := ⟨.hbm, 442, rfl⟩
abbrev main_call4_v2 : Ref sig .tc := ⟨.hbm, 443, rfl⟩
abbrev main_call4_v3 : Ref sig .tc := ⟨.hbm, 444, rfl⟩
abbrev main_v114 : Ref sig .tc := ⟨.hbm, 445, rfl⟩
abbrev main_v115 : Ref sig .tc := ⟨.hbm, 446, rfl⟩
abbrev main_call5_v0 : Ref sig .tc := ⟨.hbm, 447, rfl⟩
abbrev main_call5_cst : Ref sig .tc := ⟨.hbm, 448, rfl⟩
abbrev main_call5_c : Ref sig .tc := ⟨.hbm, 449, rfl⟩
abbrev main_call5_v1_0 : Ref sig .tc := ⟨.hbm, 450, rfl⟩
abbrev main_v116 : Ref sig .tc := ⟨.hbm, 451, rfl⟩
abbrev main_v117 : Ref sig .tc := ⟨.hbm, 452, rfl⟩
abbrev main_call6_c : Ref sig .tc := ⟨.hbm, 453, rfl⟩
abbrev main_call6_v0 : Ref sig .tc := ⟨.hbm, 454, rfl⟩
abbrev main_call6_v1 : Ref sig .tc := ⟨.hbm, 455, rfl⟩
abbrev main_call6_c_0 : Ref sig .tc := ⟨.hbm, 456, rfl⟩
abbrev main_call6_v2 : Ref sig .tc := ⟨.hbm, 457, rfl⟩
abbrev main_call6_v3 : Ref sig .tc := ⟨.hbm, 458, rfl⟩
abbrev main_call6_v4 : Ref sig .tc := ⟨.hbm, 459, rfl⟩
abbrev main_call6_v5 : Ref sig .tc := ⟨.hbm, 460, rfl⟩
abbrev main_call6_c_1 : Ref sig .tc := ⟨.hbm, 461, rfl⟩
abbrev main_call6_c_2 : Ref sig .tc := ⟨.hbm, 462, rfl⟩
abbrev main_call6_v6 : Ref sig .tc := ⟨.hbm, 463, rfl⟩
abbrev main_call6_v7 : Ref sig .tc := ⟨.hbm, 464, rfl⟩
abbrev main_call6_v8 : Ref sig .tc := ⟨.hbm, 465, rfl⟩
abbrev main_call6_v9 : Ref sig .tc := ⟨.hbm, 466, rfl⟩
abbrev main_call6_v10 : Ref sig .tc := ⟨.hbm, 467, rfl⟩
abbrev main_call6_v11 : Ref sig .tc := ⟨.hbm, 468, rfl⟩
abbrev main_call6_c_3 : Ref sig .tc := ⟨.hbm, 469, rfl⟩
abbrev main_call6_v12 : Ref sig .tc := ⟨.hbm, 470, rfl⟩
abbrev main_call6_v13 : Ref sig .tc := ⟨.hbm, 471, rfl⟩
abbrev main_call6_cst : Ref sig .tc := ⟨.hbm, 472, rfl⟩
abbrev main_call6_v14 : Ref sig .tc := ⟨.hbm, 473, rfl⟩
abbrev main_v118 : Ref sig .tc := ⟨.hbm, 474, rfl⟩
abbrev main_v119 : Ref sig .tc := ⟨.hbm, 475, rfl⟩
abbrev main_cst_17 : Ref sig .tc := ⟨.hbm, 476, rfl⟩
abbrev main_v120 : Ref sig .tc := ⟨.hbm, 477, rfl⟩
abbrev main_v121 : Ref sig .tc := ⟨.hbm, 478, rfl⟩
abbrev main_v122 : Ref sig .tc := ⟨.hbm, 479, rfl⟩
abbrev main_v123 : Ref sig .tc := ⟨.hbm, 480, rfl⟩
abbrev main_v124 : Ref sig .tc := ⟨.hbm, 481, rfl⟩

abbrev nD : Nat := 1
abbrev τ : Topo := Topo.v7x

variable {F : FTy → Type} [FloatOps F]
-- ==== Proof.Views.lean ====
/- What loads and stores through whole-buffer rectangles, and a store over part of a buffer, leave to be read:
   the small facts the runs of the kernel body (`KernelRuns`, `IdealRuns`) read their stores back with. -/
module

public import Idealize.ShloMosaic.Lib.Pipeline.FrameBody
public import Idealize.ShloMosaic.Lib.Tactic

@[expose] public section

noncomputable section

namespace Cert.Views

open Idealize.ShloMosaic

variable {sig : RefSig} {κ : Kind} {sp : Space} {s : Shape} {e : EltTy} {Val : EltTy → Type}

/-- After a store through a rectangle the buffer reads as before with the rectangle's part replaced. -/
theorem read_store (v : View sig κ sp s e) (f : v.ty.Contents Val) (r : Rect s) (w : r.shape.Idx → Val e)
    (L : List (View.Piece Val s e)) :
    v.read Val (v.writes Val f ((⟨r, w⟩ : View.Piece Val s e) :: L)) = r.overlay (v.read Val (v.writes Val f L)) w := by
  funext y
  by_cases hy : y ∈ r.set
  · obtain ⟨x, -, rfl⟩ := Finset.mem_map.mp ((Rect.map_emb_univ r).symm ▸ hy : y ∈ Finset.univ.map r.emb)
    rw [Rect.overlay_emb]; exact View.read_writes_cons_emb v f r w L x
  · rw [Rect.overlay_of_not_mem r _ _ hy, View.writes_cons]
    exact View.read_slice_write_of_not_mem r _ _ _ (by rwa [Rect.map_emb_univ])

/-- Replacing the whole of a vector leaves the replacement. -/
theorem overlay_whole {off : Fin s.rank → ℕ} (hz : ∀ a, off a = 0) (inb : ∀ a, off a + s.size a ≤ s.size a)
    (X w : s.Idx → Val e) : (Rect.unit off s.size inb).overlay X w = w := by
  obtain rfl : off = fun _ => 0 := funext hz
  funext y
  have hy : (Rect.unit (fun _ => 0) s.size inb).emb y = y := funext fun a => Fin.ext (by
    show 0 + 1 * (y a).val = (y a).val
    omega)
  exact (congrArg _ hy.symm).trans (Rect.overlay_emb (Rect.unit (fun _ => 0) s.size inb) X w y)

/-- A store of the whole buffer leaves what was stored. -/
theorem read_store_whole (v : View sig κ sp s e) (f : v.ty.Contents Val) {off : Fin s.rank → ℕ} (hz : ∀ a, off a = 0)
    (inb : ∀ a, off a + s.size a ≤ s.size a) (w : s.Idx → Val e) (L : List (View.Piece Val s e)) :
    v.read Val (v.writes Val f ((⟨Rect.unit off (no_index s.size) inb, w⟩ : View.Piece Val s e) :: L)) = w :=
  (read_store v f (Rect.unit off s.size inb) w L).trans (overlay_whole hz inb _ w)

/-- A load of the whole buffer reads its contents. -/
theorem readAt_whole (v : View sig κ sp s e) (f : v.ty.Contents Val) {off : Fin s.rank → ℕ} (hz : ∀ a, off a = 0)
    (inb : ∀ a, off a + s.size a ≤ s.size a) :
    v.readAt Val (Rect.unit off (no_index s.size) inb).toLoadRect f = v.read Val f := by
  obtain rfl : off = fun _ => 0 := funext hz
  funext y
  show v.read Val f _ = _
  congr 1
  funext a
  exact Fin.ext (by show 0 + 1 * (y a).val = (y a).val; omega)

end Cert.Views

end
-- ==== Proof.IdealRuns.lean ====
/- The kernel body run at each kind of grid step, on any whole staging buffers: the first step (`run_first`), a step
   in the middle (`run_mid`), the step of the ragged chunk (`run_ragged`) and the last step (`run_last`). Each theorem
   says what the buffers the step touches hold after it, as the body's payloads of what they held before. -/
module

public import proofs.«01_k».proof.Proof.Gen.KernelIdeal.Frame
public import proofs.«01_k».proof.Proof.Gen.KernelIdeal.Skeleton
public import proofs.«01_k».proof.Proof.Views

@[expose] public section

set_option maxRecDepth 16384

noncomputable section

namespace Cert.KernelIdeal.Run

open Cert.KernelIdeal Cert.KernelIdeal.Gen Cert.Views
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The body's branch conditions -/

/-- The scratch is initialised at this step: the step is the first. -/
abbrev isFirst (i : grid0.Coords) : Prop := (Scalar.cmpi .ne (Scalar.extui (Scalar.cmpi .eq (BitVec.ofNat 32 (i 0).val) 0#32)) 0#32) = 1#1
/-- The step accumulates a whole chunk. -/
abbrev isWhole (i : grid0.Coords) : Prop := (Scalar.cmpi .ne (Scalar.extui (Scalar.cmpi .ne (BitVec.ofNat 32 (i 0).val) 11#32)) 0#32) = 1#1
/-- The step accumulates the ragged chunk. -/
abbrev isRagged (i : grid0.Coords) : Prop := (Scalar.cmpi .ne (Scalar.extui (Scalar.cmpi .eq (BitVec.ofNat 32 (i 0).val) 11#32)) 0#32) = 1#1
/-- The step computes the results: the step is the last. -/
abbrev isLast (i : grid0.Coords) : Prop := k0_cond4 i = 1#1

theorem isFirst_iff : ∀ t : Fin grid0.N, isFirst (grid0.coords t) ↔ t.val = 0 := by decide +kernel
theorem isWhole_iff : ∀ t : Fin grid0.N, isWhole (grid0.coords t) ↔ t.val ≠ 11 := by decide +kernel
theorem isRagged_iff : ∀ t : Fin grid0.N, isRagged (grid0.coords t) ↔ t.val = 11 := by decide +kernel
theorem isLast_iff : ∀ t : Fin grid0.N, isLast (grid0.coords t) ↔ t.val = 12 := by decide +kernel

/-! ## What the stores leave -/

/-- The augmented values after a step's store: the first 64 rows the chunk's values, the others as they were. -/
def augU (a : Vec F S128x8192 .bf16) (v : Vec F S64x8192 .f32) : Vec F S128x8192 .bf16 :=
  (Rect.unit (s := S128x8192) ![0, 0] S64x8192.size inb_S128x8192_S64x8192_0_0).overlay a (k0_pay17 v)

/-- The keys' chunk after the last step: the first 1024 columns the queries, the others the memory's keys. -/
def keysU (k : Vec F S10x8192 .f32) (q : Vec F S10x1024 .f32) : Vec F S10x8192 .f32 :=
  (Rect.unit (s := S10x8192) ![0, 0] S10x1024.size inb_S10x8192_S10x1024_0_0).overlay (k0_pay10 k) (k0_pay2 q)

/-- The values' chunk after the last step: the first 1024 columns the cell states, the others the memory's values. -/
def valsU (v : Vec F S64x8192 .f32) (ct : FVec F S1024x64 .f32) : Vec F S64x8192 .f32 :=
  (Rect.unit (s := S64x8192) ![0, 0] S64x1024.size inb_S64x8192_S64x1024_0_0).overlay (k0_pay11 v) (k0_pay3 ct)

/-- A store of a chunk's values over the first 64 rows reads as the augmented values. -/
theorem read_aug (v : View sig .tc .vmem S128x8192 .bf16) (f : v.ty.Contents (Elt F)) (w : Vec F S64x8192 .f32)
    (L : List (View.Piece (Elt F) S128x8192 .bf16)) :
    v.read (Elt F) (v.writes (Elt F) f ((⟨Rect.unit (s := S128x8192) ![0, 0] (no_index S64x8192.size) inb_S128x8192_S64x8192_0_0, k0_pay17 w⟩ :
      View.Piece (Elt F) S128x8192 .bf16) :: L)) = augU (v.read (Elt F) (v.writes (Elt F) f L)) w := read_store v f _ _ L

/-- A store of the queries over the first 1024 columns of a stored keys' chunk reads as `keysU`. -/
theorem read_keys (v : View sig .tc .vmem S10x8192 .f32) (f : v.ty.Contents (Elt F)) (q : Vec F S10x1024 .f32) (k : Vec F S10x8192 .f32)
    (L : List (View.Piece (Elt F) S10x8192 .f32)) (h : v.read (Elt F) (v.writes (Elt F) f L) = k0_pay10 k) :
    v.read (Elt F) (v.writes (Elt F) f ((⟨Rect.unit (s := S10x8192) ![0, 0] (no_index S10x1024.size) inb_S10x8192_S10x1024_0_0, k0_pay2 q⟩ :
      View.Piece (Elt F) S10x8192 .f32) :: L)) = keysU k q := by
  rw [keysU, ← h]; exact read_store v f _ _ L

/-- A store of the cell states over the first 1024 columns of a stored values' chunk reads as `valsU`. -/
theorem read_vals (v : View sig .tc .vmem S64x8192 .f32) (f : v.ty.Contents (Elt F)) (q : FVec F S1024x64 .f32) (k : Vec F S64x8192 .f32)
    (L : List (View.Piece (Elt F) S64x8192 .f32)) (h : v.read (Elt F) (v.writes (Elt F) f L) = k0_pay11 k) :
    v.read (Elt F) (v.writes (Elt F) f ((⟨Rect.unit (s := S64x8192) ![0, 0] (no_index S64x1024.size) inb_S64x8192_S64x1024_0_0, k0_pay3 q⟩ :
      View.Piece (Elt F) S64x8192 .f32) :: L)) = valsU k q := by
  rw [valsU, ← h]; exact read_store v f _ _ L

variable (c : Dev nD) (i : grid0.Coords)
  (arg1 : Memref sig .tc .vmem S1024x79 .f32) (harg1 : arg1.IsWhole)
  (arg2 : Memref sig .tc .vmem S1024x64 .f32) (harg2 : arg2.IsWhole)
  (arg3 : Memref sig .tc .vmem S10x1024 .f32) (harg3 : arg3.IsWhole)
  (arg4 : Memref sig .tc .vmem S10x8192 .f32) (harg4 : arg4.IsWhole)
  (arg5 : Memref sig .tc .vmem S64x8192 .f32) (harg5 : arg5.IsWhole)
  (arg6 : Memref sig .tc .vmem S64x79 .f32) (harg6 : arg6.IsWhole)
  (arg7 : Memref sig .tc .vmem S64x79 .f32) (harg7 : arg7.IsWhole)
  (arg8 : Memref sig .tc .vmem S64x79 .f32) (harg8 : arg8.IsWhole)
  (arg9 : Memref sig .tc .vmem S64x79 .f32) (harg9 : arg9.IsWhole)
  (arg10 : Memref sig .tc .vmem S64x79 .f32) (harg10 : arg10.IsWhole)
  (arg11 : Memref sig .tc .vmem S64x64 .f32) (harg11 : arg11.IsWhole)
  (arg12 : Memref sig .tc .vmem S1x64 .f32) (harg12 : arg12.IsWhole)
  (arg13 : Memref sig .tc .vmem S2x64 .f32) (harg13 : arg13.IsWhole)
  (arg14 : Memref sig .tc .vmem S1x2 .f32) (harg14 : arg14.IsWhole)
  (arg15 : Memref sig .tc .vmem S2x64 .f32) (harg15 : arg15.IsWhole)
  (arg16 : Memref sig .tc .vmem S1024x1 .f32) (harg16 : arg16.IsWhole)
  (arg17 : Memref sig .tc .vmem S10x8192 .f32) (harg17 : arg17.IsWhole)
  (arg18 : Memref sig .tc .vmem S64x8192 .f32) (harg18 : arg18.IsWhole)
  (arg19 : Memref sig .tc .vmem S1024x2 .f32) (harg19 : arg19.IsWhole)
  (arg20 : Memref sig .tc .vmem S1024x1 .f32) (harg20 : arg20.IsWhole)
  (arg21 : Memref sig .tc .vmem S1024x64 .f32) (harg21 : arg21.IsWhole)
  (arg22 : Memref sig .tc .vmem S1024x64 .f32) (harg22 : arg22.IsWhole)
  (arg23 : Memref sig .tc .vmem S1024x128 .f32) (harg23 : arg23.IsWhole)
  (arg24 : Memref sig .tc .vmem S1024x10 .bf16) (harg24 : arg24.IsWhole)
  (arg25 : Memref sig .tc .vmem S128x8192 .bf16) (harg25 : arg25.IsWhole)

set_option maxHeartbeats 1600000 in
/-- The first step: the scratch, whatever it held, ends at the first chunk's sums, the scaled queries and the augmented values. -/
theorem run_first (hc0 : isFirst i) (hc1 : isWhole i) (hc2 : ¬isRagged i) (hc3 : ¬isLast i)
    (x0 : Vec F S1024x79 .f32) (x3 : Vec F S10x8192 .f32) (x4 : Vec F S64x8192 .f32)
    (E : Set ℕ) (K : PUnit → sProp 𝕄) :
    iprop(owns (c : Thread nD τ) arg1 fullShare x0
      ∗ owns (c : Thread nD τ) arg4 fullShare x3
      ∗ owns (c : Thread nD τ) arg5 fullShare x4
      ∗ (∃ d, owns (c : Thread nD τ) arg17 fullShare d)
      ∗ (∃ d, owns (c : Thread nD τ) arg18 fullShare d)
      ∗ (∃ d, owns (c : Thread nD τ) arg23 fullShare d)
      ∗ (∃ d, owns (c : Thread nD τ) arg24 fullShare d)
      ∗ (∃ d, owns (c : Thread nD τ) arg25 fullShare d)
      ∗ (iprop(owns (c : Thread nD τ) arg1 fullShare x0
          ∗ owns (c : Thread nD τ) arg4 fullShare x3
          ∗ owns (c : Thread nD τ) arg5 fullShare x4
          ∗ owns (c : Thread nD τ) arg17 fullShare (k0_pay10 x3)
          ∗ owns (c : Thread nD τ) arg18 fullShare (k0_pay11 x4)
          ∗ owns (c : Thread nD τ) arg23 fullShare (k0_pay18 x3 (k0_pay14 x0) (k0_pay13 (F := F)) (augU (k0_pay15 (F := F)) x4))
          ∗ owns (c : Thread nD τ) arg24 fullShare (k0_pay14 x0)
          ∗ owns (c : Thread nD τ) arg25 fullShare (augU (k0_pay15 (F := F)) x4)) -∗ K ⟨⟩))
    ⊢ wp frame (wpE (defs₀ (F := F)) Variants.none c none) E
        (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__fused_kernel_eq_skeleton]; unfold cc0__fused_kernel_skel
  simp only [k0_part3_eq_skeleton, k0_part1_eq_skeleton, k0_part2_eq_skeleton]
  unfold owns
  iintro ⟨⟨%f1, %hf1, H1⟩, ⟨%f4, %hf4, H4⟩, ⟨%f5, %hf5, H5⟩, ⟨%d17, %f17, -, H17⟩, ⟨%d18, %f18, -, H18⟩, ⟨%d23, %f23, -, H23⟩, ⟨%d24, %f24, -, H24⟩, ⟨%d25, %f25, -, H25⟩, Hk⟩
  obtain rfl := harg1.eq_unread hf1
  obtain rfl := harg4.eq_unread hf4
  obtain rfl := harg5.eq_unread hf5
  sl_exec (disch := first | sl_exact hc0 | sl_exact hc1 | sl_exact hc2 | sl_exact hc3)
  sl_step
  iapply Hk
  isplitl [H1]
  · iexists _; isplitr
    swap; · iexact H1
    ipureintro
    exact harg1.read_unread _
  isplitl [H4]
  · iexists _; isplitr
    swap; · iexact H4
    ipureintro
    exact harg4.read_unread _
  isplitl [H5]
  · iexists _; isplitr
    swap; · iexact H5
    ipureintro
    exact harg5.read_unread _
  isplitl [H17]
  · iexists _; isplitr
    swap; · iexact H17
    ipureintro
    sl_unfold_words
    simp (disch := decide) only [↓read_store_whole, read_aug, readAt_whole, View.readCov, View.writes_nil, Memref.IsWhole.read_unread]
  isplitl [H18]
  · iexists _; isplitr
    swap; · iexact H18
    ipureintro
    sl_unfold_words
    simp (disch := decide) only [↓read_store_whole, read_aug, readAt_whole, View.readCov, View.writes_nil, Memref.IsWhole.read_unread]
  isplitl [H23]
  · iexists _; isplitr
    swap; · iexact H23
    ipureintro
    sl_unfold_words
    simp (disch := decide) only [↓read_store_whole, read_aug, readAt_whole, View.readCov, View.writes_nil, Memref.IsWhole.read_unread]
  isplitl [H24]
  · iexists _; isplitr
    swap; · iexact H24
    ipureintro
    sl_unfold_words
    simp (disch := decide) only [↓read_store_whole, read_aug, readAt_whole, View.readCov, View.writes_nil, Memref.IsWhole.read_unread]
  · iexists _; isplitr
    swap; · iexact H25
    ipureintro
    sl_unfold_words
    simp (disch := decide) only [↓read_store_whole, read_aug, readAt_whole, View.readCov, View.writes_nil, Memref.IsWhole.read_unread]

set_option maxHeartbeats 1600000 in
/-- A middle step: the chunk's sums are added to the accumulator. -/
theorem run_mid (hc0 : ¬isFirst i) (hc1 : isWhole i) (hc2 : ¬isRagged i) (hc3 : ¬isLast i)
    (x0 : Vec F S1024x79 .f32) (x3 : Vec F S10x8192 .f32) (x4 : Vec F S64x8192 .f32) (xs0 : Vec F S1024x128 .f32) (xs1 : Vec F S1024x10 .bf16) (xs2 : Vec F S128x8192 .bf16)
    (E : Set ℕ) (K : PUnit → sProp 𝕄) :
    iprop(owns (c : Thread nD τ) arg1 fullShare x0
      ∗ owns (c : Thread nD τ) arg4 fullShare x3
      ∗ owns (c : Thread nD τ) arg5 fullShare x4
      ∗ (∃ d, owns (c : Thread nD τ) arg17 fullShare d)
      ∗ (∃ d, owns (c : Thread nD τ) arg18 fullShare d)
      ∗ owns (c : Thread nD τ) arg23 fullShare xs0
      ∗ owns (c : Thread nD τ) arg24 fullShare xs1
      ∗ owns (c : Thread nD τ) arg25 fullShare xs2
      ∗ (iprop(owns (c : Thread nD τ) arg1 fullShare x0
          ∗ owns (c : Thread nD τ) arg4 fullShare x3
          ∗ owns (c : Thread nD τ) arg5 fullShare x4
          ∗ owns (c : Thread nD τ) arg17 fullShare (k0_pay10 x3)
          ∗ owns (c : Thread nD τ) arg18 fullShare (k0_pay11 x4)
          ∗ owns (c : Thread nD τ) arg23 fullShare (k0_pay18 x3 xs1 xs0 (augU xs2 x4))
          ∗ owns (c : Thread nD τ) arg24 fullShare (xs1)
          ∗ owns (c : Thread nD τ) arg25 fullShare (augU xs2 x4)) -∗ K ⟨⟩))
    ⊢ wp frame (wpE (defs₀ (F := F)) Variants.none c none) E
        (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__fused_kernel_eq_skeleton]; unfold cc0__fused_kernel_skel
  simp only [k0_part3_eq_skeleton, k0_part1_eq_skeleton, k0_part2_eq_skeleton]
  unfold owns
  iintro ⟨⟨%f1, %hf1, H1⟩, ⟨%f4, %hf4, H4⟩, ⟨%f5, %hf5, H5⟩, ⟨%d17, %f17, -, H17⟩, ⟨%d18, %f18, -, H18⟩, ⟨%f23, %hf23, H23⟩, ⟨%f24, %hf24, H24⟩, ⟨%f25, %hf25, H25⟩, Hk⟩
  obtain rfl := harg1.eq_unread hf1
  obtain rfl := harg4.eq_unread hf4
  obtain rfl := harg5.eq_unread hf5
  obtain rfl := harg23.eq_unread hf23
  obtain rfl := harg24.eq_unread hf24
  obtain rfl := harg25.eq_unread hf25
  sl_exec (disch := first | sl_exact hc0 | sl_exact hc1 | sl_exact hc2 | sl_exact hc3)
  sl_step
  iapply Hk
  isplitl [H1]
  · iexists _; isplitr
    swap; · iexact H1
    ipureintro
    exact harg1.read_unread _
  isplitl [H4]
  · iexists _; isplitr
    swap; · iexact H4
    ipureintro
    exact harg4.read_unread _
  isplitl [H5]
  · iexists _; isplitr
    swap; · iexact H5
    ipureintro
    exact harg5.read_unread _
  isplitl [H17]
  · iexists _; isplitr
    swap; · iexact H17
    ipureintro
    sl_unfold_words
    simp (disch := decide) only [↓read_store_whole, read_aug, readAt_whole, View.readCov, View.writes_nil, Memref.IsWhole.read_unread]
  isplitl [H18]
  · iexists _; isplitr
    swap; · iexact H18
    ipureintro
    sl_unfold_words
    simp (disch := decide) only [↓read_store_whole, read_aug, readAt_whole, View.readCov, View.writes_nil, Memref.IsWhole.read_unread]
  isplitl [H23]
  · iexists _; isplitr
    swap; · iexact H23
    ipureintro
    sl_unfold_words
    simp (disch := decide) only [↓read_store_whole, read_aug, readAt_whole, View.readCov, View.writes_nil, Memref.IsWhole.read_unread]
  isplitl [H24]
  · iexists _; isplitr
    swap; · iexact H24
    ipureintro
    exact harg24.read_unread _
  · iexists _; isplitr
    swap; · iexact H25
    ipureintro
    sl_unfold_words
    simp (disch := decide) only [↓read_store_whole, read_aug, readAt_whole, View.readCov, View.writes_nil, Memref.IsWhole.read_unread]

set_option maxHeartbeats 1600000 in
/-- The ragged step: the sums of the chunk's part inside the memory are added to the accumulator. -/
theorem run_ragged (hc0 : ¬isFirst i) (hc1 : ¬isWhole i) (hc2 : isRagged i) (hc3 : ¬isLast i)
    (x0 : Vec F S1024x79 .f32) (x3 : Vec F S10x8192 .f32) (x4 : Vec F S64x8192 .f32) (xs0 : Vec F S1024x128 .f32) (xs1 : Vec F S1024x10 .bf16) (xs2 : Vec F S128x8192 .bf16)
    (E : Set ℕ) (K : PUnit → sProp 𝕄) :
    iprop(owns (c : Thread nD τ) arg1 fullShare x0
      ∗ owns (c : Thread nD τ) arg4 fullShare x3
      ∗ owns (c : Thread nD τ) arg5 fullShare x4
      ∗ (∃ d, owns (c : Thread nD τ) arg17 fullShare d)
      ∗ (∃ d, owns (c : Thread nD τ) arg18 fullShare d)
      ∗ owns (c : Thread nD τ) arg23 fullShare xs0
      ∗ owns (c : Thread nD τ) arg24 fullShare xs1
      ∗ owns (c : Thread nD τ) arg25 fullShare xs2
      ∗ (iprop(owns (c : Thread nD τ) arg1 fullShare x0
          ∗ owns (c : Thread nD τ) arg4 fullShare x3
          ∗ owns (c : Thread nD τ) arg5 fullShare x4
          ∗ owns (c : Thread nD τ) arg17 fullShare (k0_pay10 x3)
          ∗ owns (c : Thread nD τ) arg18 fullShare (k0_pay11 x4)
          ∗ owns (c : Thread nD τ) arg23 fullShare (k0_pay1 (k0_pay16 x3 xs1) (augU xs2 x4) xs0)
          ∗ owns (c : Thread nD τ) arg24 fullShare (xs1)
          ∗ owns (c : Thread nD τ) arg25 fullShare (augU xs2 x4)) -∗ K ⟨⟩))
    ⊢ wp frame (wpE (defs₀ (F := F)) Variants.none c none) E
        (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__fused_kernel_eq_skeleton]; unfold cc0__fused_kernel_skel
  simp only [k0_part3_eq_skeleton, k0_part1_eq_skeleton, k0_part2_eq_skeleton]
  unfold owns
  iintro ⟨⟨%f1, %hf1, H1⟩, ⟨%f4, %hf4, H4⟩, ⟨%f5, %hf5, H5⟩, ⟨%d17, %f17, -, H17⟩, ⟨%d18, %f18, -, H18⟩, ⟨%f23, %hf23, H23⟩, ⟨%f24, %hf24, H24⟩, ⟨%f25, %hf25, H25⟩, Hk⟩
  obtain rfl := harg1.eq_unread hf1
  obtain rfl := harg4.eq_unread hf4
  obtain rfl := harg5.eq_unread hf5
  obtain rfl := harg23.eq_unread hf23
  obtain rfl := harg24.eq_unread hf24
  obtain rfl := harg25.eq_unread hf25
  sl_exec (disch := first | sl_exact hc0 | sl_exact hc1 | sl_exact hc2 | sl_exact hc3)
  sl_step
  iapply Hk
  isplitl [H1]
  · iexists _; isplitr
    swap; · iexact H1
    ipureintro
    exact harg1.read_unread _
  isplitl [H4]
  · iexists _; isplitr
    swap; · iexact H4
    ipureintro
    exact harg4.read_unread _
  isplitl [H5]
  · iexists _; isplitr
    swap; · iexact H5
    ipureintro
    exact harg5.read_unread _
  isplitl [H17]
  · iexists _; isplitr
    swap; · iexact H17
    ipureintro
    sl_unfold_words
    simp (disch := decide) only [↓read_store_whole, read_aug, readAt_whole, View.readCov, View.writes_nil, Memref.IsWhole.read_unread]
  isplitl [H18]
  · iexists _; isplitr
    swap; · iexact H18
    ipureintro
    sl_unfold_words
    simp (disch := decide) only [↓read_store_whole, read_aug, readAt_whole, View.readCov, View.writes_nil, Memref.IsWhole.read_unread]
  isplitl [H23]
  · iexists _; isplitr
    swap; · iexact H23
    ipureintro
    sl_unfold_words
    simp (disch := decide) only [↓read_store_whole, read_aug, readAt_whole, View.readCov, View.writes_nil, Memref.IsWhole.read_unread]
  isplitl [H24]
  · iexists _; isplitr
    swap; · iexact H24
    ipureintro
    exact harg24.read_unread _
  · iexists _; isplitr
    swap; · iexact H25
    ipureintro
    sl_unfold_words
    simp (disch := decide) only [↓read_store_whole, read_aug, readAt_whole, View.readCov, View.writes_nil, Memref.IsWhole.read_unread]

set_option maxHeartbeats 1600000 in
/-- The last step: the last chunk's sums are added, the results computed, and the written slots stored over the chunk's first columns. -/
theorem run_last (hc0 : ¬isFirst i) (hc1 : isWhole i) (hc2 : ¬isRagged i) (hc3 : isLast i)
    (x0 : Vec F S1024x79 .f32) (x1 : Vec F S1024x64 .f32) (x2 : Vec F S10x1024 .f32) (x3 : Vec F S10x8192 .f32) (x4 : Vec F S64x8192 .f32) (x5 : Vec F S64x79 .f32) (x6 : Vec F S64x79 .f32) (x7 : Vec F S64x79 .f32) (x8 : Vec F S64x79 .f32) (x9 : Vec F S64x79 .f32) (x10 : Vec F S64x64 .f32) (x11 : Vec F S1x64 .f32) (x12 : Vec F S2x64 .f32) (x13 : Vec F S1x2 .f32) (x14 : Vec F S2x64 .f32) (x15 : Vec F S1024x1 .f32) (xs0 : Vec F S1024x128 .f32) (xs1 : Vec F S1024x10 .bf16) (xs2 : Vec F S128x8192 .bf16)
    (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare x12
      ∗ owns (c : Thread nD τ) arg14 fullShare x13
      ∗ owns (c : Thread nD τ) arg15 fullShare x14
      ∗ owns (c : Thread nD τ) arg16 fullShare x15
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ owns (c : Thread nD τ) arg23 fullShare xs0
      ∗ owns (c : Thread nD τ) arg24 fullShare xs1
      ∗ owns (c : Thread nD τ) arg25 fullShare xs2
      ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ owns (c : Thread nD τ) arg15 fullShare x14
          ∗ owns (c : Thread nD τ) arg16 fullShare x15
          ∗ owns (c : Thread nD τ) arg17 fullShare (keysU x3 x2)
          ∗ owns (c : Thread nD τ) arg18 fullShare (valsU x4 (k0_pay4 (k0_pay12 x0) x1 x5 x6 x8 x9 (k0_pay18 x3 xs1 xs0 (augU xs2 x4))))
          ∗ owns (c : Thread nD τ) arg19 fullShare (k0_pay8 (k0_pay6 (k0_pay12 x0) x1 x5 x6 x7 x8 x9 (k0_pay18 x3 xs1 xs0 (augU xs2 x4)) x10) x11 x12 x13)
          ∗ owns (c : Thread nD τ) arg20 fullShare (k0_pay9 (k0_pay6 (k0_pay12 x0) x1 x5 x6 x7 x8 x9 (k0_pay18 x3 xs1 xs0 (augU xs2 x4)) x10) x11 x14 x15)
          ∗ owns (c : Thread nD τ) arg21 fullShare (k0_pay5 (k0_pay12 x0) x1 x5 x6 x7 x8 x9 (k0_pay18 x3 xs1 xs0 (augU xs2 x4)))
          ∗ owns (c : Thread nD τ) arg22 fullShare (k0_pay4 (k0_pay12 x0) x1 x5 x6 x8 x9 (k0_pay18 x3 xs1 xs0 (augU xs2 x4)))
          ∗ owns (c : Thread nD τ) arg23 fullShare (k0_pay18 x3 xs1 xs0 (augU xs2 x4))
          ∗ owns (c : Thread nD τ) arg24 fullShare (xs1)
          ∗ owns (c : Thread nD τ) arg25 fullShare (augU xs2 x4)) -∗ K ⟨⟩))
    ⊢ wp frame (wpE (defs₀ (F := F)) Variants.none c none) E
        (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__fused_kernel_eq_skeleton]; unfold cc0__fused_kernel_skel
  simp only [k0_part3_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%f23, %hf23, H23⟩, ⟨%f24, %hf24, H24⟩, ⟨%f25, %hf25, H25⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg23.eq_unread hf23
  obtain rfl := harg24.eq_unread hf24
  obtain rfl := harg25.eq_unread hf25
  sl_exec (disch := first | sl_exact hc0 | sl_exact hc1 | sl_exact hc2 | sl_exact hc3)
  sl_step
  iapply Hk
  isplitl [H1]
  · iexists _; isplitr
    swap; · iexact H1
    ipureintro
    exact harg1.read_unread _
  isplitl [H2]
  · iexists _; isplitr
    swap; · iexact H2
    ipureintro
    exact harg2.read_unread _
  isplitl [H3]
  · iexists _; isplitr
    swap; · iexact H3
    ipureintro
    exact harg3.read_unread _
  isplitl [H4]
  · iexists _; isplitr
    swap; · iexact H4
    ipureintro
    exact harg4.read_unread _
  isplitl [H5]
  · iexists _; isplitr
    swap; · iexact H5
    ipureintro
    exact harg5.read_unread _
  isplitl [H6]
  · iexists _; isplitr
    swap; · iexact H6
    ipureintro
    exact harg6.read_unread _
  isplitl [H7]
  · iexists _; isplitr
    swap; · iexact H7
    ipureintro
    exact harg7.read_unread _
  isplitl [H8]
  · iexists _; isplitr
    swap; · iexact H8
    ipureintro
    exact harg8.read_unread _
  isplitl [H9]
  · iexists _; isplitr
    swap; · iexact H9
    ipureintro
    exact harg9.read_unread _
  isplitl [H10]
  · iexists _; isplitr
    swap; · iexact H10
    ipureintro
    exact harg10.read_unread _
  isplitl [H11]
  · iexists _; isplitr
    swap; · iexact H11
    ipureintro
    exact harg11.read_unread _
  isplitl [H12]
  · iexists _; isplitr
    swap; · iexact H12
    ipureintro
    exact harg12.read_unread _
  isplitl [H13]
  · iexists _; isplitr
    swap; · iexact H13
    ipureintro
    exact harg13.read_unread _
  isplitl [H14]
  · iexists _; isplitr
    swap; · iexact H14
    ipureintro
    exact harg14.read_unread _
  isplitl [H15]
  · iexists _; isplitr
    swap; · iexact H15
    ipureintro
    exact harg15.read_unread _
  isplitl [H16]
  · iexists _; isplitr
    swap; · iexact H16
    ipureintro
    exact harg16.read_unread _
  isplitl [H17]
  · iexists _; isplitr
    swap; · iexact H17
    ipureintro
    sl_unfold_words
    simp (disch := decide) only [↓read_store_whole, read_aug, readAt_whole, View.readCov, View.writes_nil, Memref.IsWhole.read_unread]
    apply read_keys
    simp (disch := decide) only [↓read_store_whole]
  isplitl [H18]
  · iexists _; isplitr
    swap; · iexact H18
    ipureintro
    sl_unfold_words
    simp (disch := decide) only [↓read_store_whole, read_aug, readAt_whole, View.readCov, View.writes_nil, Memref.IsWhole.read_unread]
    apply read_vals
    simp (disch := decide) only [↓read_store_whole]
  isplitl [H19]
  · iexists _; isplitr
    swap; · iexact H19
    ipureintro
    sl_unfold_words
    simp (disch := decide) only [↓read_store_whole, read_aug, readAt_whole, View.readCov, View.writes_nil, Memref.IsWhole.read_unread]
  isplitl [H20]
  · iexists _; isplitr
    swap; · iexact H20
    ipureintro
    sl_unfold_words
    simp (disch := decide) only [↓read_store_whole, read_aug, readAt_whole, View.readCov, View.writes_nil, Memref.IsWhole.read_unread]
  isplitl [H21]
  · iexists _; isplitr
    swap; · iexact H21
    ipureintro
    sl_unfold_words
    simp (disch := decide) only [↓read_store_whole, read_aug, readAt_whole, View.readCov, View.writes_nil, Memref.IsWhole.read_unread]
  isplitl [H22]
  · iexists _; isplitr
    swap; · iexact H22
    ipureintro
    sl_unfold_words
    simp (disch := decide) only [↓read_store_whole, read_aug, readAt_whole, View.readCov, View.writes_nil, Memref.IsWhole.read_unread]
  isplitl [H23]
  · iexists _; isplitr
    swap; · iexact H23
    ipureintro
    sl_unfold_words
    simp (disch := decide) only [↓read_store_whole, read_aug, readAt_whole, View.readCov, View.writes_nil, Memref.IsWhole.read_unread]
  isplitl [H24]
  · iexists _; isplitr
    swap; · iexact H24
    ipureintro
    exact harg24.read_unread _
  · iexists _; isplitr
    swap; · iexact H25
    ipureintro
    sl_unfold_words
    simp (disch := decide) only [↓read_store_whole, read_aug, readAt_whole, View.readCov, View.writes_nil, Memref.IsWhole.read_unread]

end Cert.KernelIdeal.Run

end
-- ==== Proof.KernelFrame.lean ====
/- The run of the kernel's region at any values, saying nothing of its outputs: the body obligation from the four runs
   of KernelRuns.lean with the outputs' contents forgotten, the launch, and the frame (`frame`). -/
module

public import proofs.«01_k».proof.Proof.KernelRuns
public import Idealize.ShloMosaic.Lib.Claim
@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers -/

/-- Window 0's staging buffer at a step. -/
abbrev ms0 (t : Fin cfg0.N) := win0_0.stage (cfg0.slots t 0)
theorem hs0 (t : Fin cfg0.N) : (ms0 t).IsWhole := hstage0_0 ((cfg0.slots t 0).cast nbuf0_0)
/-- Window 1's staging buffer at a step. -/
abbrev ms1 (t : Fin cfg0.N) := win0_1.stage (cfg0.slots t 1)
theorem hs1 (t : Fin cfg0.N) : (ms1 t).IsWhole := hstage0_1 ((cfg0.slots t 1).cast nbuf0_1)
/-- Window 2's staging buffer at a step. -/
abbrev ms2 (t : Fin cfg0.N) := win0_2.stage (cfg0.slots t 2)
theorem hs2 (t : Fin cfg0.N) : (ms2 t).IsWhole := hstage0_2 ((cfg0.slots t 2).cast nbuf0_2)
/-- Window 3's staging buffer at a step. -/
abbrev ms3 (t : Fin cfg0.N) := win0_3.stage (cfg0.slots t 3)
theorem hs3 (t : Fin cfg0.N) : (ms3 t).IsWhole := hstage0_3 ((cfg0.slots t 3).cast nbuf0_3)
/-- Window 4's staging buffer at a step. -/
abbrev ms4 (t : Fin cfg0.N) := win0_4.stage (cfg0.slots t 4)
theorem hs4 (t : Fin cfg0.N) : (ms4 t).IsWhole := hstage0_4 ((cfg0.slots t 4).cast nbuf0_4)
/-- Window 5's staging buffer at a step. -/
abbrev ms5 (t : Fin cfg0.N) := win0_5.stage (cfg0.slots t 5)
theorem hs5 (t : Fin cfg0.N) : (ms5 t).IsWhole := hstage0_5 ((cfg0.slots t 5).cast nbuf0_5)
/-- Window 6's staging buffer at a step. -/
abbrev ms6 (t : Fin cfg0.N) := win0_6.stage (cfg0.slots t 6)
theorem hs6 (t : Fin cfg0.N) : (ms6 t).IsWhole := hstage0_6 ((cfg0.slots t 6).cast nbuf0_6)
/-- Window 7's staging buffer at a step. -/
abbrev ms7 (t : Fin cfg0.N) := win0_7.stage (cfg0.slots t 7)
theorem hs7 (t : Fin cfg0.N) : (ms7 t).IsWhole := hstage0_7 ((cfg0.slots t 7).cast nbuf0_7)
/-- Window 8's staging buffer at a step. -/
abbrev ms8 (t : Fin cfg0.N) := win0_8.stage (cfg0.slots t 8)
theorem hs8 (t : Fin cfg0.N) : (ms8 t).IsWhole := hstage0_8 ((cfg0.slots t 8).cast nbuf0_8)
/-- Window 9's staging buffer at a step. -/
abbrev ms9 (t : Fin cfg0.N) := win0_9.stage (cfg0.slots t 9)
theorem hs9 (t : Fin cfg0.N) : (ms9 t).IsWhole := hstage0_9 ((cfg0.slots t 9).cast nbuf0_9)
/-- Window 10's staging buffer at a step. -/
abbrev ms10 (t : Fin cfg0.N) := win0_10.stage (cfg0.slots t 10)
theorem hs10 (t : Fin cfg0.N) : (ms10 t).IsWhole := hstage0_10 ((cfg0.slots t 10).cast nbuf0_10)
/-- Window 11's staging buffer at a step. -/
abbrev ms11 (t : Fin cfg0.N) := win0_11.stage (cfg0.slots t 11)
theorem hs11 (t : Fin cfg0.N) : (ms11 t).IsWhole := hstage0_11 ((cfg0.slots t 11).cast nbuf0_11)
/-- Window 12's staging buffer at a step. -/
abbrev ms12 (t : Fin cfg0.N) := win0_12.stage (cfg0.slots t 12)
theorem hs12 (t : Fin cfg0.N) : (ms12 t).IsWhole := hstage0_12 ((cfg0.slots t 12).cast nbuf0_12)
/-- Window 13's staging buffer at a step. -/
abbrev ms13 (t : Fin cfg0.N) := win0_13.stage (cfg0.slots t 13)
theorem hs13 (t : Fin cfg0.N) : (ms13 t).IsWhole := hstage0_13 ((cfg0.slots t 13).cast nbuf0_13)
/-- Window 14's staging buffer at a step. -/
abbrev ms14 (t : Fin cfg0.N) := win0_14.stage (cfg0.slots t 14)
theorem hs14 (t : Fin cfg0.N) : (ms14 t).IsWhole := hstage0_14 ((cfg0.slots t 14).cast nbuf0_14)
/-- Window 15's staging buffer at a step. -/
abbrev ms15 (t : Fin cfg0.N) := win0_15.stage (cfg0.slots t 15)
theorem hs15 (t : Fin cfg0.N) : (ms15 t).IsWhole := hstage0_15 ((cfg0.slots t 15).cast nbuf0_15)
/-- Window 16's staging buffer at a step. -/
abbrev ms16 (t : Fin cfg0.N) := win0_16.stage (cfg0.slots t 16)
theorem hs16 (t : Fin cfg0.N) : (ms16 t).IsWhole := hstage0_16 ((cfg0.slots t 16).cast nbuf0_16)
/-- Window 17's staging buffer at a step. -/
abbrev ms17 (t : Fin cfg0.N) := win0_17.stage (cfg0.slots t 17)
theorem hs17 (t : Fin cfg0.N) : (ms17 t).IsWhole := hstage0_17 ((cfg0.slots t 17).cast nbuf0_17)
/-- Window 18's staging buffer at a step. -/
abbrev ms18 (t : Fin cfg0.N) := win0_18.stage (cfg0.slots t 18)
theorem hs18 (t : Fin cfg0.N) : (ms18 t).IsWhole := hstage0_18 ((cfg0.slots t 18).cast nbuf0_18)
/-- Window 19's staging buffer at a step. -/
abbrev ms19 (t : Fin cfg0.N) := win0_19.stage (cfg0.slots t 19)
theorem hs19 (t : Fin cfg0.N) : (ms19 t).IsWhole := hstage0_19 ((cfg0.slots t 19).cast nbuf0_19)
/-- Window 20's staging buffer at a step. -/
abbrev ms20 (t : Fin cfg0.N) := win0_20.stage (cfg0.slots t 20)
theorem hs20 (t : Fin cfg0.N) : (ms20 t).IsWhole := hstage0_20 ((cfg0.slots t 20).cast nbuf0_20)
/-- Window 21's staging buffer at a step. -/
abbrev ms21 (t : Fin cfg0.N) := win0_21.stage (cfg0.slots t 21)
theorem hs21 (t : Fin cfg0.N) : (ms21 t).IsWhole := hstage0_21 ((cfg0.slots t 21).cast nbuf0_21)

/-- The accumulator. -/
abbrev accM := Memref.whole cc0_scratch0
/-- The normalized queries. -/
abbrev qnM := Memref.whole cc0_scratch1
/-- The augmented values. -/
abbrev augM := Memref.whole cc0_scratch2
theorem haccM : accM.IsWhole := Memref.isWhole_whole _
theorem hqnM : qnM.IsWhole := Memref.isWhole_whole _
theorem haugM : augM.IsWhole := Memref.isWhole_whole _

/-- The region's invariant before its first step: the three scratch buffers at some contents, and the generator's register. -/
theorem start_eq (c : Dev nD) :
    (Pipeline.ΦA spec0 c : sProp 𝕄)
      = iprop(iprop((∃ d, owns (c : Thread nD τ) accM fullShare d) ∗ (∃ d, owns (c : Thread nD τ) qnM fullShare d)
          ∗ (∃ d, owns (c : Thread nD τ) augM fullShare d)) ∗ (∃ r, prngReg c r)) := by
  unfold Pipeline.ΦA; rw [scopedRest0_eq]; simp only [accM, qnM, augM, owns_whole]; try rfl

/-- The zero word everywhere: what fills a block out past its array's end where nothing reads. -/
abbrev blank (s : Shape) : Vec F s .f32 := fun _ => Scalar.ofBits .f32 0#32
/-- The memory's keys a step streams, filled out past the memory's end. -/
def kblk (c : Dev nD) (t : Fin cfg0.N) : Vec F S10x8192 .f32 := win0_3.fill (grid0.coords t) (blank S10x8192) (iblk m c 3 t)
/-- The memory's values a step streams, filled out past the memory's end. -/
def vblk (c : Dev nD) (t : Fin cfg0.N) : Vec F S64x8192 .f32 := win0_4.fill (grid0.coords t) (blank S64x8192) (iblk m c 4 t)

/-- The outputs, whose contents are forgotten. -/
def fgt (w : Fin cfg0.W) : Bool := decide (16 ≤ w.val)

/-- The region's proof data. -/
def dats (_p : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => kblk m c t
    | ⟨4, _⟩ => vblk m c t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => blank S10x8192
    | ⟨17, _⟩ => blank S64x8192
    | ⟨18, _⟩ => blank S1024x2
    | ⟨19, _⟩ => blank S1024x1
    | ⟨20, _⟩ => blank S1024x64
    | ⟨21, _⟩ => blank S1024x64
    | ⟨_ + 22, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d
theorem before7 (c : Dev nD) (t : Fin cfg0.N) (d) : (dats m 0 c).before 7 t d = iblk m c 7 t :=
  before0_7_of m (dats m 0 c) (A_eq m c 7) (fun t => by dsimp only [dats]) t d
theorem before8 (c : Dev nD) (t : Fin cfg0.N) (d) : (dats m 0 c).before 8 t d = iblk m c 8 t :=
  before0_8_of m (dats m 0 c) (A_eq m c 8) (fun t => by dsimp only [dats]) t d
theorem before9 (c : Dev nD) (t : Fin cfg0.N) (d) : (dats m 0 c).before 9 t d = iblk m c 9 t :=
  before0_9_of m (dats m 0 c) (A_eq m c 9) (fun t => by dsimp only [dats]) t d
theorem before10 (c : Dev nD) (t : Fin cfg0.N) (d) : (dats m 0 c).before 10 t d = iblk m c 10 t :=
  before0_10_of m (dats m 0 c) (A_eq m c 10) (fun t => by dsimp only [dats]) t d
theorem before11 (c : Dev nD) (t : Fin cfg0.N) (d) : (dats m 0 c).before 11 t d = iblk m c 11 t :=
  before0_11_of m (dats m 0 c) (A_eq m c 11) (fun t => by dsimp only [dats]) t d
theorem before12 (c : Dev nD) (t : Fin cfg0.N) (d) : (dats m 0 c).before 12 t d = iblk m c 12 t :=
  before0_12_of m (dats m 0 c) (A_eq m c 12) (fun t => by dsimp only [dats]) t d
theorem before13 (c : Dev nD) (t : Fin cfg0.N) (d) : (dats m 0 c).before 13 t d = iblk m c 13 t :=
  before0_13_of m (dats m 0 c) (A_eq m c 13) (fun t => by dsimp only [dats]) t d
theorem before14 (c : Dev nD) (t : Fin cfg0.N) (d) : (dats m 0 c).before 14 t d = iblk m c 14 t :=
  before0_14_of m (dats m 0 c) (A_eq m c 14) (fun t => by dsimp only [dats]) t d
theorem before15 (c : Dev nD) (t : Fin cfg0.N) (d) : (dats m 0 c).before 15 t d = iblk m c 15 t :=
  before0_15_of m (dats m 0 c) (A_eq m c 15) (fun t => by dsimp only [dats]) t d
theorem before3 (c : Dev nD) (t : Fin cfg0.N) (d) : (dats m 0 c).before 3 t d = win0_3.fill (grid0.coords t) d (iblk m c 3 t) := by
  unfold Dat.before; rw [if_pos (fetch0_3 t)]; rfl
theorem before4 (c : Dev nD) (t : Fin cfg0.N) (d) : (dats m 0 c).before 4 t d = win0_4.fill (grid0.coords t) d (iblk m c 4 t) := by
  unfold Dat.before; rw [if_pos (fetch0_4 t)]; rfl

/-- The region's body at a step, as the loop names it. -/
theorem row (t : Fin cfg0.N) : defs₀ (F := F) .tc cfg0.body (cfg0.bodyArgs t (cfg0.slots t)) = bodyAt0 t := by
  unfold defs₀; rw [Defs.onTc_tc]

/-- What a step is run with: the invariant, what is owed, and every window's staging buffer. -/
def stepPre (c : Dev nD) (t : Fin cfg0.N) : sProp 𝕄 :=
  iprop((dats m 0 c).Φ t.castSucc
      ∗ (dats m 0 c).owesAt () t.castSucc
      ∗ (∃ d, owns (c : Thread nD τ) (ms0 t) fullShare ((dats m 0 c).before 0 t d))
      ∗ (∃ d, owns (c : Thread nD τ) (ms1 t) fullShare ((dats m 0 c).before 1 t d))
      ∗ (∃ d, owns (c : Thread nD τ) (ms2 t) fullShare ((dats m 0 c).before 2 t d))
      ∗ (∃ d, owns (c : Thread nD τ) (ms3 t) fullShare ((dats m 0 c).before 3 t d))
      ∗ (∃ d, owns (c : Thread nD τ) (ms4 t) fullShare ((dats m 0 c).before 4 t d))
      ∗ (∃ d, owns (c : Thread nD τ) (ms5 t) fullShare ((dats m 0 c).before 5 t d))
      ∗ (∃ d, owns (c : Thread nD τ) (ms6 t) fullShare ((dats m 0 c).before 6 t d))
      ∗ (∃ d, owns (c : Thread nD τ) (ms7 t) fullShare ((dats m 0 c).before 7 t d))
      ∗ (∃ d, owns (c : Thread nD τ) (ms8 t) fullShare ((dats m 0 c).before 8 t d))
      ∗ (∃ d, owns (c : Thread nD τ) (ms9 t) fullShare ((dats m 0 c).before 9 t d))
      ∗ (∃ d, owns (c : Thread nD τ) (ms10 t) fullShare ((dats m 0 c).before 10 t d))
      ∗ (∃ d, owns (c : Thread nD τ) (ms11 t) fullShare ((dats m 0 c).before 11 t d))
      ∗ (∃ d, owns (c : Thread nD τ) (ms12 t) fullShare ((dats m 0 c).before 12 t d))
      ∗ (∃ d, owns (c : Thread nD τ) (ms13 t) fullShare ((dats m 0 c).before 13 t d))
      ∗ (∃ d, owns (c : Thread nD τ) (ms14 t) fullShare ((dats m 0 c).before 14 t d))
      ∗ (∃ d, owns (c : Thread nD τ) (ms15 t) fullShare ((dats m 0 c).before 15 t d))
      ∗ (∃ X, owns (c : Thread nD τ) (ms16 t) fullShare X)
      ∗ (∃ X, owns (c : Thread nD τ) (ms17 t) fullShare X)
      ∗ (∃ X, owns (c : Thread nD τ) (ms18 t) fullShare X)
      ∗ (∃ X, owns (c : Thread nD τ) (ms19 t) fullShare X)
      ∗ (∃ X, owns (c : Thread nD τ) (ms20 t) fullShare X)
      ∗ (∃ X, owns (c : Thread nD τ) (ms21 t) fullShare X))

/-- What a step leaves. -/
def stepPost (c : Dev nD) (t : Fin cfg0.N) : sProp 𝕄 :=
  iprop((dats m 0 c).Φ t.succ
      ∗ (dats m 0 c).owesAt () t.succ
      ∗ owns (c : Thread nD τ) (ms0 t) fullShare (iblk m c 0 t)
      ∗ owns (c : Thread nD τ) (ms1 t) fullShare (iblk m c 1 t)
      ∗ owns (c : Thread nD τ) (ms2 t) fullShare (iblk m c 2 t)
      ∗ (∃ d, owns (c : Thread nD τ) (ms3 t) fullShare (win0_3.fill (grid0.coords t) d (win0_3.cut (grid0.coords t) (kblk m c t))))
      ∗ (∃ d, owns (c : Thread nD τ) (ms4 t) fullShare (win0_4.fill (grid0.coords t) d (win0_4.cut (grid0.coords t) (vblk m c t))))
      ∗ owns (c : Thread nD τ) (ms5 t) fullShare (iblk m c 5 t)
      ∗ owns (c : Thread nD τ) (ms6 t) fullShare (iblk m c 6 t)
      ∗ owns (c : Thread nD τ) (ms7 t) fullShare (iblk m c 7 t)
      ∗ owns (c : Thread nD τ) (ms8 t) fullShare (iblk m c 8 t)
      ∗ owns (c : Thread nD τ) (ms9 t) fullShare (iblk m c 9 t)
      ∗ owns (c : Thread nD τ) (ms10 t) fullShare (iblk m c 10 t)
      ∗ owns (c : Thread nD τ) (ms11 t) fullShare (iblk m c 11 t)
      ∗ owns (c : Thread nD τ) (ms12 t) fullShare (iblk m c 12 t)
      ∗ owns (c : Thread nD τ) (ms13 t) fullShare (iblk m c 13 t)
      ∗ owns (c : Thread nD τ) (ms14 t) fullShare (iblk m c 14 t)
      ∗ owns (c : Thread nD τ) (ms15 t) fullShare (iblk m c 15 t)
      ∗ (∃ X, owns (c : Thread nD τ) (ms16 t) fullShare X)
      ∗ (∃ X, owns (c : Thread nD τ) (ms17 t) fullShare X)
      ∗ (∃ X, owns (c : Thread nD τ) (ms18 t) fullShare X)
      ∗ (∃ X, owns (c : Thread nD τ) (ms19 t) fullShare X)
      ∗ (∃ X, owns (c : Thread nD τ) (ms20 t) fullShare X)
      ∗ (∃ X, owns (c : Thread nD τ) (ms21 t) fullShare X))

set_option maxHeartbeats 1000000 in
/-- The step's triple, at the first step. -/
theorem step_first (c : Dev nD) (t : Fin cfg0.N) (h0 : t.val = 0) :
    stepPre m c t ⊢ wp frame (wpE (defs₀ (F := F)) Variants.none c none) Set.univ (bodyAt0 t) (fun _ => stepPost m c t) := by
  have hN : t.val < 13 := lt_of_lt_of_eq t.isLt (show cfg0.N = 13 from N_0)
  unfold stepPre stepPost bodyAt0
  simp only [before0, before1, before2, before3, before4, before5, before6, before7, before8, before9, before10, before11, before12, before13, before14, before15]
  rw [show (dats m 0 c).Φ t.castSucc = Pipeline.ΦA spec0 c from rfl, show (dats m 0 c).Φ t.succ = Pipeline.ΦA spec0 c from rfl, start_eq]
  rw [show (dats m 0 c).owesAt () t.succ = (dats m 0 c).owesAt () t.castSucc from rfl]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) accM haccM qnM hqnM augM haugM ((isFirst_iff t).mpr (by omega)) ((isWhole_iff t).mpr (by omega)) (fun h => absurd ((isRagged_iff t).mp h) (by omega)) (fun h => absurd ((isLast_iff t).mp h) (by omega)) (iblk m c 0 t) (win0_3.fill (grid0.coords t) d3 (iblk m c 3 t)) (win0_4.fill (grid0.coords t) d4 (iblk m c 4 t)) Set.univ _)
  isplitl [H0]
  · iexact H0
  isplitl [H3]
  · iexact H3
  isplitl [H4]
  · iexact H4
  isplitl [H16]
  · iexists _; iexact H16
  isplitl [H17]
  · iexists _; iexact H17
  isplitl [HS0]
  · iexists _; iexact HS0
  isplitl [HS1]
  · iexists _; iexact HS1
  isplitl [HS2]
  · iexists _; iexact HS2
  iintro ⟨H0, H3, H4, H16, H17, HS0, HS1, HS2⟩
  isplitl [HS0 HS1 HS2 Hg]
  · isplitl [HS0 HS1 HS2]
    · isplitl [HS0]
      · iexists _; iexact HS0
      isplitl [HS1]
      · iexists _; iexact HS1
      iexists _; iexact HS2
    iexact Hg
  isplitl [Ho]
  · iexact Ho
  isplitl [H0]
  · iexact H0
  isplitl [H1]
  · iexact H1
  isplitl [H2]
  · iexact H2
  isplitl [H3]
  · iexists d3; rw [kblk, win0_3.cut_fill]; iexact H3
  isplitl [H4]
  · iexists d4; rw [vblk, win0_4.cut_fill]; iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexists _; iexact H16
  isplitl [H17]
  · iexists _; iexact H17
  isplitl [H18]
  · iexists _; iexact H18
  isplitl [H19]
  · iexists _; iexact H19
  isplitl [H20]
  · iexists _; iexact H20
  iexists _; iexact H21

set_option maxHeartbeats 1000000 in
/-- The step's triple, at a step in the middle. -/
theorem step_mid (c : Dev nD) (t : Fin cfg0.N) (h0 : t.val ≠ 0) (h11 : t.val ≠ 11) (h12 : t.val ≠ 12) :
    stepPre m c t ⊢ wp frame (wpE (defs₀ (F := F)) Variants.none c none) Set.univ (bodyAt0 t) (fun _ => stepPost m c t) := by
  have hN : t.val < 13 := lt_of_lt_of_eq t.isLt (show cfg0.N = 13 from N_0)
  unfold stepPre stepPost bodyAt0
  simp only [before0, before1, before2, before3, before4, before5, before6, before7, before8, before9, before10, before11, before12, before13, before14, before15]
  rw [show (dats m 0 c).Φ t.castSucc = Pipeline.ΦA spec0 c from rfl, show (dats m 0 c).Φ t.succ = Pipeline.ΦA spec0 c from rfl, start_eq]
  rw [show (dats m 0 c).owesAt () t.succ = (dats m 0 c).owesAt () t.castSucc from rfl]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (run_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) accM haccM qnM hqnM augM haugM (fun h => absurd ((isFirst_iff t).mp h) (by omega)) ((isWhole_iff t).mpr (by omega)) (fun h => absurd ((isRagged_iff t).mp h) (by omega)) (fun h => absurd ((isLast_iff t).mp h) (by omega)) (iblk m c 0 t) (win0_3.fill (grid0.coords t) d3 (iblk m c 3 t)) (win0_4.fill (grid0.coords t) d4 (iblk m c 4 t)) s0 s1 s2 Set.univ _)
  isplitl [H0]
  · iexact H0
  isplitl [H3]
  · iexact H3
  isplitl [H4]
  · iexact H4
  isplitl [H16]
  · iexists _; iexact H16
  isplitl [H17]
  · iexists _; iexact H17
  isplitl [HS0]
  · iexact HS0
  isplitl [HS1]
  · iexact HS1
  isplitl [HS2]
  · iexact HS2
  iintro ⟨H0, H3, H4, H16, H17, HS0, HS1, HS2⟩
  isplitl [HS0 HS1 HS2 Hg]
  · isplitl [HS0 HS1 HS2]
    · isplitl [HS0]
      · iexists _; iexact HS0
      isplitl [HS1]
      · iexists _; iexact HS1
      iexists _; iexact HS2
    iexact Hg
  isplitl [Ho]
  · iexact Ho
  isplitl [H0]
  · iexact H0
  isplitl [H1]
  · iexact H1
  isplitl [H2]
  · iexact H2
  isplitl [H3]
  · iexists d3; rw [kblk, win0_3.cut_fill]; iexact H3
  isplitl [H4]
  · iexists d4; rw [vblk, win0_4.cut_fill]; iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexists _; iexact H16
  isplitl [H17]
  · iexists _; iexact H17
  isplitl [H18]
  · iexists _; iexact H18
  isplitl [H19]
  · iexists _; iexact H19
  isplitl [H20]
  · iexists _; iexact H20
  iexists _; iexact H21

set_option maxHeartbeats 1000000 in
/-- The step's triple, at the ragged chunk's step. -/
theorem step_ragged (c : Dev nD) (t : Fin cfg0.N) (h11 : t.val = 11) :
    stepPre m c t ⊢ wp frame (wpE (defs₀ (F := F)) Variants.none c none) Set.univ (bodyAt0 t) (fun _ => stepPost m c t) := by
  have hN : t.val < 13 := lt_of_lt_of_eq t.isLt (show cfg0.N = 13 from N_0)
  unfold stepPre stepPost bodyAt0
  simp only [before0, before1, before2, before3, before4, before5, before6, before7, before8, before9, before10, before11, before12, before13, before14, before15]
  rw [show (dats m 0 c).Φ t.castSucc = Pipeline.ΦA spec0 c from rfl, show (dats m 0 c).Φ t.succ = Pipeline.ΦA spec0 c from rfl, start_eq]
  rw [show (dats m 0 c).owesAt () t.succ = (dats m 0 c).owesAt () t.castSucc from rfl]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (run_ragged c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) accM haccM qnM hqnM augM haugM (fun h => absurd ((isFirst_iff t).mp h) (by omega)) (fun h => absurd h11 ((isWhole_iff t).mp h)) ((isRagged_iff t).mpr (by omega)) (fun h => absurd ((isLast_iff t).mp h) (by omega)) (iblk m c 0 t) (win0_3.fill (grid0.coords t) d3 (iblk m c 3 t)) (win0_4.fill (grid0.coords t) d4 (iblk m c 4 t)) s0 s1 s2 Set.univ _)
  isplitl [H0]
  · iexact H0
  isplitl [H3]
  · iexact H3
  isplitl [H4]
  · iexact H4
  isplitl [H16]
  · iexists _; iexact H16
  isplitl [H17]
  · iexists _; iexact H17
  isplitl [HS0]
  · iexact HS0
  isplitl [HS1]
  · iexact HS1
  isplitl [HS2]
  · iexact HS2
  iintro ⟨H0, H3, H4, H16, H17, HS0, HS1, HS2⟩
  isplitl [HS0 HS1 HS2 Hg]
  · isplitl [HS0 HS1 HS2]
    · isplitl [HS0]
      · iexists _; iexact HS0
      isplitl [HS1]
      · iexists _; iexact HS1
      iexists _; iexact HS2
    iexact Hg
  isplitl [Ho]
  · iexact Ho
  isplitl [H0]
  · iexact H0
  isplitl [H1]
  · iexact H1
  isplitl [H2]
  · iexact H2
  isplitl [H3]
  · iexists d3; rw [kblk, win0_3.cut_fill]; iexact H3
  isplitl [H4]
  · iexists d4; rw [vblk, win0_4.cut_fill]; iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexists _; iexact H16
  isplitl [H17]
  · iexists _; iexact H17
  isplitl [H18]
  · iexists _; iexact H18
  isplitl [H19]
  · iexists _; iexact H19
  isplitl [H20]
  · iexists _; iexact H20
  iexists _; iexact H21

set_option maxHeartbeats 1000000 in
/-- The step's triple, at the last step. -/
theorem step_last (c : Dev nD) (t : Fin cfg0.N) (h12 : t.val = 12) :
    stepPre m c t ⊢ wp frame (wpE (defs₀ (F := F)) Variants.none c none) Set.univ (bodyAt0 t) (fun _ => stepPost m c t) := by
  have hN : t.val < 13 := lt_of_lt_of_eq t.isLt (show cfg0.N = 13 from N_0)
  unfold stepPre stepPost bodyAt0
  simp only [before0, before1, before2, before3, before4, before5, before6, before7, before8, before9, before10, before11, before12, before13, before14, before15]
  rw [show (dats m 0 c).Φ t.castSucc = Pipeline.ΦA spec0 c from rfl, show (dats m 0 c).Φ t.succ = Pipeline.ΦA spec0 c from rfl, start_eq]
  rw [show (dats m 0 c).owesAt () t.succ = (dats m 0 c).owesAt () t.castSucc from rfl]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (run_last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) accM haccM qnM hqnM augM haugM (fun h => absurd ((isFirst_iff t).mp h) (by omega)) ((isWhole_iff t).mpr (by omega)) (fun h => absurd ((isRagged_iff t).mp h) (by omega)) ((isLast_iff t).mpr (by omega)) (iblk m c 0 t) (iblk m c 1 t) (iblk m c 2 t) (win0_3.fill (grid0.coords t) d3 (iblk m c 3 t)) (win0_4.fill (grid0.coords t) d4 (iblk m c 4 t)) (iblk m c 5 t) (iblk m c 6 t) (iblk m c 7 t) (iblk m c 8 t) (iblk m c 9 t) (iblk m c 10 t) (iblk m c 11 t) (iblk m c 12 t) (iblk m c 13 t) (iblk m c 14 t) (iblk m c 15 t) s0 s1 s2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexists _; iexact H16
  isplitl [H17]
  · iexists _; iexact H17
  isplitl [H18]
  · iexists _; iexact H18
  isplitl [H19]
  · iexists _; iexact H19
  isplitl [H20]
  · iexists _; iexact H20
  isplitl [H21]
  · iexists _; iexact H21
  isplitl [HS0]
  · iexact HS0
  isplitl [HS1]
  · iexact HS1
  isplitl [HS2]
  · iexact HS2
  iintro ⟨H0, H1, H2, H3, H4, H5, H6, H7, H8, H9, H10, H11, H12, H13, H14, H15, H16, H17, H18, H19, H20, H21, HS0, HS1, HS2⟩
  isplitl [HS0 HS1 HS2 Hg]
  · isplitl [HS0 HS1 HS2]
    · isplitl [HS0]
      · iexists _; iexact HS0
      isplitl [HS1]
      · iexists _; iexact HS1
      iexists _; iexact HS2
    iexact Hg
  isplitl [Ho]
  · iexact Ho
  isplitl [H0]
  · iexact H0
  isplitl [H1]
  · iexact H1
  isplitl [H2]
  · iexact H2
  isplitl [H3]
  · iexists d3; rw [kblk, win0_3.cut_fill]; iexact H3
  isplitl [H4]
  · iexists d4; rw [vblk, win0_4.cut_fill]; iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexists _; iexact H16
  isplitl [H17]
  · iexists _; iexact H17
  isplitl [H18]
  · iexists _; iexact H18
  isplitl [H19]
  · iexists _; iexact H19
  isplitl [H20]
  · iexists _; iexact H20
  iexists _; iexact H21

/-- The step's triple, at every step. -/
theorem step (c : Dev nD) (t : Fin cfg0.N) :
    stepPre m c t ⊢ wp frame (wpE (defs₀ (F := F)) Variants.none c none) Set.univ (bodyAt0 t) (fun _ => stepPost m c t) := by
  by_cases h0 : t.val = 0
  · exact step_first m c t h0
  by_cases h11 : t.val = 11
  · exact step_ragged m c t h11
  by_cases h12 : t.val = 12
  · exact step_last m c t h12
  exact step_mid m c t h0 h11 h12

set_option maxHeartbeats 8000000 in
/-- The body obligation, the outputs forgotten. -/
theorem body (c : Dev nD) : BodyObligationLoose (dats (F := F) m 0 c) (defs₀ (F := F)) Variants.none () Set.univ fgt := fun t => by
  rw [bigSep_W0, bigSep_W0, row]
  exact triple_restated (step m c t) rfl .rfl fun _ => .rfl

/-- What the lines after the region write. -/
abbrev tailW : List (Ref sig .tc) := hostOps1_W ++ hostOps1_1_W ++ hostOps1_2_W ++ hostOps1_3_W ++ hostOps1_4_W ++ hostOps1_5_W ++ hostOps1_6_W

theorem mem_tailW {b : Ref sig .tc} {W : List (Ref sig .tc)} {op : HloOp τ sig (Elt F)} {ops : List (HloOp τ sig (Elt F))}
    (h : ops.Forall fun op => op.writes ⊆ (W.map (Proc.devRef (τ := τ) .tc)).toFinset) (hop : op ∈ ops)
    (hb : Proc.devRef .tc b ∈ op.writes) : b ∈ W := by
  have h1 := List.forall_iff_forall_mem.mp h op hop hb
  rw [List.mem_toFinset, List.mem_map] at h1
  obtain ⟨b', hb', he⟩ := h1
  rwa [← Proc.devRef_injective _ he]

theorem tail_writes : ∀ ops ∈ ([hostOps1, hostOps1_1, hostOps1_2, hostOps1_3, hostOps1_4, hostOps1_5, hostOps1_6] : List (List (HloOp τ sig (Elt F)))), ∀ op ∈ ops, ∀ b : Ref sig .tc, Proc.devRef .tc b ∈ op.writes → b ∈ tailW.toFinset := by
  intro ops hops op hop b hb
  rw [List.mem_toFinset]
  simp only [List.mem_cons, List.not_mem_nil, or_false] at hops
  rw [tailW]; simp only [List.mem_append]
  rcases hops with rfl | rfl | rfl | rfl | rfl | rfl | rfl
  · exact .inl (.inl (.inl (.inl (.inl (.inl (mem_tailW hostOps1_writes hop hb))))))
  · exact .inl (.inl (.inl (.inl (.inl (.inr (mem_tailW hostOps1_1_writes hop hb))))))
  · exact .inl (.inl (.inl (.inl (.inr (mem_tailW hostOps1_2_writes hop hb)))))
  · exact .inl (.inl (.inl (.inr (mem_tailW hostOps1_3_writes hop hb))))
  · exact .inl (.inl (.inr (mem_tailW hostOps1_4_writes hop hb)))
  · exact .inl (.inr (mem_tailW hostOps1_5_writes hop hb))
  · exact .inr (mem_tailW hostOps1_6_writes hop hb)

set_option backward.isDefEq.respectTransparency.types false in
set_option maxHeartbeats 800000 in
set_option maxRecDepth 31136 in
/-- Every execution ends with the inputs' arrays and the buffers nothing writes at what they held, and every
    semaphore's counter at zero. -/
theorem run_quiescent : θ_run defs (onTc (τ := τ) (main (F := F))) (s₀ m ρ) (fun r =>
    RDat.FramePostR cfg0 (fun c => (dats m 0 c).toRForget fgt) tailW.toFinset (fun c b => V0 m c (Proc.devRef .tc b)) r ∧ r.2.sem = fun _ => 0) :=
  Pipeline.θ_run_frame_around_T_forget (Q' := _) cfgs (dats m) (0 : Fin 1) launch0 defs₀ Variants.none fgt tailW.toFinset m ρ main
    (hbody := fun c => body m c) (hshare := fun c => (dats m 0 c).share_full fun _ => rfl)
    (howed := fun _ _ => rfl) (V₀ := V0 m) (opss := [hostOps1, hostOps1_1, hostOps1_2, hostOps1_3, hostOps1_4, hostOps1_5, hostOps1_6]) (hsub := sfx_sub) (hfresh := sfx_fresh) (hkeep := sfx_keeps)
    (hT := tail_writes) (hmain := hmain m Variants.none) (hA := A_eq m) (hΦ := fun _ _ => rfl)
    (hQ' := fun _ h => h)

/-- The arguments. -/
abbrev argRefs : List (Ref sig .tc) := [main_arg0, main_arg1, main_arg2, main_arg3, main_arg4, main_arg5, main_arg6, main_arg7, main_arg8, main_arg9, main_arg10, main_arg11, main_arg12, main_arg13, main_arg14, main_arg15]
/-- The lines after the region write no argument. -/
theorem kept : ∀ b ∈ argRefs, b ∉ tailW.toFinset := by
  have h : ∀ b ∈ argRefs, b ∉ tailW := by decide +kernel
  intro b hb; rw [List.mem_toFinset]; exact h b hb

set_option maxHeartbeats 4000000 in
/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r hr => ⟨fun c => by
    have h := hr.1
    exact ⟨((h c).2 main_arg0 (Finset.mem_sdiff.mpr ⟨Pipeline.mem_restRefs_of main_arg0 (by decide) (by decide), kept main_arg0 (by simp [argRefs])⟩)).trans (V_main_arg0 m c),
      ((h c).2 main_arg1 (Finset.mem_sdiff.mpr ⟨Pipeline.mem_restRefs_of main_arg1 (by decide) (by decide), kept main_arg1 (by simp [argRefs])⟩)).trans (V_main_arg1 m c),
      ((h c).2 main_arg2 (Finset.mem_sdiff.mpr ⟨Pipeline.mem_restRefs_of main_arg2 (by decide) (by decide), kept main_arg2 (by simp [argRefs])⟩)).trans (V_main_arg2 m c),
      ((h c).2 main_arg3 (Finset.mem_sdiff.mpr ⟨Pipeline.mem_restRefs_of main_arg3 (by decide) (by decide), kept main_arg3 (by simp [argRefs])⟩)).trans (V_main_arg3 m c),
      ((h c).2 main_arg4 (Finset.mem_sdiff.mpr ⟨Pipeline.mem_restRefs_of main_arg4 (by decide) (by decide), kept main_arg4 (by simp [argRefs])⟩)).trans (V_main_arg4 m c),
      ((h c).2 main_arg5 (Finset.mem_sdiff.mpr ⟨Pipeline.mem_restRefs_of main_arg5 (by decide) (by decide), kept main_arg5 (by simp [argRefs])⟩)).trans (V_main_arg5 m c),
      ((h c).2 main_arg6 (Finset.mem_sdiff.mpr ⟨Pipeline.mem_restRefs_of main_arg6 (by decide) (by decide), kept main_arg6 (by simp [argRefs])⟩)).trans (V_main_arg6 m c),
      ((h c).2 main_arg7 (Finset.mem_sdiff.mpr ⟨Pipeline.mem_restRefs_of main_arg7 (by decide) (by decide), kept main_arg7 (by simp [argRefs])⟩)).trans (V_main_arg7 m c),
      ((h c).2 main_arg8 (Finset.mem_sdiff.mpr ⟨Pipeline.mem_restRefs_of main_arg8 (by decide) (by decide), kept main_arg8 (by simp [argRefs])⟩)).trans (V_main_arg8 m c),
      (RDat.FramePostR.arr_in h c 10 rfl).trans (V_main_arg9 m c),
      ((h c).2 main_arg10 (Finset.mem_sdiff.mpr ⟨Pipeline.mem_restRefs_of main_arg10 (by decide) (by decide), kept main_arg10 (by simp [argRefs])⟩)).trans (V_main_arg10 m c),
      (RDat.FramePostR.arr_in h c 12 rfl).trans (V_main_arg11 m c),
      ((h c).2 main_arg12 (Finset.mem_sdiff.mpr ⟨Pipeline.mem_restRefs_of main_arg12 (by decide) (by decide), kept main_arg12 (by simp [argRefs])⟩)).trans (V_main_arg12 m c),
      ((h c).2 main_arg13 (Finset.mem_sdiff.mpr ⟨Pipeline.mem_restRefs_of main_arg13 (by decide) (by decide), kept main_arg13 (by simp [argRefs])⟩)).trans (V_main_arg13 m c),
      ((h c).2 main_arg14 (Finset.mem_sdiff.mpr ⟨Pipeline.mem_restRefs_of main_arg14 (by decide) (by decide), kept main_arg14 (by simp [argRefs])⟩)).trans (V_main_arg14 m c),
      ((h c).2 main_arg15 (Finset.mem_sdiff.mpr ⟨Pipeline.mem_restRefs_of main_arg15 (by decide) (by decide), kept main_arg15 (by simp [argRefs])⟩)).trans (V_main_arg15 m c)⟩, hr.2⟩) (run_quiescent m ρ)

end Cert.Kernel.Run

end
-- ==== Proof.IdealFrame.lean ====
/- The exact run of the idealized kernel's region: what every window's staging buffer and the three scratch buffers hold
   after each grid step (`accAt` for the accumulator), the body obligation from the four runs of IdealRuns.lean, the
   launch, and from it the arrays at the end (`run_main`) and the frame (`frame`).

   The memory's last chunk is ragged: the staged block past the memory's end is whatever the buffer held. `Ragged`
   says that the step of that chunk does not read it; it is an argument here and proved in Ragged.lean. -/
module

public import proofs.«01_k».proof.Proof.IdealRuns
public import Idealize.ShloMosaic.Lib.Claim
public import Idealize.ShloMosaic.Lib.Pipeline.Value
@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers -/

/-- Window 0's staging buffer at a step. -/
abbrev ms0 (t : Fin cfg0.N) := win0_0.stage (cfg0.slots t 0)
theorem hs0 (t : Fin cfg0.N) : (ms0 t).IsWhole := hstage0_0 ((cfg0.slots t 0).cast nbuf0_0)
/-- Window 1's staging buffer at a step. -/
abbrev ms1 (t : Fin cfg0.N) := win0_1.stage (cfg0.slots t 1)
theorem hs1 (t : Fin cfg0.N) : (ms1 t).IsWhole := hstage0_1 ((cfg0.slots t 1).cast nbuf0_1)
/-- Window 2's staging buffer at a step. -/
abbrev ms2 (t : Fin cfg0.N) := win0_2.stage (cfg0.slots t 2)
theorem hs2 (t : Fin cfg0.N) : (ms2 t).IsWhole := hstage0_2 ((cfg0.slots t 2).cast nbuf0_2)
/-- Window 3's staging buffer at a step. -/
abbrev ms3 (t : Fin cfg0.N) := win0_3.stage (cfg0.slots t 3)
theorem hs3 (t : Fin cfg0.N) : (ms3 t).IsWhole := hstage0_3 ((cfg0.slots t 3).cast nbuf0_3)
/-- Window 4's staging buffer at a step. -/
abbrev ms4 (t : Fin cfg0.N) := win0_4.stage (cfg0.slots t 4)
theorem hs4 (t : Fin cfg0.N) : (ms4 t).IsWhole := hstage0_4 ((cfg0.slots t 4).cast nbuf0_4)
/-- Window 5's staging buffer at a step. -/
abbrev ms5 (t : Fin cfg0.N) := win0_5.stage (cfg0.slots t 5)
theorem hs5 (t : Fin cfg0.N) : (ms5 t).IsWhole := hstage0_5 ((cfg0.slots t 5).cast nbuf0_5)
/-- Window 6's staging buffer at a step. -/
abbrev ms6 (t : Fin cfg0.N) := win0_6.stage (cfg0.slots t 6)
theorem hs6 (t : Fin cfg0.N) : (ms6 t).IsWhole := hstage0_6 ((cfg0.slots t 6).cast nbuf0_6)
/-- Window 7's staging buffer at a step. -/
abbrev ms7 (t : Fin cfg0.N) := win0_7.stage (cfg0.slots t 7)
theorem hs7 (t : Fin cfg0.N) : (ms7 t).IsWhole := hstage0_7 ((cfg0.slots t 7).cast nbuf0_7)
/-- Window 8's staging buffer at a step. -/
abbrev ms8 (t : Fin cfg0.N) := win0_8.stage (cfg0.slots t 8)
theorem hs8 (t : Fin cfg0.N) : (ms8 t).IsWhole := hstage0_8 ((cfg0.slots t 8).cast nbuf0_8)
/-- Window 9's staging buffer at a step. -/
abbrev ms9 (t : Fin cfg0.N) := win0_9.stage (cfg0.slots t 9)
theorem hs9 (t : Fin cfg0.N) : (ms9 t).IsWhole := hstage0_9 ((cfg0.slots t 9).cast nbuf0_9)
/-- Window 10's staging buffer at a step. -/
abbrev ms10 (t : Fin cfg0.N) := win0_10.stage (cfg0.slots t 10)
theorem hs10 (t : Fin cfg0.N) : (ms10 t).IsWhole := hstage0_10 ((cfg0.slots t 10).cast nbuf0_10)
/-- Window 11's staging buffer at a step. -/
abbrev ms11 (t : Fin cfg0.N) := win0_11.stage (cfg0.slots t 11)
theorem hs11 (t : Fin cfg0.N) : (ms11 t).IsWhole := hstage0_11 ((cfg0.slots t 11).cast nbuf0_11)
/-- Window 12's staging buffer at a step. -/
abbrev ms12 (t : Fin cfg0.N) := win0_12.stage (cfg0.slots t 12)
theorem hs12 (t : Fin cfg0.N) : (ms12 t).IsWhole := hstage0_12 ((cfg0.slots t 12).cast nbuf0_12)
/-- Window 13's staging buffer at a step. -/
abbrev ms13 (t : Fin cfg0.N) := win0_13.stage (cfg0.slots t 13)
theorem hs13 (t : Fin cfg0.N) : (ms13 t).IsWhole := hstage0_13 ((cfg0.slots t 13).cast nbuf0_13)
/-- Window 14's staging buffer at a step. -/
abbrev ms14 (t : Fin cfg0.N) := win0_14.stage (cfg0.slots t 14)
theorem hs14 (t : Fin cfg0.N) : (ms14 t).IsWhole := hstage0_14 ((cfg0.slots t 14).cast nbuf0_14)
/-- Window 15's staging buffer at a step. -/
abbrev ms15 (t : Fin cfg0.N) := win0_15.stage (cfg0.slots t 15)
theorem hs15 (t : Fin cfg0.N) : (ms15 t).IsWhole := hstage0_15 ((cfg0.slots t 15).cast nbuf0_15)
/-- Window 16's staging buffer at a step. -/
abbrev ms16 (t : Fin cfg0.N) := win0_16.stage (cfg0.slots t 16)
theorem hs16 (t : Fin cfg0.N) : (ms16 t).IsWhole := hstage0_16 ((cfg0.slots t 16).cast nbuf0_16)
/-- Window 17's staging buffer at a step. -/
abbrev ms17 (t : Fin cfg0.N) := win0_17.stage (cfg0.slots t 17)
theorem hs17 (t : Fin cfg0.N) : (ms17 t).IsWhole := hstage0_17 ((cfg0.slots t 17).cast nbuf0_17)
/-- Window 18's staging buffer at a step. -/
abbrev ms18 (t : Fin cfg0.N) := win0_18.stage (cfg0.slots t 18)
theorem hs18 (t : Fin cfg0.N) : (ms18 t).IsWhole := hstage0_18 ((cfg0.slots t 18).cast nbuf0_18)
/-- Window 19's staging buffer at a step. -/
abbrev ms19 (t : Fin cfg0.N) := win0_19.stage (cfg0.slots t 19)
theorem hs19 (t : Fin cfg0.N) : (ms19 t).IsWhole := hstage0_19 ((cfg0.slots t 19).cast nbuf0_19)
/-- Window 20's staging buffer at a step. -/
abbrev ms20 (t : Fin cfg0.N) := win0_20.stage (cfg0.slots t 20)
theorem hs20 (t : Fin cfg0.N) : (ms20 t).IsWhole := hstage0_20 ((cfg0.slots t 20).cast nbuf0_20)
/-- Window 21's staging buffer at a step. -/
abbrev ms21 (t : Fin cfg0.N) := win0_21.stage (cfg0.slots t 21)
theorem hs21 (t : Fin cfg0.N) : (ms21 t).IsWhole := hstage0_21 ((cfg0.slots t 21).cast nbuf0_21)

/-- The accumulator. -/
abbrev accM := Memref.whole cc0_scratch0
/-- The normalized queries. -/
abbrev qnM := Memref.whole cc0_scratch1
/-- The augmented values. -/
abbrev augM := Memref.whole cc0_scratch2
theorem haccM : accM.IsWhole := Memref.isWhole_whole _
theorem hqnM : qnM.IsWhole := Memref.isWhole_whole _
theorem haugM : augM.IsWhole := Memref.isWhole_whole _

/-- The region's invariant before its first step: the three scratch buffers at some contents, and the generator's register. -/
theorem start_eq (c : Dev nD) :
    (Pipeline.ΦA spec0 c : sProp 𝕄)
      = iprop(iprop((∃ d, owns (c : Thread nD τ) accM fullShare d) ∗ (∃ d, owns (c : Thread nD τ) qnM fullShare d)
          ∗ (∃ d, owns (c : Thread nD τ) augM fullShare d)) ∗ (∃ r, prngReg c r)) := by
  unfold Pipeline.ΦA; rw [scopedRest0_eq]; simp only [accM, qnM, augM, owns_whole]; try rfl

/-- The zero word everywhere: what fills a block out past its array's end where nothing reads. -/
abbrev blank (s : Shape) : Vec F s .f32 := fun _ => Scalar.ofBits .f32 0#32
/-- The memory's keys a step streams, filled out past the memory's end. -/
def kblk (c : Dev nD) (t : Fin cfg0.N) : Vec F S10x8192 .f32 := win0_3.fill (grid0.coords t) (blank S10x8192) (iblk m c 3 t)
/-- The memory's values a step streams, filled out past the memory's end. -/
def vblk (c : Dev nD) (t : Fin cfg0.N) : Vec F S64x8192 .f32 := win0_4.fill (grid0.coords t) (blank S64x8192) (iblk m c 4 t)

/-- The step of the ragged chunk reads only the lanes inside the memory. -/
def Ragged (F : FTy → Type) [FloatOps F] [Named F] : Prop :=
  ∀ (k k' : Vec F S10x8192 .f32) (v v' : Vec F S64x8192 .f32) (q : Vec F S1024x10 .bf16) (acc : Vec F S1024x128 .f32),
    (∀ y : S10x8192.Idx, (y 1).val < 1696 → k y = k' y) → (∀ y : S64x8192.Idx, (y 1).val < 1696 → v y = v' y) →
    k0_pay1 (k0_pay16 k q) (augU k0_pay15 v) acc = k0_pay1 (k0_pay16 k' q) (augU k0_pay15 v') acc

/-- Storing a chunk's values over stored ones leaves the later ones. -/
theorem augU_augU (a : Vec F S128x8192 .bf16) (v v' : Vec F S64x8192 .f32) : augU (augU a v) v' = augU a v' := by
  funext y
  simp only [augU, Rect.overlay]
  split
  · rfl
  · rfl

/-- A chunk passed through is itself. -/
theorem pass3 (k : Vec F S10x8192 .f32) : k0_pay10 k = k := shapeCast_self _ _
theorem pass4 (v : Vec F S64x8192 .f32) : k0_pay11 v = v := shapeCast_self _ _

/-! ## What the scratch holds -/

/-- The grid step of a number. -/
def pt (n : ℕ) : Fin cfg0.N := ⟨n % 13, lt_of_lt_of_eq (Nat.mod_lt _ (by decide)) (show 13 = cfg0.N from N_0.symm)⟩
theorem pt_val (t : Fin cfg0.N) : pt t.val = t := by
  apply Fin.ext; have : t.val < 13 := lt_of_lt_of_eq t.isLt (show cfg0.N = 13 from N_0)
  exact Nat.mod_eq_of_lt this

/-- The normalized queries, as the first step leaves them. -/
def qnAt (c : Dev nD) : Vec F S1024x10 .bf16 := k0_pay14 (iblk m c 0 (pt 0))

/-- The accumulator after step `n`. -/
def accAt (c : Dev nD) : ℕ → Vec F S1024x128 .f32
  | 0 => k0_pay18 (kblk m c (pt 0)) (qnAt m c) k0_pay13 (augU k0_pay15 (vblk m c (pt 0)))
  | n + 1 =>
    if n + 1 = 11 then k0_pay1 (k0_pay16 (kblk m c (pt (n + 1))) (qnAt m c)) (augU k0_pay15 (vblk m c (pt (n + 1)))) (accAt c n)
    else k0_pay18 (kblk m c (pt (n + 1))) (qnAt m c) (accAt c n) (augU k0_pay15 (vblk m c (pt (n + 1))))

/-! ## What the results' windows hold after the last step -/

/-- The cell states. -/
def ctAt (c : Dev nD) (t : Fin cfg0.N) : FVec F S1024x64 .f32 :=
  k0_pay4 (k0_pay12 (iblk m c 0 t)) (iblk m c 1 t) (iblk m c 5 t) (iblk m c 6 t) (iblk m c 8 t) (iblk m c 9 t) (accAt m c 12)
/-- The hidden states. -/
def htAt (c : Dev nD) (t : Fin cfg0.N) : FVec F S1024x64 .f32 :=
  k0_pay5 (k0_pay12 (iblk m c 0 t)) (iblk m c 1 t) (iblk m c 5 t) (iblk m c 6 t) (iblk m c 7 t) (iblk m c 8 t) (iblk m c 9 t) (accAt m c 12)
/-- The hidden layer before its bias. -/
def fcAt (c : Dev nD) (t : Fin cfg0.N) : FVec F S1024x64 .f32 :=
  k0_pay6 (k0_pay12 (iblk m c 0 t)) (iblk m c 1 t) (iblk m c 5 t) (iblk m c 6 t) (iblk m c 7 t) (iblk m c 8 t) (iblk m c 9 t) (accAt m c 12) (iblk m c 10 t)

/-- The keys' chunk as a step leaves it. -/
def okAt (c : Dev nD) (t : Fin cfg0.N) : Vec F S10x8192 .f32 :=
  if t.val = 12 then keysU (kblk m c t) (iblk m c 2 t) else k0_pay10 (kblk m c t)
/-- The values' chunk as a step leaves it. -/
def ovAt (c : Dev nD) (t : Fin cfg0.N) : Vec F S64x8192 .f32 :=
  if t.val = 12 then valsU (vblk m c t) (ctAt m c t) else k0_pay11 (vblk m c t)

/-- The invariant after `n` steps. -/
def phi (c : Dev nD) (n : ℕ) : sProp 𝕄 :=
  if n = 0 then Pipeline.ΦA spec0 c
  else iprop(iprop(owns (c : Thread nD τ) accM fullShare (accAt m c (n - 1)) ∗ owns (c : Thread nD τ) qnM fullShare (qnAt m c)
    ∗ (∃ v, owns (c : Thread nD τ) augM fullShare (augU k0_pay15 v))) ∗ (∃ r, prngReg c r))

/-- The region's proof data. -/
def dats (_p : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => kblk m c t
    | ⟨4, _⟩ => vblk m c t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => okAt m c t
    | ⟨17, _⟩ => ovAt m c t
    | ⟨18, _⟩ => k0_pay8 (fcAt m c t) (iblk m c 11 t) (iblk m c 12 t) (iblk m c 13 t)
    | ⟨19, _⟩ => k0_pay9 (fcAt m c t) (iblk m c 11 t) (iblk m c 14 t) (iblk m c 15 t)
    | ⟨20, _⟩ => htAt m c t
    | ⟨21, _⟩ => ctAt m c t
    | ⟨_ + 22, h⟩ => absurd h (Nat.not_lt.2 (Nat.le_add_left _ _))
  Φ t := phi m c t.val
  q _ := fullShare
  owed _ := 0

theorem A_eq (c : Dev nD) (w : Fin cfg0.W) : (dats m 0 c).A w = V m c (Pipeline.arrRef spec0 w) := by dsimp only [dats]
theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d
theorem before7 (c : Dev nD) (t : Fin cfg0.N) (d) : (dats m 0 c).before 7 t d = iblk m c 7 t :=
  before0_7_of m (dats m 0 c) (A_eq m c 7) (fun t => by dsimp only [dats]) t d
theorem before8 (c : Dev nD) (t : Fin cfg0.N) (d) : (dats m 0 c).before 8 t d = iblk m c 8 t :=
  before0_8_of m (dats m 0 c) (A_eq m c 8) (fun t => by dsimp only [dats]) t d
theorem before9 (c : Dev nD) (t : Fin cfg0.N) (d) : (dats m 0 c).before 9 t d = iblk m c 9 t :=
  before0_9_of m (dats m 0 c) (A_eq m c 9) (fun t => by dsimp only [dats]) t d
theorem before10 (c : Dev nD) (t : Fin cfg0.N) (d) : (dats m 0 c).before 10 t d = iblk m c 10 t :=
  before0_10_of m (dats m 0 c) (A_eq m c 10) (fun t => by dsimp only [dats]) t d
theorem before11 (c : Dev nD) (t : Fin cfg0.N) (d) : (dats m 0 c).before 11 t d = iblk m c 11 t :=
  before0_11_of m (dats m 0 c) (A_eq m c 11) (fun t => by dsimp only [dats]) t d
theorem before12 (c : Dev nD) (t : Fin cfg0.N) (d) : (dats m 0 c).before 12 t d = iblk m c 12 t :=
  before0_12_of m (dats m 0 c) (A_eq m c 12) (fun t => by dsimp only [dats]) t d
theorem before13 (c : Dev nD) (t : Fin cfg0.N) (d) : (dats m 0 c).before 13 t d = iblk m c 13 t :=
  before0_13_of m (dats m 0 c) (A_eq m c 13) (fun t => by dsimp only [dats]) t d
theorem before14 (c : Dev nD) (t : Fin cfg0.N) (d) : (dats m 0 c).before 14 t d = iblk m c 14 t :=
  before0_14_of m (dats m 0 c) (A_eq m c 14) (fun t => by dsimp only [dats]) t d
theorem before15 (c : Dev nD) (t : Fin cfg0.N) (d) : (dats m 0 c).before 15 t d = iblk m c 15 t :=
  before0_15_of m (dats m 0 c) (A_eq m c 15) (fun t => by dsimp only [dats]) t d
theorem before3 (c : Dev nD) (t : Fin cfg0.N) (d) : (dats m 0 c).before 3 t d = win0_3.fill (grid0.coords t) d (iblk m c 3 t) := by
  unfold Dat.before; rw [if_pos (fetch0_3 t)]; rfl
theorem before4 (c : Dev nD) (t : Fin cfg0.N) (d) : (dats m 0 c).before 4 t d = win0_4.fill (grid0.coords t) d (iblk m c 4 t) := by
  unfold Dat.before; rw [if_pos (fetch0_4 t)]; rfl

/-- The region's body at a step, as the loop names it. -/
theorem row (t : Fin cfg0.N) : defs₀ (F := F) .tc cfg0.body (cfg0.bodyArgs t (cfg0.slots t)) = bodyAt0 t := by
  unfold defs₀; rw [Defs.onTc_tc]

/-- What a step is run with: the invariant, what is owed, and every window's staging buffer. -/
def stepPre (c : Dev nD) (t : Fin cfg0.N) : sProp 𝕄 :=
  iprop((dats m 0 c).Φ t.castSucc
      ∗ (dats m 0 c).owesAt () t.castSucc
      ∗ (∃ d, owns (c : Thread nD τ) (ms0 t) fullShare ((dats m 0 c).before 0 t d))
      ∗ (∃ d, owns (c : Thread nD τ) (ms1 t) fullShare ((dats m 0 c).before 1 t d))
      ∗ (∃ d, owns (c : Thread nD τ) (ms2 t) fullShare ((dats m 0 c).before 2 t d))
      ∗ (∃ d, owns (c : Thread nD τ) (ms3 t) fullShare ((dats m 0 c).before 3 t d))
      ∗ (∃ d, owns (c : Thread nD τ) (ms4 t) fullShare ((dats m 0 c).before 4 t d))
      ∗ (∃ d, owns (c : Thread nD τ) (ms5 t) fullShare ((dats m 0 c).before 5 t d))
      ∗ (∃ d, owns (c : Thread nD τ) (ms6 t) fullShare ((dats m 0 c).before 6 t d))
      ∗ (∃ d, owns (c : Thread nD τ) (ms7 t) fullShare ((dats m 0 c).before 7 t d))
      ∗ (∃ d, owns (c : Thread nD τ) (ms8 t) fullShare ((dats m 0 c).before 8 t d))
      ∗ (∃ d, owns (c : Thread nD τ) (ms9 t) fullShare ((dats m 0 c).before 9 t d))
      ∗ (∃ d, owns (c : Thread nD τ) (ms10 t) fullShare ((dats m 0 c).before 10 t d))
      ∗ (∃ d, owns (c : Thread nD τ) (ms11 t) fullShare ((dats m 0 c).before 11 t d))
      ∗ (∃ d, owns (c : Thread nD τ) (ms12 t) fullShare ((dats m 0 c).before 12 t d))
      ∗ (∃ d, owns (c : Thread nD τ) (ms13 t) fullShare ((dats m 0 c).before 13 t d))
      ∗ (∃ d, owns (c : Thread nD τ) (ms14 t) fullShare ((dats m 0 c).before 14 t d))
      ∗ (∃ d, owns (c : Thread nD τ) (ms15 t) fullShare ((dats m 0 c).before 15 t d))
      ∗ (∃ d, owns (c : Thread nD τ) (ms16 t) fullShare ((dats m 0 c).before 16 t d))
      ∗ (∃ d, owns (c : Thread nD τ) (ms17 t) fullShare ((dats m 0 c).before 17 t d))
      ∗ (∃ d, owns (c : Thread nD τ) (ms18 t) fullShare ((dats m 0 c).before 18 t d))
      ∗ (∃ d, owns (c : Thread nD τ) (ms19 t) fullShare ((dats m 0 c).before 19 t d))
      ∗ (∃ d, owns (c : Thread nD τ) (ms20 t) fullShare ((dats m 0 c).before 20 t d))
      ∗ (∃ d, owns (c : Thread nD τ) (ms21 t) fullShare ((dats m 0 c).before 21 t d)))

/-- What a step leaves. -/
def stepPost (c : Dev nD) (t : Fin cfg0.N) : sProp 𝕄 :=
  iprop((dats m 0 c).Φ t.succ
      ∗ (dats m 0 c).owesAt () t.succ
      ∗ owns (c : Thread nD τ) (ms0 t) fullShare (iblk m c 0 t)
      ∗ owns (c : Thread nD τ) (ms1 t) fullShare (iblk m c 1 t)
      ∗ owns (c : Thread nD τ) (ms2 t) fullShare (iblk m c 2 t)
      ∗ (∃ d, owns (c : Thread nD τ) (ms3 t) fullShare (win0_3.fill (grid0.coords t) d (win0_3.cut (grid0.coords t) (kblk m c t))))
      ∗ (∃ d, owns (c : Thread nD τ) (ms4 t) fullShare (win0_4.fill (grid0.coords t) d (win0_4.cut (grid0.coords t) (vblk m c t))))
      ∗ owns (c : Thread nD τ) (ms5 t) fullShare (iblk m c 5 t)
      ∗ owns (c : Thread nD τ) (ms6 t) fullShare (iblk m c 6 t)
      ∗ owns (c : Thread nD τ) (ms7 t) fullShare (iblk m c 7 t)
      ∗ owns (c : Thread nD τ) (ms8 t) fullShare (iblk m c 8 t)
      ∗ owns (c : Thread nD τ) (ms9 t) fullShare (iblk m c 9 t)
      ∗ owns (c : Thread nD τ) (ms10 t) fullShare (iblk m c 10 t)
      ∗ owns (c : Thread nD τ) (ms11 t) fullShare (iblk m c 11 t)
      ∗ owns (c : Thread nD τ) (ms12 t) fullShare (iblk m c 12 t)
      ∗ owns (c : Thread nD τ) (ms13 t) fullShare (iblk m c 13 t)
      ∗ owns (c : Thread nD τ) (ms14 t) fullShare (iblk m c 14 t)
      ∗ owns (c : Thread nD τ) (ms15 t) fullShare (iblk m c 15 t)
      ∗ (∃ d, owns (c : Thread nD τ) (ms16 t) fullShare (win0_16.fill (grid0.coords t) d (win0_16.cut (grid0.coords t) ((dats m 0 c).after 16 t))))
      ∗ (∃ d, owns (c : Thread nD τ) (ms17 t) fullShare (win0_17.fill (grid0.coords t) d (win0_17.cut (grid0.coords t) ((dats m 0 c).after 17 t))))
      ∗ (dats m 0 c).leavesExact 18 t
      ∗ (dats m 0 c).leavesExact 19 t
      ∗ (dats m 0 c).leavesExact 20 t
      ∗ (dats m 0 c).leavesExact 21 t)

theorem whole3 : ∀ t : Fin cfg0.N, t.val ≠ 11 → ∀ y, win0_3.moved (grid0.coords t) y = true := by
  intro t ht y
  refine (win0_3.moved_iff _ _).mpr fun a => lt_of_lt_of_eq (y a).isLt ?_
  exact ((by decide +kernel : ∀ t : Fin grid0.N, t.val ≠ 11 → ∀ a : Fin 2, S10x8192.size a = win0_3.xsize (grid0.coords t) a) t ht a)
theorem whole4 : ∀ t : Fin cfg0.N, t.val ≠ 11 → ∀ y, win0_4.moved (grid0.coords t) y = true := by
  intro t ht y
  refine (win0_4.moved_iff _ _).mpr fun a => lt_of_lt_of_eq (y a).isLt ?_
  exact ((by decide +kernel : ∀ t : Fin grid0.N, t.val ≠ 11 → ∀ a : Fin 2, S64x8192.size a = win0_4.xsize (grid0.coords t) a) t ht a)

/-- Away from the ragged chunk a block fills its buffer. -/
theorem fill3 (c : Dev nD) (t : Fin cfg0.N) (ht : t.val ≠ 11) (d) : win0_3.fill (grid0.coords t) d (iblk m c 3 t) = kblk m c t := by
  funext y; unfold kblk Pipeline.Window.fill; rw [dif_pos (whole3 t ht y), dif_pos (whole3 t ht y)]
theorem fill4 (c : Dev nD) (t : Fin cfg0.N) (ht : t.val ≠ 11) (d) : win0_4.fill (grid0.coords t) d (iblk m c 4 t) = vblk m c t := by
  funext y; unfold vblk Pipeline.Window.fill; rw [dif_pos (whole4 t ht y), dif_pos (whole4 t ht y)]

theorem in3 : ∀ t : Fin cfg0.N, t.val = 11 → ∀ y : S10x8192.Idx, (y 1).val < 1696 → win0_3.moved (grid0.coords t) y = true := by
  intro t ht y hy
  refine (win0_3.moved_iff _ _).mpr fun a => ?_
  have h := (by decide +kernel : ∀ t : Fin grid0.N, t.val = 11 → win0_3.xsize (grid0.coords t) 0 = 10 ∧ win0_3.xsize (grid0.coords t) 1 = 1696) t ht
  match a with
  | ⟨0, _⟩ => exact lt_of_lt_of_eq (y 0).isLt h.1.symm
  | ⟨1, _⟩ => exact lt_of_lt_of_eq hy h.2.symm
theorem in4 : ∀ t : Fin cfg0.N, t.val = 11 → ∀ y : S64x8192.Idx, (y 1).val < 1696 → win0_4.moved (grid0.coords t) y = true := by
  intro t ht y hy
  refine (win0_4.moved_iff _ _).mpr fun a => ?_
  have h := (by decide +kernel : ∀ t : Fin grid0.N, t.val = 11 → win0_4.xsize (grid0.coords t) 0 = 64 ∧ win0_4.xsize (grid0.coords t) 1 = 1696) t ht
  match a with
  | ⟨0, _⟩ => exact lt_of_lt_of_eq (y 0).isLt h.1.symm
  | ⟨1, _⟩ => exact lt_of_lt_of_eq hy h.2.symm

/-- The step of the ragged chunk, whatever filled its blocks out. -/
theorem ragged_fill (hF : Ragged F) (c : Dev nD) (t : Fin cfg0.N) (ht : t.val = 11) (d3 d4) (q : Vec F S1024x10 .bf16) (acc : Vec F S1024x128 .f32) :
    k0_pay1 (k0_pay16 (win0_3.fill (grid0.coords t) d3 (iblk m c 3 t)) q) (augU k0_pay15 (win0_4.fill (grid0.coords t) d4 (iblk m c 4 t))) acc
      = k0_pay1 (k0_pay16 (kblk m c t) q) (augU k0_pay15 (vblk m c t)) acc := by
  refine hF _ _ _ _ _ _ (fun y hy => ?_) fun y hy => ?_
  · unfold kblk Pipeline.Window.fill; rw [dif_pos (in3 t ht y hy), dif_pos (in3 t ht y hy)]
  · unfold vblk Pipeline.Window.fill; rw [dif_pos (in4 t ht y hy), dif_pos (in4 t ht y hy)]

theorem idle_early : ∀ t : Fin cfg0.N, t.val ≠ 12 → (cfg0.idle 18 (grid0.coords t) = true ∧ cfg0.idle 19 (grid0.coords t) = true ∧ cfg0.idle 20 (grid0.coords t) = true ∧ cfg0.idle 21 (grid0.coords t) = true) := by
  decide +kernel
theorem live_last : ∀ t : Fin cfg0.N, t.val = 12 → (cfg0.idle 18 (grid0.coords t) = false ∧ cfg0.idle 19 (grid0.coords t) = false ∧ cfg0.idle 20 (grid0.coords t) = false ∧ cfg0.idle 21 (grid0.coords t) = false) := by
  decide +kernel
theorem noflush18 (t : Fin cfg0.N) (ht : t.val ≠ 12) : (cfg0.win 18).flush t = false := by
  have : t.val < 13 := lt_of_lt_of_eq t.isLt (show cfg0.N = 13 from N_0)
  cases h : (cfg0.win 18).flush t
  · rfl
  · exact absurd ((flush0_18 t).mp h) (by omega)
theorem noflush19 (t : Fin cfg0.N) (ht : t.val ≠ 12) : (cfg0.win 19).flush t = false := by
  have : t.val < 13 := lt_of_lt_of_eq t.isLt (show cfg0.N = 13 from N_0)
  cases h : (cfg0.win 19).flush t
  · rfl
  · exact absurd ((flush0_19 t).mp h) (by omega)
theorem noflush20 (t : Fin cfg0.N) (ht : t.val ≠ 12) : (cfg0.win 20).flush t = false := by
  have : t.val < 13 := lt_of_lt_of_eq t.isLt (show cfg0.N = 13 from N_0)
  cases h : (cfg0.win 20).flush t
  · rfl
  · exact absurd ((flush0_20 t).mp h) (by omega)
theorem noflush21 (t : Fin cfg0.N) (ht : t.val ≠ 12) : (cfg0.win 21).flush t = false := by
  have : t.val < 13 := lt_of_lt_of_eq t.isLt (show cfg0.N = 13 from N_0)
  cases h : (cfg0.win 21).flush t
  · rfl
  · exact absurd ((flush0_21 t).mp h) (by omega)

theorem phi_step (c : Dev nD) (n : ℕ) : phi m c (n + 1)
    = iprop(iprop(owns (c : Thread nD τ) accM fullShare (accAt m c n) ∗ owns (c : Thread nD τ) qnM fullShare (qnAt m c)
      ∗ (∃ v, owns (c : Thread nD τ) augM fullShare (augU k0_pay15 v))) ∗ (∃ r, prngReg c r)) := by
  unfold phi; rw [if_neg (Nat.succ_ne_zero n)]; rfl
theorem phi_pos (c : Dev nD) (n : ℕ) (h : n ≠ 0) : phi m c n
    = iprop(iprop(owns (c : Thread nD τ) accM fullShare (accAt m c (n - 1)) ∗ owns (c : Thread nD τ) qnM fullShare (qnAt m c)
      ∗ (∃ v, owns (c : Thread nD τ) augM fullShare (augU k0_pay15 v))) ∗ (∃ r, prngReg c r)) := by
  unfold phi; rw [if_neg h]

theorem accAt_first (c : Dev nD) (t : Fin cfg0.N) (h : t.val = 0) :
    accAt m c t.val = k0_pay18 (kblk m c t) (k0_pay14 (iblk m c 0 t)) k0_pay13 (augU k0_pay15 (vblk m c t)) := by
  have ht : pt 0 = t := by rw [← h, pt_val]
  rw [h, accAt, qnAt, ht]
theorem accAt_ragged (c : Dev nD) (t : Fin cfg0.N) (h : t.val = 11) :
    accAt m c t.val = k0_pay1 (k0_pay16 (kblk m c t) (qnAt m c)) (augU k0_pay15 (vblk m c t)) (accAt m c (t.val - 1)) := by
  have ht : pt (10 + 1) = t := by rw [show 10 + 1 = t.val from h.symm, pt_val]
  rw [h, show (11 : ℕ) = 10 + 1 from rfl, accAt, if_pos rfl, ht]
theorem accAt_mid (c : Dev nD) (t : Fin cfg0.N) (h0 : t.val ≠ 0) (h : t.val ≠ 11) :
    accAt m c t.val = k0_pay18 (kblk m c t) (qnAt m c) (accAt m c (t.val - 1)) (augU k0_pay15 (vblk m c t)) := by
  obtain ⟨n, hn⟩ : ∃ n, t.val = n + 1 := ⟨t.val - 1, by omega⟩
  have ht : pt (n + 1) = t := by rw [← hn, pt_val]
  rw [hn, accAt, if_neg (by omega), ht]; rfl

set_option maxHeartbeats 1000000 in
/-- The step's triple, at the first step. -/
theorem step_first (c : Dev nD) (t : Fin cfg0.N) (h0 : t.val = 0) :
    stepPre m c t ⊢ wp frame (wpE (defs₀ (F := F)) Variants.none c none) Set.univ (bodyAt0 t) (fun _ => stepPost m c t) := by
  have hN : t.val < 13 := lt_of_lt_of_eq t.isLt (show cfg0.N = 13 from N_0)
  unfold stepPre stepPost bodyAt0
  simp only [before0, before1, before2, before3, before4, before5, before6, before7, before8, before9, before10, before11, before12, before13, before14, before15]
  rw [show (dats m 0 c).Φ t.castSucc = phi m c t.val from rfl, show (dats m 0 c).Φ t.succ = phi m c (t.val + 1) from rfl, phi_step]
  rw [show (dats m 0 c).owesAt () t.succ = (dats m 0 c).owesAt () t.castSucc from rfl]
  rw [show (dats m 0 c).after 16 t = okAt m c t by dsimp only [dats], show (dats m 0 c).after 17 t = ovAt m c t by dsimp only [dats]]
  rw [Dat.leavesExact_idle (dats m 0 c) 18 t (idle_early t (by omega)).1 (noflush18 t (by omega))]
  rw [Dat.leavesExact_idle (dats m 0 c) 19 t (idle_early t (by omega)).2.1 (noflush19 t (by omega))]
  rw [Dat.leavesExact_idle (dats m 0 c) 20 t (idle_early t (by omega)).2.2.1 (noflush20 t (by omega))]
  rw [Dat.leavesExact_idle (dats m 0 c) 21 t (idle_early t (by omega)).2.2.2 (noflush21 t (by omega))]
  simp only [fill3 m c t (by omega), fill4 m c t (by omega)]
  rw [show phi m c t.val = Pipeline.ΦA spec0 c by unfold phi; rw [if_pos h0], start_eq]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) accM haccM qnM hqnM augM haugM ((isFirst_iff t).mpr (by omega)) ((isWhole_iff t).mpr (by omega)) (fun h => absurd ((isRagged_iff t).mp h) (by omega)) (fun h => absurd ((isLast_iff t).mp h) (by omega)) (iblk m c 0 t) (kblk m c t) (vblk m c t) Set.univ _)
  isplitl [H0]
  · iexact H0
  isplitl [H3]
  · iexact H3
  isplitl [H4]
  · iexact H4
  isplitl [H16]
  · iexists _; iexact H16
  isplitl [H17]
  · iexists _; iexact H17
  isplitl [HS0]
  · iexists _; iexact HS0
  isplitl [HS1]
  · iexists _; iexact HS1
  isplitl [HS2]
  · iexists _; iexact HS2
  iintro ⟨H0, H3, H4, H16, H17, HS0, HS1, HS2⟩
  isplitl [HS0 HS1 HS2 Hg]
  · isplitl [HS0 HS1 HS2]
    · isplitl [HS0]
      · rw [accAt_first m c t h0]
        iexact HS0
      isplitl [HS1]
      · rw [qnAt, show pt 0 = t by rw [← h0, pt_val]]; iexact HS1
      iexists (vblk m c t); iexact HS2
    iexact Hg
  isplitl [Ho]
  · iexact Ho
  isplitl [H0]
  · iexact H0
  isplitl [H1]
  · iexact H1
  isplitl [H2]
  · iexact H2
  isplitl [H3]
  · iexists kblk m c t; rw [win0_3.fill_cut]; iexact H3
  isplitl [H4]
  · iexists vblk m c t; rw [win0_4.fill_cut]; iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexists okAt m c t; rw [win0_16.fill_cut, okAt, if_neg (by omega)]; iexact H16
  isplitl [H17]
  · iexists ovAt m c t; rw [win0_17.fill_cut, ovAt, if_neg (by omega)]; iexact H17
  isplitl [H18]
  · iexists d18; iexact H18
  isplitl [H19]
  · iexists d19; iexact H19
  isplitl [H20]
  · iexists d20; iexact H20
  iexists d21; iexact H21

set_option maxHeartbeats 1000000 in
/-- The step's triple, at a step in the middle. -/
theorem step_mid (c : Dev nD) (t : Fin cfg0.N) (h0 : t.val ≠ 0) (h11 : t.val ≠ 11) (h12 : t.val ≠ 12) :
    stepPre m c t ⊢ wp frame (wpE (defs₀ (F := F)) Variants.none c none) Set.univ (bodyAt0 t) (fun _ => stepPost m c t) := by
  have hN : t.val < 13 := lt_of_lt_of_eq t.isLt (show cfg0.N = 13 from N_0)
  unfold stepPre stepPost bodyAt0
  simp only [before0, before1, before2, before3, before4, before5, before6, before7, before8, before9, before10, before11, before12, before13, before14, before15]
  rw [show (dats m 0 c).Φ t.castSucc = phi m c t.val from rfl, show (dats m 0 c).Φ t.succ = phi m c (t.val + 1) from rfl, phi_step]
  rw [show (dats m 0 c).owesAt () t.succ = (dats m 0 c).owesAt () t.castSucc from rfl]
  rw [show (dats m 0 c).after 16 t = okAt m c t by dsimp only [dats], show (dats m 0 c).after 17 t = ovAt m c t by dsimp only [dats]]
  rw [Dat.leavesExact_idle (dats m 0 c) 18 t (idle_early t (by omega)).1 (noflush18 t (by omega))]
  rw [Dat.leavesExact_idle (dats m 0 c) 19 t (idle_early t (by omega)).2.1 (noflush19 t (by omega))]
  rw [Dat.leavesExact_idle (dats m 0 c) 20 t (idle_early t (by omega)).2.2.1 (noflush20 t (by omega))]
  rw [Dat.leavesExact_idle (dats m 0 c) 21 t (idle_early t (by omega)).2.2.2 (noflush21 t (by omega))]
  simp only [fill3 m c t (by omega), fill4 m c t (by omega)]
  rw [phi_pos m c _ (by omega)]
  iintro ⟨⟨⟨HS0, HS1, ⟨%v, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (run_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) accM haccM qnM hqnM augM haugM (fun h => absurd ((isFirst_iff t).mp h) (by omega)) ((isWhole_iff t).mpr (by omega)) (fun h => absurd ((isRagged_iff t).mp h) (by omega)) (fun h => absurd ((isLast_iff t).mp h) (by omega)) (iblk m c 0 t) (kblk m c t) (vblk m c t) (accAt m c (t.val - 1)) (qnAt m c) (augU k0_pay15 v) Set.univ _)
  isplitl [H0]
  · iexact H0
  isplitl [H3]
  · iexact H3
  isplitl [H4]
  · iexact H4
  isplitl [H16]
  · iexists _; iexact H16
  isplitl [H17]
  · iexists _; iexact H17
  isplitl [HS0]
  · iexact HS0
  isplitl [HS1]
  · iexact HS1
  isplitl [HS2]
  · iexact HS2
  iintro ⟨H0, H3, H4, H16, H17, HS0, HS1, HS2⟩
  rw [augU_augU]
  isplitl [HS0 HS1 HS2 Hg]
  · isplitl [HS0 HS1 HS2]
    · isplitl [HS0]
      · rw [accAt_mid m c t h0 h11]
        iexact HS0
      isplitl [HS1]
      · iexact HS1
      iexists (vblk m c t); iexact HS2
    iexact Hg
  isplitl [Ho]
  · iexact Ho
  isplitl [H0]
  · iexact H0
  isplitl [H1]
  · iexact H1
  isplitl [H2]
  · iexact H2
  isplitl [H3]
  · iexists kblk m c t; rw [win0_3.fill_cut]; iexact H3
  isplitl [H4]
  · iexists vblk m c t; rw [win0_4.fill_cut]; iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexists okAt m c t; rw [win0_16.fill_cut, okAt, if_neg (by omega)]; iexact H16
  isplitl [H17]
  · iexists ovAt m c t; rw [win0_17.fill_cut, ovAt, if_neg (by omega)]; iexact H17
  isplitl [H18]
  · iexists d18; iexact H18
  isplitl [H19]
  · iexists d19; iexact H19
  isplitl [H20]
  · iexists d20; iexact H20
  iexists d21; iexact H21

set_option maxHeartbeats 1000000 in
/-- The step's triple, at the ragged chunk's step. -/
theorem step_ragged (hF : Ragged F) (c : Dev nD) (t : Fin cfg0.N) (h11 : t.val = 11) :
    stepPre m c t ⊢ wp frame (wpE (defs₀ (F := F)) Variants.none c none) Set.univ (bodyAt0 t) (fun _ => stepPost m c t) := by
  have hN : t.val < 13 := lt_of_lt_of_eq t.isLt (show cfg0.N = 13 from N_0)
  unfold stepPre stepPost bodyAt0
  simp only [before0, before1, before2, before3, before4, before5, before6, before7, before8, before9, before10, before11, before12, before13, before14, before15]
  rw [show (dats m 0 c).Φ t.castSucc = phi m c t.val from rfl, show (dats m 0 c).Φ t.succ = phi m c (t.val + 1) from rfl, phi_step]
  rw [show (dats m 0 c).owesAt () t.succ = (dats m 0 c).owesAt () t.castSucc from rfl]
  rw [show (dats m 0 c).after 16 t = okAt m c t by dsimp only [dats], show (dats m 0 c).after 17 t = ovAt m c t by dsimp only [dats]]
  rw [Dat.leavesExact_idle (dats m 0 c) 18 t (idle_early t (by omega)).1 (noflush18 t (by omega))]
  rw [Dat.leavesExact_idle (dats m 0 c) 19 t (idle_early t (by omega)).2.1 (noflush19 t (by omega))]
  rw [Dat.leavesExact_idle (dats m 0 c) 20 t (idle_early t (by omega)).2.2.1 (noflush20 t (by omega))]
  rw [Dat.leavesExact_idle (dats m 0 c) 21 t (idle_early t (by omega)).2.2.2 (noflush21 t (by omega))]
  rw [phi_pos m c _ (by omega)]
  iintro ⟨⟨⟨HS0, HS1, ⟨%v, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (run_ragged c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) accM haccM qnM hqnM augM haugM (fun h => absurd ((isFirst_iff t).mp h) (by omega)) (fun h => absurd h11 ((isWhole_iff t).mp h)) ((isRagged_iff t).mpr (by omega)) (fun h => absurd ((isLast_iff t).mp h) (by omega)) (iblk m c 0 t) (win0_3.fill (grid0.coords t) d3 (iblk m c 3 t)) (win0_4.fill (grid0.coords t) d4 (iblk m c 4 t)) (accAt m c (t.val - 1)) (qnAt m c) (augU k0_pay15 v) Set.univ _)
  isplitl [H0]
  · iexact H0
  isplitl [H3]
  · iexact H3
  isplitl [H4]
  · iexact H4
  isplitl [H16]
  · iexists _; iexact H16
  isplitl [H17]
  · iexists _; iexact H17
  isplitl [HS0]
  · iexact HS0
  isplitl [HS1]
  · iexact HS1
  isplitl [HS2]
  · iexact HS2
  iintro ⟨H0, H3, H4, H16, H17, HS0, HS1, HS2⟩
  rw [augU_augU]
  isplitl [HS0 HS1 HS2 Hg]
  · isplitl [HS0 HS1 HS2]
    · isplitl [HS0]
      · rw [accAt_ragged m c t h11, ← ragged_fill m hF c t h11 d3 d4]
        iexact HS0
      isplitl [HS1]
      · iexact HS1
      iexists (win0_4.fill (grid0.coords t) d4 (iblk m c 4 t)); iexact HS2
    iexact Hg
  isplitl [Ho]
  · iexact Ho
  isplitl [H0]
  · iexact H0
  isplitl [H1]
  · iexact H1
  isplitl [H2]
  · iexact H2
  isplitl [H3]
  · iexists d3; rw [kblk, win0_3.cut_fill]; iexact H3
  isplitl [H4]
  · iexists d4; rw [vblk, win0_4.cut_fill]; iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexists d3; rw [okAt, if_neg (by omega)]; rw [pass3, pass3, show win0_16.fill (grid0.coords t) d3 (win0_16.cut (grid0.coords t) (kblk m c t)) = win0_3.fill (grid0.coords t) d3 (win0_3.cut (grid0.coords t) (kblk m c t)) from rfl, kblk, win0_3.cut_fill]; iexact H16
  isplitl [H17]
  · iexists d4; rw [ovAt, if_neg (by omega)]; rw [pass4, pass4, show win0_17.fill (grid0.coords t) d4 (win0_17.cut (grid0.coords t) (vblk m c t)) = win0_4.fill (grid0.coords t) d4 (win0_4.cut (grid0.coords t) (vblk m c t)) from rfl, vblk, win0_4.cut_fill]; iexact H17
  isplitl [H18]
  · iexists d18; iexact H18
  isplitl [H19]
  · iexists d19; iexact H19
  isplitl [H20]
  · iexists d20; iexact H20
  iexists d21; iexact H21

set_option maxHeartbeats 1000000 in
/-- The step's triple, at the last step. -/
theorem step_last (c : Dev nD) (t : Fin cfg0.N) (h12 : t.val = 12) :
    stepPre m c t ⊢ wp frame (wpE (defs₀ (F := F)) Variants.none c none) Set.univ (bodyAt0 t) (fun _ => stepPost m c t) := by
  have hN : t.val < 13 := lt_of_lt_of_eq t.isLt (show cfg0.N = 13 from N_0)
  unfold stepPre stepPost bodyAt0
  simp only [before0, before1, before2, before3, before4, before5, before6, before7, before8, before9, before10, before11, before12, before13, before14, before15]
  rw [show (dats m 0 c).Φ t.castSucc = phi m c t.val from rfl, show (dats m 0 c).Φ t.succ = phi m c (t.val + 1) from rfl, phi_step]
  rw [show (dats m 0 c).owesAt () t.succ = (dats m 0 c).owesAt () t.castSucc from rfl]
  rw [show (dats m 0 c).after 16 t = okAt m c t by dsimp only [dats], show (dats m 0 c).after 17 t = ovAt m c t by dsimp only [dats]]
  rw [show (dats m 0 c).leavesExact 18 t = owns (c : Thread nD τ) (ms18 t) fullShare (k0_pay8 (fcAt m c t) (iblk m c 11 t) (iblk m c 12 t) (iblk m c 13 t)) by
    unfold Dat.leavesExact; rw [(live_last t h12).1]; dsimp only [dats]]
  rw [show (dats m 0 c).leavesExact 19 t = owns (c : Thread nD τ) (ms19 t) fullShare (k0_pay9 (fcAt m c t) (iblk m c 11 t) (iblk m c 14 t) (iblk m c 15 t)) by
    unfold Dat.leavesExact; rw [(live_last t h12).2.1]; dsimp only [dats]]
  rw [show (dats m 0 c).leavesExact 20 t = owns (c : Thread nD τ) (ms20 t) fullShare (htAt m c t) by
    unfold Dat.leavesExact; rw [(live_last t h12).2.2.1]; dsimp only [dats]]
  rw [show (dats m 0 c).leavesExact 21 t = owns (c : Thread nD τ) (ms21 t) fullShare (ctAt m c t) by
    unfold Dat.leavesExact; rw [(live_last t h12).2.2.2]; dsimp only [dats]]
  simp only [fill3 m c t (by omega), fill4 m c t (by omega)]
  rw [phi_pos m c _ (by omega)]
  iintro ⟨⟨⟨HS0, HS1, ⟨%v, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (run_last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) accM haccM qnM hqnM augM haugM (fun h => absurd ((isFirst_iff t).mp h) (by omega)) ((isWhole_iff t).mpr (by omega)) (fun h => absurd ((isRagged_iff t).mp h) (by omega)) ((isLast_iff t).mpr (by omega)) (iblk m c 0 t) (iblk m c 1 t) (iblk m c 2 t) (kblk m c t) (vblk m c t) (iblk m c 5 t) (iblk m c 6 t) (iblk m c 7 t) (iblk m c 8 t) (iblk m c 9 t) (iblk m c 10 t) (iblk m c 11 t) (iblk m c 12 t) (iblk m c 13 t) (iblk m c 14 t) (iblk m c 15 t) (accAt m c (t.val - 1)) (qnAt m c) (augU k0_pay15 v) Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexists _; iexact H16
  isplitl [H17]
  · iexists _; iexact H17
  isplitl [H18]
  · iexists _; iexact H18
  isplitl [H19]
  · iexists _; iexact H19
  isplitl [H20]
  · iexists _; iexact H20
  isplitl [H21]
  · iexists _; iexact H21
  isplitl [HS0]
  · iexact HS0
  isplitl [HS1]
  · iexact HS1
  isplitl [HS2]
  · iexact HS2
  iintro ⟨H0, H1, H2, H3, H4, H5, H6, H7, H8, H9, H10, H11, H12, H13, H14, H15, H16, H17, H18, H19, H20, H21, HS0, HS1, HS2⟩
  rw [augU_augU]
  have acc12 : accAt m c 12 = k0_pay18 (kblk m c t) (qnAt m c) (accAt m c (t.val - 1)) (augU k0_pay15 (vblk m c t)) := by
    rw [← accAt_mid m c t (by omega) (by omega), h12]
  isplitl [HS0 HS1 HS2 Hg]
  · isplitl [HS0 HS1 HS2]
    · isplitl [HS0]
      · rw [accAt_mid m c t (by omega) (by omega)]
        iexact HS0
      isplitl [HS1]
      · iexact HS1
      iexists (vblk m c t); iexact HS2
    iexact Hg
  isplitl [Ho]
  · iexact Ho
  isplitl [H0]
  · iexact H0
  isplitl [H1]
  · iexact H1
  isplitl [H2]
  · iexact H2
  isplitl [H3]
  · iexists kblk m c t; rw [win0_3.fill_cut]; iexact H3
  isplitl [H4]
  · iexists vblk m c t; rw [win0_4.fill_cut]; iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexists okAt m c t; rw [win0_16.fill_cut, okAt, if_pos h12]; iexact H16
  isplitl [H17]
  · iexists ovAt m c t; rw [win0_17.fill_cut, ovAt, if_pos h12, ctAt, acc12]; iexact H17
  isplitl [H18]
  · rw [fcAt, acc12]; iexact H18
  isplitl [H19]
  · rw [fcAt, acc12]; iexact H19
  isplitl [H20]
  · rw [htAt, acc12]; iexact H20
  rw [ctAt, acc12]; iexact H21

/-- The step's triple, at every step. -/
theorem step (hF : Ragged F) (c : Dev nD) (t : Fin cfg0.N) :
    stepPre m c t ⊢ wp frame (wpE (defs₀ (F := F)) Variants.none c none) Set.univ (bodyAt0 t) (fun _ => stepPost m c t) := by
  by_cases h0 : t.val = 0
  · exact step_first m c t h0
  by_cases h11 : t.val = 11
  · exact step_ragged m hF c t h11
  by_cases h12 : t.val = 12
  · exact step_last m c t h12
  exact step_mid m c t h0 h11 h12

set_option maxHeartbeats 8000000 in
/-- The body obligation. -/
theorem body (hF : Ragged F) (c : Dev nD) : BodyObligationLoose (dats (F := F) m 0 c) (defs₀ (F := F)) Variants.none () Set.univ := fun t => by
  rw [bigSep_W0, bigSep_W0, row]
  exact triple_restated (step m hF c t) rfl .rfl fun _ => .rfl

theorem hin (c : Dev nD) : Pipeline.ΦA spec0 c ⊢ (dats m 0 c).Φ 0 := by
  rw [show (dats m 0 c).Φ 0 = phi m c 0 from rfl, phi, if_pos rfl]
theorem hout (c : Dev nD) : (dats m 0 c).Φ (Fin.last cfg0.N) ⊢ Pipeline.ΦA spec0 c := by
  rw [show (dats m 0 c).Φ (Fin.last cfg0.N) = phi m c cfg0.N from rfl, show cfg0.N = 12 + 1 from N_0, phi_step, start_eq]
  iintro ⟨⟨HS0, HS1, ⟨%v, HS2⟩⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
set_option maxHeartbeats 800000 in
set_option maxRecDepth 31136 in
/-- Every execution ends with every window's array at what the steps wrote back, every other buffer as the lines after
    the region leave it, and every semaphore's counter at zero. -/
theorem run_quiescent (hF : Ragged F) : θ_run defs (onTc (τ := τ) (main (F := F))) (s₀ m ρ) (fun r =>
    (Pipeline.FramePost cfgs (dats m) 0 (Pipeline.afterTail₀ cfgs (dats m) 0 (V0 m) [hostOps1, hostOps1_1, hostOps1_2, hostOps1_3, hostOps1_4, hostOps1_5, hostOps1_6])) r ∧ r.2.sem = fun _ => 0) :=
  Pipeline.θ_run_frame_around_track (Q' := _) cfgs (dats m) (0 : Fin 1) launch0 defs₀ Variants.none m ρ main
    (hbody := fun c => body m hF c) (hshare := fun c => (dats m 0 c).share_full fun _ => rfl)
    (howed := fun _ _ => rfl) (V₀ := V0 m) (opss := [hostOps1, hostOps1_1, hostOps1_2, hostOps1_3, hostOps1_4, hostOps1_5, hostOps1_6]) (hsub := sfx_sub) (hfresh := sfx_fresh) (hkeep := sfx_keeps)
    (hmain := hmain m Variants.none) (hA := A_eq m) (hin := hin m) (hout := hout m)

/-- The same without the counters. -/
theorem run_main (hF : Ragged F) : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4, hostOps1_5, hostOps1_6])) :=
  (θ_run defs _ _).mono (fun _ h => h.1) (run_quiescent m ρ hF)

/-- The arguments end as they were and every counter at zero. -/
theorem frame (hF : Ragged F) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) (run_main m ρ hF)) ((θ_run defs _ _).mono (fun _ h => h.2) (run_quiescent m ρ hF))

end Cert.KernelIdeal.Run

end
-- ==== Proof.Maths.lean ====
/-
  The mathematics of the retrieval over the extended reals, free of both programs. A query and a key are divided by their
  norms plus a small positive constant, which makes every entry a real whatever the entry was; so the similarities are real,
  the weights e^s are positive reals, and a positive real factor may be moved into and out of a sum of any extended reals.
-/
module

public import Idealize.ShloMosaic.PureOps.Ideal
public import Idealize.ShloMosaic.Lib.IdealHost

@[expose] public section

noncomputable section

namespace Cert.Maths

open Idealize.ShloMosaic

/-- The constant added to a norm. -/
abbrev eps : EReal := Ideal.ofBits .f32 841731191#32

/-- The constant added to a norm is a positive real. -/
theorem eps_pos : ∃ r : ℝ, 0 < r ∧ eps = (r : EReal) := by
  refine ⟨11258999 / 2 ^ 50, by norm_num, ?_⟩
  simp [eps, Ideal.ofBits, Ideal.ieee, -EReal.coe_mul]
  norm_num

/-- The norm of a vector, plus the constant. -/
def nrm (v : Fin 10 → EReal) : EReal := Ideal.sqrt (∑ x, v x * v x) + eps

/-- An entry of the vector divided by its norm. -/
def unitv (v : Fin 10 → EReal) (i : Fin 10) : EReal := Ideal.div (v i) (nrm v)

theorem sq_nonneg (a : EReal) : 0 ≤ a * a := by
  induction a with
  | bot => simp
  | top => simp
  | coe r => rw [← EReal.coe_mul]; exact EReal.coe_nonneg.mpr (mul_self_nonneg r)

theorem coe_sum {ι : Type} (s : Finset ι) (f : ι → ℝ) : ∑ x ∈ s, (f x : EReal) = ((∑ x ∈ s, f x : ℝ) : EReal) := by
  classical
  induction s using Finset.induction_on with
  | empty => simp
  | insert a s h ih => rw [Finset.sum_insert h, Finset.sum_insert h, ih, EReal.coe_add]

/-- A quotient by a norm is a real. -/
theorem unitv_real (v : Fin 10 → EReal) (i : Fin 10) : ∃ r : ℝ, unitv v i = (r : EReal) := by
  obtain ⟨e, he, hE⟩ := eps_pos
  have hd : ∀ r : ℝ, 0 ≤ r → ∀ a : ℝ, ∃ q : ℝ, Ideal.div (a : EReal) (Ideal.sqrt (r : EReal) + eps) = (q : EReal) := by
    intro r hr a
    have h1 : Ideal.sqrt (r : EReal) = (Real.sqrt r : EReal) := if_neg (not_lt.mpr hr)
    have h2 : (0 : ℝ) < Real.sqrt r + e := add_pos_of_nonneg_of_pos (Real.sqrt_nonneg r) he
    rw [h1, hE, ← EReal.coe_add]
    refine ⟨a * (Real.sqrt r + e)⁻¹, ?_⟩
    unfold Ideal.div
    rw [if_neg (by exact_mod_cast h2.ne'), EReal.coe_mul, EReal.coe_inv]
  unfold unitv nrm
  by_cases h : ∀ x, ∃ r : ℝ, v x = (r : EReal)
  · choose r hr using h
    have hs : ∑ x, v x * v x = ((∑ x, r x * r x : ℝ) : EReal) := by
      rw [← coe_sum]
      exact Finset.sum_congr rfl fun x _ => by rw [hr x, EReal.coe_mul]
    rw [hs, hr i]
    exact hd _ (Finset.sum_nonneg fun x _ => mul_self_nonneg (r x)) _
  · push Not at h
    obtain ⟨x, hx⟩ := h
    have hxx : v x * v x = ⊤ := by
      generalize v x = a at hx
      induction a with
      | bot => simp
      | top => simp
      | coe r => exact absurd rfl (hx r)
    have hs : ∑ x, v x * v x = ⊤ := by
      refine top_le_iff.mp ?_
      rw [← hxx]
      exact Finset.single_le_sum (f := fun x => v x * v x) (fun y _ => sq_nonneg (v y)) (Finset.mem_univ x)
    rw [hs, hE]
    refine ⟨0, ?_⟩
    show Ideal.div (v i) (⊤ + (e : EReal)) = _
    rw [EReal.top_add_coe]
    unfold Ideal.div
    rw [if_neg (by simp), EReal.inv_top, mul_zero, EReal.coe_zero]

/-- The similarity of a query and a key. -/
def sim (q k : Fin 10 → EReal) : EReal := ∑ x, unitv q x * unitv k x

theorem sim_real (q k : Fin 10 → EReal) : ∃ r : ℝ, sim q k = (r : EReal) := by
  choose a ha using unitv_real q
  choose b hb using unitv_real k
  refine ⟨∑ x, a x * b x, ?_⟩
  rw [← coe_sum]
  exact Finset.sum_congr rfl fun x _ => by rw [ha x, hb x, EReal.coe_mul]

/-- A power of two at a similarity whose query was multiplied by `1 / log 2` is the exponential of the similarity. -/
theorem exp2_sim (q k : Fin 10 → EReal) :
    Ideal.exp2 (∑ x, unitv q x * (((Real.log 2)⁻¹ : ℝ) : EReal) * unitv k x) = Ideal.exp (sim q k) := by
  choose a ha using unitv_real q
  choose b hb using unitv_real k
  have h1 : ∑ x, unitv q x * (((Real.log 2)⁻¹ : ℝ) : EReal) * unitv k x = (((∑ x, a x * b x) * (Real.log 2)⁻¹ : ℝ) : EReal) := by
    rw [Finset.sum_mul, ← coe_sum]
    exact Finset.sum_congr rfl fun x _ => by
      rw [ha x, hb x, ← EReal.coe_mul, ← EReal.coe_mul]; congr 1; ring
  have h2 : sim q k = ((∑ x, a x * b x : ℝ) : EReal) := by
    rw [← coe_sum]
    exact Finset.sum_congr rfl fun x _ => by rw [ha x, hb x, EReal.coe_mul]
  rw [h1, h2]
  show ((Real.rpow 2 _ : ℝ) : EReal) = ((Real.exp _ : ℝ) : EReal)
  congr 1
  show (2 : ℝ) ^ ((∑ x, a x * b x) * (Real.log 2)⁻¹) = _
  rw [Real.rpow_def_of_pos (by norm_num)]
  congr 1
  have : Real.log 2 ≠ 0 := (Real.log_pos (by norm_num)).ne'
  field_simp

/-- The weight of a key under a query. -/
def wt (q k : Fin 10 → EReal) : EReal := Ideal.exp (sim q k)

/-- A nonnegative real times a sum of any extended reals is the sum of the products. -/
theorem mul_sum {ι : Type} (s : Finset ι) (c : ℝ) (hc : 0 ≤ c) (f : ι → EReal) :
    (c : EReal) * ∑ x ∈ s, f x = ∑ x ∈ s, (c : EReal) * f x := by
  classical
  induction s using Finset.induction_on with
  | empty => simp
  | insert a s h ih =>
    rw [Finset.sum_insert h, Finset.sum_insert h, ← ih]
    exact EReal.left_distrib_of_nonneg_of_ne_top (EReal.coe_nonneg.mpr hc) (EReal.coe_ne_top c) _ _

theorem fold_max_real {n : ℕ} (s : Fin n → ℝ) (hn : 0 < n) :
    ∃ M : ℝ, Finset.univ.fold max (⊥ : EReal) (fun j => (s j : EReal)) = (M : EReal) := by
  have key : ∀ t : Finset (Fin n), t.fold max (⊥ : EReal) (fun j => (s j : EReal)) = ⊥ ∧ t = ∅
      ∨ ∃ M : ℝ, t.fold max (⊥ : EReal) (fun j => (s j : EReal)) = (M : EReal) := by
    classical
    intro t
    induction t using Finset.induction_on with
    | empty => left; simp
    | insert a t h ih =>
      right
      rw [Finset.fold_insert h]
      rcases ih with ⟨ih, -⟩ | ⟨M, ih⟩
      · exact ⟨s a, by rw [ih]; simp⟩
      · exact ⟨max (s a) M, by rw [ih]; exact (EReal.coe_strictMono.monotone.map_max).symm⟩
  rcases key Finset.univ with ⟨-, h⟩ | h
  · exact absurd (h ▸ Finset.mem_univ (⟨0, hn⟩ : Fin n)) (Finset.notMem_empty _)
  · exact h

/-- The softmax of real scores, shifted by any real, times any values is the quotient of the two weighted sums. -/
theorem attend {n : ℕ} (hn : 0 < n) (s : Fin n → EReal) (hs : ∀ j, ∃ r : ℝ, s j = (r : EReal)) (M : EReal)
    (hM : ∃ r : ℝ, M = (r : EReal)) (v : Fin n → EReal) :
    ∑ j, Ideal.div (Ideal.exp (s j - M)) (∑ l, Ideal.exp (s l - M)) * v j
      = Ideal.div (∑ j, Ideal.exp (s j) * v j) (∑ j, Ideal.exp (s j)) := by
  choose r hr using hs
  obtain ⟨μ, rfl⟩ := hM
  obtain rfl : s = fun j => (r j : EReal) := funext hr
  have hne : Nonempty (Fin n) := ⟨⟨0, hn⟩⟩
  have hD : 0 < ∑ j, Real.exp (r j) := Finset.sum_pos (fun j _ => Real.exp_pos _) Finset.univ_nonempty
  have e1 : ∀ j, Ideal.exp ((r j : EReal) - (μ : EReal)) = ((Real.exp (r j) * Real.exp (-μ) : ℝ) : EReal) := by
    intro j
    rw [← EReal.coe_sub, ← Real.exp_add]
    rfl
  have e2 : ∀ j, Ideal.exp (r j : EReal) = ((Real.exp (r j) : ℝ) : EReal) := fun j => rfl
  simp only [e1, e2, coe_sum]
  have hdiv : ∀ (y : ℝ), 0 < y → ∀ x : EReal, Ideal.div x (y : EReal) = ((y⁻¹ : ℝ) : EReal) * x := by
    intro y hy x
    unfold Ideal.div
    rw [if_neg (by exact_mod_cast hy.ne'), EReal.coe_inv, mul_comm]
  rw [hdiv _ hD, mul_sum _ _ (inv_nonneg.mpr hD.le)]
  have hS : 0 < ∑ j, Real.exp (r j) * Real.exp (-μ) := Finset.sum_pos (fun j _ => mul_pos (Real.exp_pos _) (Real.exp_pos _)) Finset.univ_nonempty
  refine Finset.sum_congr rfl fun j _ => ?_
  rw [hdiv _ hS, ← EReal.coe_mul, ← mul_assoc, ← mul_assoc, ← EReal.coe_mul]
  congr 2
  rw [← Finset.sum_mul]
  have := (Real.exp_pos (-μ)).ne'
  have := hD.ne'
  field_simp

end Cert.Maths

end
-- ==== Proof.Pure.lean ====
module

public import proofs.«01_k».proof.Proof.IdealFrame
public import proofs.«01_k».proof.Proof.Maths
public import Idealize.ShloMosaic.Lib.Pointwise
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.SL.Sem

/-! # The stored values, read at an index over the extended reals -/

/-- A lane of the ragged chunk is kept when it is below 1696. -/
theorem lane : ∀ x : Fin 8192, IntOp.cmpi CmpIPredicate.slt (BitVec.ofNat 32 x.val) 1696#32 = if x.val < 1696 then 1#1 else 0#1 := by
  decide +kernel

/-- The weights of a chunk: a power of two at the product of the stored query and the normalized key. -/
theorem pay16_apply (k : FVec Ideal S10x8192 .f32) (q : FVec Ideal S1024x10 .bf16) (b : Fin 1024) (j : Fin 8192) :
    k0_pay16 (F := Ideal) k q (ix2 b j) = Ideal.exp2 (∑ x, q (ix2 b x) * Maths.unitv (fun i => k (ix2 i j)) x) := by
  pointwise [k0_pay16, k0_pay10, Maths.unitv, Maths.nrm]
  rfl

/-- A whole chunk adds its weights times its values. -/
theorem pay18_apply (k : FVec Ideal S10x8192 .f32) (q : FVec Ideal S1024x10 .bf16) (acc : FVec Ideal S1024x128 .f32)
    (a : FVec Ideal S128x8192 .bf16) (b : Fin 1024) (d : Fin 128) :
    k0_pay18 (F := Ideal) k q acc a (ix2 b d) = acc (ix2 b d) + ∑ j : Fin 8192, k0_pay16 (F := Ideal) k q (ix2 b j) * a (ix2 d j) := by
  pointwise! [k0_pay18]

/-- The ragged chunk adds the weights times the values of its lanes inside the memory. -/
theorem pay1_apply (e : FVec Ideal S1024x8192 .bf16) (acc : FVec Ideal S1024x128 .f32)
    (a : FVec Ideal S128x8192 .bf16) (b : Fin 1024) (d : Fin 128) :
    k0_pay1 (F := Ideal) e a acc (ix2 b d)
      = acc (ix2 b d) + ∑ j : Fin 8192, if j.val < 1696 then e (ix2 b j) * a (ix2 d j) else 0 := by
  have h : k0_pay1 (F := Ideal) e a acc (ix2 b d) = acc (ix2 b d) + ∑ j : Fin 8192,
      Scalar.select (IntOp.cmpi CmpIPredicate.slt (BitVec.ofNat 32 j.val) 1696#32)
        (Scalar.select (IntOp.cmpi CmpIPredicate.slt (BitVec.ofNat 32 j.val) 1696#32) (e (ix2 b j) * a (ix2 d j)) 0) (0 : EReal) := by
    pointwise [k0_pay1]
  refine h.trans (congrArg _ (Finset.sum_congr rfl fun j _ => ?_))
  rw [lane]
  by_cases h : j.val < 1696
  · rw [if_pos h, if_pos h]; rfl
  · rw [if_neg h, if_neg h]; rfl

theorem log2e : Named.named (F := Ideal) κ "log2e" (φ := .f32) 0x3FB8AA3B#32 = (((Real.log 2)⁻¹ : ℝ) : EReal) :=
  IdealRules.named_const.ideal_named_scalar _ _ _ _ rfl

/-- The stored queries: the first ten columns, normalized, times `1 / log 2`. -/
theorem pay14_apply (z : FVec Ideal S1024x79 .f32) (b : Fin 1024) (i : Fin 10) :
    k0_pay14 (F := Ideal) z (ix2 b i)
      = Maths.unitv (fun x => z (ix2 b ⟨x.val, by omega⟩)) i * (((Real.log 2)⁻¹ : ℝ) : EReal) := by
  pointwise [k0_pay14, k0_pay12, Maths.unitv, Maths.nrm]
  exact congrArg _ log2e

theorem pay17_apply (v : FVec Ideal S64x8192 .f32) (d : Fin 64) (j : Fin 8192) :
    k0_pay17 (F := Ideal) v (ix2 d j) = v (ix2 d j) := by
  pointwise! [k0_pay17, k0_pay11]

theorem pay15_apply (d : Fin 128) (j : Fin 8192) :
    k0_pay15 (F := Ideal) (ix2 d j) = 1 := by
  pointwise [k0_pay15]

theorem pay13_apply (b : Fin 1024) (d : Fin 128) :
    k0_pay13 (F := Ideal) (ix2 b d) = 0 := by
  pointwise [k0_pay13]

/-- A part at the origin laid over an array, read at an index. -/
theorem overlay_apply {A B a b : ℕ} (h) (X : (⟨2, ![A, B]⟩ : Shape).Idx → EReal) (G : (⟨2, ![a, b]⟩ : Shape).Idx → EReal) (i : Fin A) (j : Fin B) :
    (Rect.unit (s := ⟨2, ![A, B]⟩) ![0, 0] (no_index (⟨2, ![a, b]⟩ : Shape).size) h).overlay X G (ix2 i j)
      = if h : i.val < a ∧ j.val < b then G (ix2 ⟨i.val, h.1⟩ ⟨j.val, h.2⟩) else X (ix2 i j) := by
  let r : Rect (⟨2, ![A, B]⟩ : Shape) := Rect.unit (s := ⟨2, ![A, B]⟩) ![0, 0] (⟨2, ![a, b]⟩ : Shape).size h
  have he : ∀ (y : r.shape.Idx) (x : Fin 2), (r.emb y x).val = (![0, 0] : Fin 2 → ℕ) x + (y x).val :=
    fun y x => ValueKit.rect_emb_unit_val _ _ _ y x
  by_cases hij : i.val < a ∧ j.val < b
  · rw [dif_pos hij]
    have e : r.emb (ix2 ⟨i.val, hij.1⟩ ⟨j.val, hij.2⟩ : (⟨2, ![a, b]⟩ : Shape).Idx) = ix2 i j := by
      funext x
      refine Fin.ext ((he _ x).trans ?_)
      match x with
      | ⟨0, _⟩ => exact Nat.zero_add i.val
      | ⟨1, _⟩ => exact Nat.zero_add j.val
    show r.overlay X G (ix2 i j) = _
    rw [← e]
    exact Rect.overlay_emb r X G _
  · rw [dif_neg hij]
    refine Rect.overlay_of_not_mem r X G fun hm => hij ?_
    rw [← Rect.map_emb_univ] at hm
    obtain ⟨y, -, hy⟩ := Finset.mem_map.1 hm
    have h0 : (0 + (y 0).val : ℕ) = i.val := (he y 0).symm.trans (congrArg Fin.val (congrFun hy 0))
    have h1 : (0 + (y 1).val : ℕ) = j.val := (he y 1).symm.trans (congrArg Fin.val (congrFun hy 1))
    have l0 : (y 0).val < a := (y 0).isLt
    have l1 : (y 1).val < b := (y 1).isLt
    omega

/-- The augmented values: the chunk's values in the first 64 rows, what was there below. -/
theorem augU_apply (a : FVec Ideal S128x8192 .bf16) (v : FVec Ideal S64x8192 .f32) (d : Fin 128) (j : Fin 8192) :
    augU (F := Ideal) a v (ix2 d j) = if h : d.val < 64 then v (ix2 ⟨d.val, h⟩ j) else a (ix2 d j) := by
  unfold augU
  refine (overlay_apply inb_S128x8192_S64x8192_0_0 a (k0_pay17 (F := Ideal) v) d j).trans ?_
  by_cases h : d.val < 64
  · rw [dif_pos ⟨h, j.isLt⟩, dif_pos h, pay17_apply]
  · rw [dif_neg (fun q => h q.1), dif_neg h]

/-- The ragged step reads only the lanes inside the memory. -/
theorem ragged : Ragged Ideal := by
  intro k k' v v' q acc hk hv
  funext y
  obtain ⟨b, d, rfl⟩ : ∃ (b : Fin 1024) (d : Fin 128), y = ix2 b d := ⟨y 0, y 1, eq_ix2 y⟩
  rw [pay1_apply, pay1_apply]
  refine congrArg _ (Finset.sum_congr rfl fun j _ => ?_)
  by_cases h : j.val < 1696
  · rw [if_pos h, if_pos h, pay16_apply, pay16_apply, augU_apply, augU_apply]
    have h1 : (fun i => k (ix2 i j)) = fun i => k' (ix2 i j) := funext fun i => hk _ h
    rw [h1]
    by_cases hd : d.val < 64
    · rw [dif_pos hd, dif_pos hd, hv _ h]
    · rw [dif_neg hd, dif_neg hd]
  · rw [if_neg h, if_neg h]

end Cert.KernelIdeal.Run

end
-- ==== Proof.RefRun.lean ====
/-
  The reference's run. @main is a straight line of host operations with its private functions inlined; here it is written out
  as the operation lists `ops0` … `ops16` (a run of @main's own operations or one call's), shown equal to the printed program,
  and run: every weakly fair execution terminates, every buffer ends at the operations' results folded over what memory held
  at the start (`run_main`), and the arguments are among the buffers nothing writes (`frame`).
-/
module

public import proofs.«01_k».proof.Proof.Gen.ReferenceIdeal
public import Idealize.ShloMosaic.Lib.StableHlo.Run
public import Idealize.ShloMosaic.Lib.StableHlo.RunRead
public import Idealize.ShloMosaic.Lib.StableHlo.RunHlo
public import Idealize.ShloMosaic.Lib.Pipeline.Regions
public import Idealize.ShloMosaic.Lib.Pipeline.Frame
public import Idealize.ShloMosaic.Lib.Claim

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- Stretch 0 of @main: @main's own operations, 32 of them. -/
abbrev ops0 : List (HloOp τ sig (Elt F)) :=
  ( reshape main_arg1 main_v0 (rfl : (.f32 : EltTy) = .f32) shapeCasts_S1x1024x64_S1024x64
  :: reshape main_arg2 main_v1 (rfl : (.f32 : EltTy) = .f32) shapeCasts_S1x1024x64_S1024x64
  :: unary main_arg5 main_v2 ((transpose S14x320 [1, 0] · transposes_S320x14_S14x320_1_0) : (⟨S320x14, .f32⟩ : BufTy).Contents (Elt F) → (⟨S14x320, .f32⟩ : BufTy).Contents (Elt F))
  :: binary main_arg0 main_v2 main_v3 ((fun l r => Host.dotGeneral dot_S1024x14_S14x320_S1024x320_1_0_0_1_n_n none l r) : (⟨S1024x14, .f32⟩ : BufTy).Contents (Elt F) → (⟨S14x320, .f32⟩ : BufTy).Contents (Elt F) → (⟨S1024x320, .f32⟩ : BufTy).Contents (Elt F))
  :: unary main_arg6 main_v4 (broadcastInDim S1x320 ![1] bcast_S320_S1x320_1 : (⟨S320, .f32⟩ : BufTy).Contents (Elt F) → (⟨S1x320, .f32⟩ : BufTy).Contents (Elt F))
  :: unary main_v4 main_v5 (broadcastInDim S1024x320 ![0, 1] bcast_S1x320_S1024x320_0_1 : (⟨S1x320, .f32⟩ : BufTy).Contents (Elt F) → (⟨S1024x320, .f32⟩ : BufTy).Contents (Elt F))
  :: binary main_v3 main_v5 main_v6 (addf : (⟨S1024x320, .f32⟩ : BufTy).Contents (Elt F) → (⟨S1024x320, .f32⟩ : BufTy).Contents (Elt F) → (⟨S1024x320, .f32⟩ : BufTy).Contents (Elt F))
  :: unary main_arg7 main_v7 ((transpose S64x320 [1, 0] · transposes_S320x64_S64x320_1_0) : (⟨S320x64, .f32⟩ : BufTy).Contents (Elt F) → (⟨S64x320, .f32⟩ : BufTy).Contents (Elt F))
  :: binary main_v0 main_v7 main_v8 ((fun l r => Host.dotGeneral dot_S1024x64_S64x320_S1024x320_1_0_0_1_n_n none l r) : (⟨S1024x64, .f32⟩ : BufTy).Contents (Elt F) → (⟨S64x320, .f32⟩ : BufTy).Contents (Elt F) → (⟨S1024x320, .f32⟩ : BufTy).Contents (Elt F))
  :: binary main_v6 main_v8 main_v9 (addf : (⟨S1024x320, .f32⟩ : BufTy).Contents (Elt F) → (⟨S1024x320, .f32⟩ : BufTy).Contents (Elt F) → (⟨S1024x320, .f32⟩ : BufTy).Contents (Elt F))
  :: unary main_arg8 main_v10 (broadcastInDim S1x320 ![1] bcast_S320_S1x320_1 : (⟨S320, .f32⟩ : BufTy).Contents (Elt F) → (⟨S1x320, .f32⟩ : BufTy).Contents (Elt F))
  :: unary main_v10 main_v11 (broadcastInDim S1024x320 ![0, 1] bcast_S1x320_S1024x320_0_1 : (⟨S1x320, .f32⟩ : BufTy).Contents (Elt F) → (⟨S1024x320, .f32⟩ : BufTy).Contents (Elt F))
  :: binary main_v9 main_v11 main_v12 (addf : (⟨S1024x320, .f32⟩ : BufTy).Contents (Elt F) → (⟨S1024x320, .f32⟩ : BufTy).Contents (Elt F) → (⟨S1024x320, .f32⟩ : BufTy).Contents (Elt F))
  :: unary main_v12 main_v13 ((extractStridedSlice S1024x256 ![0, 0] · slices_S1024x320_S1024x256_0_0) : (⟨S1024x320, .f32⟩ : BufTy).Contents (Elt F) → (⟨S1024x256, .f32⟩ : BufTy).Contents (Elt F))
  :: unary main_v13 main_v14 (Host.negf : (⟨S1024x256, .f32⟩ : BufTy).Contents (Elt F) → (⟨S1024x256, .f32⟩ : BufTy).Contents (Elt F))
  :: unary main_v14 main_v15 (Host.exp : (⟨S1024x256, .f32⟩ : BufTy).Contents (Elt F) → (⟨S1024x256, .f32⟩ : BufTy).Contents (Elt F))
  :: nullary main_cst (constant S_ .f32 0x3F800000#32)
  :: unary main_cst main_v16 (broadcastInDim S1024x256 ![] bcast_S_S1024x256 : (⟨S_, .f32⟩ : BufTy).Contents (Elt F) → (⟨S1024x256, .f32⟩ : BufTy).Contents (Elt F))
  :: binary main_v16 main_v15 main_v17 (addf : (⟨S1024x256, .f32⟩ : BufTy).Contents (Elt F) → (⟨S1024x256, .f32⟩ : BufTy).Contents (Elt F) → (⟨S1024x256, .f32⟩ : BufTy).Contents (Elt F))
  :: nullary main_cst_0 (constant S_ .f32 0x3F800000#32)
  :: unary main_cst_0 main_v18 (broadcastInDim S1024x256 ![] bcast_S_S1024x256 : (⟨S_, .f32⟩ : BufTy).Contents (Elt F) → (⟨S1024x256, .f32⟩ : BufTy).Contents (Elt F))
  :: binary main_v18 main_v17 main_v19 (Host.divf : (⟨S1024x256, .f32⟩ : BufTy).Contents (Elt F) → (⟨S1024x256, .f32⟩ : BufTy).Contents (Elt F) → (⟨S1024x256, .f32⟩ : BufTy).Contents (Elt F))
  :: unary main_v19 main_v20 ((extractStridedSlice S1024x64 ![0, 0] · slices_S1024x256_S1024x64_0_0) : (⟨S1024x256, .f32⟩ : BufTy).Contents (Elt F) → (⟨S1024x64, .f32⟩ : BufTy).Contents (Elt F))
  :: unary main_v19 main_v21 ((extractStridedSlice S1024x64 ![0, 64] · slices_S1024x256_S1024x64_0_64) : (⟨S1024x256, .f32⟩ : BufTy).Contents (Elt F) → (⟨S1024x64, .f32⟩ : BufTy).Contents (Elt F))
  :: unary main_v19 main_v22 ((extractStridedSlice S1024x64 ![0, 128] · slices_S1024x256_S1024x64_0_128) : (⟨S1024x256, .f32⟩ : BufTy).Contents (Elt F) → (⟨S1024x64, .f32⟩ : BufTy).Contents (Elt F))
  :: unary main_v19 main_v23 ((extractStridedSlice S1024x64 ![0, 192] · slices_S1024x256_S1024x64_0_192) : (⟨S1024x256, .f32⟩ : BufTy).Contents (Elt F) → (⟨S1024x64, .f32⟩ : BufTy).Contents (Elt F))
  :: unary main_v12 main_v24 ((extractStridedSlice S1024x64 ![0, 256] · slices_S1024x320_S1024x64_0_256) : (⟨S1024x320, .f32⟩ : BufTy).Contents (Elt F) → (⟨S1024x64, .f32⟩ : BufTy).Contents (Elt F))
  :: unary main_v24 main_v25 (Host.tanh : (⟨S1024x64, .f32⟩ : BufTy).Contents (Elt F) → (⟨S1024x64, .f32⟩ : BufTy).Contents (Elt F))
  :: binary main_v20 main_v1 main_v26 (mulf : (⟨S1024x64, .f32⟩ : BufTy).Contents (Elt F) → (⟨S1024x64, .f32⟩ : BufTy).Contents (Elt F) → (⟨S1024x64, .f32⟩ : BufTy).Contents (Elt F))
  :: binary main_v21 main_v25 main_v27 (mulf : (⟨S1024x64, .f32⟩ : BufTy).Contents (Elt F) → (⟨S1024x64, .f32⟩ : BufTy).Contents (Elt F) → (⟨S1024x64, .f32⟩ : BufTy).Contents (Elt F))
  :: binary main_v26 main_v27 main_v28 (addf : (⟨S1024x64, .f32⟩ : BufTy).Contents (Elt F) → (⟨S1024x64, .f32⟩ : BufTy).Contents (Elt F) → (⟨S1024x64, .f32⟩ : BufTy).Contents (Elt F))
  :: unary main_arg0 main_v29 ((extractStridedSlice S1024x10 ![0, 0] · slices_S1024x14_S1024x10_0_0) : (⟨S1024x14, .f32⟩ : BufTy).Contents (Elt F) → (⟨S1024x10, .f32⟩ : BufTy).Contents (Elt F))
  :: [] )
/-- What stretch 0 writes, in order. -/
abbrev W0 : List (Ref sig .tc) :=
  [ main_v0, main_v1, main_v2, main_v3, main_v4, main_v5, main_v6, main_v7, main_v8, main_v9, main_v10, main_v11, main_v12, main_v13, main_v14, main_v15, main_cst, main_v16, main_v17, main_cst_0, main_v18, main_v19, main_v20, main_v21, main_v22, main_v23, main_v24, main_v25, main_v26, main_v27, main_v28, main_v29 ]
theorem ops0_sub : (ops0 : List (HloOp τ sig (Elt F))).Forall fun op => op.bufs ⊆ tcRefs τ sig :=
  ⟨reshape_bufs_sub .., reshape_bufs_sub .., unary_bufs_sub .., binary_bufs_sub .., unary_bufs_sub .., unary_bufs_sub .., binary_bufs_sub .., unary_bufs_sub .., binary_bufs_sub .., binary_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., binary_bufs_sub .., binary_bufs_sub .., binary_bufs_sub .., unary_bufs_sub ..⟩
theorem ops0_fresh : (ops0 : List (HloOp τ sig (Elt F))).Forall fun op => op.fresh = ∅ := forall_fresh_of_map rfl
theorem ops0_writes : (ops0 : List (HloOp τ sig (Elt F))).Forall fun op => op.writes ⊆ (W0.map (Proc.devRef (τ := τ) .tc)).toFinset :=
  forall_writes_sub_of_map rfl

/-- Stretch 1 of @main: the operations of the call main_call0, 5 of them. -/
abbrev ops1 : List (HloOp τ sig (Elt F)) :=
  ( TRef.binary (.of main_v29 : TRef sig ⟨S1024x10, .f32⟩) (.of main_v29 : TRef sig ⟨S1024x10, .f32⟩) (.of main_call0_v0 : TRef sig ⟨S1024x10, .f32⟩) mulf
  :: TRef.nullary (.of main_call0_cst : TRef sig ⟨S_, .f32⟩) (constant S_ .f32 0x00000000#32)
  :: TRef.binary (.of main_call0_v0 : TRef sig ⟨S1024x10, .f32⟩) (.of main_call0_cst : TRef sig ⟨S_, .f32⟩) (.of main_call0_v1 : TRef sig ⟨S1024, .f32⟩) (fun x v => Host.reduceAdd x v reducesTo_S1024x10_S1024_d1 h_S_)
  :: TRef.unary (.of main_call0_v1 : TRef sig ⟨S1024, .f32⟩) (.of main_call0_v2 : TRef sig ⟨S1024x1, .f32⟩) (broadcastInDim S1024x1 ![0] bcast_S1024_S1024x1_0)
  :: TRef.unary (.of main_call0_v2 : TRef sig ⟨S1024x1, .f32⟩) (.of main_v30 : TRef sig ⟨S1024x1, .f32⟩) Host.sqrt
  :: [] )
/-- What stretch 1 writes, in order. -/
abbrev W1 : List (Ref sig .tc) :=
  [ main_call0_v0, main_call0_cst, main_call0_v1, main_call0_v2, main_v30 ]
theorem ops1_sub : (ops1 : List (HloOp τ sig (Elt F))).Forall fun op => op.bufs ⊆ tcRefs τ sig :=
  ⟨binary_bufs_sub .., nullary_bufs_sub .., binary_bufs_sub .., unary_bufs_sub .., unary_bufs_sub ..⟩
theorem ops1_fresh : (ops1 : List (HloOp τ sig (Elt F))).Forall fun op => op.fresh = ∅ := forall_fresh_of_map rfl
theorem ops1_writes : (ops1 : List (HloOp τ sig (Elt F))).Forall fun op => op.writes ⊆ (W1.map (Proc.devRef (τ := τ) .tc)).toFinset :=
  forall_writes_sub_of_map rfl

/-- Stretch 2 of @main: @main's own operations, 5 of them. -/
abbrev ops2 : List (HloOp τ sig (Elt F)) :=
  ( nullary main_cst_1 (constant S_ .f32 0x322BCC77#32)
  :: unary main_cst_1 main_v31 (broadcastInDim S1024x1 ![] bcast_S_S1024x1 : (⟨S_, .f32⟩ : BufTy).Contents (Elt F) → (⟨S1024x1, .f32⟩ : BufTy).Contents (Elt F))
  :: binary main_v30 main_v31 main_v32 (addf : (⟨S1024x1, .f32⟩ : BufTy).Contents (Elt F) → (⟨S1024x1, .f32⟩ : BufTy).Contents (Elt F) → (⟨S1024x1, .f32⟩ : BufTy).Contents (Elt F))
  :: unary main_v32 main_v33 (broadcastInDim S1024x10 ![0, 1] bcast_S1024x1_S1024x10_0_1 : (⟨S1024x1, .f32⟩ : BufTy).Contents (Elt F) → (⟨S1024x10, .f32⟩ : BufTy).Contents (Elt F))
  :: binary main_v29 main_v33 main_v34 (Host.divf : (⟨S1024x10, .f32⟩ : BufTy).Contents (Elt F) → (⟨S1024x10, .f32⟩ : BufTy).Contents (Elt F) → (⟨S1024x10, .f32⟩ : BufTy).Contents (Elt F))
  :: [] )
/-- What stretch 2 writes, in order. -/
abbrev W2 : List (Ref sig .tc) :=
  [ main_cst_1, main_v31, main_v32, main_v33, main_v34 ]
theorem ops2_sub : (ops2 : List (HloOp τ sig (Elt F))).Forall fun op => op.bufs ⊆ tcRefs τ sig :=
  ⟨nullary_bufs_sub .., unary_bufs_sub .., binary_bufs_sub .., unary_bufs_sub .., binary_bufs_sub ..⟩
theorem ops2_fresh : (ops2 : List (HloOp τ sig (Elt F))).Forall fun op => op.fresh = ∅ := forall_fresh_of_map rfl
theorem ops2_writes : (ops2 : List (HloOp τ sig (Elt F))).Forall fun op => op.writes ⊆ (W2.map (Proc.devRef (τ := τ) .tc)).toFinset :=
  forall_writes_sub_of_map rfl

/-- Stretch 3 of @main: the operations of the call main_call1, 5 of them. -/
abbrev ops3 : List (HloOp τ sig (Elt F)) :=
  ( TRef.binary (.of main_arg3 : TRef sig ⟨S100000x10, .f32⟩) (.of main_arg3 : TRef sig ⟨S100000x10, .f32⟩) (.of main_call1_v0 : TRef sig ⟨S100000x10, .f32⟩) mulf
  :: TRef.nullary (.of main_call1_cst : TRef sig ⟨S_, .f32⟩) (constant S_ .f32 0x00000000#32)
  :: TRef.binary (.of main_call1_v0 : TRef sig ⟨S100000x10, .f32⟩) (.of main_call1_cst : TRef sig ⟨S_, .f32⟩) (.of main_call1_v1 : TRef sig ⟨S100000, .f32⟩) (fun x v => Host.reduceAdd x v reducesTo_S100000x10_S100000_d1 h_S_)
  :: TRef.unary (.of main_call1_v1 : TRef sig ⟨S100000, .f32⟩) (.of main_call1_v2 : TRef sig ⟨S100000x1, .f32⟩) (broadcastInDim S100000x1 ![0] bcast_S100000_S100000x1_0)
  :: TRef.unary (.of main_call1_v2 : TRef sig ⟨S100000x1, .f32⟩) (.of main_v35 : TRef sig ⟨S100000x1, .f32⟩) Host.sqrt
  :: [] )
/-- What stretch 3 writes, in order. -/
abbrev W3 : List (Ref sig .tc) :=
  [ main_call1_v0, main_call1_cst, main_call1_v1, main_call1_v2, main_v35 ]
theorem ops3_sub : (ops3 : List (HloOp τ sig (Elt F))).Forall fun op => op.bufs ⊆ tcRefs τ sig :=
  ⟨binary_bufs_sub .., nullary_bufs_sub .., binary_bufs_sub .., unary_bufs_sub .., unary_bufs_sub ..⟩
theorem ops3_fresh : (ops3 : List (HloOp τ sig (Elt F))).Forall fun op => op.fresh = ∅ := forall_fresh_of_map rfl
theorem ops3_writes : (ops3 : List (HloOp τ sig (Elt F))).Forall fun op => op.writes ⊆ (W3.map (Proc.devRef (τ := τ) .tc)).toFinset :=
  forall_writes_sub_of_map rfl

/-- Stretch 4 of @main: @main's own operations, 21 of them. -/
abbrev ops4 : List (HloOp τ sig (Elt F)) :=
  ( nullary main_cst_2 (constant S_ .f32 0x322BCC77#32)
  :: unary main_cst_2 main_v36 (broadcastInDim S100000x1 ![] bcast_S_S100000x1 : (⟨S_, .f32⟩ : BufTy).Contents (Elt F) → (⟨S100000x1, .f32⟩ : BufTy).Contents (Elt F))
  :: binary main_v35 main_v36 main_v37 (addf : (⟨S100000x1, .f32⟩ : BufTy).Contents (Elt F) → (⟨S100000x1, .f32⟩ : BufTy).Contents (Elt F) → (⟨S100000x1, .f32⟩ : BufTy).Contents (Elt F))
  :: unary main_v37 main_v38 (broadcastInDim S100000x10 ![0, 1] bcast_S100000x1_S100000x10_0_1 : (⟨S100000x1, .f32⟩ : BufTy).Contents (Elt F) → (⟨S100000x10, .f32⟩ : BufTy).Contents (Elt F))
  :: binary main_arg3 main_v38 main_v39 (Host.divf : (⟨S100000x10, .f32⟩ : BufTy).Contents (Elt F) → (⟨S100000x10, .f32⟩ : BufTy).Contents (Elt F) → (⟨S100000x10, .f32⟩ : BufTy).Contents (Elt F))
  :: unary main_v39 main_v40 ((transpose S10x100000 [1, 0] · transposes_S100000x10_S10x100000_1_0) : (⟨S100000x10, .f32⟩ : BufTy).Contents (Elt F) → (⟨S10x100000, .f32⟩ : BufTy).Contents (Elt F))
  :: binary main_v34 main_v40 main_v41 ((fun l r => Host.dotGeneral dot_S1024x10_S10x100000_S1024x100000_1_0_0_1_n_n none l r) : (⟨S1024x10, .f32⟩ : BufTy).Contents (Elt F) → (⟨S10x100000, .f32⟩ : BufTy).Contents (Elt F) → (⟨S1024x100000, .f32⟩ : BufTy).Contents (Elt F))
  :: nullary main_cst_3 (constant S_ .f32 0xFF800000#32)
  :: binary main_v41 main_cst_3 main_v42 ((fun x v => Host.reduce FloatOps.maximumf x v reducesTo_S1024x100000_S1024_d1 h_S_) : (⟨S1024x100000, .f32⟩ : BufTy).Contents (Elt F) → (⟨S_, .f32⟩ : BufTy).Contents (Elt F) → (⟨S1024, .f32⟩ : BufTy).Contents (Elt F))
  :: nullary main_cst_4 (constant S_ .f32 0xFF800000#32)
  :: unary main_cst_4 main_v43 (broadcastInDim S1024 ![] bcast_S_S1024 : (⟨S_, .f32⟩ : BufTy).Contents (Elt F) → (⟨S1024, .f32⟩ : BufTy).Contents (Elt F))
  :: binary main_v43 main_v42 main_v44 (maximumf : (⟨S1024, .f32⟩ : BufTy).Contents (Elt F) → (⟨S1024, .f32⟩ : BufTy).Contents (Elt F) → (⟨S1024, .f32⟩ : BufTy).Contents (Elt F))
  :: unary main_v44 main_v45 (broadcastInDim S1024x1 ![0] bcast_S1024_S1024x1_0 : (⟨S1024, .f32⟩ : BufTy).Contents (Elt F) → (⟨S1024x1, .f32⟩ : BufTy).Contents (Elt F))
  :: unary main_v45 main_v46 (broadcastInDim S1024x100000 ![0, 1] bcast_S1024x1_S1024x100000_0_1 : (⟨S1024x1, .f32⟩ : BufTy).Contents (Elt F) → (⟨S1024x100000, .f32⟩ : BufTy).Contents (Elt F))
  :: binary main_v41 main_v46 main_v47 (subf : (⟨S1024x100000, .f32⟩ : BufTy).Contents (Elt F) → (⟨S1024x100000, .f32⟩ : BufTy).Contents (Elt F) → (⟨S1024x100000, .f32⟩ : BufTy).Contents (Elt F))
  :: unary main_v47 main_v48 (Host.exp : (⟨S1024x100000, .f32⟩ : BufTy).Contents (Elt F) → (⟨S1024x100000, .f32⟩ : BufTy).Contents (Elt F))
  :: nullary main_cst_5 (constant S_ .f32 0x00000000#32)
  :: binary main_v48 main_cst_5 main_v49 ((fun x v => Host.reduceAdd x v reducesTo_S1024x100000_S1024_d1 h_S_) : (⟨S1024x100000, .f32⟩ : BufTy).Contents (Elt F) → (⟨S_, .f32⟩ : BufTy).Contents (Elt F) → (⟨S1024, .f32⟩ : BufTy).Contents (Elt F))
  :: unary main_v49 main_v50 (broadcastInDim S1024x1 ![0] bcast_S1024_S1024x1_0 : (⟨S1024, .f32⟩ : BufTy).Contents (Elt F) → (⟨S1024x1, .f32⟩ : BufTy).Contents (Elt F))
  :: unary main_v50 main_v51 (broadcastInDim S1024x100000 ![0, 1] bcast_S1024x1_S1024x100000_0_1 : (⟨S1024x1, .f32⟩ : BufTy).Contents (Elt F) → (⟨S1024x100000, .f32⟩ : BufTy).Contents (Elt F))
  :: binary main_v48 main_v51 main_v52 (Host.divf : (⟨S1024x100000, .f32⟩ : BufTy).Contents (Elt F) → (⟨S1024x100000, .f32⟩ : BufTy).Contents (Elt F) → (⟨S1024x100000, .f32⟩ : BufTy).Contents (Elt F))
  :: [] )
/-- What stretch 4 writes, in order. -/
abbrev W4 : List (Ref sig .tc) :=
  [ main_cst_2, main_v36, main_v37, main_v38, main_v39, main_v40, main_v41, main_cst_3, main_v42, main_cst_4, main_v43, main_v44, main_v45, main_v46, main_v47, main_v48, main_cst_5, main_v49, main_v50, main_v51, main_v52 ]
theorem ops4_sub : (ops4 : List (HloOp τ sig (Elt F))).Forall fun op => op.bufs ⊆ tcRefs τ sig :=
  ⟨nullary_bufs_sub .., unary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem ops4_fresh : (ops4 : List (HloOp τ sig (Elt F))).Forall fun op => op.fresh = ∅ := forall_fresh_of_map rfl
theorem ops4_writes : (ops4 : List (HloOp τ sig (Elt F))).Forall fun op => op.writes ⊆ (W4.map (Proc.devRef (τ := τ) .tc)).toFinset :=
  forall_writes_sub_of_map rfl

/-- Stretch 5 of @main: @main's own operations, 10 of them. -/
abbrev ops5 : List (HloOp τ sig (Elt F)) :=
  ( binary main_v52 main_arg4 main_v53 ((fun l r => Host.dotGeneral dot_S1024x100000_S100000x64_S1024x64_1_0_0_1_n_n none l r) : (⟨S1024x100000, .f32⟩ : BufTy).Contents (Elt F) → (⟨S100000x64, .f32⟩ : BufTy).Contents (Elt F) → (⟨S1024x64, .f32⟩ : BufTy).Contents (Elt F))
  :: unary main_v53 main_v54 (Host.tanh : (⟨S1024x64, .f32⟩ : BufTy).Contents (Elt F) → (⟨S1024x64, .f32⟩ : BufTy).Contents (Elt F))
  :: binary main_v23 main_v54 main_v55 (mulf : (⟨S1024x64, .f32⟩ : BufTy).Contents (Elt F) → (⟨S1024x64, .f32⟩ : BufTy).Contents (Elt F) → (⟨S1024x64, .f32⟩ : BufTy).Contents (Elt F))
  :: binary main_v28 main_v55 main_v56 (addf : (⟨S1024x64, .f32⟩ : BufTy).Contents (Elt F) → (⟨S1024x64, .f32⟩ : BufTy).Contents (Elt F) → (⟨S1024x64, .f32⟩ : BufTy).Contents (Elt F))
  :: unary main_v56 main_v57 (Host.tanh : (⟨S1024x64, .f32⟩ : BufTy).Contents (Elt F) → (⟨S1024x64, .f32⟩ : BufTy).Contents (Elt F))
  :: binary main_v22 main_v57 main_v58 (mulf : (⟨S1024x64, .f32⟩ : BufTy).Contents (Elt F) → (⟨S1024x64, .f32⟩ : BufTy).Contents (Elt F) → (⟨S1024x64, .f32⟩ : BufTy).Contents (Elt F))
  :: nullary main_v59 (iotaInDim S1024 32 0)
  :: unary main_arg15 main_v60 (broadcastInDim S1024 ![] bcast_S_S1024 : (⟨S_, .i32⟩ : BufTy).Contents (Elt F) → (⟨S1024, .i32⟩ : BufTy).Contents (Elt F))
  :: binary main_v60 main_v59 main_v61 (addi : (⟨S1024, .i32⟩ : BufTy).Contents (Elt F) → (⟨S1024, .i32⟩ : BufTy).Contents (Elt F) → (⟨S1024, .i32⟩ : BufTy).Contents (Elt F))
  :: nullary main_c (constantI S_ 32 100000#32)
  :: [] )
/-- What stretch 5 writes, in order. -/
abbrev W5 : List (Ref sig .tc) :=
  [ main_v53, main_v54, main_v55, main_v56, main_v57, main_v58, main_v59, main_v60, main_v61, main_c ]
theorem ops5_sub : (ops5 : List (HloOp τ sig (Elt F))).Forall fun op => op.bufs ⊆ tcRefs τ sig :=
  ⟨binary_bufs_sub .., unary_bufs_sub .., binary_bufs_sub .., binary_bufs_sub .., unary_bufs_sub .., binary_bufs_sub .., nullary_bufs_sub .., unary_bufs_sub .., binary_bufs_sub .., nullary_bufs_sub ..⟩
theorem ops5_fresh : (ops5 : List (HloOp τ sig (Elt F))).Forall fun op => op.fresh = ∅ := forall_fresh_of_map rfl
theorem ops5_writes : (ops5 : List (HloOp τ sig (Elt F))).Forall fun op => op.writes ⊆ (W5.map (Proc.devRef (τ := τ) .tc)).toFinset :=
  forall_writes_sub_of_map rfl

/-- Stretch 6 of @main: the operations of the call main_call2, 21 of them. -/
abbrev ops6 : List (HloOp τ sig (Elt F)) :=
  ( TRef.unary (.of main_c : TRef sig ⟨S_, .i32⟩) (.of main_call2_v0 : TRef sig ⟨S_, .i32⟩) id
  :: TRef.nullary (.of main_call2_c : TRef sig ⟨S_, .i32⟩) (constantI S_ 32 0#32)
  :: TRef.binary (.of main_call2_v0 : TRef sig ⟨S_, .i32⟩) (.of main_call2_c : TRef sig ⟨S_, .i32⟩) (.of main_call2_v1 : TRef sig ⟨S_, .i1⟩) (cmpi .eq)
  :: TRef.nullary (.of main_call2_c_0 : TRef sig ⟨S_, .i32⟩) (constantI S_ 32 1#32)
  :: TRef.ternary (.of main_call2_v1 : TRef sig ⟨S_, .i1⟩) (.of main_call2_c_0 : TRef sig ⟨S_, .i32⟩) (.of main_call2_v0 : TRef sig ⟨S_, .i32⟩) (.of main_call2_v2 : TRef sig ⟨S_, .i32⟩) select
  :: TRef.unary (.of main_call2_v2 : TRef sig ⟨S_, .i32⟩) (.of main_call2_v3 : TRef sig ⟨S1024, .i32⟩) (broadcastInDim S1024 ![] bcast_S_S1024)
  :: TRef.binary (.of main_v61 : TRef sig ⟨S1024, .i32⟩) (.of main_call2_v3 : TRef sig ⟨S1024, .i32⟩) (.of main_call2_v4 : TRef sig ⟨S1024, .i32⟩) Host.remsi
  :: TRef.nullary (.of main_call2_c_1 : TRef sig ⟨S_, .i32⟩) (constantI S_ 32 0#32)
  :: TRef.unary (.of main_call2_c_1 : TRef sig ⟨S_, .i32⟩) (.of main_call2_v5 : TRef sig ⟨S1024, .i32⟩) (broadcastInDim S1024 ![] bcast_S_S1024)
  :: TRef.binary (.of main_call2_v4 : TRef sig ⟨S1024, .i32⟩) (.of main_call2_v5 : TRef sig ⟨S1024, .i32⟩) (.of main_call2_v6 : TRef sig ⟨S1024, .i1⟩) (cmpi .ne)
  :: TRef.nullary (.of main_call2_c_2 : TRef sig ⟨S_, .i32⟩) (constantI S_ 32 0#32)
  :: TRef.unary (.of main_call2_c_2 : TRef sig ⟨S_, .i32⟩) (.of main_call2_v7 : TRef sig ⟨S1024, .i32⟩) (broadcastInDim S1024 ![] bcast_S_S1024)
  :: TRef.binary (.of main_call2_v4 : TRef sig ⟨S1024, .i32⟩) (.of main_call2_v7 : TRef sig ⟨S1024, .i32⟩) (.of main_call2_v8 : TRef sig ⟨S1024, .i1⟩) (cmpi .slt)
  :: TRef.nullary (.of main_call2_c_3 : TRef sig ⟨S_, .i32⟩) (constantI S_ 32 0#32)
  :: TRef.binary (.of main_call2_v2 : TRef sig ⟨S_, .i32⟩) (.of main_call2_c_3 : TRef sig ⟨S_, .i32⟩) (.of main_call2_v9 : TRef sig ⟨S_, .i1⟩) (cmpi .slt)
  :: TRef.unary (.of main_call2_v9 : TRef sig ⟨S_, .i1⟩) (.of main_call2_v10 : TRef sig ⟨S1024, .i1⟩) (broadcastInDim S1024 ![] bcast_S_S1024)
  :: TRef.binary (.of main_call2_v8 : TRef sig ⟨S1024, .i1⟩) (.of main_call2_v10 : TRef sig ⟨S1024, .i1⟩) (.of main_call2_v11 : TRef sig ⟨S1024, .i1⟩) (cmpi .ne)
  :: TRef.binary (.of main_call2_v11 : TRef sig ⟨S1024, .i1⟩) (.of main_call2_v6 : TRef sig ⟨S1024, .i1⟩) (.of main_call2_v12 : TRef sig ⟨S1024, .i1⟩) andi
  :: TRef.unary (.of main_call2_v2 : TRef sig ⟨S_, .i32⟩) (.of main_call2_v13 : TRef sig ⟨S1024, .i32⟩) (broadcastInDim S1024 ![] bcast_S_S1024)
  :: TRef.binary (.of main_call2_v4 : TRef sig ⟨S1024, .i32⟩) (.of main_call2_v13 : TRef sig ⟨S1024, .i32⟩) (.of main_call2_v14 : TRef sig ⟨S1024, .i32⟩) addi
  :: TRef.ternary (.of main_call2_v12 : TRef sig ⟨S1024, .i1⟩) (.of main_call2_v14 : TRef sig ⟨S1024, .i32⟩) (.of main_call2_v4 : TRef sig ⟨S1024, .i32⟩) (.of main_v62 : TRef sig ⟨S1024, .i32⟩) select
  :: [] )
/-- What stretch 6 writes, in order. -/
abbrev W6 : List (Ref sig .tc) :=
  [ main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v62 ]
theorem ops6_sub : (ops6 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem ops6_fresh : (ops6 : List (HloOp τ sig (Elt F))).Forall fun op => op.fresh = ∅ := forall_fresh_of_map rfl
theorem ops6_writes : (ops6 : List (HloOp τ sig (Elt F))).Forall fun op => op.writes ⊆ (W6.map (Proc.devRef (τ := τ) .tc)).toFinset :=
  forall_writes_sub_of_map rfl

/-- Stretch 7 of @main: @main's own operations, 23 of them. -/
abbrev ops7 : List (HloOp τ sig (Elt F)) :=
  ( nullary main_c_6 (constantI S_ 32 0#32)
  :: unary main_c_6 main_v63 (broadcastInDim S1024 ![] bcast_S_S1024 : (⟨S_, .i32⟩ : BufTy).Contents (Elt F) → (⟨S1024, .i32⟩ : BufTy).Contents (Elt F))
  :: binary main_v62 main_v63 main_v64 (cmpi .slt : (⟨S1024, .i32⟩ : BufTy).Contents (Elt F) → (⟨S1024, .i32⟩ : BufTy).Contents (Elt F) → (⟨S1024, .i1⟩ : BufTy).Contents (Elt F))
  :: nullary main_c_7 (constantI S_ 32 100000#32)
  :: unary main_c_7 main_v65 (broadcastInDim S1024 ![] bcast_S_S1024 : (⟨S_, .i32⟩ : BufTy).Contents (Elt F) → (⟨S1024, .i32⟩ : BufTy).Contents (Elt F))
  :: binary main_v62 main_v65 main_v66 (addi : (⟨S1024, .i32⟩ : BufTy).Contents (Elt F) → (⟨S1024, .i32⟩ : BufTy).Contents (Elt F) → (⟨S1024, .i32⟩ : BufTy).Contents (Elt F))
  :: ternary main_v64 main_v66 main_v62 main_v67 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: unary main_v67 main_v68 (broadcastInDim S1024x1 ![0] bcast_S1024_S1024x1_0 : (⟨S1024, .i32⟩ : BufTy).Contents (Elt F) → (⟨S1024x1, .i32⟩ : BufTy).Contents (Elt F))
  :: ternary main_arg3 main_v68 main_v29 main_v69 ((fun x i u => Host.scatter scatter_S100000x10_S1024x1_S1024x10_1_0_0_1 (fun _ b => b) x i u) : (⟨S100000x10, .f32⟩ : BufTy).Contents (Elt F) → (⟨S1024x1, .i32⟩ : BufTy).Contents (Elt F) → (⟨S1024x10, .f32⟩ : BufTy).Contents (Elt F) → (⟨S100000x10, .f32⟩ : BufTy).Contents (Elt F))
  :: nullary main_c_8 (constantI S_ 32 0#32)
  :: unary main_c_8 main_v70 (broadcastInDim S1024 ![] bcast_S_S1024 : (⟨S_, .i32⟩ : BufTy).Contents (Elt F) → (⟨S1024, .i32⟩ : BufTy).Contents (Elt F))
  :: binary main_v62 main_v70 main_v71 (cmpi .slt : (⟨S1024, .i32⟩ : BufTy).Contents (Elt F) → (⟨S1024, .i32⟩ : BufTy).Contents (Elt F) → (⟨S1024, .i1⟩ : BufTy).Contents (Elt F))
  :: nullary main_c_9 (constantI S_ 32 100000#32)
  :: unary main_c_9 main_v72 (broadcastInDim S1024 ![] bcast_S_S1024 : (⟨S_, .i32⟩ : BufTy).Contents (Elt F) → (⟨S1024, .i32⟩ : BufTy).Contents (Elt F))
  :: binary main_v62 main_v72 main_v73 (addi : (⟨S1024, .i32⟩ : BufTy).Contents (Elt F) → (⟨S1024, .i32⟩ : BufTy).Contents (Elt F) → (⟨S1024, .i32⟩ : BufTy).Contents (Elt F))
  :: ternary main_v71 main_v73 main_v62 main_v74 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: unary main_v74 main_v75 (broadcastInDim S1024x1 ![0] bcast_S1024_S1024x1_0 : (⟨S1024, .i32⟩ : BufTy).Contents (Elt F) → (⟨S1024x1, .i32⟩ : BufTy).Contents (Elt F))
  :: ternary main_arg4 main_v75 main_v56 main_v76 ((fun x i u => Host.scatter scatter_S100000x64_S1024x1_S1024x64_1_0_0_1 (fun _ b => b) x i u) : (⟨S100000x64, .f32⟩ : BufTy).Contents (Elt F) → (⟨S1024x1, .i32⟩ : BufTy).Contents (Elt F) → (⟨S1024x64, .f32⟩ : BufTy).Contents (Elt F) → (⟨S100000x64, .f32⟩ : BufTy).Contents (Elt F))
  :: unary main_arg9 main_v77 ((transpose S64x64 [1, 0] · transposes_S64x64_S64x64_1_0) : (⟨S64x64, .f32⟩ : BufTy).Contents (Elt F) → (⟨S64x64, .f32⟩ : BufTy).Contents (Elt F))
  :: binary main_v58 main_v77 main_v78 ((fun l r => Host.dotGeneral dot_S1024x64_S64x64_S1024x64_1_0_0_1_n_n none l r) : (⟨S1024x64, .f32⟩ : BufTy).Contents (Elt F) → (⟨S64x64, .f32⟩ : BufTy).Contents (Elt F) → (⟨S1024x64, .f32⟩ : BufTy).Contents (Elt F))
  :: unary main_arg10 main_v79 (broadcastInDim S1x64 ![1] bcast_S64_S1x64_1 : (⟨S64, .f32⟩ : BufTy).Contents (Elt F) → (⟨S1x64, .f32⟩ : BufTy).Contents (Elt F))
  :: unary main_v79 main_v80 (broadcastInDim S1024x64 ![0, 1] bcast_S1x64_S1024x64_0_1 : (⟨S1x64, .f32⟩ : BufTy).Contents (Elt F) → (⟨S1024x64, .f32⟩ : BufTy).Contents (Elt F))
  :: binary main_v78 main_v80 main_v81 (addf : (⟨S1024x64, .f32⟩ : BufTy).Contents (Elt F) → (⟨S1024x64, .f32⟩ : BufTy).Contents (Elt F) → (⟨S1024x64, .f32⟩ : BufTy).Contents (Elt F))
  :: [] )
/-- What stretch 7 writes, in order. -/
abbrev W7 : List (Ref sig .tc) :=
  [ main_c_6, main_v63, main_v64, main_c_7, main_v65, main_v66, main_v67, main_v68, main_v69, main_c_8, main_v70, main_v71, main_c_9, main_v72, main_v73, main_v74, main_v75, main_v76, main_v77, main_v78, main_v79, main_v80, main_v81 ]
theorem ops7_sub : (ops7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., binary_bufs_sub .., unary_bufs_sub .., unary_bufs_sub .., binary_bufs_sub ..⟩
theorem ops7_fresh : (ops7 : List (HloOp τ sig (Elt F))).Forall fun op => op.fresh = ∅ := forall_fresh_of_map rfl
theorem ops7_writes : (ops7 : List (HloOp τ sig (Elt F))).Forall fun op => op.writes ⊆ (W7.map (Proc.devRef (τ := τ) .tc)).toFinset :=
  forall_writes_sub_of_map rfl

/-- Stretch 8 of @main: the operations of the call main_call3, 3 of them. -/
abbrev ops8 : List (HloOp τ sig (Elt F)) :=
  ( TRef.nullary (.of main_call3_cst : TRef sig ⟨S_, .f32⟩) (constant S_ .f32 0x00000000#32)
  :: TRef.unary (.of main_call3_cst : TRef sig ⟨S_, .f32⟩) (.of main_call3_v0 : TRef sig ⟨S1024x64, .f32⟩) (broadcastInDim S1024x64 ![] bcast_S_S1024x64)
  :: TRef.binary (.of main_v81 : TRef sig ⟨S1024x64, .f32⟩) (.of main_call3_v0 : TRef sig ⟨S1024x64, .f32⟩) (.of main_v82 : TRef sig ⟨S1024x64, .f32⟩) maximumf
  :: [] )
/-- What stretch 8 writes, in order. -/
abbrev W8 : List (Ref sig .tc) :=
  [ main_call3_cst, main_call3_v0, main_v82 ]
theorem ops8_sub : (ops8 : List (HloOp τ sig (Elt F))).Forall fun op => op.bufs ⊆ tcRefs τ sig :=
  ⟨nullary_bufs_sub .., unary_bufs_sub .., binary_bufs_sub ..⟩
theorem ops8_fresh : (ops8 : List (HloOp τ sig (Elt F))).Forall fun op => op.fresh = ∅ := forall_fresh_of_map rfl
theorem ops8_writes : (ops8 : List (HloOp τ sig (Elt F))).Forall fun op => op.writes ⊆ (W8.map (Proc.devRef (τ := τ) .tc)).toFinset :=
  forall_writes_sub_of_map rfl

/-- Stretch 9 of @main: @main's own operations, 25 of them. -/
abbrev ops9 : List (HloOp τ sig (Elt F)) :=
  ( unary main_arg11 main_v83 ((transpose S64x2 [1, 0] · transposes_S2x64_S64x2_1_0) : (⟨S2x64, .f32⟩ : BufTy).Contents (Elt F) → (⟨S64x2, .f32⟩ : BufTy).Contents (Elt F))
  :: binary main_v82 main_v83 main_v84 ((fun l r => Host.dotGeneral dot_S1024x64_S64x2_S1024x2_1_0_0_1_n_n none l r) : (⟨S1024x64, .f32⟩ : BufTy).Contents (Elt F) → (⟨S64x2, .f32⟩ : BufTy).Contents (Elt F) → (⟨S1024x2, .f32⟩ : BufTy).Contents (Elt F))
  :: unary main_arg12 main_v85 (broadcastInDim S1x2 ![1] bcast_S2_S1x2_1 : (⟨S2, .f32⟩ : BufTy).Contents (Elt F) → (⟨S1x2, .f32⟩ : BufTy).Contents (Elt F))
  :: unary main_v85 main_v86 (broadcastInDim S1024x2 ![0, 1] bcast_S1x2_S1024x2_0_1 : (⟨S1x2, .f32⟩ : BufTy).Contents (Elt F) → (⟨S1024x2, .f32⟩ : BufTy).Contents (Elt F))
  :: binary main_v84 main_v86 main_v87 (addf : (⟨S1024x2, .f32⟩ : BufTy).Contents (Elt F) → (⟨S1024x2, .f32⟩ : BufTy).Contents (Elt F) → (⟨S1024x2, .f32⟩ : BufTy).Contents (Elt F))
  :: nullary main_cst_10 (constant S_ .f32 0xFF800000#32)
  :: binary main_v87 main_cst_10 main_v88 ((fun x v => Host.reduce FloatOps.maximumf x v reducesTo_S1024x2_S1024_d1 h_S_) : (⟨S1024x2, .f32⟩ : BufTy).Contents (Elt F) → (⟨S_, .f32⟩ : BufTy).Contents (Elt F) → (⟨S1024, .f32⟩ : BufTy).Contents (Elt F))
  :: nullary main_cst_11 (constant S_ .f32 0xFF800000#32)
  :: unary main_cst_11 main_v89 (broadcastInDim S1024 ![] bcast_S_S1024 : (⟨S_, .f32⟩ : BufTy).Contents (Elt F) → (⟨S1024, .f32⟩ : BufTy).Contents (Elt F))
  :: binary main_v89 main_v88 main_v90 (maximumf : (⟨S1024, .f32⟩ : BufTy).Contents (Elt F) → (⟨S1024, .f32⟩ : BufTy).Contents (Elt F) → (⟨S1024, .f32⟩ : BufTy).Contents (Elt F))
  :: unary main_v90 main_v91 (broadcastInDim S1024x1 ![0] bcast_S1024_S1024x1_0 : (⟨S1024, .f32⟩ : BufTy).Contents (Elt F) → (⟨S1024x1, .f32⟩ : BufTy).Contents (Elt F))
  :: unary main_v91 main_v92 (broadcastInDim S1024x2 ![0, 1] bcast_S1024x1_S1024x2_0_1 : (⟨S1024x1, .f32⟩ : BufTy).Contents (Elt F) → (⟨S1024x2, .f32⟩ : BufTy).Contents (Elt F))
  :: binary main_v87 main_v92 main_v93 (subf : (⟨S1024x2, .f32⟩ : BufTy).Contents (Elt F) → (⟨S1024x2, .f32⟩ : BufTy).Contents (Elt F) → (⟨S1024x2, .f32⟩ : BufTy).Contents (Elt F))
  :: unary main_v93 main_v94 (Host.exp : (⟨S1024x2, .f32⟩ : BufTy).Contents (Elt F) → (⟨S1024x2, .f32⟩ : BufTy).Contents (Elt F))
  :: nullary main_cst_12 (constant S_ .f32 0x00000000#32)
  :: binary main_v94 main_cst_12 main_v95 ((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F))
  :: unary main_v95 main_v96 (broadcastInDim S1024x1 ![0] bcast_S1024_S1024x1_0 : (⟨S1024, .f32⟩ : BufTy).Contents (Elt F) → (⟨S1024x1, .f32⟩ : BufTy).Contents (Elt F))
  :: unary main_v96 main_v97 (broadcastInDim S1024x2 ![0, 1] bcast_S1024x1_S1024x2_0_1 : (⟨S1024x1, .f32⟩ : BufTy).Contents (Elt F) → (⟨S1024x2, .f32⟩ : BufTy).Contents (Elt F))
  :: binary main_v94 main_v97 main_v98 (Host.divf : (⟨S1024x2, .f32⟩ : BufTy).Contents (Elt F) → (⟨S1024x2, .f32⟩ : BufTy).Contents (Elt F) → (⟨S1024x2, .f32⟩ : BufTy).Contents (Elt F))
  :: unary main_arg13 main_v99 ((transpose S64x1 [1, 0] · transposes_S1x64_S64x1_1_0) : (⟨S1x64, .f32⟩ : BufTy).Contents (Elt F) → (⟨S64x1, .f32⟩ : BufTy).Contents (Elt F))
  :: binary main_v82 main_v99 main_v100 ((fun l r => Host.dotGeneral dot_S1024x64_S64x1_S1024x1_1_0_0_1_n_n none l r) : (⟨S1024x64, .f32⟩ : BufTy).Contents (Elt F) → (⟨S64x1, .f32⟩ : BufTy).Contents (Elt F) → (⟨S1024x1, .f32⟩ : BufTy).Contents (Elt F))
  :: unary main_arg14 main_v101 (broadcastInDim S1x1 ![1] bcast_S1_S1x1_1 : (⟨S1, .f32⟩ : BufTy).Contents (Elt F) → (⟨S1x1, .f32⟩ : BufTy).Contents (Elt F))
  :: unary main_v101 main_v102 (broadcastInDim S1024x1 ![0, 1] bcast_S1x1_S1024x1_0_1 : (⟨S1x1, .f32⟩ : BufTy).Contents (Elt F) → (⟨S1024x1, .f32⟩ : BufTy).Contents (Elt F))
  :: binary main_v100 main_v102 main_v103 (addf : (⟨S1024x1, .f32⟩ : BufTy).Contents (Elt F) → (⟨S1024x1, .f32⟩ : BufTy).Contents (Elt F) → (⟨S1024x1, .f32⟩ : BufTy).Contents (Elt F))
  :: nullary main_c_13 (constantI S_ 32 1#32)
  :: [] )
/-- What stretch 9 writes, in order. -/
abbrev W9 : List (Ref sig .tc) :=
  [ main_v83, main_v84, main_v85, main_v86, main_v87, main_cst_10, main_v88, main_cst_11, main_v89, main_v90, main_v91, main_v92, main_v93, main_v94, main_cst_12, main_v95, main_v96, main_v97, main_v98, main_v99, main_v100, main_v101, main_v102, main_v103, main_c_13 ]
theorem ops9_sub : (ops9 : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., unary_bufs_sub .., binary_bufs_sub .., nullary_bufs_sub ..⟩
theorem ops9_fresh : (ops9 : List (HloOp τ sig (Elt F))).Forall fun op => op.fresh = ∅ := forall_fresh_of_map rfl
theorem ops9_writes : (ops9 : List (HloOp τ sig (Elt F))).Forall fun op => op.writes ⊆ (W9.map (Proc.devRef (τ := τ) .tc)).toFinset :=
  forall_writes_sub_of_map rfl

/-- Stretch 10 of @main: @main's own operations, 13 of them. -/
abbrev ops10 : List (HloOp τ sig (Elt F)) :=
  ( nullary main_c_14 (constantI S_ 32 32#32)
  :: binary main_c_13 main_c_14 main_v104 (Host.shrui : (⟨S_, .i32⟩ : BufTy).Contents (Elt F) → (⟨S_, .i32⟩ : BufTy).Contents (Elt F) → (⟨S_, .i32⟩ : BufTy).Contents (Elt F))
  :: unary main_v104 main_v105 (id : (⟨S_, .i32⟩ : BufTy).Contents (Elt F) → (⟨S_, .i32⟩ : BufTy).Contents (Elt F))
  :: unary main_v105 main_v106 (broadcastInDim S1 ![] bcast_S_S1 : (⟨S_, .i32⟩ : BufTy).Contents (Elt F) → (⟨S1, .i32⟩ : BufTy).Contents (Elt F))
  :: nullary main_c_15 (constantI S_ 32 4294967295#32)
  :: binary main_c_13 main_c_15 main_v107 (andi : (⟨S_, .i32⟩ : BufTy).Contents (Elt F) → (⟨S_, .i32⟩ : BufTy).Contents (Elt F) → (⟨S_, .i32⟩ : BufTy).Contents (Elt F))
  :: unary main_v107 main_v108 (id : (⟨S_, .i32⟩ : BufTy).Contents (Elt F) → (⟨S_, .i32⟩ : BufTy).Contents (Elt F))
  :: unary main_v108 main_v109 (broadcastInDim S1 ![] bcast_S_S1 : (⟨S_, .i32⟩ : BufTy).Contents (Elt F) → (⟨S1, .i32⟩ : BufTy).Contents (Elt F))
  :: binary main_v106 main_v109 main_v110 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: nullary main_cst_16 (constant S_ .f32 0x2B8CBCCC#32)
  :: unary main_cst_16 main_v111 (broadcastInDim S1024x2 ![] bcast_S_S1024x2 : (⟨S_, .f32⟩ : BufTy).Contents (Elt F) → (⟨S1024x2, .f32⟩ : BufTy).Contents (Elt F))
  :: binary main_v98 main_v111 main_v112 (addf : (⟨S1024x2, .f32⟩ : BufTy).Contents (Elt F) → (⟨S1024x2, .f32⟩ : BufTy).Contents (Elt F) → (⟨S1024x2, .f32⟩ : BufTy).Contents (Elt F))
  :: unary main_v112 main_v113 (Host.log : (⟨S1024x2, .f32⟩ : BufTy).Contents (Elt F) → (⟨S1024x2, .f32⟩ : BufTy).Contents (Elt F))
  :: [] )
/-- What stretch 10 writes, in order. -/
abbrev W10 : List (Ref sig .tc) :=
  [ main_c_14, main_v104, main_v105, main_v106, main_c_15, main_v107, main_v108, main_v109, main_v110, main_cst_16, main_v111, main_v112, main_v113 ]
theorem ops10_sub : (ops10 : List (HloOp τ sig (Elt F))).Forall fun op => op.bufs ⊆ tcRefs τ sig :=
  ⟨nullary_bufs_sub .., binary_bufs_sub .., unary_bufs_sub .., unary_bufs_sub .., nullary_bufs_sub .., binary_bufs_sub .., unary_bufs_sub .., unary_bufs_sub .., binary_bufs_sub .., nullary_bufs_sub .., unary_bufs_sub .., binary_bufs_sub .., unary_bufs_sub ..⟩
theorem ops10_fresh : (ops10 : List (HloOp τ sig (Elt F))).Forall fun op => op.fresh = ∅ := forall_fresh_of_map rfl
theorem ops10_writes : (ops10 : List (HloOp τ sig (Elt F))).Forall fun op => op.writes ⊆ (W10.map (Proc.devRef (τ := τ) .tc)).toFinset :=
  forall_writes_sub_of_map rfl

/-- Stretch 11 of @main: the operations of the call main_call4, 267 of them. -/
abbrev ops11 : List (HloOp τ sig (Elt F)) :=
  ( TRef.nullary (.of main_call4_cst : TRef sig ⟨S_, .f32⟩) (constant S_ .f32 0x3F800000#32)
  :: TRef.nullary (.of main_call4_cst_0 : TRef sig ⟨S_, .f32⟩) (constant S_ .f32 0x00800000#32)
  :: TRef.unary (.of main_call4_cst : TRef sig ⟨S_, .f32⟩) (.of main_call4_call0_v0 : TRef sig ⟨S_, .f32⟩) id
  :: TRef.unary (.of main_call4_cst_0 : TRef sig ⟨S_, .f32⟩) (.of main_call4_call0_v1 : TRef sig ⟨S1x1, .f32⟩) (broadcastInDim S1x1 ![] bcast_S_S1x1)
  :: TRef.unary (.of main_call4_call0_v0 : TRef sig ⟨S_, .f32⟩) (.of main_call4_call0_v2 : TRef sig ⟨S1x1, .f32⟩) (broadcastInDim S1x1 ![] bcast_S_S1x1)
  :: TRef.unary (.of main_v110 : TRef sig ⟨S2, .i32⟩) (.of main_call4_call0_v3 : TRef sig ⟨S1, .i32⟩) (extractStridedSlice S1 ![0] · slices_S2_S1_0)
  :: TRef.reshape (.of main_call4_call0_v3 : TRef sig ⟨S1, .i32⟩) (.of main_call4_call0_v4 : TRef sig ⟨S_, .i32⟩) (rfl : (.i32 : EltTy) = .i32) shapeCasts_S1_S_
  :: TRef.unary (.of main_v110 : TRef sig ⟨S2, .i32⟩) (.of main_call4_call0_v5 : TRef sig ⟨S1, .i32⟩) (extractStridedSlice S1 ![1] · slices_S2_S1_1)
  :: TRef.reshape (.of main_call4_call0_v5 : TRef sig ⟨S1, .i32⟩) (.of main_call4_call0_v6 : TRef sig ⟨S_, .i32⟩) (rfl : (.i32 : EltTy) = .i32) shapeCasts_S1_S_
  :: TRef.nullary (.of main_call4_call0_v7 : TRef sig ⟨S1024x2, .i64⟩) (iotaInDim S1024x2 64 0)
  :: TRef.nullary (.of main_call4_call0_v8 : TRef sig ⟨S1024x2, .i64⟩) (iotaInDim S1024x2 64 1)
  :: TRef.nullary (.of main_call4_call0_c : TRef sig ⟨S_, .i64⟩) (constantI S_ 64 2#64)
  :: TRef.unary (.of main_call4_call0_c : TRef sig ⟨S_, .i64⟩) (.of main_call4_call0_v9 : TRef sig ⟨S1024x2, .i64⟩) (broadcastInDim S1024x2 ![] bcast_S_S1024x2)
  :: TRef.binary (.of main_call4_call0_v9 : TRef sig ⟨S1024x2, .i64⟩) (.of main_call4_call0_v7 : TRef sig ⟨S1024x2, .i64⟩) (.of main_call4_call0_v10 : TRef sig ⟨S1024x2, .i64⟩) muli
  :: TRef.nullary (.of main_call4_call0_c_0 : TRef sig ⟨S_, .i64⟩) (constantI S_ 64 1#64)
  :: TRef.unary (.of main_call4_call0_c_0 : TRef sig ⟨S_, .i64⟩) (.of main_call4_call0_v11 : TRef sig ⟨S1024x2, .i64⟩) (broadcastInDim S1024x2 ![] bcast_S_S1024x2)
  :: TRef.binary (.of main_call4_call0_v11 : TRef sig ⟨S1024x2, .i64⟩) (.of main_call4_call0_v8 : TRef sig ⟨S1024x2, .i64⟩) (.of main_call4_call0_v12 : TRef sig ⟨S1024x2, .i64⟩) muli
  :: TRef.binary (.of main_call4_call0_v10 : TRef sig ⟨S1024x2, .i64⟩) (.of main_call4_call0_v12 : TRef sig ⟨S1024x2, .i64⟩) (.of main_call4_call0_v13 : TRef sig ⟨S1024x2, .i64⟩) addi
  :: TRef.nullary (.of main_call4_call0_c_1 : TRef sig ⟨S_, .i64⟩) (constantI S_ 64 32#64)
  :: TRef.unary (.of main_call4_call0_c_1 : TRef sig ⟨S_, .i64⟩) (.of main_call4_call0_v14 : TRef sig ⟨S1024x2, .i64⟩) (broadcastInDim S1024x2 ![] bcast_S_S1024x2)
  :: TRef.binary (.of main_call4_call0_v13 : TRef sig ⟨S1024x2, .i64⟩) (.of main_call4_call0_v14 : TRef sig ⟨S1024x2, .i64⟩) (.of main_call4_call0_v15 : TRef sig ⟨S1024x2, .i64⟩) Host.shrui
  :: TRef.unary (.of main_call4_call0_v13 : TRef sig ⟨S1024x2, .i64⟩) (.of main_call4_call0_v16 : TRef sig ⟨S1024x2, .i32⟩) (trunci 32 · natLt_32_64)
  :: TRef.unary (.of main_call4_call0_v15 : TRef sig ⟨S1024x2, .i64⟩) (.of main_call4_call0_v17 : TRef sig ⟨S1024x2, .i32⟩) (trunci 32 · natLt_32_64)
  :: TRef.binary (.of main_call4_call0_v4 : TRef sig ⟨S_, .i32⟩) (.of main_call4_call0_v6 : TRef sig ⟨S_, .i32⟩) (.of main_call4_call0_call0_v0 : TRef sig ⟨S_, .i32⟩) xori
  :: TRef.nullary (.of main_call4_call0_call0_c : TRef sig ⟨S_, .i32⟩) (constantI S_ 32 466688986#32)
  :: TRef.binary (.of main_call4_call0_call0_v0 : TRef sig ⟨S_, .i32⟩) (.of main_call4_call0_call0_c : TRef sig ⟨S_, .i32⟩) (.of main_call4_call0_call0_v1 : TRef sig ⟨S_, .i32⟩) xori
  :: TRef.unary (.of main_call4_call0_v4 : TRef sig ⟨S_, .i32⟩) (.of main_call4_call0_call0_v2 : TRef sig ⟨S1024x2, .i32⟩) (broadcastInDim S1024x2 ![] bcast_S_S1024x2)
  :: TRef.binary (.of main_call4_call0_v17 : TRef sig ⟨S1024x2, .i32⟩) (.of main_call4_call0_call0_v2 : TRef sig ⟨S1024x2, .i32⟩) (.of main_call4_call0_call0_v3 : TRef sig ⟨S1024x2, .i32⟩) addi
  :: TRef.unary (.of main_call4_call0_v6 : TRef sig ⟨S_, .i32⟩) (.of main_call4_call0_call0_v4 : TRef sig ⟨S1024x2, .i32⟩) (broadcastInDim S1024x2 ![] bcast_S_S1024x2)
  :: TRef.binary (.of main_call4_call0_v16 : TRef sig ⟨S1024x2, .i32⟩) (.of main_call4_call0_call0_v4 : TRef sig ⟨S1024x2, .i32⟩) (.of main_call4_call0_call0_v5 : TRef sig ⟨S1024x2, .i32⟩) addi
  :: TRef.binary (.of main_call4_call0_call0_v3 : TRef sig ⟨S1024x2, .i32⟩) (.of main_call4_call0_call0_v5 : TRef sig ⟨S1024x2, .i32⟩) (.of main_call4_call0_call0_v6 : TRef sig ⟨S1024x2, .i32⟩) addi
  :: TRef.nullary (.of main_call4_call0_call0_c_0 : TRef sig ⟨S_, .i32⟩) (constantI S_ 32 13#32)
  :: TRef.unary (.of main_call4_call0_call0_c_0 : TRef sig ⟨S_, .i32⟩) (.of main_call4_call0_call0_v7 : TRef sig ⟨S1024x2, .i32⟩) (broadcastInDim S1024x2 ![] bcast_S_S1024x2)
  :: TRef.binary (.of main_call4_call0_call0_v5 : TRef sig ⟨S1024x2, .i32⟩) (.of main_call4_call0_call0_v7 : TRef sig ⟨S1024x2, .i32⟩) (.of main_call4_call0_call0_v8 : TRef sig ⟨S1024x2, .i32⟩) Host.shli
  :: TRef.nullary (.of main_call4_call0_call0_c_1 : TRef sig ⟨S_, .i32⟩) (constantI S_ 32 19#32)
  :: TRef.unary (.of main_call4_call0_call0_c_1 : TRef sig ⟨S_, .i32⟩) (.of main_call4_call0_call0_v9 : TRef sig ⟨S1024x2, .i32⟩) (broadcastInDim S1024x2 ![] bcast_S_S1024x2)
  :: TRef.binary (.of main_call4_call0_call0_v5 : TRef sig ⟨S1024x2, .i32⟩) (.of main_call4_call0_call0_v9 : TRef sig ⟨S1024x2, .i32⟩) (.of main_call4_call0_call0_v10 : TRef sig ⟨S1024x2, .i32⟩) Host.shrui
  :: TRef.binary (.of main_call4_call0_call0_v8 : TRef sig ⟨S1024x2, .i32⟩) (.of main_call4_call0_call0_v10 : TRef sig ⟨S1024x2, .i32⟩) (.of main_call4_call0_call0_v11 : TRef sig ⟨S1024x2, .i32⟩) ori
  :: TRef.binary (.of main_call4_call0_call0_v6 : TRef sig ⟨S1024x2, .i32⟩) (.of main_call4_call0_call0_v11 : TRef sig ⟨S1024x2, .i32⟩) (.of main_call4_call0_call0_v12 : TRef sig ⟨S1024x2, .i32⟩) xori
  :: TRef.binary (.of main_call4_call0_call0_v6 : TRef sig ⟨S1024x2, .i32⟩) (.of main_call4_call0_call0_v12 : TRef sig ⟨S1024x2, .i32⟩) (.of main_call4_call0_call0_v13 : TRef sig ⟨S1024x2, .i32⟩) addi
  :: TRef.nullary (.of main_call4_call0_call0_c_2 : TRef sig ⟨S_, .i32⟩) (constantI S_ 32 15#32)
  :: TRef.unary (.of main_call4_call0_call0_c_2 : TRef sig ⟨S_, .i32⟩) (.of main_call4_call0_call0_v14 : TRef sig ⟨S1024x2, .i32⟩) (broadcastInDim S1024x2 ![] bcast_S_S1024x2)
  :: TRef.binary (.of main_call4_call0_call0_v12 : TRef sig ⟨S1024x2, .i32⟩) (.of main_call4_call0_call0_v14 : TRef sig ⟨S1024x2, .i32⟩) (.of main_call4_call0_call0_v15 : TRef sig ⟨S1024x2, .i32⟩) Host.shli
  :: TRef.nullary (.of main_call4_call0_call0_c_3 : TRef sig ⟨S_, .i32⟩) (constantI S_ 32 17#32)
  :: TRef.unary (.of main_call4_call0_call0_c_3 : TRef sig ⟨S_, .i32⟩) (.of main_call4_call0_call0_v16 : TRef sig ⟨S1024x2, .i32⟩) (broadcastInDim S1024x2 ![] bcast_S_S1024x2)
  :: TRef.binary (.of main_call4_call0_call0_v12 : TRef sig ⟨S1024x2, .i32⟩) (.of main_call4_call0_call0_v16 : TRef sig ⟨S1024x2, .i32⟩) (.of main_call4_call0_call0_v17 : TRef sig ⟨S1024x2, .i32⟩) Host.shrui
  :: TRef.binary (.of main_call4_call0_call0_v15 : TRef sig ⟨S1024x2, .i32⟩) (.of main_call4_call0_call0_v17 : TRef sig ⟨S1024x2, .i32⟩) (.of main_call4_call0_call0_v18 : TRef sig ⟨S1024x2, .i32⟩) ori
  :: TRef.binary (.of main_call4_call0_call0_v13 : TRef sig ⟨S1024x2, .i32⟩) (.of main_call4_call0_call0_v18 : TRef sig ⟨S1024x2, .i32⟩) (.of main_call4_call0_call0_v19 : TRef sig ⟨S1024x2, .i32⟩) xori
  :: TRef.binary (.of main_call4_call0_call0_v13 : TRef sig ⟨S1024x2, .i32⟩) (.of main_call4_call0_call0_v19 : TRef sig ⟨S1024x2, .i32⟩) (.of main_call4_call0_call0_v20 : TRef sig ⟨S1024x2, .i32⟩) addi
  :: TRef.nullary (.of main_call4_call0_call0_c_4 : TRef sig ⟨S_, .i32⟩) (constantI S_ 32 26#32)
  :: TRef.unary (.of main_call4_call0_call0_c_4 : TRef sig ⟨S_, .i32⟩) (.of main_call4_call0_call0_v21 : TRef sig ⟨S1024x2, .i32⟩) (broadcastInDim S1024x2 ![] bcast_S_S1024x2)
  :: TRef.binary (.of main_call4_call0_call0_v19 : TRef sig ⟨S1024x2, .i32⟩) (.of main_call4_call0_call0_v21 : TRef sig ⟨S1024x2, .i32⟩) (.of main_call4_call0_call0_v22 : TRef sig ⟨S1024x2, .i32⟩) Host.shli
  :: TRef.nullary (.of main_call4_call0_call0_c_5 : TRef sig ⟨S_, .i32⟩) (constantI S_ 32 6#32)
  :: TRef.unary (.of main_call4_call0_call0_c_5 : TRef sig ⟨S_, .i32⟩) (.of main_call4_call0_call0_v23 : TRef sig ⟨S1024x2, .i32⟩) (broadcastInDim S1024x2 ![] bcast_S_S1024x2)
  :: TRef.binary (.of main_call4_call0_call0_v19 : TRef sig ⟨S1024x2, .i32⟩) (.of main_call4_call0_call0_v23 : TRef sig ⟨S1024x2, .i32⟩) (.of main_call4_call0_call0_v24 : TRef sig ⟨S1024x2, .i32⟩) Host.shrui
  :: TRef.binary (.of main_call4_call0_call0_v22 : TRef sig ⟨S1024x2, .i32⟩) (.of main_call4_call0_call0_v24 : TRef sig ⟨S1024x2, .i32⟩) (.of main_call4_call0_call0_v25 : TRef sig ⟨S1024x2, .i32⟩) ori
  :: TRef.binary (.of main_call4_call0_call0_v20 : TRef sig ⟨S1024x2, .i32⟩) (.of main_call4_call0_call0_v25 : TRef sig ⟨S1024x2, .i32⟩) (.of main_call4_call0_call0_v26 : TRef sig ⟨S1024x2, .i32⟩) xori
  :: TRef.binary (.of main_call4_call0_call0_v20 : TRef sig ⟨S1024x2, .i32⟩) (.of main_call4_call0_call0_v26 : TRef sig ⟨S1024x2, .i32⟩) (.of main_call4_call0_call0_v27 : TRef sig ⟨S1024x2, .i32⟩) addi
  :: TRef.nullary (.of main_call4_call0_call0_c_6 : TRef sig ⟨S_, .i32⟩) (constantI S_ 32 6#32)
  :: TRef.unary (.of main_call4_call0_call0_c_6 : TRef sig ⟨S_, .i32⟩) (.of main_call4_call0_call0_v28 : TRef sig ⟨S1024x2, .i32⟩) (broadcastInDim S1024x2 ![] bcast_S_S1024x2)
  :: TRef.binary (.of main_call4_call0_call0_v26 : TRef sig ⟨S1024x2, .i32⟩) (.of main_call4_call0_call0_v28 : TRef sig ⟨S1024x2, .i32⟩) (.of main_call4_call0_call0_v29 : TRef sig ⟨S1024x2, .i32⟩) Host.shli
  :: TRef.nullary (.of main_call4_call0_call0_c_7 : TRef sig ⟨S_, .i32⟩) (constantI S_ 32 26#32)
  :: TRef.unary (.of main_call4_call0_call0_c_7 : TRef sig ⟨S_, .i32⟩) (.of main_call4_call0_call0_v30 : TRef sig ⟨S1024x2, .i32⟩) (broadcastInDim S1024x2 ![] bcast_S_S1024x2)
  :: TRef.binary (.of main_call4_call0_call0_v26 : TRef sig ⟨S1024x2, .i32⟩) (.of main_call4_call0_call0_v30 : TRef sig ⟨S1024x2, .i32⟩) (.of main_call4_call0_call0_v31 : TRef sig ⟨S1024x2, .i32⟩) Host.shrui
  :: TRef.binary (.of main_call4_call0_call0_v29 : TRef sig ⟨S1024x2, .i32⟩) (.of main_call4_call0_call0_v31 : TRef sig ⟨S1024x2, .i32⟩) (.of main_call4_call0_call0_v32 : TRef sig ⟨S1024x2, .i32⟩) ori
  :: TRef.binary (.of main_call4_call0_call0_v27 : TRef sig ⟨S1024x2, .i32⟩) (.of main_call4_call0_call0_v32 : TRef sig ⟨S1024x2, .i32⟩) (.of main_call4_call0_call0_v33 : TRef sig ⟨S1024x2, .i32⟩) xori
  :: TRef.unary (.of main_call4_call0_v6 : TRef sig ⟨S_, .i32⟩) (.of main_call4_call0_call0_v34 : TRef sig ⟨S1024x2, .i32⟩) (broadcastInDim S1024x2 ![] bcast_S_S1024x2)
  :: TRef.binary (.of main_call4_call0_call0_v27 : TRef sig ⟨S1024x2, .i32⟩) (.of main_call4_call0_call0_v34 : TRef sig ⟨S1024x2, .i32⟩) (.of main_call4_call0_call0_v35 : TRef sig ⟨S1024x2, .i32⟩) addi
  :: TRef.unary (.of main_call4_call0_call0_v1 : TRef sig ⟨S_, .i32⟩) (.of main_call4_call0_call0_v36 : TRef sig ⟨S1024x2, .i32⟩) (broadcastInDim S1024x2 ![] bcast_S_S1024x2)
  :: TRef.binary (.of main_call4_call0_call0_v33 : TRef sig ⟨S1024x2, .i32⟩) (.of main_call4_call0_call0_v36 : TRef sig ⟨S1024x2, .i32⟩) (.of main_call4_call0_call0_v37 : TRef sig ⟨S1024x2, .i32⟩) addi
  :: TRef.nullary (.of main_call4_call0_call0_c_8 : TRef sig ⟨S_, .i32⟩) (constantI S_ 32 1#32)
  :: TRef.unary (.of main_call4_call0_call0_c_8 : TRef sig ⟨S_, .i32⟩) (.of main_call4_call0_call0_v38 : TRef sig ⟨S1024x2, .i32⟩) (broadcastInDim S1024x2 ![] bcast_S_S1024x2)
  :: TRef.binary (.of main_call4_call0_call0_v37 : TRef sig ⟨S1024x2, .i32⟩) (.of main_call4_call0_call0_v38 : TRef sig ⟨S1024x2, .i32⟩) (.of main_call4_call0_call0_v39 : TRef sig ⟨S1024x2, .i32⟩) addi
  :: TRef.binary (.of main_call4_call0_call0_v35 : TRef sig ⟨S1024x2, .i32⟩) (.of main_call4_call0_call0_v39 : TRef sig ⟨S1024x2, .i32⟩) (.of main_call4_call0_call0_v40 : TRef sig ⟨S1024x2, .i32⟩) addi
  :: TRef.nullary (.of main_call4_call0_call0_c_9 : TRef sig ⟨S_, .i32⟩) (constantI S_ 32 17#32)
  :: TRef.unary (.of main_call4_call0_call0_c_9 : TRef sig ⟨S_, .i32⟩) (.of main_call4_call0_call0_v41 : TRef sig ⟨S1024x2, .i32⟩) (broadcastInDim S1024x2 ![] bcast_S_S1024x2)
  :: TRef.binary (.of main_call4_call0_call0_v39 : TRef sig ⟨S1024x2, .i32⟩) (.of main_call4_call0_call0_v41 : TRef sig ⟨S1024x2, .i32⟩) (.of main_call4_call0_call0_v42 : TRef sig ⟨S1024x2, .i32⟩) Host.shli
  :: TRef.nullary (.of main_call4_call0_call0_c_10 : TRef sig ⟨S_, .i32⟩) (constantI S_ 32 15#32)
  :: TRef.unary (.of main_call4_call0_call0_c_10 : TRef sig ⟨S_, .i32⟩) (.of main_call4_call0_call0_v43 : TRef sig ⟨S1024x2, .i32⟩) (broadcastInDim S1024x2 ![] bcast_S_S1024x2)
  :: TRef.binary (.of main_call4_call0_call0_v39 : TRef sig ⟨S1024x2, .i32⟩) (.of main_call4_call0_call0_v43 : TRef sig ⟨S1024x2, .i32⟩) (.of main_call4_call0_call0_v44 : TRef sig ⟨S1024x2, .i32⟩) Host.shrui
  :: TRef.binary (.of main_call4_call0_call0_v42 : TRef sig ⟨S1024x2, .i32⟩) (.of main_call4_call0_call0_v44 : TRef sig ⟨S1024x2, .i32⟩) (.of main_call4_call0_call0_v45 : TRef sig ⟨S1024x2, .i32⟩) ori
  :: TRef.binary (.of main_call4_call0_call0_v40 : TRef sig ⟨S1024x2, .i32⟩) (.of main_call4_call0_call0_v45 : TRef sig ⟨S1024x2, .i32⟩) (.of main_call4_call0_call0_v46 : TRef sig ⟨S1024x2, .i32⟩) xori
  :: TRef.binary (.of main_call4_call0_call0_v40 : TRef sig ⟨S1024x2, .i32⟩) (.of main_call4_call0_call0_v46 : TRef sig ⟨S1024x2, .i32⟩) (.of main_call4_call0_call0_v47 : TRef sig ⟨S1024x2, .i32⟩) addi
  :: TRef.nullary (.of main_call4_call0_call0_c_11 : TRef sig ⟨S_, .i32⟩) (constantI S_ 32 29#32)
  :: TRef.unary (.of main_call4_call0_call0_c_11 : TRef sig ⟨S_, .i32⟩) (.of main_call4_call0_call0_v48 : TRef sig ⟨S1024x2, .i32⟩) (broadcastInDim S1024x2 ![] bcast_S_S1024x2)
  :: TRef.binary (.of main_call4_call0_call0_v46 : TRef sig ⟨S1024x2, .i32⟩) (.of main_call4_call0_call0_v48 : TRef sig ⟨S1024x2, .i32⟩) (.of main_call4_call0_call0_v49 : TRef sig ⟨S1024x2, .i32⟩) Host.shli
  :: TRef.nullary (.of main_call4_call0_call0_c_12 : TRef sig ⟨S_, .i32⟩) (constantI S_ 32 3#32)
  :: TRef.unary (.of main_call4_call0_call0_c_12 : TRef sig ⟨S_, .i32⟩) (.of main_call4_call0_call0_v50 : TRef sig ⟨S1024x2, .i32⟩) (broadcastInDim S1024x2 ![] bcast_S_S1024x2)
  :: TRef.binary (.of main_call4_call0_call0_v46 : TRef sig ⟨S1024x2, .i32⟩) (.of main_call4_call0_call0_v50 : TRef sig ⟨S1024x2, .i32⟩) (.of main_call4_call0_call0_v51 : TRef sig ⟨S1024x2, .i32⟩) Host.shrui
  :: TRef.binary (.of main_call4_call0_call0_v49 : TRef sig ⟨S1024x2, .i32⟩) (.of main_call4_call0_call0_v51 : TRef sig ⟨S1024x2, .i32⟩) (.of main_call4_call0_call0_v52 : TRef sig ⟨S1024x2, .i32⟩) ori
  :: TRef.binary (.of main_call4_call0_call0_v47 : TRef sig ⟨S1024x2, .i32⟩) (.of main_call4_call0_call0_v52 : TRef sig ⟨S1024x2, .i32⟩) (.of main_call4_call0_call0_v53 : TRef sig ⟨S1024x2, .i32⟩) xori
  :: TRef.binary (.of main_call4_call0_call0_v47 : TRef sig ⟨S1024x2, .i32⟩) (.of main_call4_call0_call0_v53 : TRef sig ⟨S1024x2, .i32⟩) (.of main_call4_call0_call0_v54 : TRef sig ⟨S1024x2, .i32⟩) addi
  :: TRef.nullary (.of main_call4_call0_call0_c_13 : TRef sig ⟨S_, .i32⟩) (constantI S_ 32 16#32)
  :: TRef.unary (.of main_call4_call0_call0_c_13 : TRef sig ⟨S_, .i32⟩) (.of main_call4_call0_call0_v55 : TRef sig ⟨S1024x2, .i32⟩) (broadcastInDim S1024x2 ![] bcast_S_S1024x2)
  :: TRef.binary (.of main_call4_call0_call0_v53 : TRef sig ⟨S1024x2, .i32⟩) (.of main_call4_call0_call0_v55 : TRef sig ⟨S1024x2, .i32⟩) (.of main_call4_call0_call0_v56 : TRef sig ⟨S1024x2, .i32⟩) Host.shli
  :: TRef.nullary (.of main_call4_call0_call0_c_14 : TRef sig ⟨S_, .i32⟩) (constantI S_ 32 16#32)
  :: TRef.unary (.of main_call4_call0_call0_c_14 : TRef sig ⟨S_, .i32⟩) (.of main_call4_call0_call0_v57 : TRef sig ⟨S1024x2, .i32⟩) (broadcastInDim S1024x2 ![] bcast_S_S1024x2)
  :: TRef.binary (.of main_call4_call0_call0_v53 : TRef sig ⟨S1024x2, .i32⟩) (.of main_call4_call0_call0_v57 : TRef sig ⟨S1024x2, .i32⟩) (.of main_call4_call0_call0_v58 : TRef sig ⟨S1024x2, .i32⟩) Host.shrui
  :: TRef.binary (.of main_call4_call0_call0_v56 : TRef sig ⟨S1024x2, .i32⟩) (.of main_call4_call0_call0_v58 : TRef sig ⟨S1024x2, .i32⟩) (.of main_call4_call0_call0_v59 : TRef sig ⟨S1024x2, .i32⟩) ori
  :: TRef.binary (.of main_call4_call0_call0_v54 : TRef sig ⟨S1024x2, .i32⟩) (.of main_call4_call0_call0_v59 : TRef sig ⟨S1024x2, .i32⟩) (.of main_call4_call0_call0_v60 : TRef sig ⟨S1024x2, .i32⟩) xori
  :: TRef.binary (.of main_call4_call0_call0_v54 : TRef sig ⟨S1024x2, .i32⟩) (.of main_call4_call0_call0_v60 : TRef sig ⟨S1024x2, .i32⟩) (.of main_call4_call0_call0_v61 : TRef sig ⟨S1024x2, .i32⟩) addi
  :: TRef.nullary (.of main_call4_call0_call0_c_15 : TRef sig ⟨S_, .i32⟩) (constantI S_ 32 24#32)
  :: TRef.unary (.of main_call4_call0_call0_c_15 : TRef sig ⟨S_, .i32⟩) (.of main_call4_call0_call0_v62 : TRef sig ⟨S1024x2, .i32⟩) (broadcastInDim S1024x2 ![] bcast_S_S1024x2)
  :: TRef.binary (.of main_call4_call0_call0_v60 : TRef sig ⟨S1024x2, .i32⟩) (.of main_call4_call0_call0_v62 : TRef sig ⟨S1024x2, .i32⟩) (.of main_call4_call0_call0_v63 : TRef sig ⟨S1024x2, .i32⟩) Host.shli
  :: TRef.nullary (.of main_call4_call0_call0_c_16 : TRef sig ⟨S_, .i32⟩) (constantI S_ 32 8#32)
  :: TRef.unary (.of main_call4_call0_call0_c_16 : TRef sig ⟨S_, .i32⟩) (.of main_call4_call0_call0_v64 : TRef sig ⟨S1024x2, .i32⟩) (broadcastInDim S1024x2 ![] bcast_S_S1024x2)
  :: TRef.binary (.of main_call4_call0_call0_v60 : TRef sig ⟨S1024x2, .i32⟩) (.of main_call4_call0_call0_v64 : TRef sig ⟨S1024x2, .i32⟩) (.of main_call4_call0_call0_v65 : TRef sig ⟨S1024x2, .i32⟩) Host.shrui
  :: TRef.binary (.of main_call4_call0_call0_v63 : TRef sig ⟨S1024x2, .i32⟩) (.of main_call4_call0_call0_v65 : TRef sig ⟨S1024x2, .i32⟩) (.of main_call4_call0_call0_v66 : TRef sig ⟨S1024x2, .i32⟩) ori
  :: TRef.binary (.of main_call4_call0_call0_v61 : TRef sig ⟨S1024x2, .i32⟩) (.of main_call4_call0_call0_v66 : TRef sig ⟨S1024x2, .i32⟩) (.of main_call4_call0_call0_v67 : TRef sig ⟨S1024x2, .i32⟩) xori
  :: TRef.unary (.of main_call4_call0_call0_v1 : TRef sig ⟨S_, .i32⟩) (.of main_call4_call0_call0_v68 : TRef sig ⟨S1024x2, .i32⟩) (broadcastInDim S1024x2 ![] bcast_S_S1024x2)
  :: TRef.binary (.of main_call4_call0_call0_v61 : TRef sig ⟨S1024x2, .i32⟩) (.of main_call4_call0_call0_v68 : TRef sig ⟨S1024x2, .i32⟩) (.of main_call4_call0_call0_v69 : TRef sig ⟨S1024x2, .i32⟩) addi
  :: TRef.unary (.of main_call4_call0_v4 : TRef sig ⟨S_, .i32⟩) (.of main_call4_call0_call0_v70 : TRef sig ⟨S1024x2, .i32⟩) (broadcastInDim S1024x2 ![] bcast_S_S1024x2)
  :: TRef.binary (.of main_call4_call0_call0_v67 : TRef sig ⟨S1024x2, .i32⟩) (.of main_call4_call0_call0_v70 : TRef sig ⟨S1024x2, .i32⟩) (.of main_call4_call0_call0_v71 : TRef sig ⟨S1024x2, .i32⟩) addi
  :: TRef.nullary (.of main_call4_call0_call0_c_17 : TRef sig ⟨S_, .i32⟩) (constantI S_ 32 2#32)
  :: TRef.unary (.of main_call4_call0_call0_c_17 : TRef sig ⟨S_, .i32⟩) (.of main_call4_call0_call0_v72 : TRef sig ⟨S1024x2, .i32⟩) (broadcastInDim S1024x2 ![] bcast_S_S1024x2)
  :: TRef.binary (.of main_call4_call0_call0_v71 : TRef sig ⟨S1024x2, .i32⟩) (.of main_call4_call0_call0_v72 : TRef sig ⟨S1024x2, .i32⟩) (.of main_call4_call0_call0_v73 : TRef sig ⟨S1024x2, .i32⟩) addi
  :: TRef.binary (.of main_call4_call0_call0_v69 : TRef sig ⟨S1024x2, .i32⟩) (.of main_call4_call0_call0_v73 : TRef sig ⟨S1024x2, .i32⟩) (.of main_call4_call0_call0_v74 : TRef sig ⟨S1024x2, .i32⟩) addi
  :: TRef.nullary (.of main_call4_call0_call0_c_18 : TRef sig ⟨S_, .i32⟩) (constantI S_ 32 13#32)
  :: TRef.unary (.of main_call4_call0_call0_c_18 : TRef sig ⟨S_, .i32⟩) (.of main_call4_call0_call0_v75 : TRef sig ⟨S1024x2, .i32⟩) (broadcastInDim S1024x2 ![] bcast_S_S1024x2)
  :: TRef.binary (.of main_call4_call0_call0_v73 : TRef sig ⟨S1024x2, .i32⟩) (.of main_call4_call0_call0_v75 : TRef sig ⟨S1024x2, .i32⟩) (.of main_call4_call0_call0_v76 : TRef sig ⟨S1024x2, .i32⟩) Host.shli
  :: TRef.nullary (.of main_call4_call0_call0_c_19 : TRef sig ⟨S_, .i32⟩) (constantI S_ 32 19#32)
  :: TRef.unary (.of main_call4_call0_call0_c_19 : TRef sig ⟨S_, .i32⟩) (.of main_call4_call0_call0_v77 : TRef sig ⟨S1024x2, .i32⟩) (broadcastInDim S1024x2 ![] bcast_S_S1024x2)
  :: TRef.binary (.of main_call4_call0_call0_v73 : TRef sig ⟨S1024x2, .i32⟩) (.of main_call4_call0_call0_v77 : TRef sig ⟨S1024x2, .i32⟩) (.of main_call4_call0_call0_v78 : TRef sig ⟨S1024x2, .i32⟩) Host.shrui
  :: TRef.binary (.of main_call4_call0_call0_v76 : TRef sig ⟨S1024x2, .i32⟩) (.of main_call4_call0_call0_v78 : TRef sig ⟨S1024x2, .i32⟩) (.of main_call4_call0_call0_v79 : TRef sig ⟨S1024x2, .i32⟩) ori
  :: TRef.binary (.of main_call4_call0_call0_v74 : TRef sig ⟨S1024x2, .i32⟩) (.of main_call4_call0_call0_v79 : TRef sig ⟨S1024x2, .i32⟩) (.of main_call4_call0_call0_v80 : TRef sig ⟨S1024x2, .i32⟩) xori
  :: TRef.binary (.of main_call4_call0_call0_v74 : TRef sig ⟨S1024x2, .i32⟩) (.of main_call4_call0_call0_v80 : TRef sig ⟨S1024x2, .i32⟩) (.of main_call4_call0_call0_v81 : TRef sig ⟨S1024x2, .i32⟩) addi
  :: TRef.nullary (.of main_call4_call0_call0_c_20 : TRef sig ⟨S_, .i32⟩) (constantI S_ 32 15#32)
  :: TRef.unary (.of main_call4_call0_call0_c_20 : TRef sig ⟨S_, .i32⟩) (.of main_call4_call0_call0_v82 : TRef sig ⟨S1024x2, .i32⟩) (broadcastInDim S1024x2 ![] bcast_S_S1024x2)
  :: TRef.binary (.of main_call4_call0_call0_v80 : TRef sig ⟨S1024x2, .i32⟩) (.of main_call4_call0_call0_v82 : TRef sig ⟨S1024x2, .i32⟩) (.of main_call4_call0_call0_v83 : TRef sig ⟨S1024x2, .i32⟩) Host.shli
  :: TRef.nullary (.of main_call4_call0_call0_c_21 : TRef sig ⟨S_, .i32⟩) (constantI S_ 32 17#32)
  :: TRef.unary (.of main_call4_call0_call0_c_21 : TRef sig ⟨S_, .i32⟩) (.of main_call4_call0_call0_v84 : TRef sig ⟨S1024x2, .i32⟩) (broadcastInDim S1024x2 ![] bcast_S_S1024x2)
  :: TRef.binary (.of main_call4_call0_call0_v80 : TRef sig ⟨S1024x2, .i32⟩) (.of main_call4_call0_call0_v84 : TRef sig ⟨S1024x2, .i32⟩) (.of main_call4_call0_call0_v85 : TRef sig ⟨S1024x2, .i32⟩) Host.shrui
  :: TRef.binary (.of main_call4_call0_call0_v83 : TRef sig ⟨S1024x2, .i32⟩) (.of main_call4_call0_call0_v85 : TRef sig ⟨S1024x2, .i32⟩) (.of main_call4_call0_call0_v86 : TRef sig ⟨S1024x2, .i32⟩) ori
  :: TRef.binary (.of main_call4_call0_call0_v81 : TRef sig ⟨S1024x2, .i32⟩) (.of main_call4_call0_call0_v86 : TRef sig ⟨S1024x2, .i32⟩) (.of main_call4_call0_call0_v87 : TRef sig ⟨S1024x2, .i32⟩) xori
  :: TRef.binary (.of main_call4_call0_call0_v81 : TRef sig ⟨S1024x2, .i32⟩) (.of main_call4_call0_call0_v87 : TRef sig ⟨S1024x2, .i32⟩) (.of main_call4_call0_call0_v88 : TRef sig ⟨S1024x2, .i32⟩) addi
  :: TRef.nullary (.of main_call4_call0_call0_c_22 : TRef sig ⟨S_, .i32⟩) (constantI S_ 32 26#32)
  :: TRef.unary (.of main_call4_call0_call0_c_22 : TRef sig ⟨S_, .i32⟩) (.of main_call4_call0_call0_v89 : TRef sig ⟨S1024x2, .i32⟩) (broadcastInDim S1024x2 ![] bcast_S_S1024x2)
  :: TRef.binary (.of main_call4_call0_call0_v87 : TRef sig ⟨S1024x2, .i32⟩) (.of main_call4_call0_call0_v89 : TRef sig ⟨S1024x2, .i32⟩) (.of main_call4_call0_call0_v90 : TRef sig ⟨S1024x2, .i32⟩) Host.shli
  :: TRef.nullary (.of main_call4_call0_call0_c_23 : TRef sig ⟨S_, .i32⟩) (constantI S_ 32 6#32)
  :: TRef.unary (.of main_call4_call0_call0_c_23 : TRef sig ⟨S_, .i32⟩) (.of main_call4_call0_call0_v91 : TRef sig ⟨S1024x2, .i32⟩) (broadcastInDim S1024x2 ![] bcast_S_S1024x2)
  :: TRef.binary (.of main_call4_call0_call0_v87 : TRef sig ⟨S1024x2, .i32⟩) (.of main_call4_call0_call0_v91 : TRef sig ⟨S1024x2, .i32⟩) (.of main_call4_call0_call0_v92 : TRef sig ⟨S1024x2, .i32⟩) Host.shrui
  :: TRef.binary (.of main_call4_call0_call0_v90 : TRef sig ⟨S1024x2, .i32⟩) (.of main_call4_call0_call0_v92 : TRef sig ⟨S1024x2, .i32⟩) (.of main_call4_call0_call0_v93 : TRef sig ⟨S1024x2, .i32⟩) ori
  :: TRef.binary (.of main_call4_call0_call0_v88 : TRef sig ⟨S1024x2, .i32⟩) (.of main_call4_call0_call0_v93 : TRef sig ⟨S1024x2, .i32⟩) (.of main_call4_call0_call0_v94 : TRef sig ⟨S1024x2, .i32⟩) xori
  :: TRef.binary (.of main_call4_call0_call0_v88 : TRef sig ⟨S1024x2, .i32⟩) (.of main_call4_call0_call0_v94 : TRef sig ⟨S1024x2, .i32⟩) (.of main_call4_call0_call0_v95 : TRef sig ⟨S1024x2, .i32⟩) addi
  :: TRef.nullary (.of main_call4_call0_call0_c_24 : TRef sig ⟨S_, .i32⟩) (constantI S_ 32 6#32)
  :: TRef.unary (.of main_call4_call0_call0_c_24 : TRef sig ⟨S_, .i32⟩) (.of main_call4_call0_call0_v96 : TRef sig ⟨S1024x2, .i32⟩) (broadcastInDim S1024x2 ![] bcast_S_S1024x2)
  :: TRef.binary (.of main_call4_call0_call0_v94 : TRef sig ⟨S1024x2, .i32⟩) (.of main_call4_call0_call0_v96 : TRef sig ⟨S1024x2, .i32⟩) (.of main_call4_call0_call0_v97 : TRef sig ⟨S1024x2, .i32⟩) Host.shli
  :: TRef.nullary (.of main_call4_call0_call0_c_25 : TRef sig ⟨S_, .i32⟩) (constantI S_ 32 26#32)
  :: TRef.unary (.of main_call4_call0_call0_c_25 : TRef sig ⟨S_, .i32⟩) (.of main_call4_call0_call0_v98 : TRef sig ⟨S1024x2, .i32⟩) (broadcastInDim S1024x2 ![] bcast_S_S1024x2)
  :: TRef.binary (.of main_call4_call0_call0_v94 : TRef sig ⟨S1024x2, .i32⟩) (.of main_call4_call0_call0_v98 : TRef sig ⟨S1024x2, .i32⟩) (.of main_call4_call0_call0_v99 : TRef sig ⟨S1024x2, .i32⟩) Host.shrui
  :: TRef.binary (.of main_call4_call0_call0_v97 : TRef sig ⟨S1024x2, .i32⟩) (.of main_call4_call0_call0_v99 : TRef sig ⟨S1024x2, .i32⟩) (.of main_call4_call0_call0_v100 : TRef sig ⟨S1024x2, .i32⟩) ori
  :: TRef.binary (.of main_call4_call0_call0_v95 : TRef sig ⟨S1024x2, .i32⟩) (.of main_call4_call0_call0_v100 : TRef sig ⟨S1024x2, .i32⟩) (.of main_call4_call0_call0_v101 : TRef sig ⟨S1024x2, .i32⟩) xori
  :: TRef.unary (.of main_call4_call0_v4 : TRef sig ⟨S_, .i32⟩) (.of main_call4_call0_call0_v102 : TRef sig ⟨S1024x2, .i32⟩) (broadcastInDim S1024x2 ![] bcast_S_S1024x2)
  :: TRef.binary (.of main_call4_call0_call0_v95 : TRef sig ⟨S1024x2, .i32⟩) (.of main_call4_call0_call0_v102 : TRef sig ⟨S1024x2, .i32⟩) (.of main_call4_call0_call0_v103 : TRef sig ⟨S1024x2, .i32⟩) addi
  :: TRef.unary (.of main_call4_call0_v6 : TRef sig ⟨S_, .i32⟩) (.of main_call4_call0_call0_v104 : TRef sig ⟨S1024x2, .i32⟩) (broadcastInDim S1024x2 ![] bcast_S_S1024x2)
  :: TRef.binary (.of main_call4_call0_call0_v101 : TRef sig ⟨S1024x2, .i32⟩) (.of main_call4_call0_call0_v104 : TRef sig ⟨S1024x2, .i32⟩) (.of main_call4_call0_call0_v105 : TRef sig ⟨S1024x2, .i32⟩) addi
  :: TRef.nullary (.of main_call4_call0_call0_c_26 : TRef sig ⟨S_, .i32⟩) (constantI S_ 32 3#32)
  :: TRef.unary (.of main_call4_call0_call0_c_26 : TRef sig ⟨S_, .i32⟩) (.of main_call4_call0_call0_v106 : TRef sig ⟨S1024x2, .i32⟩) (broadcastInDim S1024x2 ![] bcast_S_S1024x2)
  :: TRef.binary (.of main_call4_call0_call0_v105 : TRef sig ⟨S1024x2, .i32⟩) (.of main_call4_call0_call0_v106 : TRef sig ⟨S1024x2, .i32⟩) (.of main_call4_call0_call0_v107 : TRef sig ⟨S1024x2, .i32⟩) addi
  :: TRef.binary (.of main_call4_call0_call0_v103 : TRef sig ⟨S1024x2, .i32⟩) (.of main_call4_call0_call0_v107 : TRef sig ⟨S1024x2, .i32⟩) (.of main_call4_call0_call0_v108 : TRef sig ⟨S1024x2, .i32⟩) addi
  :: TRef.nullary (.of main_call4_call0_call0_c_27 : TRef sig ⟨S_, .i32⟩) (constantI S_ 32 17#32)
  :: TRef.unary (.of main_call4_call0_call0_c_27 : TRef sig ⟨S_, .i32⟩) (.of main_call4_call0_call0_v109 : TRef sig ⟨S1024x2, .i32⟩) (broadcastInDim S1024x2 ![] bcast_S_S1024x2)
  :: TRef.binary (.of main_call4_call0_call0_v107 : TRef sig ⟨S1024x2, .i32⟩) (.of main_call4_call0_call0_v109 : TRef sig ⟨S1024x2, .i32⟩) (.of main_call4_call0_call0_v110 : TRef sig ⟨S1024x2, .i32⟩) Host.shli
  :: TRef.nullary (.of main_call4_call0_call0_c_28 : TRef sig ⟨S_, .i32⟩) (constantI S_ 32 15#32)
  :: TRef.unary (.of main_call4_call0_call0_c_28 : TRef sig ⟨S_, .i32⟩) (.of main_call4_call0_call0_v111 : TRef sig ⟨S1024x2, .i32⟩) (broadcastInDim S1024x2 ![] bcast_S_S1024x2)
  :: TRef.binary (.of main_call4_call0_call0_v107 : TRef sig ⟨S1024x2, .i32⟩) (.of main_call4_call0_call0_v111 : TRef sig ⟨S1024x2, .i32⟩) (.of main_call4_call0_call0_v112 : TRef sig ⟨S1024x2, .i32⟩) Host.shrui
  :: TRef.binary (.of main_call4_call0_call0_v110 : TRef sig ⟨S1024x2, .i32⟩) (.of main_call4_call0_call0_v112 : TRef sig ⟨S1024x2, .i32⟩) (.of main_call4_call0_call0_v113 : TRef sig ⟨S1024x2, .i32⟩) ori
  :: TRef.binary (.of main_call4_call0_call0_v108 : TRef sig ⟨S1024x2, .i32⟩) (.of main_call4_call0_call0_v113 : TRef sig ⟨S1024x2, .i32⟩) (.of main_call4_call0_call0_v114 : TRef sig ⟨S1024x2, .i32⟩) xori
  :: TRef.binary (.of main_call4_call0_call0_v108 : TRef sig ⟨S1024x2, .i32⟩) (.of main_call4_call0_call0_v114 : TRef sig ⟨S1024x2, .i32⟩) (.of main_call4_call0_call0_v115 : TRef sig ⟨S1024x2, .i32⟩) addi
  :: TRef.nullary (.of main_call4_call0_call0_c_29 : TRef sig ⟨S_, .i32⟩) (constantI S_ 32 29#32)
  :: TRef.unary (.of main_call4_call0_call0_c_29 : TRef sig ⟨S_, .i32⟩) (.of main_call4_call0_call0_v116 : TRef sig ⟨S1024x2, .i32⟩) (broadcastInDim S1024x2 ![] bcast_S_S1024x2)
  :: TRef.binary (.of main_call4_call0_call0_v114 : TRef sig ⟨S1024x2, .i32⟩) (.of main_call4_call0_call0_v116 : TRef sig ⟨S1024x2, .i32⟩) (.of main_call4_call0_call0_v117 : TRef sig ⟨S1024x2, .i32⟩) Host.shli
  :: TRef.nullary (.of main_call4_call0_call0_c_30 : TRef sig ⟨S_, .i32⟩) (constantI S_ 32 3#32)
  :: TRef.unary (.of main_call4_call0_call0_c_30 : TRef sig ⟨S_, .i32⟩) (.of main_call4_call0_call0_v118 : TRef sig ⟨S1024x2, .i32⟩) (broadcastInDim S1024x2 ![] bcast_S_S1024x2)
  :: TRef.binary (.of main_call4_call0_call0_v114 : TRef sig ⟨S1024x2, .i32⟩) (.of main_call4_call0_call0_v118 : TRef sig ⟨S1024x2, .i32⟩) (.of main_call4_call0_call0_v119 : TRef sig ⟨S1024x2, .i32⟩) Host.shrui
  :: TRef.binary (.of main_call4_call0_call0_v117 : TRef sig ⟨S1024x2, .i32⟩) (.of main_call4_call0_call0_v119 : TRef sig ⟨S1024x2, .i32⟩) (.of main_call4_call0_call0_v120 : TRef sig ⟨S1024x2, .i32⟩) ori
  :: TRef.binary (.of main_call4_call0_call0_v115 : TRef sig ⟨S1024x2, .i32⟩) (.of main_call4_call0_call0_v120 : TRef sig ⟨S1024x2, .i32⟩) (.of main_call4_call0_call0_v121 : TRef sig ⟨S1024x2, .i32⟩) xori
  :: TRef.binary (.of main_call4_call0_call0_v115 : TRef sig ⟨S1024x2, .i32⟩) (.of main_call4_call0_call0_v121 : TRef sig ⟨S1024x2, .i32⟩) (.of main_call4_call0_call0_v122 : TRef sig ⟨S1024x2, .i32⟩) addi
  :: TRef.nullary (.of main_call4_call0_call0_c_31 : TRef sig ⟨S_, .i32⟩) (constantI S_ 32 16#32)
  :: TRef.unary (.of main_call4_call0_call0_c_31 : TRef sig ⟨S_, .i32⟩) (.of main_call4_call0_call0_v123 : TRef sig ⟨S1024x2, .i32⟩) (broadcastInDim S1024x2 ![] bcast_S_S1024x2)
  :: TRef.binary (.of main_call4_call0_call0_v121 : TRef sig ⟨S1024x2, .i32⟩) (.of main_call4_call0_call0_v123 : TRef sig ⟨S1024x2, .i32⟩) (.of main_call4_call0_call0_v124 : TRef sig ⟨S1024x2, .i32⟩) Host.shli
  :: TRef.nullary (.of main_call4_call0_call0_c_32 : TRef sig ⟨S_, .i32⟩) (constantI S_ 32 16#32)
  :: TRef.unary (.of main_call4_call0_call0_c_32 : TRef sig ⟨S_, .i32⟩) (.of main_call4_call0_call0_v125 : TRef sig ⟨S1024x2, .i32⟩) (broadcastInDim S1024x2 ![] bcast_S_S1024x2)
  :: TRef.binary (.of main_call4_call0_call0_v121 : TRef sig ⟨S1024x2, .i32⟩) (.of main_call4_call0_call0_v125 : TRef sig ⟨S1024x2, .i32⟩) (.of main_call4_call0_call0_v126 : TRef sig ⟨S1024x2, .i32⟩) Host.shrui
  :: TRef.binary (.of main_call4_call0_call0_v124 : TRef sig ⟨S1024x2, .i32⟩) (.of main_call4_call0_call0_v126 : TRef sig ⟨S1024x2, .i32⟩) (.of main_call4_call0_call0_v127 : TRef sig ⟨S1024x2, .i32⟩) ori
  :: TRef.binary (.of main_call4_call0_call0_v122 : TRef sig ⟨S1024x2, .i32⟩) (.of main_call4_call0_call0_v127 : TRef sig ⟨S1024x2, .i32⟩) (.of main_call4_call0_call0_v128 : TRef sig ⟨S1024x2, .i32⟩) xori
  :: TRef.binary (.of main_call4_call0_call0_v122 : TRef sig ⟨S1024x2, .i32⟩) (.of main_call4_call0_call0_v128 : TRef sig ⟨S1024x2, .i32⟩) (.of main_call4_call0_call0_v129 : TRef sig ⟨S1024x2, .i32⟩) addi
  :: TRef.nullary (.of main_call4_call0_call0_c_33 : TRef sig ⟨S_, .i32⟩) (constantI S_ 32 24#32)
  :: TRef.unary (.of main_call4_call0_call0_c_33 : TRef sig ⟨S_, .i32⟩) (.of main_call4_call0_call0_v130 : TRef sig ⟨S1024x2, .i32⟩) (broadcastInDim S1024x2 ![] bcast_S_S1024x2)
  :: TRef.binary (.of main_call4_call0_call0_v128 : TRef sig ⟨S1024x2, .i32⟩) (.of main_call4_call0_call0_v130 : TRef sig ⟨S1024x2, .i32⟩) (.of main_call4_call0_call0_v131 : TRef sig ⟨S1024x2, .i32⟩) Host.shli
  :: TRef.nullary (.of main_call4_call0_call0_c_34 : TRef sig ⟨S_, .i32⟩) (constantI S_ 32 8#32)
  :: TRef.unary (.of main_call4_call0_call0_c_34 : TRef sig ⟨S_, .i32⟩) (.of main_call4_call0_call0_v132 : TRef sig ⟨S1024x2, .i32⟩) (broadcastInDim S1024x2 ![] bcast_S_S1024x2)
  :: TRef.binary (.of main_call4_call0_call0_v128 : TRef sig ⟨S1024x2, .i32⟩) (.of main_call4_call0_call0_v132 : TRef sig ⟨S1024x2, .i32⟩) (.of main_call4_call0_call0_v133 : TRef sig ⟨S1024x2, .i32⟩) Host.shrui
  :: TRef.binary (.of main_call4_call0_call0_v131 : TRef sig ⟨S1024x2, .i32⟩) (.of main_call4_call0_call0_v133 : TRef sig ⟨S1024x2, .i32⟩) (.of main_call4_call0_call0_v134 : TRef sig ⟨S1024x2, .i32⟩) ori
  :: TRef.binary (.of main_call4_call0_call0_v129 : TRef sig ⟨S1024x2, .i32⟩) (.of main_call4_call0_call0_v134 : TRef sig ⟨S1024x2, .i32⟩) (.of main_call4_call0_call0_v135 : TRef sig ⟨S1024x2, .i32⟩) xori
  :: TRef.unary (.of main_call4_call0_v6 : TRef sig ⟨S_, .i32⟩) (.of main_call4_call0_call0_v136 : TRef sig ⟨S1024x2, .i32⟩) (broadcastInDim S1024x2 ![] bcast_S_S1024x2)
  :: TRef.binary (.of main_call4_call0_call0_v129 : TRef sig ⟨S1024x2, .i32⟩) (.of main_call4_call0_call0_v136 : TRef sig ⟨S1024x2, .i32⟩) (.of main_call4_call0_call0_v137 : TRef sig ⟨S1024x2, .i32⟩) addi
  :: TRef.unary (.of main_call4_call0_call0_v1 : TRef sig ⟨S_, .i32⟩) (.of main_call4_call0_call0_v138 : TRef sig ⟨S1024x2, .i32⟩) (broadcastInDim S1024x2 ![] bcast_S_S1024x2)
  :: TRef.binary (.of main_call4_call0_call0_v135 : TRef sig ⟨S1024x2, .i32⟩) (.of main_call4_call0_call0_v138 : TRef sig ⟨S1024x2, .i32⟩) (.of main_call4_call0_call0_v139 : TRef sig ⟨S1024x2, .i32⟩) addi
  :: TRef.nullary (.of main_call4_call0_call0_c_35 : TRef sig ⟨S_, .i32⟩) (constantI S_ 32 4#32)
  :: TRef.unary (.of main_call4_call0_call0_c_35 : TRef sig ⟨S_, .i32⟩) (.of main_call4_call0_call0_v140 : TRef sig ⟨S1024x2, .i32⟩) (broadcastInDim S1024x2 ![] bcast_S_S1024x2)
  :: TRef.binary (.of main_call4_call0_call0_v139 : TRef sig ⟨S1024x2, .i32⟩) (.of main_call4_call0_call0_v140 : TRef sig ⟨S1024x2, .i32⟩) (.of main_call4_call0_call0_v141 : TRef sig ⟨S1024x2, .i32⟩) addi
  :: TRef.binary (.of main_call4_call0_call0_v137 : TRef sig ⟨S1024x2, .i32⟩) (.of main_call4_call0_call0_v141 : TRef sig ⟨S1024x2, .i32⟩) (.of main_call4_call0_call0_v142 : TRef sig ⟨S1024x2, .i32⟩) addi
  :: TRef.nullary (.of main_call4_call0_call0_c_36 : TRef sig ⟨S_, .i32⟩) (constantI S_ 32 13#32)
  :: TRef.unary (.of main_call4_call0_call0_c_36 : TRef sig ⟨S_, .i32⟩) (.of main_call4_call0_call0_v143 : TRef sig ⟨S1024x2, .i32⟩) (broadcastInDim S1024x2 ![] bcast_S_S1024x2)
  :: TRef.binary (.of main_call4_call0_call0_v141 : TRef sig ⟨S1024x2, .i32⟩) (.of main_call4_call0_call0_v143 : TRef sig ⟨S1024x2, .i32⟩) (.of main_call4_call0_call0_v144 : TRef sig ⟨S1024x2, .i32⟩) Host.shli
  :: TRef.nullary (.of main_call4_call0_call0_c_37 : TRef sig ⟨S_, .i32⟩) (constantI S_ 32 19#32)
  :: TRef.unary (.of main_call4_call0_call0_c_37 : TRef sig ⟨S_, .i32⟩) (.of main_call4_call0_call0_v145 : TRef sig ⟨S1024x2, .i32⟩) (broadcastInDim S1024x2 ![] bcast_S_S1024x2)
  :: TRef.binary (.of main_call4_call0_call0_v141 : TRef sig ⟨S1024x2, .i32⟩) (.of main_call4_call0_call0_v145 : TRef sig ⟨S1024x2, .i32⟩) (.of main_call4_call0_call0_v146 : TRef sig ⟨S1024x2, .i32⟩) Host.shrui
  :: TRef.binary (.of main_call4_call0_call0_v144 : TRef sig ⟨S1024x2, .i32⟩) (.of main_call4_call0_call0_v146 : TRef sig ⟨S1024x2, .i32⟩) (.of main_call4_call0_call0_v147 : TRef sig ⟨S1024x2, .i32⟩) ori
  :: TRef.binary (.of main_call4_call0_call0_v142 : TRef sig ⟨S1024x2, .i32⟩) (.of main_call4_call0_call0_v147 : TRef sig ⟨S1024x2, .i32⟩) (.of main_call4_call0_call0_v148 : TRef sig ⟨S1024x2, .i32⟩) xori
  :: TRef.binary (.of main_call4_call0_call0_v142 : TRef sig ⟨S1024x2, .i32⟩) (.of main_call4_call0_call0_v148 : TRef sig ⟨S1024x2, .i32⟩) (.of main_call4_call0_call0_v149 : TRef sig ⟨S1024x2, .i32⟩) addi
  :: TRef.nullary (.of main_call4_call0_call0_c_38 : TRef sig ⟨S_, .i32⟩) (constantI S_ 32 15#32)
  :: TRef.unary (.of main_call4_call0_call0_c_38 : TRef sig ⟨S_, .i32⟩) (.of main_call4_call0_call0_v150 : TRef sig ⟨S1024x2, .i32⟩) (broadcastInDim S1024x2 ![] bcast_S_S1024x2)
  :: TRef.binary (.of main_call4_call0_call0_v148 : TRef sig ⟨S1024x2, .i32⟩) (.of main_call4_call0_call0_v150 : TRef sig ⟨S1024x2, .i32⟩) (.of main_call4_call0_call0_v151 : TRef sig ⟨S1024x2, .i32⟩) Host.shli
  :: TRef.nullary (.of main_call4_call0_call0_c_39 : TRef sig ⟨S_, .i32⟩) (constantI S_ 32 17#32)
  :: TRef.unary (.of main_call4_call0_call0_c_39 : TRef sig ⟨S_, .i32⟩) (.of main_call4_call0_call0_v152 : TRef sig ⟨S1024x2, .i32⟩) (broadcastInDim S1024x2 ![] bcast_S_S1024x2)
  :: TRef.binary (.of main_call4_call0_call0_v148 : TRef sig ⟨S1024x2, .i32⟩) (.of main_call4_call0_call0_v152 : TRef sig ⟨S1024x2, .i32⟩) (.of main_call4_call0_call0_v153 : TRef sig ⟨S1024x2, .i32⟩) Host.shrui
  :: TRef.binary (.of main_call4_call0_call0_v151 : TRef sig ⟨S1024x2, .i32⟩) (.of main_call4_call0_call0_v153 : TRef sig ⟨S1024x2, .i32⟩) (.of main_call4_call0_call0_v154 : TRef sig ⟨S1024x2, .i32⟩) ori
  :: TRef.binary (.of main_call4_call0_call0_v149 : TRef sig ⟨S1024x2, .i32⟩) (.of main_call4_call0_call0_v154 : TRef sig ⟨S1024x2, .i32⟩) (.of main_call4_call0_call0_v155 : TRef sig ⟨S1024x2, .i32⟩) xori
  :: TRef.binary (.of main_call4_call0_call0_v149 : TRef sig ⟨S1024x2, .i32⟩) (.of main_call4_call0_call0_v155 : TRef sig ⟨S1024x2, .i32⟩) (.of main_call4_call0_call0_v156 : TRef sig ⟨S1024x2, .i32⟩) addi
  :: TRef.nullary (.of main_call4_call0_call0_c_40 : TRef sig ⟨S_, .i32⟩) (constantI S_ 32 26#32)
  :: TRef.unary (.of main_call4_call0_call0_c_40 : TRef sig ⟨S_, .i32⟩) (.of main_call4_call0_call0_v157 : TRef sig ⟨S1024x2, .i32⟩) (broadcastInDim S1024x2 ![] bcast_S_S1024x2)
  :: TRef.binary (.of main_call4_call0_call0_v155 : TRef sig ⟨S1024x2, .i32⟩) (.of main_call4_call0_call0_v157 : TRef sig ⟨S1024x2, .i32⟩) (.of main_call4_call0_call0_v158 : TRef sig ⟨S1024x2, .i32⟩) Host.shli
  :: TRef.nullary (.of main_call4_call0_call0_c_41 : TRef sig ⟨S_, .i32⟩) (constantI S_ 32 6#32)
  :: TRef.unary (.of main_call4_call0_call0_c_41 : TRef sig ⟨S_, .i32⟩) (.of main_call4_call0_call0_v159 : TRef sig ⟨S1024x2, .i32⟩) (broadcastInDim S1024x2 ![] bcast_S_S1024x2)
  :: TRef.binary (.of main_call4_call0_call0_v155 : TRef sig ⟨S1024x2, .i32⟩) (.of main_call4_call0_call0_v159 : TRef sig ⟨S1024x2, .i32⟩) (.of main_call4_call0_call0_v160 : TRef sig ⟨S1024x2, .i32⟩) Host.shrui
  :: TRef.binary (.of main_call4_call0_call0_v158 : TRef sig ⟨S1024x2, .i32⟩) (.of main_call4_call0_call0_v160 : TRef sig ⟨S1024x2, .i32⟩) (.of main_call4_call0_call0_v161 : TRef sig ⟨S1024x2, .i32⟩) ori
  :: TRef.binary (.of main_call4_call0_call0_v156 : TRef sig ⟨S1024x2, .i32⟩) (.of main_call4_call0_call0_v161 : TRef sig ⟨S1024x2, .i32⟩) (.of main_call4_call0_call0_v162 : TRef sig ⟨S1024x2, .i32⟩) xori
  :: TRef.binary (.of main_call4_call0_call0_v156 : TRef sig ⟨S1024x2, .i32⟩) (.of main_call4_call0_call0_v162 : TRef sig ⟨S1024x2, .i32⟩) (.of main_call4_call0_call0_v163 : TRef sig ⟨S1024x2, .i32⟩) addi
  :: TRef.nullary (.of main_call4_call0_call0_c_42 : TRef sig ⟨S_, .i32⟩) (constantI S_ 32 6#32)
  :: TRef.unary (.of main_call4_call0_call0_c_42 : TRef sig ⟨S_, .i32⟩) (.of main_call4_call0_call0_v164 : TRef sig ⟨S1024x2, .i32⟩) (broadcastInDim S1024x2 ![] bcast_S_S1024x2)
  :: TRef.binary (.of main_call4_call0_call0_v162 : TRef sig ⟨S1024x2, .i32⟩) (.of main_call4_call0_call0_v164 : TRef sig ⟨S1024x2, .i32⟩) (.of main_call4_call0_call0_v165 : TRef sig ⟨S1024x2, .i32⟩) Host.shli
  :: TRef.nullary (.of main_call4_call0_call0_c_43 : TRef sig ⟨S_, .i32⟩) (constantI S_ 32 26#32)
  :: TRef.unary (.of main_call4_call0_call0_c_43 : TRef sig ⟨S_, .i32⟩) (.of main_call4_call0_call0_v166 : TRef sig ⟨S1024x2, .i32⟩) (broadcastInDim S1024x2 ![] bcast_S_S1024x2)
  :: TRef.binary (.of main_call4_call0_call0_v162 : TRef sig ⟨S1024x2, .i32⟩) (.of main_call4_call0_call0_v166 : TRef sig ⟨S1024x2, .i32⟩) (.of main_call4_call0_call0_v167 : TRef sig ⟨S1024x2, .i32⟩) Host.shrui
  :: TRef.binary (.of main_call4_call0_call0_v165 : TRef sig ⟨S1024x2, .i32⟩) (.of main_call4_call0_call0_v167 : TRef sig ⟨S1024x2, .i32⟩) (.of main_call4_call0_call0_v168 : TRef sig ⟨S1024x2, .i32⟩) ori
  :: TRef.binary (.of main_call4_call0_call0_v163 : TRef sig ⟨S1024x2, .i32⟩) (.of main_call4_call0_call0_v168 : TRef sig ⟨S1024x2, .i32⟩) (.of main_call4_call0_call0_v169 : TRef sig ⟨S1024x2, .i32⟩) xori
  :: TRef.unary (.of main_call4_call0_call0_v1 : TRef sig ⟨S_, .i32⟩) (.of main_call4_call0_call0_v170 : TRef sig ⟨S1024x2, .i32⟩) (broadcastInDim S1024x2 ![] bcast_S_S1024x2)
  :: TRef.binary (.of main_call4_call0_call0_v163 : TRef sig ⟨S1024x2, .i32⟩) (.of main_call4_call0_call0_v170 : TRef sig ⟨S1024x2, .i32⟩) (.of main_call4_call0_v18_0 : TRef sig ⟨S1024x2, .i32⟩) addi
  :: TRef.unary (.of main_call4_call0_v4 : TRef sig ⟨S_, .i32⟩) (.of main_call4_call0_call0_v172 : TRef sig ⟨S1024x2, .i32⟩) (broadcastInDim S1024x2 ![] bcast_S_S1024x2)
  :: TRef.binary (.of main_call4_call0_call0_v169 : TRef sig ⟨S1024x2, .i32⟩) (.of main_call4_call0_call0_v172 : TRef sig ⟨S1024x2, .i32⟩) (.of main_call4_call0_call0_v173 : TRef sig ⟨S1024x2, .i32⟩) addi
  :: TRef.nullary (.of main_call4_call0_call0_c_44 : TRef sig ⟨S_, .i32⟩) (constantI S_ 32 5#32)
  :: TRef.unary (.of main_call4_call0_call0_c_44 : TRef sig ⟨S_, .i32⟩) (.of main_call4_call0_call0_v174 : TRef sig ⟨S1024x2, .i32⟩) (broadcastInDim S1024x2 ![] bcast_S_S1024x2)
  :: TRef.binary (.of main_call4_call0_call0_v173 : TRef sig ⟨S1024x2, .i32⟩) (.of main_call4_call0_call0_v174 : TRef sig ⟨S1024x2, .i32⟩) (.of main_call4_call0_v18_1 : TRef sig ⟨S1024x2, .i32⟩) addi
  :: TRef.binary (.of main_call4_call0_v18_0 : TRef sig ⟨S1024x2, .i32⟩) (.of main_call4_call0_v18_1 : TRef sig ⟨S1024x2, .i32⟩) (.of main_call4_call0_v19 : TRef sig ⟨S1024x2, .i32⟩) xori
  :: TRef.nullary (.of main_call4_call0_c_2 : TRef sig ⟨S_, .i32⟩) (constantI S_ 32 9#32)
  :: TRef.unary (.of main_call4_call0_c_2 : TRef sig ⟨S_, .i32⟩) (.of main_call4_call0_v20 : TRef sig ⟨S1024x2, .i32⟩) (broadcastInDim S1024x2 ![] bcast_S_S1024x2)
  :: TRef.binary (.of main_call4_call0_v19 : TRef sig ⟨S1024x2, .i32⟩) (.of main_call4_call0_v20 : TRef sig ⟨S1024x2, .i32⟩) (.of main_call4_call0_v21 : TRef sig ⟨S1024x2, .i32⟩) Host.shrui
  :: TRef.nullary (.of main_call4_call0_c_3 : TRef sig ⟨S_, .i32⟩) (constantI S_ 32 1065353216#32)
  :: TRef.unary (.of main_call4_call0_c_3 : TRef sig ⟨S_, .i32⟩) (.of main_call4_call0_v22 : TRef sig ⟨S1024x2, .i32⟩) (broadcastInDim S1024x2 ![] bcast_S_S1024x2)
  :: TRef.binary (.of main_call4_call0_v21 : TRef sig ⟨S1024x2, .i32⟩) (.of main_call4_call0_v22 : TRef sig ⟨S1024x2, .i32⟩) (.of main_call4_call0_v23 : TRef sig ⟨S1024x2, .i32⟩) ori
  :: TRef.unary (.of main_call4_call0_v23 : TRef sig ⟨S1024x2, .i32⟩) (.of main_call4_call0_v24 : TRef sig ⟨S1024x2, .f32⟩) (bitcastToFloat .f32)
  :: TRef.nullary (.of main_call4_call0_cst : TRef sig ⟨S_, .f32⟩) (constant S_ .f32 0x3F800000#32)
  :: TRef.unary (.of main_call4_call0_cst : TRef sig ⟨S_, .f32⟩) (.of main_call4_call0_v25 : TRef sig ⟨S1024x2, .f32⟩) (broadcastInDim S1024x2 ![] bcast_S_S1024x2)
  :: TRef.binary (.of main_call4_call0_v24 : TRef sig ⟨S1024x2, .f32⟩) (.of main_call4_call0_v25 : TRef sig ⟨S1024x2, .f32⟩) (.of main_call4_call0_v26 : TRef sig ⟨S1024x2, .f32⟩) subf
  :: TRef.binary (.of main_call4_call0_v2 : TRef sig ⟨S1x1, .f32⟩) (.of main_call4_call0_v1 : TRef sig ⟨S1x1, .f32⟩) (.of main_call4_call0_v27 : TRef sig ⟨S1x1, .f32⟩) subf
  :: TRef.unary (.of main_call4_call0_v27 : TRef sig ⟨S1x1, .f32⟩) (.of main_call4_call0_v28 : TRef sig ⟨S1024x2, .f32⟩) (broadcastInDim S1024x2 ![0, 1] bcast_S1x1_S1024x2_0_1)
  :: TRef.binary (.of main_call4_call0_v26 : TRef sig ⟨S1024x2, .f32⟩) (.of main_call4_call0_v28 : TRef sig ⟨S1024x2, .f32⟩) (.of main_call4_call0_v29 : TRef sig ⟨S1024x2, .f32⟩) mulf
  :: TRef.unary (.of main_call4_call0_v1 : TRef sig ⟨S1x1, .f32⟩) (.of main_call4_call0_v30 : TRef sig ⟨S1024x2, .f32⟩) (broadcastInDim S1024x2 ![0, 1] bcast_S1x1_S1024x2_0_1)
  :: TRef.binary (.of main_call4_call0_v29 : TRef sig ⟨S1024x2, .f32⟩) (.of main_call4_call0_v30 : TRef sig ⟨S1024x2, .f32⟩) (.of main_call4_call0_v31 : TRef sig ⟨S1024x2, .f32⟩) addf
  :: TRef.unary (.of main_call4_call0_v1 : TRef sig ⟨S1x1, .f32⟩) (.of main_call4_call0_v32 : TRef sig ⟨S1024x2, .f32⟩) (broadcastInDim S1024x2 ![0, 1] bcast_S1x1_S1024x2_0_1)
  :: TRef.binary (.of main_call4_call0_v32 : TRef sig ⟨S1024x2, .f32⟩) (.of main_call4_call0_v31 : TRef sig ⟨S1024x2, .f32⟩) (.of main_call4_v0 : TRef sig ⟨S1024x2, .f32⟩) maximumf
  :: TRef.unary (.of main_call4_v0 : TRef sig ⟨S1024x2, .f32⟩) (.of main_call4_v1 : TRef sig ⟨S1024x2, .f32⟩) Host.log
  :: TRef.unary (.of main_call4_v1 : TRef sig ⟨S1024x2, .f32⟩) (.of main_call4_v2 : TRef sig ⟨S1024x2, .f32⟩) Host.negf
  :: TRef.unary (.of main_call4_v2 : TRef sig ⟨S1024x2, .f32⟩) (.of main_call4_v3 : TRef sig ⟨S1024x2, .f32⟩) Host.log
  :: TRef.unary (.of main_call4_v3 : TRef sig ⟨S1024x2, .f32⟩) (.of main_v114 : TRef sig ⟨S1024x2, .f32⟩) Host.negf
  :: [] )
/-- What stretch 11 writes, in order. -/
abbrev W11 : List (Ref sig .tc) :=
  [ main_call4_cst, main_call4_cst_0, main_call4_call0_v0, main_call4_call0_v1, main_call4_call0_v2, main_call4_call0_v3, main_call4_call0_v4, main_call4_call0_v5, main_call4_call0_v6, main_call4_call0_v7, main_call4_call0_v8, main_call4_call0_c, main_call4_call0_v9, main_call4_call0_v10, main_call4_call0_c_0, main_call4_call0_v11, main_call4_call0_v12, main_call4_call0_v13, main_call4_call0_c_1, main_call4_call0_v14, main_call4_call0_v15, main_call4_call0_v16, main_call4_call0_v17, main_call4_call0_call0_v0, main_call4_call0_call0_c, main_call4_call0_call0_v1, main_call4_call0_call0_v2, main_call4_call0_call0_v3, main_call4_call0_call0_v4, main_call4_call0_call0_v5, main_call4_call0_call0_v6, main_call4_call0_call0_c_0, main_call4_call0_call0_v7, main_call4_call0_call0_v8, main_call4_call0_call0_c_1, main_call4_call0_call0_v9, main_call4_call0_call0_v10, main_call4_call0_call0_v11, main_call4_call0_call0_v12, main_call4_call0_call0_v13, main_call4_call0_call0_c_2, main_call4_call0_call0_v14, main_call4_call0_call0_v15, main_call4_call0_call0_c_3, main_call4_call0_call0_v16, main_call4_call0_call0_v17, main_call4_call0_call0_v18, main_call4_call0_call0_v19, main_call4_call0_call0_v20, main_call4_call0_call0_c_4, main_call4_call0_call0_v21, main_call4_call0_call0_v22, main_call4_call0_call0_c_5, main_call4_call0_call0_v23, main_call4_call0_call0_v24, main_call4_call0_call0_v25, main_call4_call0_call0_v26, main_call4_call0_call0_v27, main_call4_call0_call0_c_6, main_call4_call0_call0_v28, main_call4_call0_call0_v29, main_call4_call0_call0_c_7, main_call4_call0_call0_v30, main_call4_call0_call0_v31, main_call4_call0_call0_v32, main_call4_call0_call0_v33, main_call4_call0_call0_v34, main_call4_call0_call0_v35, main_call4_call0_call0_v36, main_call4_call0_call0_v37, main_call4_call0_call0_c_8, main_call4_call0_call0_v38, main_call4_call0_call0_v39, main_call4_call0_call0_v40, main_call4_call0_call0_c_9, main_call4_call0_call0_v41, main_call4_call0_call0_v42, main_call4_call0_call0_c_10, main_call4_call0_call0_v43, main_call4_call0_call0_v44, main_call4_call0_call0_v45, main_call4_call0_call0_v46, main_call4_call0_call0_v47, main_call4_call0_call0_c_11, main_call4_call0_call0_v48, main_call4_call0_call0_v49, main_call4_call0_call0_c_12, main_call4_call0_call0_v50, main_call4_call0_call0_v51, main_call4_call0_call0_v52, main_call4_call0_call0_v53, main_call4_call0_call0_v54, main_call4_call0_call0_c_13, main_call4_call0_call0_v55, main_call4_call0_call0_v56, main_call4_call0_call0_c_14, main_call4_call0_call0_v57, main_call4_call0_call0_v58, main_call4_call0_call0_v59, main_call4_call0_call0_v60, main_call4_call0_call0_v61, main_call4_call0_call0_c_15, main_call4_call0_call0_v62, main_call4_call0_call0_v63, main_call4_call0_call0_c_16, main_call4_call0_call0_v64, main_call4_call0_call0_v65, main_call4_call0_call0_v66, main_call4_call0_call0_v67, main_call4_call0_call0_v68, main_call4_call0_call0_v69, main_call4_call0_call0_v70, main_call4_call0_call0_v71, main_call4_call0_call0_c_17, main_call4_call0_call0_v72, main_call4_call0_call0_v73, main_call4_call0_call0_v74, main_call4_call0_call0_c_18, main_call4_call0_call0_v75, main_call4_call0_call0_v76, main_call4_call0_call0_c_19, main_call4_call0_call0_v77, main_call4_call0_call0_v78, main_call4_call0_call0_v79, main_call4_call0_call0_v80, main_call4_call0_call0_v81, main_call4_call0_call0_c_20, main_call4_call0_call0_v82, main_call4_call0_call0_v83, main_call4_call0_call0_c_21, main_call4_call0_call0_v84, main_call4_call0_call0_v85, main_call4_call0_call0_v86, main_call4_call0_call0_v87, main_call4_call0_call0_v88, main_call4_call0_call0_c_22, main_call4_call0_call0_v89, main_call4_call0_call0_v90, main_call4_call0_call0_c_23, main_call4_call0_call0_v91, main_call4_call0_call0_v92, main_call4_call0_call0_v93, main_call4_call0_call0_v94, main_call4_call0_call0_v95, main_call4_call0_call0_c_24, main_call4_call0_call0_v96, main_call4_call0_call0_v97, main_call4_call0_call0_c_25, main_call4_call0_call0_v98, main_call4_call0_call0_v99, main_call4_call0_call0_v100, main_call4_call0_call0_v101, main_call4_call0_call0_v102, main_call4_call0_call0_v103, main_call4_call0_call0_v104, main_call4_call0_call0_v105, main_call4_call0_call0_c_26, main_call4_call0_call0_v106, main_call4_call0_call0_v107, main_call4_call0_call0_v108, main_call4_call0_call0_c_27, main_call4_call0_call0_v109, main_call4_call0_call0_v110, main_call4_call0_call0_c_28, main_call4_call0_call0_v111, main_call4_call0_call0_v112, main_call4_call0_call0_v113, main_call4_call0_call0_v114, main_call4_call0_call0_v115, main_call4_call0_call0_c_29, main_call4_call0_call0_v116, main_call4_call0_call0_v117, main_call4_call0_call0_c_30, main_call4_call0_call0_v118, main_call4_call0_call0_v119, main_call4_call0_call0_v120, main_call4_call0_call0_v121, main_call4_call0_call0_v122, main_call4_call0_call0_c_31, main_call4_call0_call0_v123, main_call4_call0_call0_v124, main_call4_call0_call0_c_32, main_call4_call0_call0_v125, main_call4_call0_call0_v126, main_call4_call0_call0_v127, main_call4_call0_call0_v128, main_call4_call0_call0_v129, main_call4_call0_call0_c_33, main_call4_call0_call0_v130, main_call4_call0_call0_v131, main_call4_call0_call0_c_34, main_call4_call0_call0_v132, main_call4_call0_call0_v133, main_call4_call0_call0_v134, main_call4_call0_call0_v135, main_call4_call0_call0_v136, main_call4_call0_call0_v137, main_call4_call0_call0_v138, main_call4_call0_call0_v139, main_call4_call0_call0_c_35, main_call4_call0_call0_v140, main_call4_call0_call0_v141, main_call4_call0_call0_v142, main_call4_call0_call0_c_36, main_call4_call0_call0_v143, main_call4_call0_call0_v144, main_call4_call0_call0_c_37, main_call4_call0_call0_v145, main_call4_call0_call0_v146, main_call4_call0_call0_v147, main_call4_call0_call0_v148, main_call4_call0_call0_v149, main_call4_call0_call0_c_38, main_call4_call0_call0_v150, main_call4_call0_call0_v151, main_call4_call0_call0_c_39, main_call4_call0_call0_v152, main_call4_call0_call0_v153, main_call4_call0_call0_v154, main_call4_call0_call0_v155, main_call4_call0_call0_v156, main_call4_call0_call0_c_40, main_call4_call0_call0_v157, main_call4_call0_call0_v158, main_call4_call0_call0_c_41, main_call4_call0_call0_v159, main_call4_call0_call0_v160, main_call4_call0_call0_v161, main_call4_call0_call0_v162, main_call4_call0_call0_v163, main_call4_call0_call0_c_42, main_call4_call0_call0_v164, main_call4_call0_call0_v165, main_call4_call0_call0_c_43, main_call4_call0_call0_v166, main_call4_call0_call0_v167, main_call4_call0_call0_v168, main_call4_call0_call0_v169, main_call4_call0_call0_v170, main_call4_call0_v18_0, main_call4_call0_call0_v172, main_call4_call0_call0_v173, main_call4_call0_call0_c_44, main_call4_call0_call0_v174, main_call4_call0_v18_1, main_call4_call0_v19, main_call4_call0_c_2, main_call4_call0_v20, main_call4_call0_v21, main_call4_call0_c_3, main_call4_call0_v22, main_call4_call0_v23, main_call4_call0_v24, main_call4_call0_cst, main_call4_call0_v25, main_call4_call0_v26, main_call4_call0_v27, main_call4_call0_v28, main_call4_call0_v29, main_call4_call0_v30, main_call4_call0_v31, main_call4_call0_v32, main_call4_v0, main_call4_v1, main_call4_v2, main_call4_v3, main_v114 ]
theorem ops11_sub : (ops11 : List (HloOp τ sig (Elt F))).Forall fun op => op.bufs ⊆ tcRefs τ sig :=
  ⟨nullary_bufs_sub .., nullary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub ..⟩
theorem ops11_fresh : (ops11 : List (HloOp τ sig (Elt F))).Forall fun op => op.fresh = ∅ := forall_fresh_of_map rfl
theorem ops11_writes : (ops11 : List (HloOp τ sig (Elt F))).Forall fun op => op.writes ⊆ (W11.map (Proc.devRef (τ := τ) .tc)).toFinset :=
  forall_writes_sub_of_map rfl

/-- Stretch 12 of @main: @main's own operations, 1 of them. -/
abbrev ops12 : List (HloOp τ sig (Elt F)) :=
  ( binary main_v114 main_v113 main_v115 (addf : (⟨S1024x2, .f32⟩ : BufTy).Contents (Elt F) → (⟨S1024x2, .f32⟩ : BufTy).Contents (Elt F) → (⟨S1024x2, .f32⟩ : BufTy).Contents (Elt F))
  :: [] )
/-- What stretch 12 writes, in order. -/
abbrev W12 : List (Ref sig .tc) :=
  [ main_v115 ]
theorem ops12_sub : (ops12 : List (HloOp τ sig (Elt F))).Forall fun op => op.bufs ⊆ tcRefs τ sig :=
  binary_bufs_sub ..
theorem ops12_fresh : (ops12 : List (HloOp τ sig (Elt F))).Forall fun op => op.fresh = ∅ := forall_fresh_of_map rfl
theorem ops12_writes : (ops12 : List (HloOp τ sig (Elt F))).Forall fun op => op.writes ⊆ (W12.map (Proc.devRef (τ := τ) .tc)).toFinset :=
  forall_writes_sub_of_map rfl

/-- Stretch 13 of @main: the operations of the call main_call5, 5 of them. -/
abbrev ops13 : List (HloOp τ sig (Elt F)) :=
  ( TRef.nullary (.of main_call5_v0 : TRef sig ⟨S1024x2, .i32⟩) (iotaInDim S1024x2 32 1)
  :: TRef.nullary (.of main_call5_cst : TRef sig ⟨S_, .f32⟩) (constant S_ .f32 0xFF800000#32)
  :: TRef.nullary (.of main_call5_c : TRef sig ⟨S_, .i32⟩) (constantI S_ 32 0#32)
  :: TRef.quaternary (.of main_v115 : TRef sig ⟨S1024x2, .f32⟩) (.of main_call5_v0 : TRef sig ⟨S1024x2, .i32⟩) (.of main_call5_cst : TRef sig ⟨S_, .f32⟩) (.of main_call5_c : TRef sig ⟨S_, .i32⟩) (.of main_call5_v1_0 : TRef sig ⟨S1024, .f32⟩) (fun x y u v j => (Host.argReduce reducer_argmax_f32_i32 x y u v reducesTo_S1024x2_S1024_d1 h_S_ j).1)
  :: TRef.quaternary (.of main_v115 : TRef sig ⟨S1024x2, .f32⟩) (.of main_call5_v0 : TRef sig ⟨S1024x2, .i32⟩) (.of main_call5_cst : TRef sig ⟨S_, .f32⟩) (.of main_call5_c : TRef sig ⟨S_, .i32⟩) (.of main_v116 : TRef sig ⟨S1024, .i32⟩) (fun x y u v j => (Host.argReduce reducer_argmax_f32_i32 x y u v reducesTo_S1024x2_S1024_d1 h_S_ j).2)
  :: [] )
/-- What stretch 13 writes, in order. -/
abbrev W13 : List (Ref sig .tc) :=
  [ main_call5_v0, main_call5_cst, main_call5_c, main_call5_v1_0, main_v116 ]
theorem ops13_sub : (ops13 : List (HloOp τ sig (Elt F))).Forall fun op => op.bufs ⊆ tcRefs τ sig :=
  ⟨nullary_bufs_sub .., nullary_bufs_sub .., nullary_bufs_sub .., quaternary_bufs_sub .., quaternary_bufs_sub ..⟩
theorem ops13_fresh : (ops13 : List (HloOp τ sig (Elt F))).Forall fun op => op.fresh = ∅ := forall_fresh_of_map rfl
theorem ops13_writes : (ops13 : List (HloOp τ sig (Elt F))).Forall fun op => op.writes ⊆ (W13.map (Proc.devRef (τ := τ) .tc)).toFinset :=
  forall_writes_sub_of_map rfl

/-- Stretch 14 of @main: @main's own operations, 1 of them. -/
abbrev ops14 : List (HloOp τ sig (Elt F)) :=
  ( unary main_v116 main_v117 (broadcastInDim S1024x1 ![0] bcast_S1024_S1024x1_0 : (⟨S1024, .i32⟩ : BufTy).Contents (Elt F) → (⟨S1024x1, .i32⟩ : BufTy).Contents (Elt F))
  :: [] )
/-- What stretch 14 writes, in order. -/
abbrev W14 : List (Ref sig .tc) :=
  [ main_v117 ]
theorem ops14_sub : (ops14 : List (HloOp τ sig (Elt F))).Forall fun op => op.bufs ⊆ tcRefs τ sig :=
  unary_bufs_sub ..
theorem ops14_fresh : (ops14 : List (HloOp τ sig (Elt F))).Forall fun op => op.fresh = ∅ := forall_fresh_of_map rfl
theorem ops14_writes : (ops14 : List (HloOp τ sig (Elt F))).Forall fun op => op.writes ⊆ (W14.map (Proc.devRef (τ := τ) .tc)).toFinset :=
  forall_writes_sub_of_map rfl

/-- Stretch 15 of @main: the operations of the call main_call6, 22 of them. -/
abbrev ops15 : List (HloOp τ sig (Elt F)) :=
  ( TRef.nullary (.of main_call6_c : TRef sig ⟨S_, .i32⟩) (constantI S_ 32 0#32)
  :: TRef.unary (.of main_call6_c : TRef sig ⟨S_, .i32⟩) (.of main_call6_v0 : TRef sig ⟨S1024x1, .i32⟩) (broadcastInDim S1024x1 ![] bcast_S_S1024x1)
  :: TRef.binary (.of main_v117 : TRef sig ⟨S1024x1, .i32⟩) (.of main_call6_v0 : TRef sig ⟨S1024x1, .i32⟩) (.of main_call6_v1 : TRef sig ⟨S1024x1, .i1⟩) (cmpi .slt)
  :: TRef.nullary (.of main_call6_c_0 : TRef sig ⟨S_, .i32⟩) (constantI S_ 32 2#32)
  :: TRef.unary (.of main_call6_c_0 : TRef sig ⟨S_, .i32⟩) (.of main_call6_v2 : TRef sig ⟨S1024x1, .i32⟩) (broadcastInDim S1024x1 ![] bcast_S_S1024x1)
  :: TRef.binary (.of main_v117 : TRef sig ⟨S1024x1, .i32⟩) (.of main_call6_v2 : TRef sig ⟨S1024x1, .i32⟩) (.of main_call6_v3 : TRef sig ⟨S1024x1, .i32⟩) addi
  :: TRef.ternary (.of main_call6_v1 : TRef sig ⟨S1024x1, .i1⟩) (.of main_call6_v3 : TRef sig ⟨S1024x1, .i32⟩) (.of main_v117 : TRef sig ⟨S1024x1, .i32⟩) (.of main_call6_v4 : TRef sig ⟨S1024x1, .i32⟩) select
  :: TRef.reshape (.of main_call6_v4 : TRef sig ⟨S1024x1, .i32⟩) (.of main_call6_v5 : TRef sig ⟨S1024x1x1, .i32⟩) (rfl : (.i32 : EltTy) = .i32) shapeCasts_S1024x1_S1024x1x1
  :: TRef.nullary (.of main_call6_c_1 : TRef sig ⟨S1, .i32⟩) (constantI S1 32 1#32)
  :: TRef.nullary (.of main_call6_c_2 : TRef sig ⟨S_, .i32⟩) (constantI S_ 32 0#32)
  :: TRef.unary (.of main_call6_c_2 : TRef sig ⟨S_, .i32⟩) (.of main_call6_v6 : TRef sig ⟨S1024x1x1, .i32⟩) (broadcastInDim S1024x1x1 ![] bcast_S_S1024x1x1)
  :: TRef.binary (.of main_call6_v5 : TRef sig ⟨S1024x1x1, .i32⟩) (.of main_call6_v6 : TRef sig ⟨S1024x1x1, .i32⟩) (.of main_call6_v7 : TRef sig ⟨S1024x1x1, .i1⟩) (cmpi .sge)
  :: TRef.unary (.of main_call6_c_1 : TRef sig ⟨S1, .i32⟩) (.of main_call6_v8 : TRef sig ⟨S1x1x1, .i32⟩) (broadcastInDim S1x1x1 ![2] bcast_S1_S1x1x1_2)
  :: TRef.unary (.of main_call6_v8 : TRef sig ⟨S1x1x1, .i32⟩) (.of main_call6_v9 : TRef sig ⟨S1024x1x1, .i32⟩) (broadcastInDim S1024x1x1 ![0, 1, 2] bcast_S1x1x1_S1024x1x1_0_1_2)
  :: TRef.binary (.of main_call6_v5 : TRef sig ⟨S1024x1x1, .i32⟩) (.of main_call6_v9 : TRef sig ⟨S1024x1x1, .i32⟩) (.of main_call6_v10 : TRef sig ⟨S1024x1x1, .i1⟩) (cmpi .sle)
  :: TRef.binary (.of main_call6_v7 : TRef sig ⟨S1024x1x1, .i1⟩) (.of main_call6_v10 : TRef sig ⟨S1024x1x1, .i1⟩) (.of main_call6_v11 : TRef sig ⟨S1024x1x1, .i1⟩) andi
  :: TRef.nullary (.of main_call6_c_3 : TRef sig ⟨S_, .i1⟩) (constantI S_ 1 1#1)
  :: TRef.binary (.of main_call6_v11 : TRef sig ⟨S1024x1x1, .i1⟩) (.of main_call6_c_3 : TRef sig ⟨S_, .i1⟩) (.of main_call6_v12 : TRef sig ⟨S1024x1, .i1⟩) (fun x v => Host.reduce IntOp.andi x v reducesTo_S1024x1x1_S1024x1_d2 h_S_)
  :: TRef.binary (.of main_v98 : TRef sig ⟨S1024x2, .f32⟩) (.of main_call6_v5 : TRef sig ⟨S1024x1x1, .i32⟩) (.of main_call6_v13 : TRef sig ⟨S1024x1, .f32⟩) (fun x i => Host.gather gather_S1024x2_S1024x1x1_S1024x1_n_1_0_0_1_2_11 x i)
  :: TRef.nullary (.of main_call6_cst : TRef sig ⟨S_, .f32⟩) (constant S_ .f32 0x7FC00000#32)
  :: TRef.unary (.of main_call6_cst : TRef sig ⟨S_, .f32⟩) (.of main_call6_v14 : TRef sig ⟨S1024x1, .f32⟩) (broadcastInDim S1024x1 ![] bcast_S_S1024x1)
  :: TRef.ternary (.of main_call6_v12 : TRef sig ⟨S1024x1, .i1⟩) (.of main_call6_v13 : TRef sig ⟨S1024x1, .f32⟩) (.of main_call6_v14 : TRef sig ⟨S1024x1, .f32⟩) (.of main_v118 : TRef sig ⟨S1024x1, .f32⟩) select
  :: [] )
/-- What stretch 15 writes, in order. -/
abbrev W15 : List (Ref sig .tc) :=
  [ main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v118 ]
theorem ops15_sub : (ops15 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem ops15_fresh : (ops15 : List (HloOp τ sig (Elt F))).Forall fun op => op.fresh = ∅ := forall_fresh_of_map rfl
theorem ops15_writes : (ops15 : List (HloOp τ sig (Elt F))).Forall fun op => op.writes ⊆ (W15.map (Proc.devRef (τ := τ) .tc)).toFinset :=
  forall_writes_sub_of_map rfl

/-- Stretch 16 of @main: @main's own operations, 7 of them. -/
abbrev ops16 : List (HloOp τ sig (Elt F)) :=
  ( reshape main_v118 main_v119 (rfl : (.f32 : EltTy) = .f32) shapeCasts_S1024x1_S1024
  :: nullary main_cst_17 (constant S_ .f32 0x2B8CBCCC#32)
  :: unary main_cst_17 main_v120 (broadcastInDim S1024 ![] bcast_S_S1024 : (⟨S_, .f32⟩ : BufTy).Contents (Elt F) → (⟨S1024, .f32⟩ : BufTy).Contents (Elt F))
  :: binary main_v119 main_v120 main_v121 (addf : (⟨S1024, .f32⟩ : BufTy).Contents (Elt F) → (⟨S1024, .f32⟩ : BufTy).Contents (Elt F) → (⟨S1024, .f32⟩ : BufTy).Contents (Elt F))
  :: unary main_v121 main_v122 (Host.log : (⟨S1024, .f32⟩ : BufTy).Contents (Elt F) → (⟨S1024, .f32⟩ : BufTy).Contents (Elt F))
  :: reshape main_v58 main_v123 (rfl : (.f32 : EltTy) = .f32) shapeCasts_S1024x64_S1x1024x64
  :: reshape main_v56 main_v124 (rfl : (.f32 : EltTy) = .f32) shapeCasts_S1024x64_S1x1024x64
  :: [] )
/-- What stretch 16 writes, in order. -/
abbrev W16 : List (Ref sig .tc) :=
  [ main_v119, main_cst_17, main_v120, main_v121, main_v122, main_v123, main_v124 ]
theorem ops16_sub : (ops16 : List (HloOp τ sig (Elt F))).Forall fun op => op.bufs ⊆ tcRefs τ sig :=
  ⟨reshape_bufs_sub .., nullary_bufs_sub .., unary_bufs_sub .., binary_bufs_sub .., unary_bufs_sub .., reshape_bufs_sub .., reshape_bufs_sub ..⟩
theorem ops16_fresh : (ops16 : List (HloOp τ sig (Elt F))).Forall fun op => op.fresh = ∅ := forall_fresh_of_map rfl
theorem ops16_writes : (ops16 : List (HloOp τ sig (Elt F))).Forall fun op => op.writes ⊆ (W16.map (Proc.devRef (τ := τ) .tc)).toFinset :=
  forall_writes_sub_of_map rfl

theorem part0_chain (c : Dev nD) : main_part0 (F := F) c = (Pipeline.chainK [seq ops0, seq ops1, seq ops2, seq ops3] (seq ops4) : Prog (TpuEff nD τ sig (Elt F) (Pipeline.Sig Λ₀ (Fin 0) fun p => (pcfgs (F := F) p).Adm) .tc) PUnit) := by
  rewrite [StableHlo.chainK_seq_cons, StableHlo.chainK_seq_cons, StableHlo.chainK_seq_cons, StableHlo.chainK_seq_cons]
  chain_rfl

theorem part1_chain (c : Dev nD) : main_part1 (F := F) c = (Pipeline.chainK [seq ops5, seq ops6, seq ops7, seq ops8] (seq ops9) : Prog (TpuEff nD τ sig (Elt F) (Pipeline.Sig Λ₀ (Fin 0) fun p => (pcfgs (F := F) p).Adm) .tc) PUnit) := by
  rewrite [StableHlo.chainK_seq_cons, StableHlo.chainK_seq_cons, StableHlo.chainK_seq_cons, StableHlo.chainK_seq_cons]
  chain_rfl

theorem part2_chain (c : Dev nD) : main_part2 (F := F) c = (Pipeline.chain [seq ops10, seq ops11, seq ops12, seq ops13, seq ops14, seq ops15, seq ops16] : Prog (TpuEff nD τ sig (Elt F) (Pipeline.Sig Λ₀ (Fin 0) fun p => (pcfgs (F := F) p).Adm) .tc) PUnit) := by
  rewrite [StableHlo.chain_seq_cons, StableHlo.chain_seq_cons, StableHlo.chain_seq_cons, StableHlo.chain_seq_cons, StableHlo.chain_seq_cons, StableHlo.chain_seq_cons, StableHlo.chain_seq_cons]
  chain_rfl

/-- The stretches in order. -/
abbrev stretches : List (List (HloOp τ sig (Elt F))) := [ops0, ops1, ops2, ops3, ops4, ops5, ops6, ops7, ops8, ops9, ops10, ops11, ops12, ops13, ops14, ops15, ops16]
/-- @main is one line of operations. -/
theorem main_eq (c : Dev nD) : main (F := F) c = seq (List.flatten stretches) := by
  have h : main (F := F) c = (Pipeline.chain (stretches.map seq ++ []) : Prog (TpuEff nD τ sig (Elt F) (Pipeline.Sig Λ₀ (Fin 0) fun p => (pcfgs (F := F) p).Adm) .tc) PUnit) := by
    show (main_part0 (F := F) c >>= fun _ => main_part1 (F := F) c >>= fun _ => main_part2 (F := F) c) = _
    rewrite [part2_chain, part1_chain, part0_chain, Pipeline.chainK_bind_chain, Pipeline.chainK_bind_chain]
    chain_rfl
  rw [h, chain_map_seq_append, Pipeline.chain_nil]
  exact bind_pure _

/-- Every operation touches TensorCore references only. -/
theorem all_sub : (List.flatten stretches : List (HloOp τ sig (Elt F))).Forall fun op => op.bufs ⊆ tcRefs τ sig := by
  rw [List.forall_iff_forall_mem]
  intro op h
  obtain ⟨l, hl, ho⟩ := List.mem_flatten.1 h
  simp only [List.mem_cons, List.not_mem_nil, or_false] at hl
  rcases hl with rfl | rfl | rfl | rfl | rfl | rfl | rfl | rfl | rfl | rfl | rfl | rfl | rfl | rfl | rfl | rfl | rfl
  · exact List.forall_iff_forall_mem.1 ops0_sub op ho
  · exact List.forall_iff_forall_mem.1 ops1_sub op ho
  · exact List.forall_iff_forall_mem.1 ops2_sub op ho
  · exact List.forall_iff_forall_mem.1 ops3_sub op ho
  · exact List.forall_iff_forall_mem.1 ops4_sub op ho
  · exact List.forall_iff_forall_mem.1 ops5_sub op ho
  · exact List.forall_iff_forall_mem.1 ops6_sub op ho
  · exact List.forall_iff_forall_mem.1 ops7_sub op ho
  · exact List.forall_iff_forall_mem.1 ops8_sub op ho
  · exact List.forall_iff_forall_mem.1 ops9_sub op ho
  · exact List.forall_iff_forall_mem.1 ops10_sub op ho
  · exact List.forall_iff_forall_mem.1 ops11_sub op ho
  · exact List.forall_iff_forall_mem.1 ops12_sub op ho
  · exact List.forall_iff_forall_mem.1 ops13_sub op ho
  · exact List.forall_iff_forall_mem.1 ops14_sub op ho
  · exact List.forall_iff_forall_mem.1 ops15_sub op ho
  · exact List.forall_iff_forall_mem.1 ops16_sub op ho

theorem all_fresh : ∀ op ∈ (List.flatten stretches : List (HloOp τ sig (Elt F))), op.fresh = ∅ := by
  intro op h
  obtain ⟨l, hl, ho⟩ := List.mem_flatten.1 h
  simp only [List.mem_cons, List.not_mem_nil, or_false] at hl
  rcases hl with rfl | rfl | rfl | rfl | rfl | rfl | rfl | rfl | rfl | rfl | rfl | rfl | rfl | rfl | rfl | rfl | rfl
  · exact List.forall_iff_forall_mem.1 ops0_fresh op ho
  · exact List.forall_iff_forall_mem.1 ops1_fresh op ho
  · exact List.forall_iff_forall_mem.1 ops2_fresh op ho
  · exact List.forall_iff_forall_mem.1 ops3_fresh op ho
  · exact List.forall_iff_forall_mem.1 ops4_fresh op ho
  · exact List.forall_iff_forall_mem.1 ops5_fresh op ho
  · exact List.forall_iff_forall_mem.1 ops6_fresh op ho
  · exact List.forall_iff_forall_mem.1 ops7_fresh op ho
  · exact List.forall_iff_forall_mem.1 ops8_fresh op ho
  · exact List.forall_iff_forall_mem.1 ops9_fresh op ho
  · exact List.forall_iff_forall_mem.1 ops10_fresh op ho
  · exact List.forall_iff_forall_mem.1 ops11_fresh op ho
  · exact List.forall_iff_forall_mem.1 ops12_fresh op ho
  · exact List.forall_iff_forall_mem.1 ops13_fresh op ho
  · exact List.forall_iff_forall_mem.1 ops14_fresh op ho
  · exact List.forall_iff_forall_mem.1 ops15_fresh op ho
  · exact List.forall_iff_forall_mem.1 ops16_fresh op ho

/-- A buffer's contents after the first stretches: `U k` is what is held once `ops0` … `ops(k-1)` have run. -/
abbrev U0 (V : Valuation τ sig (Elt F)) : Valuation τ sig (Elt F) := V
def U1 (V : Valuation τ sig (Elt F)) : Valuation τ sig (Elt F) := after ops0 (U0 V)
def U2 (V : Valuation τ sig (Elt F)) : Valuation τ sig (Elt F) := after ops1 (U1 V)
def U3 (V : Valuation τ sig (Elt F)) : Valuation τ sig (Elt F) := after ops2 (U2 V)
def U4 (V : Valuation τ sig (Elt F)) : Valuation τ sig (Elt F) := after ops3 (U3 V)
def U5 (V : Valuation τ sig (Elt F)) : Valuation τ sig (Elt F) := after ops4 (U4 V)
def U6 (V : Valuation τ sig (Elt F)) : Valuation τ sig (Elt F) := after ops5 (U5 V)
def U7 (V : Valuation τ sig (Elt F)) : Valuation τ sig (Elt F) := after ops6 (U6 V)
def U8 (V : Valuation τ sig (Elt F)) : Valuation τ sig (Elt F) := after ops7 (U7 V)
def U9 (V : Valuation τ sig (Elt F)) : Valuation τ sig (Elt F) := after ops8 (U8 V)
def U10 (V : Valuation τ sig (Elt F)) : Valuation τ sig (Elt F) := after ops9 (U9 V)
def U11 (V : Valuation τ sig (Elt F)) : Valuation τ sig (Elt F) := after ops10 (U10 V)
def U12 (V : Valuation τ sig (Elt F)) : Valuation τ sig (Elt F) := after ops11 (U11 V)
def U13 (V : Valuation τ sig (Elt F)) : Valuation τ sig (Elt F) := after ops12 (U12 V)
def U14 (V : Valuation τ sig (Elt F)) : Valuation τ sig (Elt F) := after ops13 (U13 V)
def U15 (V : Valuation τ sig (Elt F)) : Valuation τ sig (Elt F) := after ops14 (U14 V)
def U16 (V : Valuation τ sig (Elt F)) : Valuation τ sig (Elt F) := after ops15 (U15 V)
def U17 (V : Valuation τ sig (Elt F)) : Valuation τ sig (Elt F) := after ops16 (U16 V)

theorem after_all (V : Valuation τ sig (Elt F)) : after (List.flatten stretches) V = U17 V := by
  simp only [stretches, List.flatten_cons, List.flatten_nil, StableHlo.after_append, after_nil]
  rfl

theorem U1_keep (V : Valuation τ sig (Elt F)) {r : Ref sig .tc} (h : r ∉ W0) : U1 V (Proc.devRef .tc r) = U0 V (Proc.devRef .tc r) :=
  after_of_writes_sub ops0 _ ops0_writes h
theorem U2_keep (V : Valuation τ sig (Elt F)) {r : Ref sig .tc} (h : r ∉ W1) : U2 V (Proc.devRef .tc r) = U1 V (Proc.devRef .tc r) :=
  after_of_writes_sub ops1 _ ops1_writes h
theorem U3_keep (V : Valuation τ sig (Elt F)) {r : Ref sig .tc} (h : r ∉ W2) : U3 V (Proc.devRef .tc r) = U2 V (Proc.devRef .tc r) :=
  after_of_writes_sub ops2 _ ops2_writes h
theorem U4_keep (V : Valuation τ sig (Elt F)) {r : Ref sig .tc} (h : r ∉ W3) : U4 V (Proc.devRef .tc r) = U3 V (Proc.devRef .tc r) :=
  after_of_writes_sub ops3 _ ops3_writes h
theorem U5_keep (V : Valuation τ sig (Elt F)) {r : Ref sig .tc} (h : r ∉ W4) : U5 V (Proc.devRef .tc r) = U4 V (Proc.devRef .tc r) :=
  after_of_writes_sub ops4 _ ops4_writes h
theorem U6_keep (V : Valuation τ sig (Elt F)) {r : Ref sig .tc} (h : r ∉ W5) : U6 V (Proc.devRef .tc r) = U5 V (Proc.devRef .tc r) :=
  after_of_writes_sub ops5 _ ops5_writes h
theorem U7_keep (V : Valuation τ sig (Elt F)) {r : Ref sig .tc} (h : r ∉ W6) : U7 V (Proc.devRef .tc r) = U6 V (Proc.devRef .tc r) :=
  after_of_writes_sub ops6 _ ops6_writes h
theorem U8_keep (V : Valuation τ sig (Elt F)) {r : Ref sig .tc} (h : r ∉ W7) : U8 V (Proc.devRef .tc r) = U7 V (Proc.devRef .tc r) :=
  after_of_writes_sub ops7 _ ops7_writes h
theorem U9_keep (V : Valuation τ sig (Elt F)) {r : Ref sig .tc} (h : r ∉ W8) : U9 V (Proc.devRef .tc r) = U8 V (Proc.devRef .tc r) :=
  after_of_writes_sub ops8 _ ops8_writes h
theorem U10_keep (V : Valuation τ sig (Elt F)) {r : Ref sig .tc} (h : r ∉ W9) : U10 V (Proc.devRef .tc r) = U9 V (Proc.devRef .tc r) :=
  after_of_writes_sub ops9 _ ops9_writes h
theorem U11_keep (V : Valuation τ sig (Elt F)) {r : Ref sig .tc} (h : r ∉ W10) : U11 V (Proc.devRef .tc r) = U10 V (Proc.devRef .tc r) :=
  after_of_writes_sub ops10 _ ops10_writes h
theorem U12_keep (V : Valuation τ sig (Elt F)) {r : Ref sig .tc} (h : r ∉ W11) : U12 V (Proc.devRef .tc r) = U11 V (Proc.devRef .tc r) :=
  after_of_writes_sub ops11 _ ops11_writes h
theorem U13_keep (V : Valuation τ sig (Elt F)) {r : Ref sig .tc} (h : r ∉ W12) : U13 V (Proc.devRef .tc r) = U12 V (Proc.devRef .tc r) :=
  after_of_writes_sub ops12 _ ops12_writes h
theorem U14_keep (V : Valuation τ sig (Elt F)) {r : Ref sig .tc} (h : r ∉ W13) : U14 V (Proc.devRef .tc r) = U13 V (Proc.devRef .tc r) :=
  after_of_writes_sub ops13 _ ops13_writes h
theorem U15_keep (V : Valuation τ sig (Elt F)) {r : Ref sig .tc} (h : r ∉ W14) : U15 V (Proc.devRef .tc r) = U14 V (Proc.devRef .tc r) :=
  after_of_writes_sub ops14 _ ops14_writes h
theorem U16_keep (V : Valuation τ sig (Elt F)) {r : Ref sig .tc} (h : r ∉ W15) : U16 V (Proc.devRef .tc r) = U15 V (Proc.devRef .tc r) :=
  after_of_writes_sub ops15 _ ops15_writes h
theorem U17_keep (V : Valuation τ sig (Elt F)) {r : Ref sig .tc} (h : r ∉ W16) : U17 V (Proc.devRef .tc r) = U16 V (Proc.devRef .tc r) :=
  after_of_writes_sub ops16 _ ops16_writes h

/-- Every weakly fair execution terminates with every buffer at the operations' results over the launch contents, and with
    every semaphore counter zero. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = U17 (launchContents m d) (Proc.devRef .tc b))
        ∧ r.2.sem = fun _ => 0 := by
  refine θ_run_mono (?_ : θ_run _ _ _ fun r => ∀ (d : Dev nD) (b : Ref sig .tc),
      r.2.mem ((d.tc : Thread nD τ).loc b) = after (List.flatten stretches) (launchContents m d) (Proc.devRef .tc b))
    fun r h => ⟨fun d b => (h d b).trans (congrFun (after_all _) _), sem_eq_zero_of_no_sems (by decide) r.2⟩
  exact run_seq (by decide +kernel) (by decide +kernel) defs main (fun _ => List.flatten stretches) main_eq (fun _ => all_sub) m ρ (fun _ => all_fresh)

/-- An argument ends as it began. -/
theorem kept (V : Valuation τ sig (Elt F)) {r : Ref sig .tc} (h : r ∉ (W0 ++ (W1 ++ (W2 ++ (W3 ++ (W4 ++ (W5 ++ (W6 ++ (W7 ++ (W8 ++ (W9 ++ (W10 ++ (W11 ++ (W12 ++ (W13 ++ (W14 ++ (W15 ++ (W16)))))))))))))))))) :
    U17 V (Proc.devRef .tc r) = V (Proc.devRef .tc r) := by
  simp only [List.mem_append, not_or] at h
  obtain ⟨h0, h1, h2, h3, h4, h5, h6, h7, h8, h9, h10, h11, h12, h13, h14, h15, h16⟩ := h
  rw [U17_keep V h16, U16_keep V h15, U15_keep V h14, U14_keep V h13, U13_keep V h12, U12_keep V h11, U11_keep V h10, U10_keep V h9, U9_keep V h8, U8_keep V h7, U7_keep V h6, U6_keep V h5, U5_keep V h4, U4_keep V h3, U3_keep V h2, U2_keep V h1, U1_keep V h0]

end Cert.ReferenceIdeal.Run

end
-- ==== Proof.Spec.lean ====
/-
  The mathematics of one step, free of both programs: what the reference computes, entry by entry, from its inputs read as
  extended reals. Both programs are shown to compute these functions.
-/
module

public import proofs.«01_k».proof.Proof.Maths

@[expose] public section

noncomputable section

namespace Cert.Spec

open Idealize.ShloMosaic

/-- The inputs of a step, entry by entry. -/
structure Inp where
  x : Fin 1024 → Fin 14 → EReal
  h : Fin 1024 → Fin 64 → EReal
  c : Fin 1024 → Fin 64 → EReal
  keys : Fin 100000 → Fin 10 → EReal
  vals : Fin 100000 → Fin 64 → EReal
  wi : Fin 320 → Fin 14 → EReal
  bi : Fin 320 → EReal
  wh : Fin 320 → Fin 64 → EReal
  bh : Fin 320 → EReal
  wf : Fin 64 → Fin 64 → EReal
  bf : Fin 64 → EReal
  wa : Fin 2 → Fin 64 → EReal
  ba : Fin 2 → EReal
  wc : Fin 64 → EReal
  bc : EReal

variable (I : Inp) (b : Fin 1024)

/-- Row `r` of the pre-activations. -/
def pre (r : Fin 320) : EReal := (∑ k, I.x b k * I.wi r k) + I.bi r + (∑ k, I.h b k * I.wh r k) + I.bh r

/-- The query: the first ten inputs. -/
def qry (i : Fin 10) : EReal := I.x b ⟨i.val, by omega⟩

/-- The retrieved value: the weighted mean of the memory's values. -/
def mem (d : Fin 64) : EReal :=
  Ideal.div (∑ j, Maths.wt (qry I b) (I.keys j) * I.vals j d) (∑ j, Maths.wt (qry I b) (I.keys j))

/-- The cell state. -/
def ct (d : Fin 64) : EReal :=
  Ideal.logistic (pre I b ⟨d.val, by omega⟩) * I.c b d
      + Ideal.logistic (pre I b ⟨64 + d.val, by omega⟩) * Ideal.tanh (pre I b ⟨256 + d.val, by omega⟩)
    + Ideal.logistic (pre I b ⟨192 + d.val, by omega⟩) * Ideal.tanh (mem I b d)

/-- The hidden state. -/
def ht (d : Fin 64) : EReal := Ideal.logistic (pre I b ⟨128 + d.val, by omega⟩) * Ideal.tanh (ct I b d)

/-- The head's hidden layer. -/
def hid (e : Fin 64) : EReal := max ((∑ k, ht I b k * I.wf e k) + I.bf e) 0

/-- The actor's logits. -/
def logit (o : Fin 2) : EReal := (∑ k, hid I b k * I.wa o k) + I.ba o

/-- The largest logit. -/
def top : EReal := Finset.univ.fold max ⊥ fun o => logit I b o

/-- The policy: the softmax of the logits. -/
def pi (o : Fin 2) : EReal :=
  Ideal.div (Ideal.exp (logit I b o - top I b)) (∑ l, Ideal.exp (logit I b l - top I b))

/-- The critic's value. -/
def val : EReal := (∑ k, hid I b k * I.wc k) + I.bc

end Cert.Spec
-- ==== Proof.KernIn.lean ====
/-
  The arrays the kernel's region starts from, and the blocks its steps read, entry by entry over the extended reals.
-/
module

public import proofs.«01_k».proof.Proof.Pure
public import proofs.«01_k».proof.Proof.Spec
public import Idealize.ShloMosaic.Lib.StableHlo.RunRead

@[expose] public section

set_option maxRecDepth 16384

noncomputable section

namespace Cert.KernelIdeal.Run

open Cert.KernelIdeal Cert.KernelIdeal.Gen
open Idealize.ShloMosaic Idealize.ShloMosaic.TcCoe Idealize.ShloMosaic.StableHlo Idealize.SL.Sem

/-- What a buffer holds. -/
abbrev rd (V : Valuation τ sig (Elt Ideal)) (r : Ref sig .tc) := V (Proc.devRef .tc r)

/-- The kernel's inputs, entry by entry. -/
def inp (V : Valuation τ sig (Elt Ideal)) : Spec.Inp where
  x b k := (rd V main_arg0 : FVec Ideal S1024x14 .f32) (ix2 b k)
  h b k := (rd V main_arg1 : FVec Ideal S1x1024x64 .f32) (ix3 0 b k)
  c b k := (rd V main_arg2 : FVec Ideal S1x1024x64 .f32) (ix3 0 b k)
  keys j k := (rd V main_arg3 : FVec Ideal S100000x10 .f32) (ix2 j k)
  vals j k := (rd V main_arg4 : FVec Ideal S100000x64 .f32) (ix2 j k)
  wi r k := (rd V main_arg5 : FVec Ideal S320x14 .f32) (ix2 r k)
  bi r := (rd V main_arg6 : FVec Ideal S320 .f32) (ix1 r)
  wh r k := (rd V main_arg7 : FVec Ideal S320x64 .f32) (ix2 r k)
  bh r := (rd V main_arg8 : FVec Ideal S320 .f32) (ix1 r)
  wf r k := (rd V main_arg9 : FVec Ideal S64x64 .f32) (ix2 r k)
  bf r := (rd V main_arg10 : FVec Ideal S64 .f32) (ix1 r)
  wa r k := (rd V main_arg11 : FVec Ideal S2x64 .f32) (ix2 r k)
  ba r := (rd V main_arg12 : FVec Ideal S2 .f32) (ix1 r)
  wc k := (rd V main_arg13 : FVec Ideal S1x64 .f32) (ix2 0 k)
  bc := (rd V main_arg14 : FVec Ideal S1 .f32) (ix1 0)

/-! ## The arrays at the region's entry -/

section Host

variable (V : Valuation τ sig (Elt Ideal)) (b : Fin 1024)

/-- The buffers after the operations before the region. -/
abbrev H : Valuation τ sig (Elt Ideal) := after hostOps0 V

theorem z_x (k : Fin 14) : (rd (H V) main_v3 : FVec Ideal S1024x79 .f32) (ix2 b ⟨k.val, by omega⟩) = (inp V).x b k := by
  after_reads_simp
  pointwise [inp]

theorem z_h (k : Fin 64) : (rd (H V) main_v3 : FVec Ideal S1024x79 .f32) (ix2 b ⟨14 + k.val, by omega⟩) = (inp V).h b k := by
  after_reads_simp
  pointwise [inp]
  after_reads_simp
  pointwise

theorem z_one : (rd (H V) main_v3 : FVec Ideal S1024x79 .f32) (ix2 b ⟨78, by omega⟩) = (1 : EReal) := by
  after_reads_simp
  pointwise
  after_reads_simp
  pointwise

theorem c2_eq (d : Fin 64) : (rd (H V) main_v1 : FVec Ideal S1024x64 .f32) (ix2 b d) = (inp V).c b d := by
  after_reads_simp
  pointwise [inp]

/-- A gate's pre-activation as the kernel forms it: one product over inputs, hidden state and a constant one. -/
def gsum (z : FVec Ideal S1024x79 .f32) (w : FVec Ideal S64x79 .f32) (b : Fin 1024) (d : Fin 64) : EReal :=
  ∑ k : Fin 79, z (ix2 b k) * w (ix2 d k)

theorem sum79 (f : Fin 79 → EReal) : ∑ k, f k = ∑ k : Fin 14, f ⟨k.val, by omega⟩ + ∑ k : Fin 64, f ⟨14 + k.val, by omega⟩ + f ⟨78, by omega⟩ := by
  rw [Fin.sum_univ_castSucc (n := 78), Fin.sum_univ_add (a := 14) (b := 64)]
  rfl

/-- The joined product is the pre-activation when both factors are joined in the same order. -/
theorem gate_of {z : FVec Ideal S1024x79 .f32} {w : FVec Ideal S64x79 .f32} {I : Spec.Inp} {b : Fin 1024} {d : Fin 64} {r : Fin 320}
    (zx : ∀ k : Fin 14, z (ix2 b ⟨k.val, by omega⟩) = I.x b k) (zh : ∀ k : Fin 64, z (ix2 b ⟨14 + k.val, by omega⟩) = I.h b k)
    (z1 : z (ix2 b ⟨78, by omega⟩) = 1)
    (wx : ∀ k : Fin 14, w (ix2 d ⟨k.val, by omega⟩) = I.wi r k) (wh : ∀ k : Fin 64, w (ix2 d ⟨14 + k.val, by omega⟩) = I.wh r k)
    (w1 : w (ix2 d ⟨78, by omega⟩) = I.bi r + I.bh r) : gsum z w b d = Spec.pre I b r := by
  unfold gsum Spec.pre
  rw [sum79, z1, w1]
  simp only [zx, zh, wx, wh, one_mul]
  ac_rfl

theorem w0_x (d : Fin 64) (k : Fin 14) : (rd (H V) main_v9 : FVec Ideal S64x79 .f32) (ix2 d ⟨k.val, by omega⟩) = (inp V).wi ⟨d.val, by omega⟩ k := by
  after_reads_simp
  pointwise [inp]
  after_reads_simp
  pointwise

theorem w0_h (d : Fin 64) (k : Fin 64) : (rd (H V) main_v9 : FVec Ideal S64x79 .f32) (ix2 d ⟨14 + k.val, by omega⟩) = (inp V).wh ⟨d.val, by omega⟩ k := by
  after_reads_simp
  pointwise [inp]
  simp
  after_reads_simp
  pointwise

theorem w0_one (d : Fin 64) : (rd (H V) main_v9 : FVec Ideal S64x79 .f32) (ix2 d ⟨78, by omega⟩) = (inp V).bi ⟨d.val, by omega⟩ + (inp V).bh ⟨d.val, by omega⟩ := by
  after_reads_simp
  pointwise [inp]
  after_reads_simp
  pointwise

theorem gate0 (d : Fin 64) : gsum (rd (H V) main_v3) (rd (H V) main_v9) b d = Spec.pre (inp V) b ⟨d.val, by omega⟩ :=
  gate_of (z_x V b) (z_h V b) (z_one V b) (w0_x V d) (w0_h V d) (w0_one V d)

theorem w1_x (d : Fin 64) (k : Fin 14) : (rd (H V) main_v14 : FVec Ideal S64x79 .f32) (ix2 d ⟨k.val, by omega⟩) = (inp V).wi ⟨64 + d.val, by omega⟩ k := by
  after_reads_simp
  pointwise [inp]
  after_reads_simp
  pointwise

theorem w1_h (d : Fin 64) (k : Fin 64) : (rd (H V) main_v14 : FVec Ideal S64x79 .f32) (ix2 d ⟨14 + k.val, by omega⟩) = (inp V).wh ⟨64 + d.val, by omega⟩ k := by
  after_reads_simp
  pointwise [inp]
  simp
  after_reads_simp
  pointwise

theorem w1_one (d : Fin 64) : (rd (H V) main_v14 : FVec Ideal S64x79 .f32) (ix2 d ⟨78, by omega⟩) = (inp V).bi ⟨64 + d.val, by omega⟩ + (inp V).bh ⟨64 + d.val, by omega⟩ := by
  after_reads_simp
  pointwise [inp]
  after_reads_simp
  pointwise

theorem gate1 (d : Fin 64) : gsum (rd (H V) main_v3) (rd (H V) main_v14) b d = Spec.pre (inp V) b ⟨64 + d.val, by omega⟩ :=
  gate_of (z_x V b) (z_h V b) (z_one V b) (w1_x V d) (w1_h V d) (w1_one V d)

theorem w2_x (d : Fin 64) (k : Fin 14) : (rd (H V) main_v19 : FVec Ideal S64x79 .f32) (ix2 d ⟨k.val, by omega⟩) = (inp V).wi ⟨128 + d.val, by omega⟩ k := by
  after_reads_simp
  pointwise [inp]
  after_reads_simp
  pointwise

theorem w2_h (d : Fin 64) (k : Fin 64) : (rd (H V) main_v19 : FVec Ideal S64x79 .f32) (ix2 d ⟨14 + k.val, by omega⟩) = (inp V).wh ⟨128 + d.val, by omega⟩ k := by
  after_reads_simp
  pointwise [inp]
  simp
  after_reads_simp
  pointwise

theorem w2_one (d : Fin 64) : (rd (H V) main_v19 : FVec Ideal S64x79 .f32) (ix2 d ⟨78, by omega⟩) = (inp V).bi ⟨128 + d.val, by omega⟩ + (inp V).bh ⟨128 + d.val, by omega⟩ := by
  after_reads_simp
  pointwise [inp]
  after_reads_simp
  pointwise

theorem gate2 (d : Fin 64) : gsum (rd (H V) main_v3) (rd (H V) main_v19) b d = Spec.pre (inp V) b ⟨128 + d.val, by omega⟩ :=
  gate_of (z_x V b) (z_h V b) (z_one V b) (w2_x V d) (w2_h V d) (w2_one V d)

theorem w3_x (d : Fin 64) (k : Fin 14) : (rd (H V) main_v24 : FVec Ideal S64x79 .f32) (ix2 d ⟨k.val, by omega⟩) = (inp V).wi ⟨192 + d.val, by omega⟩ k := by
  after_reads_simp
  pointwise [inp]
  after_reads_simp
  pointwise

theorem w3_h (d : Fin 64) (k : Fin 64) : (rd (H V) main_v24 : FVec Ideal S64x79 .f32) (ix2 d ⟨14 + k.val, by omega⟩) = (inp V).wh ⟨192 + d.val, by omega⟩ k := by
  after_reads_simp
  pointwise [inp]
  simp
  after_reads_simp
  pointwise

theorem w3_one (d : Fin 64) : (rd (H V) main_v24 : FVec Ideal S64x79 .f32) (ix2 d ⟨78, by omega⟩) = (inp V).bi ⟨192 + d.val, by omega⟩ + (inp V).bh ⟨192 + d.val, by omega⟩ := by
  after_reads_simp
  pointwise [inp]
  after_reads_simp
  pointwise

theorem gate3 (d : Fin 64) : gsum (rd (H V) main_v3) (rd (H V) main_v24) b d = Spec.pre (inp V) b ⟨192 + d.val, by omega⟩ :=
  gate_of (z_x V b) (z_h V b) (z_one V b) (w3_x V d) (w3_h V d) (w3_one V d)

theorem w4_x (d : Fin 64) (k : Fin 14) : (rd (H V) main_v29 : FVec Ideal S64x79 .f32) (ix2 d ⟨k.val, by omega⟩) = (inp V).wi ⟨256 + d.val, by omega⟩ k := by
  after_reads_simp
  pointwise [inp]
  after_reads_simp
  pointwise

theorem w4_h (d : Fin 64) (k : Fin 64) : (rd (H V) main_v29 : FVec Ideal S64x79 .f32) (ix2 d ⟨14 + k.val, by omega⟩) = (inp V).wh ⟨256 + d.val, by omega⟩ k := by
  after_reads_simp
  pointwise [inp]
  simp
  after_reads_simp
  pointwise

theorem w4_one (d : Fin 64) : (rd (H V) main_v29 : FVec Ideal S64x79 .f32) (ix2 d ⟨78, by omega⟩) = (inp V).bi ⟨256 + d.val, by omega⟩ + (inp V).bh ⟨256 + d.val, by omega⟩ := by
  after_reads_simp
  pointwise [inp]
  after_reads_simp
  pointwise

theorem gate4 (d : Fin 64) : gsum (rd (H V) main_v3) (rd (H V) main_v29) b d = Spec.pre (inp V) b ⟨256 + d.val, by omega⟩ :=
  gate_of (z_x V b) (z_h V b) (z_one V b) (w4_x V d) (w4_h V d) (w4_one V d)

theorem qt_eq (i : Fin 10) : (rd (H V) main_v39 : FVec Ideal S10x1024 .f32) (ix2 i b) = (inp V).x b ⟨i.val, by omega⟩ := by
  after_reads_simp
  pointwise [inp]

theorem kt_eq (i : Fin 10) (j : Fin 100000) : (rd (H V) main_v36 : FVec Ideal S10x100000 .f32) (ix2 i j) = (inp V).keys j i := by
  after_reads_simp
  pointwise [inp]

theorem vt_eq (i : Fin 64) (j : Fin 100000) : (rd (H V) main_v37 : FVec Ideal S64x100000 .f32) (ix2 i j) = (inp V).vals j i := by
  after_reads_simp
  pointwise [inp]

theorem wf_eq (e k : Fin 64) : (rd (H V) main_arg9 : FVec Ideal S64x64 .f32) (ix2 e k) = (inp V).wf e k := by
  after_reads_simp
  pointwise [inp]

theorem bf_eq (e : Fin 64) : (rd (H V) main_v30 : FVec Ideal S1x64 .f32) (ix2 0 e) = (inp V).bf e := by
  after_reads_simp
  pointwise [inp]

theorem wa_eq (o : Fin 2) (k : Fin 64) : (rd (H V) main_arg11 : FVec Ideal S2x64 .f32) (ix2 o k) = (inp V).wa o k := by
  after_reads_simp
  pointwise [inp]

theorem ba_eq (o : Fin 2) : (rd (H V) main_v31 : FVec Ideal S1x2 .f32) (ix2 0 o) = (inp V).ba o := by
  after_reads_simp
  pointwise [inp]

theorem wc_eq (k : Fin 64) : (rd (H V) main_v35 : FVec Ideal S2x64 .f32) (ix2 0 k) = (inp V).wc k := by
  after_reads_simp
  pointwise [inp]

theorem bc_eq  : (rd (H V) main_v33 : FVec Ideal S1024x1 .f32) (ix2 b 0) = (inp V).bc := by
  after_reads_simp
  pointwise [inp]

end Host

end Cert.KernelIdeal.Run
-- ==== Proof.KernBlk.lean ====
/-
  The blocks the region's steps read, entry by entry: the whole-array windows hold the entry arrays, and the two chunk
  windows hold 8192 consecutive memory rows, the next chunk's at each step.
-/
module

public import proofs.«01_k».proof.Proof.KernIn
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.StableHlo Idealize.SL.Sem Idealize.ShloMosaic.Tactic

variable (m : (ℓ : Loc nD τ sig) → Buf (Elt Ideal) ℓ) (c : Dev nD)

/-- What device `c` holds at the launch. -/
abbrev L : Valuation τ sig (Elt Ideal) := fun b => m (c, b)

theorem V0_eq : V0 m c = H (L m c) := by
  unfold V0 H L
  rw [List.flatten_cons, List.flatten_nil, List.append_nil]

/-! ## Block indices -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0] := (by decide +kernel : ∀ t : Fin grid0.N, _)
theorem idx21 : ∀ t : Fin cfg0.N, win0_21.index t = ![0, 0] := (by decide +kernel : ∀ t : Fin grid0.N, _)
theorem idx3 : ∀ t : Fin cfg0.N, win0_3.index t = ![0, (t.val + 1) % 13] := (by decide +kernel : ∀ t : Fin grid0.N, _)
theorem idx4 : ∀ t : Fin cfg0.N, win0_4.index t = ![0, (t.val + 1) % 13] := (by decide +kernel : ∀ t : Fin grid0.N, _)
theorem idx16 : ∀ t : Fin cfg0.N, win0_16.index t = ![0, (t.val + 1) % 13] := (by decide +kernel : ∀ t : Fin grid0.N, _)
theorem idx17 : ∀ t : Fin cfg0.N, win0_17.index t = ![0, (t.val + 1) % 13] := (by decide +kernel : ∀ t : Fin grid0.N, _)

/-! ## Whole-array windows -/

theorem blk0 (t : Fin cfg0.N) : iblk m c 0 t = rd (H (L m c)) main_v3 := by
  rw [← V0_eq]
  blk_ext! [iblk, V, idx0 t]

theorem blk1 (t : Fin cfg0.N) : iblk m c 1 t = rd (H (L m c)) main_v1 := by
  rw [← V0_eq]
  blk_ext! [iblk, V, idx1 t]

theorem blk2 (t : Fin cfg0.N) : iblk m c 2 t = rd (H (L m c)) main_v39 := by
  rw [← V0_eq]
  blk_ext! [iblk, V, idx2 t]

theorem blk5 (t : Fin cfg0.N) : iblk m c 5 t = rd (H (L m c)) main_v9 := by
  rw [← V0_eq]
  blk_ext! [iblk, V, idx5 t]

theorem blk6 (t : Fin cfg0.N) : iblk m c 6 t = rd (H (L m c)) main_v14 := by
  rw [← V0_eq]
  blk_ext! [iblk, V, idx6 t]

theorem blk7 (t : Fin cfg0.N) : iblk m c 7 t = rd (H (L m c)) main_v19 := by
  rw [← V0_eq]
  blk_ext! [iblk, V, idx7 t]

theorem blk8 (t : Fin cfg0.N) : iblk m c 8 t = rd (H (L m c)) main_v24 := by
  rw [← V0_eq]
  blk_ext! [iblk, V, idx8 t]

theorem blk9 (t : Fin cfg0.N) : iblk m c 9 t = rd (H (L m c)) main_v29 := by
  rw [← V0_eq]
  blk_ext! [iblk, V, idx9 t]

theorem blk10 (t : Fin cfg0.N) : iblk m c 10 t = rd (H (L m c)) main_arg9 := by
  rw [← V0_eq]
  blk_ext! [iblk, V, idx10 t]

theorem blk11 (t : Fin cfg0.N) : iblk m c 11 t = rd (H (L m c)) main_v30 := by
  rw [← V0_eq]
  blk_ext! [iblk, V, idx11 t]

theorem blk12 (t : Fin cfg0.N) : iblk m c 12 t = rd (H (L m c)) main_arg11 := by
  rw [← V0_eq]
  blk_ext! [iblk, V, idx12 t]

theorem blk13 (t : Fin cfg0.N) : iblk m c 13 t = rd (H (L m c)) main_v31 := by
  rw [← V0_eq]
  blk_ext! [iblk, V, idx13 t]

theorem blk14 (t : Fin cfg0.N) : iblk m c 14 t = rd (H (L m c)) main_v35 := by
  rw [← V0_eq]
  blk_ext! [iblk, V, idx14 t]

theorem blk15 (t : Fin cfg0.N) : iblk m c 15 t = rd (H (L m c)) main_v33 := by
  rw [← V0_eq]
  blk_ext! [iblk, V, idx15 t]

/-! ## Chunk windows -/

/-- A chunk's staged block holds the memory's rows, where the memory has them. -/
theorem kblk_apply (t : Fin cfg0.N) (i : Fin 10) (j : Fin 8192) (h : (t.val + 1) % 13 * 8192 + j.val < 100000) :
    kblk m c t (ix2 i j) = (rd (H (L m c)) main_v36 : FVec Ideal S10x100000 .f32) (ix2 i ⟨(t.val + 1) % 13 * 8192 + j.val, h⟩) := by
  have hm : win0_3.moved (grid0.coords t) (ix2 i j) = true := by
    by_cases ht : t.val = 11
    · refine in3 t ht _ ?_
      show j.val < 1696
      rw [ht] at h
      omega
    · exact whole3 t ht _
  rw [← V0_eq]
  unfold kblk Pipeline.Window.fill
  rw [dif_pos hm]
  blk_point [iblk, V, idx3 t]

/-- A chunk's staged block holds the memory's rows, where the memory has them. -/
theorem vblk_apply (t : Fin cfg0.N) (i : Fin 64) (j : Fin 8192) (h : (t.val + 1) % 13 * 8192 + j.val < 100000) :
    vblk m c t (ix2 i j) = (rd (H (L m c)) main_v37 : FVec Ideal S64x100000 .f32) (ix2 i ⟨(t.val + 1) % 13 * 8192 + j.val, h⟩) := by
  have hm : win0_4.moved (grid0.coords t) (ix2 i j) = true := by
    by_cases ht : t.val = 11
    · refine in4 t ht _ ?_
      show j.val < 1696
      rw [ht] at h
      omega
    · exact whole4 t ht _
  rw [← V0_eq]
  unfold vblk Pipeline.Window.fill
  rw [dif_pos hm]
  blk_point [iblk, V, idx4 t]

end Cert.KernelIdeal.Run
-- ==== Proof.KernAcc.lean ====
/-
  What the accumulator holds after the last step: for each query the sum of the weighted values over the whole memory,
  and in the upper half of the columns the sum of the weights. Each step adds one chunk of 8192 slots, starting with
  the second chunk and ending with the first; slots past the memory's end count nothing.
-/
module

public import proofs.«01_k».proof.Proof.KernBlk

@[expose] public section

set_option maxRecDepth 16384

noncomputable section

namespace Cert.KernelIdeal.Run

open Cert.KernelIdeal Cert.KernelIdeal.Gen
open Idealize.ShloMosaic Idealize.ShloMosaic.TcCoe Idealize.ShloMosaic.StableHlo Idealize.SL.Sem Idealize.ShloMosaic.Tactic

/-- What slot `j` adds to column `d` of query `b`; nothing past the memory's end. -/
def term (I : Spec.Inp) (b : Fin 1024) (d : Fin 128) (j : ℕ) : EReal :=
  if h : j < 100000 then Maths.wt (Spec.qry I b) (I.keys ⟨j, h⟩) * (if h' : d.val < 64 then I.vals ⟨j, h⟩ ⟨d.val, h'⟩ else 1) else 0

/-- What chunk `g` adds. -/
def chunk (I : Spec.Inp) (b : Fin 1024) (d : Fin 128) (g : ℕ) : EReal := ∑ j : Fin 8192, term I b d (g * 8192 + j.val)

variable (m : (ℓ : Loc nD τ sig) → Buf (Elt Ideal) ℓ) (c : Dev nD)

theorem qnAt_apply (b : Fin 1024) (x : Fin 10) :
    qnAt m c (ix2 b x) = Maths.unitv (Spec.qry (inp (L m c)) b) x * (((Real.log 2)⁻¹ : ℝ) : EReal) := by
  unfold qnAt
  rw [pay14_apply, blk0]
  refine congrArg (fun q => Maths.unitv q x * _) (funext fun i => ?_)
  exact z_x (L m c) b ⟨i.val, by omega⟩

/-- One slot's contribution within a step. -/
theorem slot (t : Fin cfg0.N) (b : Fin 1024) (d : Fin 128) (j : Fin 8192) (h : (t.val + 1) % 13 * 8192 + j.val < 100000) :
    k0_pay16 (F := Ideal) (kblk m c t) (qnAt m c) (ix2 b j) * augU (F := Ideal) (k0_pay15 (F := Ideal)) (vblk m c t) (ix2 d j)
      = term (inp (L m c)) b d ((t.val + 1) % 13 * 8192 + j.val) := by
  unfold term
  rw [dif_pos h, pay16_apply, augU_apply]
  refine congrArg₂ (· * ·) ?_ ?_
  · have hk : (fun i => kblk m c t (ix2 i j)) = (inp (L m c)).keys ⟨(t.val + 1) % 13 * 8192 + j.val, h⟩ := by
      funext i
      exact (kblk_apply m c t i j h).trans (kt_eq (L m c) i _)
    rw [hk]
    refine Eq.trans (congrArg Ideal.exp2 (Finset.sum_congr rfl fun x _ => ?_)) (Maths.exp2_sim (Spec.qry (inp (L m c)) b) _)
    rw [qnAt_apply]
  · by_cases hd : d.val < 64
    · rw [dif_pos hd, dif_pos hd]
      exact (vblk_apply m c t ⟨d.val, hd⟩ j h).trans (vt_eq (L m c) _ _)
    · rw [dif_neg hd, dif_neg hd]
      exact pay15_apply d j

/-- A step of a whole chunk. -/
theorem add_whole (t : Fin cfg0.N) (ht : t.val ≠ 11) (b : Fin 1024) (d : Fin 128) :
    ∑ j : Fin 8192, k0_pay16 (F := Ideal) (kblk m c t) (qnAt m c) (ix2 b j) * augU (F := Ideal) (k0_pay15 (F := Ideal)) (vblk m c t) (ix2 d j)
      = chunk (inp (L m c)) b d ((t.val + 1) % 13) := by
  have h13 : t.val < 13 := lt_of_lt_of_eq t.isLt (show cfg0.N = 13 from N_0)
  unfold chunk
  refine Finset.sum_congr rfl fun j _ => slot m c t b d j ?_
  omega

/-- The step of the ragged chunk. -/
theorem add_ragged (t : Fin cfg0.N) (ht : t.val = 11) (b : Fin 1024) (d : Fin 128) :
    (∑ j : Fin 8192, if j.val < 1696 then
        k0_pay16 (F := Ideal) (kblk m c t) (qnAt m c) (ix2 b j) * augU (F := Ideal) (k0_pay15 (F := Ideal)) (vblk m c t) (ix2 d j) else 0)
      = chunk (inp (L m c)) b d ((t.val + 1) % 13) := by
  unfold chunk
  refine Finset.sum_congr rfl fun j _ => ?_
  by_cases hj : j.val < 1696
  · rw [if_pos hj]
    exact slot m c t b d j (by omega)
  · rw [if_neg hj]
    unfold term
    rw [dif_neg (by omega)]

/-- The accumulator after a step: the chunks up to that step. -/
theorem accAt_apply (b : Fin 1024) (d : Fin 128) : ∀ n : ℕ, n < 13 →
    accAt m c n (ix2 b d) = ∑ g ∈ Finset.range (n + 1), chunk (inp (L m c)) b d ((g + 1) % 13) := by
  intro n
  induction n with
  | zero =>
    intro _
    have h := accAt_first m c (pt 0) rfl
    rw [show (pt 0).val = 0 from rfl] at h
    rw [h, pay18_apply, pay13_apply, zero_add, Finset.sum_range_one]
    exact add_whole m c (pt 0) (by decide) b d
  | succ n ih =>
    intro hn
    have hv : (pt (n + 1)).val = n + 1 := Nat.mod_eq_of_lt hn
    rw [Finset.sum_range_succ, ← ih (by omega)]
    by_cases h11 : n + 1 = 11
    · have h := accAt_ragged m c (pt (n + 1)) (by rw [hv]; exact h11)
      rw [hv, Nat.add_sub_cancel] at h
      rw [h, pay1_apply, add_ragged m c (pt (n + 1)) (by rw [hv]; exact h11), hv]
    · have h := accAt_mid m c (pt (n + 1)) (by rw [hv]; omega) (by rw [hv]; exact h11)
      rw [hv, Nat.add_sub_cancel] at h
      rw [h, pay18_apply, add_whole m c (pt (n + 1)) (by rw [hv]; exact h11), hv]

/-- The chunks together are the memory. -/
theorem chunks (I : Spec.Inp) (b : Fin 1024) (d : Fin 128) :
    ∑ g ∈ Finset.range 13, chunk I b d ((g + 1) % 13) = ∑ j : Fin 100000, term I b d j.val := by
  have h1 : ∑ g ∈ Finset.range 13, chunk I b d ((g + 1) % 13) = ∑ g ∈ Finset.range 13, chunk I b d g := by
    rw [Finset.sum_range_succ, Finset.sum_range_succ' (fun g => chunk I b d g)]
    refine congrArg₂ (· + ·) (Finset.sum_congr rfl fun g hg => ?_) rfl
    rw [Nat.mod_eq_of_lt (by have := Finset.mem_range.mp hg; omega)]
  have h2 : ∑ g ∈ Finset.range 13, chunk I b d g = ∑ j : Fin (13 * 8192), term I b d j.val := by
    rw [← Fin.sum_univ_eq_sum_range (fun g => chunk I b d g) 13, Fin.sum_univ_tiles 13 8192 rfl]
    rfl
  have h3 : ∑ j : Fin (13 * 8192), term I b d j.val = ∑ j ∈ Finset.range (13 * 8192), term I b d j :=
    Fin.sum_univ_eq_sum_range (fun j => term I b d j) (13 * 8192)
  rw [h1, h2, h3, Fin.sum_univ_eq_sum_range (fun j => term I b d j) 100000]
  refine (Finset.sum_subset (Finset.range_subset_range.mpr (by norm_num)) fun j _ hj => ?_).symm
  unfold term
  rw [dif_neg (by simpa using hj)]

/-- The accumulator's lower columns after the last step: the weighted values. -/
theorem acc_num (b : Fin 1024) (d : Fin 64) : accAt m c 12 (ix2 b (⟨d.val, by omega⟩ : Fin 128))
    = ∑ j, Maths.wt (Spec.qry (inp (L m c)) b) ((inp (L m c)).keys j) * (inp (L m c)).vals j d := by
  rw [accAt_apply m c b _ 12 (by omega), chunks]
  refine Finset.sum_congr rfl fun j _ => ?_
  unfold term
  rw [dif_pos j.isLt, dif_pos d.isLt]

/-- The accumulator's upper columns after the last step: the weights. -/
theorem acc_den (b : Fin 1024) (d : Fin 64) : accAt m c 12 (ix2 b (⟨64 + d.val, by omega⟩ : Fin 128))
    = ∑ j, Maths.wt (Spec.qry (inp (L m c)) b) ((inp (L m c)).keys j) := by
  rw [accAt_apply m c b _ 12 (by omega), chunks]
  refine Finset.sum_congr rfl fun j _ => ?_
  unfold term
  rw [dif_pos j.isLt, dif_neg (show ¬ 64 + d.val < 64 by omega), mul_one]

end Cert.KernelIdeal.Run
-- ==== Proof.KernCell.lean ====
/-
  The results of the last step, entry by entry: the new cell and hidden states, the policy, and the state value.
-/
module

public import proofs.«01_k».proof.Proof.KernAcc

@[expose] public section

set_option maxRecDepth 16384

noncomputable section

namespace Cert.KernelIdeal.Run

open Cert.KernelIdeal Cert.KernelIdeal.Gen
open Idealize.ShloMosaic Idealize.ShloMosaic.TcCoe Idealize.ShloMosaic.StableHlo Idealize.SL.Sem Idealize.ShloMosaic.Tactic

/-! ## The payloads at an entry -/

section Pay

variable (z : FVec Ideal S1024x79 .f32) (c2 : FVec Ideal S1024x64 .f32) (w0 w1 w2 w3 w4 : FVec Ideal S64x79 .f32) (acc : FVec Ideal S1024x128 .f32)

theorem pay12_eq : k0_pay12 (F := Ideal) z = z := by
  funext y
  obtain ⟨b, d, rfl⟩ : ∃ (b : Fin 1024) (d : Fin 79), y = ix2 b d := ⟨y 0, y 1, eq_ix2 y⟩
  pointwise [k0_pay12]

theorem pay4_apply (b : Fin 1024) (d : Fin 64) : k0_pay4 (F := Ideal) z c2 w0 w1 w3 w4 acc (ix2 b d)
    = Ideal.logistic (gsum z w0 b d) * c2 (ix2 b d) + Ideal.logistic (gsum z w1 b d) * Ideal.tanh (gsum z w4 b d)
      + Ideal.logistic (gsum z w3 b d)
        * Ideal.tanh (Ideal.div (acc (ix2 b (⟨d.val, by omega⟩ : Fin 128))) (acc (ix2 b (⟨64 + d.val, by omega⟩ : Fin 128)))) := by
  pointwise [k0_pay4, gsum]

theorem pay5_apply (b : Fin 1024) (d : Fin 64) : k0_pay5 (F := Ideal) z c2 w0 w1 w2 w3 w4 acc (ix2 b d)
    = Ideal.logistic (gsum z w2 b d) * Ideal.tanh (k0_pay4 (F := Ideal) z c2 w0 w1 w3 w4 acc (ix2 b d)) := by
  pointwise [k0_pay5, gsum]

theorem pay6_apply (wf : FVec Ideal S64x64 .f32) (b : Fin 1024) (e : Fin 64) : k0_pay6 (F := Ideal) z c2 w0 w1 w2 w3 w4 acc wf (ix2 b e)
    = ∑ k : Fin 64, k0_pay5 (F := Ideal) z c2 w0 w1 w2 w3 w4 acc (ix2 b k) * wf (ix2 e k) := by
  pointwise [k0_pay6]

theorem pay7_apply (f : FVec Ideal S1024x64 .f32) (bf : FVec Ideal S1x64 .f32) (b : Fin 1024) (e : Fin 64) :
    k0_pay7 (F := Ideal) f bf (ix2 b e) = max (f (ix2 b e) + bf (ix2 0 e)) 0 := by
  pointwise [k0_pay7]

theorem pay9_apply (f : FVec Ideal S1024x64 .f32) (bf : FVec Ideal S1x64 .f32) (wc : FVec Ideal S2x64 .f32) (bc : FVec Ideal S1024x1 .f32) (b : Fin 1024) :
    k0_pay9 (F := Ideal) f bf wc bc (ix2 b 0) = (∑ k : Fin 64, k0_pay7 (F := Ideal) f bf (ix2 b k) * wc (ix2 0 k)) + bc (ix2 b 0) := by
  pointwise [k0_pay9]

/-- The running maximum starts from minus infinity. -/
theorem ninf : Ideal.ofBits .f32 4286578688#32 = ⊥ := by
  simp [Ideal.ofBits, Ideal.ieee]

/-- The policy's score as the kernel forms it. -/
def score (f : FVec Ideal S1024x64 .f32) (bf : FVec Ideal S1x64 .f32) (wa : FVec Ideal S2x64 .f32) (ba : FVec Ideal S1x2 .f32) (b : Fin 1024) (o : Fin 2) : EReal :=
  (∑ k : Fin 64, k0_pay7 (F := Ideal) f bf (ix2 b k) * wa (ix2 o k)) + ba (ix2 0 o)

theorem pay8_apply (f : FVec Ideal S1024x64 .f32) (bf : FVec Ideal S1x64 .f32) (wa : FVec Ideal S2x64 .f32) (ba : FVec Ideal S1x2 .f32) (b : Fin 1024) (o : Fin 2) :
    k0_pay8 (F := Ideal) f bf wa ba (ix2 b o)
      = Ideal.div (Ideal.exp (score f bf wa ba b o - Finset.univ.fold max ⊥ (score f bf wa ba b)))
          (∑ l : Fin 2, Ideal.exp (score f bf wa ba b l - Finset.univ.fold max ⊥ (score f bf wa ba b))) := by
  pointwise [k0_pay8, score]
  rw [ninf]

end Pay

/-! ## The last step's results -/

section Results

variable (m : (ℓ : Loc nD τ sig) → Buf (Elt Ideal) ℓ) (c : Dev nD) (t : Fin cfg0.N) (b : Fin 1024)

theorem ctAt_apply (d : Fin 64) : ctAt m c t (ix2 b d) = Spec.ct (inp (L m c)) b d := by
  unfold ctAt Spec.ct Spec.mem
  rw [pay12_eq, pay4_apply, acc_num, acc_den, blk0, blk1, blk5, blk6, blk8, blk9]
  rw [gate0, gate1, gate3, gate4, c2_eq]

theorem htAt_apply (d : Fin 64) : htAt m c t (ix2 b d) = Spec.ht (inp (L m c)) b d := by
  have h : htAt m c t (ix2 b d) = Ideal.logistic (gsum (k0_pay12 (iblk m c 0 t)) (iblk m c 7 t) b d) * Ideal.tanh (ctAt m c t (ix2 b d)) := pay5_apply _ _ _ _ _ _ _ _ b d
  rw [h, ctAt_apply, pay12_eq, blk0, blk7, gate2]
  rfl

theorem hid_apply (e : Fin 64) : k0_pay7 (F := Ideal) (fcAt m c t) (iblk m c 11 t) (ix2 b e) = Spec.hid (inp (L m c)) b e := by
  have h : fcAt m c t (ix2 b e) = ∑ k : Fin 64, htAt m c t (ix2 b k) * (iblk m c 10 t : FVec Ideal S64x64 .f32) (ix2 e k) := pay6_apply _ _ _ _ _ _ _ _ _ b e
  rw [pay7_apply, h, blk10, blk11]
  unfold Spec.hid
  refine congrArg₂ (fun x y => max (x + y) 0) (Finset.sum_congr rfl fun k _ => congrArg₂ (· * ·) (htAt_apply m c t b k) ?_) ?_
  · exact wf_eq (L m c) e k
  · exact bf_eq (L m c) e

theorem score_apply (o : Fin 2) : score (fcAt m c t) (iblk m c 11 t) (iblk m c 12 t) (iblk m c 13 t) b o = Spec.logit (inp (L m c)) b o := by
  unfold score Spec.logit
  rw [blk12, blk13]
  refine congrArg₂ (· + ·) (Finset.sum_congr rfl fun k _ => congrArg₂ (· * ·) (hid_apply m c t b k) ?_) ?_
  · exact wa_eq (L m c) o k
  · exact ba_eq (L m c) o

theorem pi_apply (o : Fin 2) : k0_pay8 (F := Ideal) (fcAt m c t) (iblk m c 11 t) (iblk m c 12 t) (iblk m c 13 t) (ix2 b o) = Spec.pi (inp (L m c)) b o := by
  rw [pay8_apply, show score (fcAt m c t) (iblk m c 11 t) (iblk m c 12 t) (iblk m c 13 t) b = Spec.logit (inp (L m c)) b from funext (score_apply m c t b)]
  rfl

theorem val_apply : k0_pay9 (F := Ideal) (fcAt m c t) (iblk m c 11 t) (iblk m c 14 t) (iblk m c 15 t) (ix2 b 0) = Spec.val (inp (L m c)) b := by
  rw [pay9_apply]
  unfold Spec.val
  rw [blk14, blk15]
  refine congrArg₂ (· + ·) (Finset.sum_congr rfl fun k _ => congrArg₂ (· * ·) (hid_apply m c t b k) ?_) ?_
  · exact wc_eq (L m c) k
  · exact bc_eq (L m c) b

end Results

end Cert.KernelIdeal.Run
-- ==== Proof.KernArr.lean ====
/-
  The arrays the kernel's region leaves: the four whole-array results, and the new memory, transposed: the first 1024
  slots the queries and the new cell states, the others as they were.
-/
module

public import proofs.«01_k».proof.Proof.KernCell

@[expose] public section

set_option maxRecDepth 16384

noncomputable section

namespace Cert.KernelIdeal.Run

open Cert.KernelIdeal Cert.KernelIdeal.Gen
open Idealize.ShloMosaic Idealize.ShloMosaic.TcCoe Idealize.ShloMosaic.StableHlo Idealize.SL.Sem Idealize.ShloMosaic.Tactic
open Idealize.ShloMosaic.Pipeline (Dat)

variable (m : (ℓ : Loc nD τ sig) → Buf (Elt Ideal) ℓ) (c : Dev nD)

/-- The last step. -/
def last : Fin cfg0.N := pt 12

def piArr : FVec Ideal S1024x2 .f32 := fun y => Spec.pi (inp (L m c)) (y 0) (y 1)
def valArr : FVec Ideal S1024x1 .f32 := fun y => Spec.val (inp (L m c)) (y 0)
def htArr : FVec Ideal S1024x64 .f32 := fun y => Spec.ht (inp (L m c)) (y 0) (y 1)
def ctArr : FVec Ideal S1024x64 .f32 := fun y => Spec.ct (inp (L m c)) (y 0) (y 1)
/-- The new keys, transposed. -/
def keysArr : FVec Ideal S10x100000 .f32 := fun y =>
  if h : (y 1 : Fin 100000).val < 1024 then Spec.qry (inp (L m c)) ⟨(y 1 : Fin 100000).val, h⟩ (y 0) else (inp (L m c)).keys (y 1) (y 0)
/-- The new values, transposed. -/
def valsArr : FVec Ideal S64x100000 .f32 := fun y =>
  if h : (y 1 : Fin 100000).val < 1024 then Spec.ct (inp (L m c)) ⟨(y 1 : Fin 100000).val, h⟩ (y 0) else (inp (L m c)).vals (y 1) (y 0)

theorem arr18 : (dats m 0 c).arrAt 18 cfg0.N = piArr m c := by
  refine (dats m 0 c).arrAt_eq_of_after_last 18 last (by decide +kernel) _ fun j => ?_
  blk_simp
  obtain ⟨b, d, rfl⟩ : ∃ (b : Fin 1024) (d : Fin 2), j = ix2 b d := ⟨j 0, j 1, eq_ix2 j⟩
  exact pi_apply m c last b d

theorem arr19 : (dats m 0 c).arrAt 19 cfg0.N = valArr m c := by
  refine (dats m 0 c).arrAt_eq_of_after_last 19 last (by decide +kernel) _ fun j => ?_
  blk_simp
  obtain ⟨b, d, rfl⟩ : ∃ (b : Fin 1024) (d : Fin 1), j = ix2 b d := ⟨j 0, j 1, eq_ix2 j⟩
  obtain rfl := Fin.eq_zero d
  exact val_apply m c last b

theorem arr20 : (dats m 0 c).arrAt 20 cfg0.N = htArr m c := by
  refine (dats m 0 c).arrAt_eq_of_after_last 20 last (by decide +kernel) _ fun j => ?_
  blk_simp
  obtain ⟨b, d, rfl⟩ : ∃ (b : Fin 1024) (d : Fin 64), j = ix2 b d := ⟨j 0, j 1, eq_ix2 j⟩
  exact htAt_apply m c last b d

theorem arr21 : (dats m 0 c).arrAt 21 cfg0.N = ctArr m c := by
  refine (dats m 0 c).arrAt_eq_of_after_last 21 last (by decide +kernel) _ fun j => ?_
  blk_simp
  obtain ⟨b, d, rfl⟩ : ∃ (b : Fin 1024) (d : Fin 64), j = ix2 b d := ⟨j 0, j 1, eq_ix2 j⟩
  exact ctAt_apply m c last b d

/-! ## The new memory -/

theorem keysArr_new (i : Fin 10) (r : Fin 100000) (h : r.val < 1024) : keysArr m c (ix2 i r) = Spec.qry (inp (L m c)) ⟨r.val, h⟩ i := dif_pos h
theorem keysArr_old (i : Fin 10) (r : Fin 100000) (h : ¬ r.val < 1024) : keysArr m c (ix2 i r) = (inp (L m c)).keys r i := dif_neg h

theorem valsArr_new (i : Fin 64) (r : Fin 100000) (h : r.val < 1024) : valsArr m c (ix2 i r) = Spec.ct (inp (L m c)) ⟨r.val, h⟩ i := dif_pos h
theorem valsArr_old (i : Fin 64) (r : Fin 100000) (h : ¬ r.val < 1024) : valsArr m c (ix2 i r) = (inp (L m c)).vals r i := dif_neg h

theorem keysU_apply (k : FVec Ideal S10x8192 .f32) (q : FVec Ideal S10x1024 .f32) (i : Fin 10) (j : Fin 8192) :
    keysU (F := Ideal) k q (ix2 i j) = if h : j.val < 1024 then q (ix2 i ⟨j.val, h⟩) else k (ix2 i j) := by
  unfold keysU
  rw [pass3]
  refine (overlay_apply inb_S10x8192_S10x1024_0_0 k (k0_pay2 (F := Ideal) q) i j).trans ?_
  by_cases h : j.val < 1024
  · rw [dif_pos ⟨i.isLt, h⟩, dif_pos h]
    pointwise [k0_pay2]
  · rw [dif_neg (fun q => h q.2), dif_neg h]

theorem valsU_apply (v : FVec Ideal S64x8192 .f32) (x : FVec Ideal S1024x64 .f32) (i : Fin 64) (j : Fin 8192) :
    valsU (F := Ideal) v x (ix2 i j) = if h : j.val < 1024 then x (ix2 ⟨j.val, h⟩ i) else v (ix2 i j) := by
  unfold valsU
  rw [pass4]
  refine (overlay_apply inb_S64x8192_S64x1024_0_0 v (k0_pay3 (F := Ideal) x) i j).trans ?_
  by_cases h : j.val < 1024
  · rw [dif_pos ⟨i.isLt, h⟩, dif_pos h]
    pointwise [k0_pay3]
  · rw [dif_neg (fun q => h q.2), dif_neg h]

/-- A chunk of the new keys. -/
theorem okAt_apply (t : Fin cfg0.N) (i : Fin 10) (j : Fin 8192) (h : (t.val + 1) % 13 * 8192 + j.val < 100000) :
    okAt m c t (ix2 i j) = keysArr m c (ix2 i ⟨(t.val + 1) % 13 * 8192 + j.val, h⟩) := by
  have h13 : t.val < 13 := lt_of_lt_of_eq t.isLt (show cfg0.N = 13 from N_0)
  have hk : kblk m c t (ix2 i j) = (inp (L m c)).keys ⟨(t.val + 1) % 13 * 8192 + j.val, h⟩ i :=
    (kblk_apply m c t i j h).trans (kt_eq (L m c) i _)
  unfold okAt
  by_cases ht : t.val = 12
  · rw [if_pos ht, keysU_apply]
    by_cases hj : j.val < 1024
    · rw [dif_pos hj]
      rw [keysArr_new m c i _ (show (t.val + 1) % 13 * 8192 + j.val < 1024 by omega)]
      rw [blk2]
      refine (qt_eq (L m c) ⟨j.val, hj⟩ i).trans ?_
      refine congrArg (fun r => (inp (L m c)).x r _) (Fin.ext ?_)
      show j.val = (t.val + 1) % 13 * 8192 + j.val
      omega
    · rw [dif_neg hj]
      exact hk.trans (keysArr_old m c i _ (show ¬ (t.val + 1) % 13 * 8192 + j.val < 1024 by omega)).symm
  · rw [if_neg ht, pass3]
    exact hk.trans (keysArr_old m c i _ (show ¬ (t.val + 1) % 13 * 8192 + j.val < 1024 by omega)).symm

/-- A chunk of the new values. -/
theorem ovAt_apply (t : Fin cfg0.N) (i : Fin 64) (j : Fin 8192) (h : (t.val + 1) % 13 * 8192 + j.val < 100000) :
    ovAt m c t (ix2 i j) = valsArr m c (ix2 i ⟨(t.val + 1) % 13 * 8192 + j.val, h⟩) := by
  have h13 : t.val < 13 := lt_of_lt_of_eq t.isLt (show cfg0.N = 13 from N_0)
  have hk : vblk m c t (ix2 i j) = (inp (L m c)).vals ⟨(t.val + 1) % 13 * 8192 + j.val, h⟩ i :=
    (vblk_apply m c t i j h).trans (vt_eq (L m c) i _)
  unfold ovAt
  by_cases ht : t.val = 12
  · rw [if_pos ht, valsU_apply]
    by_cases hj : j.val < 1024
    · rw [dif_pos hj]
      rw [valsArr_new m c i _ (show (t.val + 1) % 13 * 8192 + j.val < 1024 by omega)]
      refine (ctAt_apply m c t ⟨j.val, hj⟩ i).trans ?_
      refine congrArg (fun r => Spec.ct (inp (L m c)) r i) (Fin.ext ?_)
      show j.val = (t.val + 1) % 13 * 8192 + j.val
      omega
    · rw [dif_neg hj]
      exact hk.trans (valsArr_old m c i _ (show ¬ (t.val + 1) % 13 * 8192 + j.val < 1024 by omega)).symm
  · rw [if_neg ht, pass4]
    exact hk.trans (valsArr_old m c i _ (show ¬ (t.val + 1) % 13 * 8192 + j.val < 1024 by omega)).symm

/-- The same at any cell of the chunk, the array's cell given by its coordinates. -/
theorem okAt_cell (t : Fin cfg0.N) (x : S10x8192.Idx) (z : S10x100000.Idx) (e0 : (z 0 : Fin 10).val = (x 0 : Fin 10).val)
    (e1 : (z 1 : Fin 100000).val = (t.val + 1) % 13 * 8192 + (x 1 : Fin 8192).val) : okAt m c t x = keysArr m c z := by
  obtain ⟨i, j, rfl⟩ : ∃ (i : Fin 10) (j : Fin 8192), x = ix2 i j := ⟨x 0, x 1, eq_ix2 x⟩
  obtain ⟨i', r, rfl⟩ : ∃ (i' : Fin 10) (r : Fin 100000), z = ix2 i' r := ⟨z 0, z 1, eq_ix2 z⟩
  obtain rfl : i' = i := Fin.ext e0
  have h : (t.val + 1) % 13 * 8192 + j.val < 100000 := lt_of_eq_of_lt e1.symm r.isLt
  obtain rfl : r = ⟨(t.val + 1) % 13 * 8192 + j.val, h⟩ := Fin.ext e1
  exact okAt_apply m c t i' j h

theorem arr16 : (dats m 0 c).arrAt 16 cfg0.N = keysArr m c := by
  refine (dats m 0 c).arrAt_eq_of_covers 16 _ (by decide +kernel) fun t hf y => ?_
  blk_simp
  have e0 : (((win0_16.blk t).view.emb y 0 : Fin 10) : ℕ) = (y 0).val := by blk_simp [idx16 t]
  have e1 : (((win0_16.blk t).view.emb y 1 : Fin 100000) : ℕ) = (t.val + 1) % 13 * 8192 + (y 1).val := by blk_simp [idx16 t]
  exact okAt_cell m c t ((cfg0.win 16).xinj (cfg0.grid.coords t) y) ((win0_16.blk t).view.emb y) e0 e1

/-- The same at any cell of the chunk, the array's cell given by its coordinates. -/
theorem ovAt_cell (t : Fin cfg0.N) (x : S64x8192.Idx) (z : S64x100000.Idx) (e0 : (z 0 : Fin 64).val = (x 0 : Fin 64).val)
    (e1 : (z 1 : Fin 100000).val = (t.val + 1) % 13 * 8192 + (x 1 : Fin 8192).val) : ovAt m c t x = valsArr m c z := by
  obtain ⟨i, j, rfl⟩ : ∃ (i : Fin 64) (j : Fin 8192), x = ix2 i j := ⟨x 0, x 1, eq_ix2 x⟩
  obtain ⟨i', r, rfl⟩ : ∃ (i' : Fin 64) (r : Fin 100000), z = ix2 i' r := ⟨z 0, z 1, eq_ix2 z⟩
  obtain rfl : i' = i := Fin.ext e0
  have h : (t.val + 1) % 13 * 8192 + j.val < 100000 := lt_of_eq_of_lt e1.symm r.isLt
  obtain rfl : r = ⟨(t.val + 1) % 13 * 8192 + j.val, h⟩ := Fin.ext e1
  exact ovAt_apply m c t i' j h

theorem arr17 : (dats m 0 c).arrAt 17 cfg0.N = valsArr m c := by
  refine (dats m 0 c).arrAt_eq_of_covers 17 _ (by decide +kernel) fun t hf y => ?_
  blk_simp
  have e0 : (((win0_17.blk t).view.emb y 0 : Fin 64) : ℕ) = (y 0).val := by blk_simp [idx17 t]
  have e1 : (((win0_17.blk t).view.emb y 1 : Fin 100000) : ℕ) = (t.val + 1) % 13 * 8192 + (y 1).val := by blk_simp [idx17 t]
  exact ovAt_cell m c t ((cfg0.win 17).xinj (cfg0.grid.coords t) y) ((win0_17.blk t).view.emb y) e0 e1

end Cert.KernelIdeal.Run
-- ==== Proof.TailK.lean ====
/-
  The kernel's noise operations, cut into short pieces.
-/
module

public import proofs.«01_k».proof.Proof.KernIn

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.StableHlo Idealize.SL.Sem

variable {F : FTy → Type} [FloatOps F] [Named F]

/-- Piece 1 of the noise. -/
abbrev kp1 : List (HloOp τ sig (Elt F)) :=
  [ TRef.nullary (.of main_call0_cst : TRef sig ⟨S_, .f32⟩) (constant S_ .f32 0x3F800000#32),
    TRef.nullary (.of main_call0_cst_0 : TRef sig ⟨S_, .f32⟩) (constant S_ .f32 0x00800000#32),
    TRef.unary (.of main_call0_cst : TRef sig ⟨S_, .f32⟩) (.of main_call0_call0_v0 : TRef sig ⟨S_, .f32⟩) id,
    TRef.unary (.of main_call0_cst_0 : TRef sig ⟨S_, .f32⟩) (.of main_call0_call0_v1 : TRef sig ⟨S1x1, .f32⟩) (broadcastInDim S1x1 ![] bcast_S_S1x1),
    TRef.unary (.of main_call0_call0_v0 : TRef sig ⟨S_, .f32⟩) (.of main_call0_call0_v2 : TRef sig ⟨S1x1, .f32⟩) (broadcastInDim S1x1 ![] bcast_S_S1x1),
    TRef.unary (.of main_v49 : TRef sig ⟨S2, .i32⟩) (.of main_call0_call0_v3 : TRef sig ⟨S1, .i32⟩) (extractStridedSlice S1 ![0] · slices_S2_S1_0),
    TRef.reshape (.of main_call0_call0_v3 : TRef sig ⟨S1, .i32⟩) (.of main_call0_call0_v4 : TRef sig ⟨S_, .i32⟩) (rfl : (.i32 : EltTy) = .i32) shapeCasts_S1_S_,
    TRef.unary (.of main_v49 : TRef sig ⟨S2, .i32⟩) (.of main_call0_call0_v5 : TRef sig ⟨S1, .i32⟩) (extractStridedSlice S1 ![1] · slices_S2_S1_1),
    TRef.reshape (.of main_call0_call0_v5 : TRef sig ⟨S1, .i32⟩) (.of main_call0_call0_v6 : TRef sig ⟨S_, .i32⟩) (rfl : (.i32 : EltTy) = .i32) shapeCasts_S1_S_,
    TRef.nullary (.of main_call0_call0_v7 : TRef sig ⟨S1024x2, .i64⟩) (iotaInDim S1024x2 64 0),
    TRef.nullary (.of main_call0_call0_v8 : TRef sig ⟨S1024x2, .i64⟩) (iotaInDim S1024x2 64 1),
    TRef.nullary (.of main_call0_call0_c : TRef sig ⟨S_, .i64⟩) (constantI S_ 64 2#64),
    TRef.unary (.of main_call0_call0_c : TRef sig ⟨S_, .i64⟩) (.of main_call0_call0_v9 : TRef sig ⟨S1024x2, .i64⟩) (broadcastInDim S1024x2 ![] bcast_S_S1024x2),
    TRef.binary (.of main_call0_call0_v9 : TRef sig ⟨S1024x2, .i64⟩) (.of main_call0_call0_v7 : TRef sig ⟨S1024x2, .i64⟩) (.of main_call0_call0_v10 : TRef sig ⟨S1024x2, .i64⟩) muli ]

/-- Piece 2 of the noise. -/
abbrev kp2 : List (HloOp τ sig (Elt F)) :=
  [ TRef.nullary (.of main_call0_call0_c_0 : TRef sig ⟨S_, .i64⟩) (constantI S_ 64 1#64),
    TRef.unary (.of main_call0_call0_c_0 : TRef sig ⟨S_, .i64⟩) (.of main_call0_call0_v11 : TRef sig ⟨S1024x2, .i64⟩) (broadcastInDim S1024x2 ![] bcast_S_S1024x2),
    TRef.binary (.of main_call0_call0_v11 : TRef sig ⟨S1024x2, .i64⟩) (.of main_call0_call0_v8 : TRef sig ⟨S1024x2, .i64⟩) (.of main_call0_call0_v12 : TRef sig ⟨S1024x2, .i64⟩) muli,
    TRef.binary (.of main_call0_call0_v10 : TRef sig ⟨S1024x2, .i64⟩) (.of main_call0_call0_v12 : TRef sig ⟨S1024x2, .i64⟩) (.of main_call0_call0_v13 : TRef sig ⟨S1024x2, .i64⟩) addi,
    TRef.nullary (.of main_call0_call0_c_1 : TRef sig ⟨S_, .i64⟩) (constantI S_ 64 32#64),
    TRef.unary (.of main_call0_call0_c_1 : TRef sig ⟨S_, .i64⟩) (.of main_call0_call0_v14 : TRef sig ⟨S1024x2, .i64⟩) (broadcastInDim S1024x2 ![] bcast_S_S1024x2),
    TRef.binary (.of main_call0_call0_v13 : TRef sig ⟨S1024x2, .i64⟩) (.of main_call0_call0_v14 : TRef sig ⟨S1024x2, .i64⟩) (.of main_call0_call0_v15 : TRef sig ⟨S1024x2, .i64⟩) Host.shrui,
    TRef.unary (.of main_call0_call0_v13 : TRef sig ⟨S1024x2, .i64⟩) (.of main_call0_call0_v16 : TRef sig ⟨S1024x2, .i32⟩) (trunci 32 · natLt_32_64),
    TRef.unary (.of main_call0_call0_v15 : TRef sig ⟨S1024x2, .i64⟩) (.of main_call0_call0_v17 : TRef sig ⟨S1024x2, .i32⟩) (trunci 32 · natLt_32_64),
    TRef.binary (.of main_call0_call0_v4 : TRef sig ⟨S_, .i32⟩) (.of main_call0_call0_v6 : TRef sig ⟨S_, .i32⟩) (.of main_call0_call0_call0_v0 : TRef sig ⟨S_, .i32⟩) xori,
    TRef.nullary (.of main_call0_call0_call0_c : TRef sig ⟨S_, .i32⟩) (constantI S_ 32 466688986#32),
    TRef.binary (.of main_call0_call0_call0_v0 : TRef sig ⟨S_, .i32⟩) (.of main_call0_call0_call0_c : TRef sig ⟨S_, .i32⟩) (.of main_call0_call0_call0_v1 : TRef sig ⟨S_, .i32⟩) xori,
    TRef.unary (.of main_call0_call0_v4 : TRef sig ⟨S_, .i32⟩) (.of main_call0_call0_call0_v2 : TRef sig ⟨S1024x2, .i32⟩) (broadcastInDim S1024x2 ![] bcast_S_S1024x2),
    TRef.binary (.of main_call0_call0_v17 : TRef sig ⟨S1024x2, .i32⟩) (.of main_call0_call0_call0_v2 : TRef sig ⟨S1024x2, .i32⟩) (.of main_call0_call0_call0_v3 : TRef sig ⟨S1024x2, .i32⟩) addi ]

/-- Piece 3 of the noise. -/
abbrev kp3 : List (HloOp τ sig (Elt F)) :=
  [ TRef.unary (.of main_call0_call0_v6 : TRef sig ⟨S_, .i32⟩) (.of main_call0_call0_call0_v4 : TRef sig ⟨S1024x2, .i32⟩) (broadcastInDim S1024x2 ![] bcast_S_S1024x2),
    TRef.binary (.of main_call0_call0_v16 : TRef sig ⟨S1024x2, .i32⟩) (.of main_call0_call0_call0_v4 : TRef sig ⟨S1024x2, .i32⟩) (.of main_call0_call0_call0_v5 : TRef sig ⟨S1024x2, .i32⟩) addi,
    TRef.binary (.of main_call0_call0_call0_v3 : TRef sig ⟨S1024x2, .i32⟩) (.of main_call0_call0_call0_v5 : TRef sig ⟨S1024x2, .i32⟩) (.of main_call0_call0_call0_v6 : TRef sig ⟨S1024x2, .i32⟩) addi,
    TRef.nullary (.of main_call0_call0_call0_c_0 : TRef sig ⟨S_, .i32⟩) (constantI S_ 32 13#32),
    TRef.unary (.of main_call0_call0_call0_c_0 : TRef sig ⟨S_, .i32⟩) (.of main_call0_call0_call0_v7 : TRef sig ⟨S1024x2, .i32⟩) (broadcastInDim S1024x2 ![] bcast_S_S1024x2),
    TRef.binary (.of main_call0_call0_call0_v5 : TRef sig ⟨S1024x2, .i32⟩) (.of main_call0_call0_call0_v7 : TRef sig ⟨S1024x2, .i32⟩) (.of main_call0_call0_call0_v8 : TRef sig ⟨S1024x2, .i32⟩) Host.shli,
    TRef.nullary (.of main_call0_call0_call0_c_1 : TRef sig ⟨S_, .i32⟩) (constantI S_ 32 19#32),
    TRef.unary (.of main_call0_call0_call0_c_1 : TRef sig ⟨S_, .i32⟩) (.of main_call0_call0_call0_v9 : TRef sig ⟨S1024x2, .i32⟩) (broadcastInDim S1024x2 ![] bcast_S_S1024x2),
    TRef.binary (.of main_call0_call0_call0_v5 : TRef sig ⟨S1024x2, .i32⟩) (.of main_call0_call0_call0_v9 : TRef sig ⟨S1024x2, .i32⟩) (.of main_call0_call0_call0_v10 : TRef sig ⟨S1024x2, .i32⟩) Host.shrui,
    TRef.binary (.of main_call0_call0_call0_v8 : TRef sig ⟨S1024x2, .i32⟩) (.of main_call0_call0_call0_v10 : TRef sig ⟨S1024x2, .i32⟩) (.of main_call0_call0_call0_v11 : TRef sig ⟨S1024x2, .i32⟩) ori,
    TRef.binary (.of main_call0_call0_call0_v6 : TRef sig ⟨S1024x2, .i32⟩) (.of main_call0_call0_call0_v11 : TRef sig ⟨S1024x2, .i32⟩) (.of main_call0_call0_call0_v12 : TRef sig ⟨S1024x2, .i32⟩) xori,
    TRef.binary (.of main_call0_call0_call0_v6 : TRef sig ⟨S1024x2, .i32⟩) (.of main_call0_call0_call0_v12 : TRef sig ⟨S1024x2, .i32⟩) (.of main_call0_call0_call0_v13 : TRef sig ⟨S1024x2, .i32⟩) addi,
    TRef.nullary (.of main_call0_call0_call0_c_2 : TRef sig ⟨S_, .i32⟩) (constantI S_ 32 15#32),
    TRef.unary (.of main_call0_call0_call0_c_2 : TRef sig ⟨S_, .i32⟩) (.of main_call0_call0_call0_v14 : TRef sig ⟨S1024x2, .i32⟩) (broadcastInDim S1024x2 ![] bcast_S_S1024x2) ]

/-- Piece 4 of the noise. -/
abbrev kp4 : List (HloOp τ sig (Elt F)) :=
  [ TRef.binary (.of main_call0_call0_call0_v12 : TRef sig ⟨S1024x2, .i32⟩) (.of main_call0_call0_call0_v14 : TRef sig ⟨S1024x2, .i32⟩) (.of main_call0_call0_call0_v15 : TRef sig ⟨S1024x2, .i32⟩) Host.shli,
    TRef.nullary (.of main_call0_call0_call0_c_3 : TRef sig ⟨S_, .i32⟩) (constantI S_ 32 17#32),
    TRef.unary (.of main_call0_call0_call0_c_3 : TRef sig ⟨S_, .i32⟩) (.of main_call0_call0_call0_v16 : TRef sig ⟨S1024x2, .i32⟩) (broadcastInDim S1024x2 ![] bcast_S_S1024x2),
    TRef.binary (.of main_call0_call0_call0_v12 : TRef sig ⟨S1024x2, .i32⟩) (.of main_call0_call0_call0_v16 : TRef sig ⟨S1024x2, .i32⟩) (.of main_call0_call0_call0_v17 : TRef sig ⟨S1024x2, .i32⟩) Host.shrui,
    TRef.binary (.of main_call0_call0_call0_v15 : TRef sig ⟨S1024x2, .i32⟩) (.of main_call0_call0_call0_v17 : TRef sig ⟨S1024x2, .i32⟩) (.of main_call0_call0_call0_v18 : TRef sig ⟨S1024x2, .i32⟩) ori,
    TRef.binary (.of main_call0_call0_call0_v13 : TRef sig ⟨S1024x2, .i32⟩) (.of main_call0_call0_call0_v18 : TRef sig ⟨S1024x2, .i32⟩) (.of main_call0_call0_call0_v19 : TRef sig ⟨S1024x2, .i32⟩) xori,
    TRef.binary (.of main_call0_call0_call0_v13 : TRef sig ⟨S1024x2, .i32⟩) (.of main_call0_call0_call0_v19 : TRef sig ⟨S1024x2, .i32⟩) (.of main_call0_call0_call0_v20 : TRef sig ⟨S1024x2, .i32⟩) addi,
    TRef.nullary (.of main_call0_call0_call0_c_4 : TRef sig ⟨S_, .i32⟩) (constantI S_ 32 26#32),
    TRef.unary (.of main_call0_call0_call0_c_4 : TRef sig ⟨S_, .i32⟩) (.of main_call0_call0_call0_v21 : TRef sig ⟨S1024x2, .i32⟩) (broadcastInDim S1024x2 ![] bcast_S_S1024x2),
    TRef.binary (.of main_call0_call0_call0_v19 : TRef sig ⟨S1024x2, .i32⟩) (.of main_call0_call0_call0_v21 : TRef sig ⟨S1024x2, .i32⟩) (.of main_call0_call0_call0_v22 : TRef sig ⟨S1024x2, .i32⟩) Host.shli,
    TRef.nullary (.of main_call0_call0_call0_c_5 : TRef sig ⟨S_, .i32⟩) (constantI S_ 32 6#32),
    TRef.unary (.of main_call0_call0_call0_c_5 : TRef sig ⟨S_, .i32⟩) (.of main_call0_call0_call0_v23 : TRef sig ⟨S1024x2, .i32⟩) (broadcastInDim S1024x2 ![] bcast_S_S1024x2),
    TRef.binary (.of main_call0_call0_call0_v19 : TRef sig ⟨S1024x2, .i32⟩) (.of main_call0_call0_call0_v23 : TRef sig ⟨S1024x2, .i32⟩) (.of main_call0_call0_call0_v24 : TRef sig ⟨S1024x2, .i32⟩) Host.shrui,
    TRef.binary (.of main_call0_call0_call0_v22 : TRef sig ⟨S1024x2, .i32⟩) (.of main_call0_call0_call0_v24 : TRef sig ⟨S1024x2, .i32⟩) (.of main_call0_call0_call0_v25 : TRef sig ⟨S1024x2, .i32⟩) ori ]

/-- Piece 5 of the noise. -/
abbrev kp5 : List (HloOp τ sig (Elt F)) :=
  [ TRef.binary (.of main_call0_call0_call0_v20 : TRef sig ⟨S1024x2, .i32⟩) (.of main_call0_call0_call0_v25 : TRef sig ⟨S1024x2, .i32⟩) (.of main_call0_call0_call0_v26 : TRef sig ⟨S1024x2, .i32⟩) xori,
    TRef.binary (.of main_call0_call0_call0_v20 : TRef sig ⟨S1024x2, .i32⟩) (.of main_call0_call0_call0_v26 : TRef sig ⟨S1024x2, .i32⟩) (.of main_call0_call0_call0_v27 : TRef sig ⟨S1024x2, .i32⟩) addi,
    TRef.nullary (.of main_call0_call0_call0_c_6 : TRef sig ⟨S_, .i32⟩) (constantI S_ 32 6#32),
    TRef.unary (.of main_call0_call0_call0_c_6 : TRef sig ⟨S_, .i32⟩) (.of main_call0_call0_call0_v28 : TRef sig ⟨S1024x2, .i32⟩) (broadcastInDim S1024x2 ![] bcast_S_S1024x2),
    TRef.binary (.of main_call0_call0_call0_v26 : TRef sig ⟨S1024x2, .i32⟩) (.of main_call0_call0_call0_v28 : TRef sig ⟨S1024x2, .i32⟩) (.of main_call0_call0_call0_v29 : TRef sig ⟨S1024x2, .i32⟩) Host.shli,
    TRef.nullary (.of main_call0_call0_call0_c_7 : TRef sig ⟨S_, .i32⟩) (constantI S_ 32 26#32),
    TRef.unary (.of main_call0_call0_call0_c_7 : TRef sig ⟨S_, .i32⟩) (.of main_call0_call0_call0_v30 : TRef sig ⟨S1024x2, .i32⟩) (broadcastInDim S1024x2 ![] bcast_S_S1024x2),
    TRef.binary (.of main_call0_call0_call0_v26 : TRef sig ⟨S1024x2, .i32⟩) (.of main_call0_call0_call0_v30 : TRef sig ⟨S1024x2, .i32⟩) (.of main_call0_call0_call0_v31 : TRef sig ⟨S1024x2, .i32⟩) Host.shrui,
    TRef.binary (.of main_call0_call0_call0_v29 : TRef sig ⟨S1024x2, .i32⟩) (.of main_call0_call0_call0_v31 : TRef sig ⟨S1024x2, .i32⟩) (.of main_call0_call0_call0_v32 : TRef sig ⟨S1024x2, .i32⟩) ori,
    TRef.binary (.of main_call0_call0_call0_v27 : TRef sig ⟨S1024x2, .i32⟩) (.of main_call0_call0_call0_v32 : TRef sig ⟨S1024x2, .i32⟩) (.of main_call0_call0_call0_v33 : TRef sig ⟨S1024x2, .i32⟩) xori,
    TRef.unary (.of main_call0_call0_v6 : TRef sig ⟨S_, .i32⟩) (.of main_call0_call0_call0_v34 : TRef sig ⟨S1024x2, .i32⟩) (broadcastInDim S1024x2 ![] bcast_S_S1024x2),
    TRef.binary (.of main_call0_call0_call0_v27 : TRef sig ⟨S1024x2, .i32⟩) (.of main_call0_call0_call0_v34 : TRef sig ⟨S1024x2, .i32⟩) (.of main_call0_call0_call0_v35 : TRef sig ⟨S1024x2, .i32⟩) addi,
    TRef.unary (.of main_call0_call0_call0_v1 : TRef sig ⟨S_, .i32⟩) (.of main_call0_call0_call0_v36 : TRef sig ⟨S1024x2, .i32⟩) (broadcastInDim S1024x2 ![] bcast_S_S1024x2),
    TRef.binary (.of main_call0_call0_call0_v33 : TRef sig ⟨S1024x2, .i32⟩) (.of main_call0_call0_call0_v36 : TRef sig ⟨S1024x2, .i32⟩) (.of main_call0_call0_call0_v37 : TRef sig ⟨S1024x2, .i32⟩) addi ]

/-- Piece 6 of the noise. -/
abbrev kp6 : List (HloOp τ sig (Elt F)) :=
  [ TRef.nullary (.of main_call0_call0_call0_c_8 : TRef sig ⟨S_, .i32⟩) (constantI S_ 32 1#32),
    TRef.unary (.of main_call0_call0_call0_c_8 : TRef sig ⟨S_, .i32⟩) (.of main_call0_call0_call0_v38 : TRef sig ⟨S1024x2, .i32⟩) (broadcastInDim S1024x2 ![] bcast_S_S1024x2),
    TRef.binary (.of main_call0_call0_call0_v37 : TRef sig ⟨S1024x2, .i32⟩) (.of main_call0_call0_call0_v38 : TRef sig ⟨S1024x2, .i32⟩) (.of main_call0_call0_call0_v39 : TRef sig ⟨S1024x2, .i32⟩) addi,
    TRef.binary (.of main_call0_call0_call0_v35 : TRef sig ⟨S1024x2, .i32⟩) (.of main_call0_call0_call0_v39 : TRef sig ⟨S1024x2, .i32⟩) (.of main_call0_call0_call0_v40 : TRef sig ⟨S1024x2, .i32⟩) addi,
    TRef.nullary (.of main_call0_call0_call0_c_9 : TRef sig ⟨S_, .i32⟩) (constantI S_ 32 17#32),
    TRef.unary (.of main_call0_call0_call0_c_9 : TRef sig ⟨S_, .i32⟩) (.of main_call0_call0_call0_v41 : TRef sig ⟨S1024x2, .i32⟩) (broadcastInDim S1024x2 ![] bcast_S_S1024x2),
    TRef.binary (.of main_call0_call0_call0_v39 : TRef sig ⟨S1024x2, .i32⟩) (.of main_call0_call0_call0_v41 : TRef sig ⟨S1024x2, .i32⟩) (.of main_call0_call0_call0_v42 : TRef sig ⟨S1024x2, .i32⟩) Host.shli,
    TRef.nullary (.of main_call0_call0_call0_c_10 : TRef sig ⟨S_, .i32⟩) (constantI S_ 32 15#32),
    TRef.unary (.of main_call0_call0_call0_c_10 : TRef sig ⟨S_, .i32⟩) (.of main_call0_call0_call0_v43 : TRef sig ⟨S1024x2, .i32⟩) (broadcastInDim S1024x2 ![] bcast_S_S1024x2),
    TRef.binary (.of main_call0_call0_call0_v39 : TRef sig ⟨S1024x2, .i32⟩) (.of main_call0_call0_call0_v43 : TRef sig ⟨S1024x2, .i32⟩) (.of main_call0_call0_call0_v44 : TRef sig ⟨S1024x2, .i32⟩) Host.shrui,
    TRef.binary (.of main_call0_call0_call0_v42 : TRef sig ⟨S1024x2, .i32⟩) (.of main_call0_call0_call0_v44 : TRef sig ⟨S1024x2, .i32⟩) (.of main_call0_call0_call0_v45 : TRef sig ⟨S1024x2, .i32⟩) ori,
    TRef.binary (.of main_call0_call0_call0_v40 : TRef sig ⟨S1024x2, .i32⟩) (.of main_call0_call0_call0_v45 : TRef sig ⟨S1024x2, .i32⟩) (.of main_call0_call0_call0_v46 : TRef sig ⟨S1024x2, .i32⟩) xori,
    TRef.binary (.of main_call0_call0_call0_v40 : TRef sig ⟨S1024x2, .i32⟩) (.of main_call0_call0_call0_v46 : TRef sig ⟨S1024x2, .i32⟩) (.of main_call0_call0_call0_v47 : TRef sig ⟨S1024x2, .i32⟩) addi,
    TRef.nullary (.of main_call0_call0_call0_c_11 : TRef sig ⟨S_, .i32⟩) (constantI S_ 32 29#32) ]

/-- Piece 7 of the noise. -/
abbrev kp7 : List (HloOp τ sig (Elt F)) :=
  [ TRef.unary (.of main_call0_call0_call0_c_11 : TRef sig ⟨S_, .i32⟩) (.of main_call0_call0_call0_v48 : TRef sig ⟨S1024x2, .i32⟩) (broadcastInDim S1024x2 ![] bcast_S_S1024x2),
    TRef.binary (.of main_call0_call0_call0_v46 : TRef sig ⟨S1024x2, .i32⟩) (.of main_call0_call0_call0_v48 : TRef sig ⟨S1024x2, .i32⟩) (.of main_call0_call0_call0_v49 : TRef sig ⟨S1024x2, .i32⟩) Host.shli,
    TRef.nullary (.of main_call0_call0_call0_c_12 : TRef sig ⟨S_, .i32⟩) (constantI S_ 32 3#32),
    TRef.unary (.of main_call0_call0_call0_c_12 : TRef sig ⟨S_, .i32⟩) (.of main_call0_call0_call0_v50 : TRef sig ⟨S1024x2, .i32⟩) (broadcastInDim S1024x2 ![] bcast_S_S1024x2),
    TRef.binary (.of main_call0_call0_call0_v46 : TRef sig ⟨S1024x2, .i32⟩) (.of main_call0_call0_call0_v50 : TRef sig ⟨S1024x2, .i32⟩) (.of main_call0_call0_call0_v51 : TRef sig ⟨S1024x2, .i32⟩) Host.shrui,
    TRef.binary (.of main_call0_call0_call0_v49 : TRef sig ⟨S1024x2, .i32⟩) (.of main_call0_call0_call0_v51 : TRef sig ⟨S1024x2, .i32⟩) (.of main_call0_call0_call0_v52 : TRef sig ⟨S1024x2, .i32⟩) ori,
    TRef.binary (.of main_call0_call0_call0_v47 : TRef sig ⟨S1024x2, .i32⟩) (.of main_call0_call0_call0_v52 : TRef sig ⟨S1024x2, .i32⟩) (.of main_call0_call0_call0_v53 : TRef sig ⟨S1024x2, .i32⟩) xori,
    TRef.binary (.of main_call0_call0_call0_v47 : TRef sig ⟨S1024x2, .i32⟩) (.of main_call0_call0_call0_v53 : TRef sig ⟨S1024x2, .i32⟩) (.of main_call0_call0_call0_v54 : TRef sig ⟨S1024x2, .i32⟩) addi,
    TRef.nullary (.of main_call0_call0_call0_c_13 : TRef sig ⟨S_, .i32⟩) (constantI S_ 32 16#32),
    TRef.unary (.of main_call0_call0_call0_c_13 : TRef sig ⟨S_, .i32⟩) (.of main_call0_call0_call0_v55 : TRef sig ⟨S1024x2, .i32⟩) (broadcastInDim S1024x2 ![] bcast_S_S1024x2),
    TRef.binary (.of main_call0_call0_call0_v53 : TRef sig ⟨S1024x2, .i32⟩) (.of main_call0_call0_call0_v55 : TRef sig ⟨S1024x2, .i32⟩) (.of main_call0_call0_call0_v56 : TRef sig ⟨S1024x2, .i32⟩) Host.shli,
    TRef.nullary (.of main_call0_call0_call0_c_14 : TRef sig ⟨S_, .i32⟩) (constantI S_ 32 16#32),
    TRef.unary (.of main_call0_call0_call0_c_14 : TRef sig ⟨S_, .i32⟩) (.of main_call0_call0_call0_v57 : TRef sig ⟨S1024x2, .i32⟩) (broadcastInDim S1024x2 ![] bcast_S_S1024x2),
    TRef.binary (.of main_call0_call0_call0_v53 : TRef sig ⟨S1024x2, .i32⟩) (.of main_call0_call0_call0_v57 : TRef sig ⟨S1024x2, .i32⟩) (.of main_call0_call0_call0_v58 : TRef sig ⟨S1024x2, .i32⟩) Host.shrui ]

/-- Piece 8 of the noise. -/
abbrev kp8 : List (HloOp τ sig (Elt F)) :=
  [ TRef.binary (.of main_call0_call0_call0_v56 : TRef sig ⟨S1024x2, .i32⟩) (.of main_call0_call0_call0_v58 : TRef sig ⟨S1024x2, .i32⟩) (.of main_call0_call0_call0_v59 : TRef sig ⟨S1024x2, .i32⟩) ori,
    TRef.binary (.of main_call0_call0_call0_v54 : TRef sig ⟨S1024x2, .i32⟩) (.of main_call0_call0_call0_v59 : TRef sig ⟨S1024x2, .i32⟩) (.of main_call0_call0_call0_v60 : TRef sig ⟨S1024x2, .i32⟩) xori,
    TRef.binary (.of main_call0_call0_call0_v54 : TRef sig ⟨S1024x2, .i32⟩) (.of main_call0_call0_call0_v60 : TRef sig ⟨S1024x2, .i32⟩) (.of main_call0_call0_call0_v61 : TRef sig ⟨S1024x2, .i32⟩) addi,
    TRef.nullary (.of main_call0_call0_call0_c_15 : TRef sig ⟨S_, .i32⟩) (constantI S_ 32 24#32),
    TRef.unary (.of main_call0_call0_call0_c_15 : TRef sig ⟨S_, .i32⟩) (.of main_call0_call0_call0_v62 : TRef sig ⟨S1024x2, .i32⟩) (broadcastInDim S1024x2 ![] bcast_S_S1024x2),
    TRef.binary (.of main_call0_call0_call0_v60 : TRef sig ⟨S1024x2, .i32⟩) (.of main_call0_call0_call0_v62 : TRef sig ⟨S1024x2, .i32⟩) (.of main_call0_call0_call0_v63 : TRef sig ⟨S1024x2, .i32⟩) Host.shli,
    TRef.nullary (.of main_call0_call0_call0_c_16 : TRef sig ⟨S_, .i32⟩) (constantI S_ 32 8#32),
    TRef.unary (.of main_call0_call0_call0_c_16 : TRef sig ⟨S_, .i32⟩) (.of main_call0_call0_call0_v64 : TRef sig ⟨S1024x2, .i32⟩) (broadcastInDim S1024x2 ![] bcast_S_S1024x2),
    TRef.binary (.of main_call0_call0_call0_v60 : TRef sig ⟨S1024x2, .i32⟩) (.of main_call0_call0_call0_v64 : TRef sig ⟨S1024x2, .i32⟩) (.of main_call0_call0_call0_v65 : TRef sig ⟨S1024x2, .i32⟩) Host.shrui,
    TRef.binary (.of main_call0_call0_call0_v63 : TRef sig ⟨S1024x2, .i32⟩) (.of main_call0_call0_call0_v65 : TRef sig ⟨S1024x2, .i32⟩) (.of main_call0_call0_call0_v66 : TRef sig ⟨S1024x2, .i32⟩) ori,
    TRef.binary (.of main_call0_call0_call0_v61 : TRef sig ⟨S1024x2, .i32⟩) (.of main_call0_call0_call0_v66 : TRef sig ⟨S1024x2, .i32⟩) (.of main_call0_call0_call0_v67 : TRef sig ⟨S1024x2, .i32⟩) xori,
    TRef.unary (.of main_call0_call0_call0_v1 : TRef sig ⟨S_, .i32⟩) (.of main_call0_call0_call0_v68 : TRef sig ⟨S1024x2, .i32⟩) (broadcastInDim S1024x2 ![] bcast_S_S1024x2),
    TRef.binary (.of main_call0_call0_call0_v61 : TRef sig ⟨S1024x2, .i32⟩) (.of main_call0_call0_call0_v68 : TRef sig ⟨S1024x2, .i32⟩) (.of main_call0_call0_call0_v69 : TRef sig ⟨S1024x2, .i32⟩) addi,
    TRef.unary (.of main_call0_call0_v4 : TRef sig ⟨S_, .i32⟩) (.of main_call0_call0_call0_v70 : TRef sig ⟨S1024x2, .i32⟩) (broadcastInDim S1024x2 ![] bcast_S_S1024x2) ]

/-- Piece 9 of the noise. -/
abbrev kp9 : List (HloOp τ sig (Elt F)) :=
  [ TRef.binary (.of main_call0_call0_call0_v67 : TRef sig ⟨S1024x2, .i32⟩) (.of main_call0_call0_call0_v70 : TRef sig ⟨S1024x2, .i32⟩) (.of main_call0_call0_call0_v71 : TRef sig ⟨S1024x2, .i32⟩) addi,
    TRef.nullary (.of main_call0_call0_call0_c_17 : TRef sig ⟨S_, .i32⟩) (constantI S_ 32 2#32),
    TRef.unary (.of main_call0_call0_call0_c_17 : TRef sig ⟨S_, .i32⟩) (.of main_call0_call0_call0_v72 : TRef sig ⟨S1024x2, .i32⟩) (broadcastInDim S1024x2 ![] bcast_S_S1024x2),
    TRef.binary (.of main_call0_call0_call0_v71 : TRef sig ⟨S1024x2, .i32⟩) (.of main_call0_call0_call0_v72 : TRef sig ⟨S1024x2, .i32⟩) (.of main_call0_call0_call0_v73 : TRef sig ⟨S1024x2, .i32⟩) addi,
    TRef.binary (.of main_call0_call0_call0_v69 : TRef sig ⟨S1024x2, .i32⟩) (.of main_call0_call0_call0_v73 : TRef sig ⟨S1024x2, .i32⟩) (.of main_call0_call0_call0_v74 : TRef sig ⟨S1024x2, .i32⟩) addi,
    TRef.nullary (.of main_call0_call0_call0_c_18 : TRef sig ⟨S_, .i32⟩) (constantI S_ 32 13#32),
    TRef.unary (.of main_call0_call0_call0_c_18 : TRef sig ⟨S_, .i32⟩) (.of main_call0_call0_call0_v75 : TRef sig ⟨S1024x2, .i32⟩) (broadcastInDim S1024x2 ![] bcast_S_S1024x2),
    TRef.binary (.of main_call0_call0_call0_v73 : TRef sig ⟨S1024x2, .i32⟩) (.of main_call0_call0_call0_v75 : TRef sig ⟨S1024x2, .i32⟩) (.of main_call0_call0_call0_v76 : TRef sig ⟨S1024x2, .i32⟩) Host.shli,
    TRef.nullary (.of main_call0_call0_call0_c_19 : TRef sig ⟨S_, .i32⟩) (constantI S_ 32 19#32),
    TRef.unary (.of main_call0_call0_call0_c_19 : TRef sig ⟨S_, .i32⟩) (.of main_call0_call0_call0_v77 : TRef sig ⟨S1024x2, .i32⟩) (broadcastInDim S1024x2 ![] bcast_S_S1024x2),
    TRef.binary (.of main_call0_call0_call0_v73 : TRef sig ⟨S1024x2, .i32⟩) (.of main_call0_call0_call0_v77 : TRef sig ⟨S1024x2, .i32⟩) (.of main_call0_call0_call0_v78 : TRef sig ⟨S1024x2, .i32⟩) Host.shrui,
    TRef.binary (.of main_call0_call0_call0_v76 : TRef sig ⟨S1024x2, .i32⟩) (.of main_call0_call0_call0_v78 : TRef sig ⟨S1024x2, .i32⟩) (.of main_call0_call0_call0_v79 : TRef sig ⟨S1024x2, .i32⟩) ori,
    TRef.binary (.of main_call0_call0_call0_v74 : TRef sig ⟨S1024x2, .i32⟩) (.of main_call0_call0_call0_v79 : TRef sig ⟨S1024x2, .i32⟩) (.of main_call0_call0_call0_v80 : TRef sig ⟨S1024x2, .i32⟩) xori,
    TRef.binary (.of main_call0_call0_call0_v74 : TRef sig ⟨S1024x2, .i32⟩) (.of main_call0_call0_call0_v80 : TRef sig ⟨S1024x2, .i32⟩) (.of main_call0_call0_call0_v81 : TRef sig ⟨S1024x2, .i32⟩) addi ]

/-- Piece 10 of the noise. -/
abbrev kp10 : List (HloOp τ sig (Elt F)) :=
  [ TRef.nullary (.of main_call0_call0_call0_c_20 : TRef sig ⟨S_, .i32⟩) (constantI S_ 32 15#32),
    TRef.unary (.of main_call0_call0_call0_c_20 : TRef sig ⟨S_, .i32⟩) (.of main_call0_call0_call0_v82 : TRef sig ⟨S1024x2, .i32⟩) (broadcastInDim S1024x2 ![] bcast_S_S1024x2),
    TRef.binary (.of main_call0_call0_call0_v80 : TRef sig ⟨S1024x2, .i32⟩) (.of main_call0_call0_call0_v82 : TRef sig ⟨S1024x2, .i32⟩) (.of main_call0_call0_call0_v83 : TRef sig ⟨S1024x2, .i32⟩) Host.shli,
    TRef.nullary (.of main_call0_call0_call0_c_21 : TRef sig ⟨S_, .i32⟩) (constantI S_ 32 17#32),
    TRef.unary (.of main_call0_call0_call0_c_21 : TRef sig ⟨S_, .i32⟩) (.of main_call0_call0_call0_v84 : TRef sig ⟨S1024x2, .i32⟩) (broadcastInDim S1024x2 ![] bcast_S_S1024x2),
    TRef.binary (.of main_call0_call0_call0_v80 : TRef sig ⟨S1024x2, .i32⟩) (.of main_call0_call0_call0_v84 : TRef sig ⟨S1024x2, .i32⟩) (.of main_call0_call0_call0_v85 : TRef sig ⟨S1024x2, .i32⟩) Host.shrui,
    TRef.binary (.of main_call0_call0_call0_v83 : TRef sig ⟨S1024x2, .i32⟩) (.of main_call0_call0_call0_v85 : TRef sig ⟨S1024x2, .i32⟩) (.of main_call0_call0_call0_v86 : TRef sig ⟨S1024x2, .i32⟩) ori,
    TRef.binary (.of main_call0_call0_call0_v81 : TRef sig ⟨S1024x2, .i32⟩) (.of main_call0_call0_call0_v86 : TRef sig ⟨S1024x2, .i32⟩) (.of main_call0_call0_call0_v87 : TRef sig ⟨S1024x2, .i32⟩) xori,
    TRef.binary (.of main_call0_call0_call0_v81 : TRef sig ⟨S1024x2, .i32⟩) (.of main_call0_call0_call0_v87 : TRef sig ⟨S1024x2, .i32⟩) (.of main_call0_call0_call0_v88 : TRef sig ⟨S1024x2, .i32⟩) addi,
    TRef.nullary (.of main_call0_call0_call0_c_22 : TRef sig ⟨S_, .i32⟩) (constantI S_ 32 26#32),
    TRef.unary (.of main_call0_call0_call0_c_22 : TRef sig ⟨S_, .i32⟩) (.of main_call0_call0_call0_v89 : TRef sig ⟨S1024x2, .i32⟩) (broadcastInDim S1024x2 ![] bcast_S_S1024x2),
    TRef.binary (.of main_call0_call0_call0_v87 : TRef sig ⟨S1024x2, .i32⟩) (.of main_call0_call0_call0_v89 : TRef sig ⟨S1024x2, .i32⟩) (.of main_call0_call0_call0_v90 : TRef sig ⟨S1024x2, .i32⟩) Host.shli,
    TRef.nullary (.of main_call0_call0_call0_c_23 : TRef sig ⟨S_, .i32⟩) (constantI S_ 32 6#32),
    TRef.unary (.of main_call0_call0_call0_c_23 : TRef sig ⟨S_, .i32⟩) (.of main_call0_call0_call0_v91 : TRef sig ⟨S1024x2, .i32⟩) (broadcastInDim S1024x2 ![] bcast_S_S1024x2) ]

/-- Piece 11 of the noise. -/
abbrev kp11 : List (HloOp τ sig (Elt F)) :=
  [ TRef.binary (.of main_call0_call0_call0_v87 : TRef sig ⟨S1024x2, .i32⟩) (.of main_call0_call0_call0_v91 : TRef sig ⟨S1024x2, .i32⟩) (.of main_call0_call0_call0_v92 : TRef sig ⟨S1024x2, .i32⟩) Host.shrui,
    TRef.binary (.of main_call0_call0_call0_v90 : TRef sig ⟨S1024x2, .i32⟩) (.of main_call0_call0_call0_v92 : TRef sig ⟨S1024x2, .i32⟩) (.of main_call0_call0_call0_v93 : TRef sig ⟨S1024x2, .i32⟩) ori,
    TRef.binary (.of main_call0_call0_call0_v88 : TRef sig ⟨S1024x2, .i32⟩) (.of main_call0_call0_call0_v93 : TRef sig ⟨S1024x2, .i32⟩) (.of main_call0_call0_call0_v94 : TRef sig ⟨S1024x2, .i32⟩) xori,
    TRef.binary (.of main_call0_call0_call0_v88 : TRef sig ⟨S1024x2, .i32⟩) (.of main_call0_call0_call0_v94 : TRef sig ⟨S1024x2, .i32⟩) (.of main_call0_call0_call0_v95 : TRef sig ⟨S1024x2, .i32⟩) addi,
    TRef.nullary (.of main_call0_call0_call0_c_24 : TRef sig ⟨S_, .i32⟩) (constantI S_ 32 6#32),
    TRef.unary (.of main_call0_call0_call0_c_24 : TRef sig ⟨S_, .i32⟩) (.of main_call0_call0_call0_v96 : TRef sig ⟨S1024x2, .i32⟩) (broadcastInDim S1024x2 ![] bcast_S_S1024x2),
    TRef.binary (.of main_call0_call0_call0_v94 : TRef sig ⟨S1024x2, .i32⟩) (.of main_call0_call0_call0_v96 : TRef sig ⟨S1024x2, .i32⟩) (.of main_call0_call0_call0_v97 : TRef sig ⟨S1024x2, .i32⟩) Host.shli,
    TRef.nullary (.of main_call0_call0_call0_c_25 : TRef sig ⟨S_, .i32⟩) (constantI S_ 32 26#32),
    TRef.unary (.of main_call0_call0_call0_c_25 : TRef sig ⟨S_, .i32⟩) (.of main_call0_call0_call0_v98 : TRef sig ⟨S1024x2, .i32⟩) (broadcastInDim S1024x2 ![] bcast_S_S1024x2),
    TRef.binary (.of main_call0_call0_call0_v94 : TRef sig ⟨S1024x2, .i32⟩) (.of main_call0_call0_call0_v98 : TRef sig ⟨S1024x2, .i32⟩) (.of main_call0_call0_call0_v99 : TRef sig ⟨S1024x2, .i32⟩) Host.shrui,
    TRef.binary (.of main_call0_call0_call0_v97 : TRef sig ⟨S1024x2, .i32⟩) (.of main_call0_call0_call0_v99 : TRef sig ⟨S1024x2, .i32⟩) (.of main_call0_call0_call0_v100 : TRef sig ⟨S1024x2, .i32⟩) ori,
    TRef.binary (.of main_call0_call0_call0_v95 : TRef sig ⟨S1024x2, .i32⟩) (.of main_call0_call0_call0_v100 : TRef sig ⟨S1024x2, .i32⟩) (.of main_call0_call0_call0_v101 : TRef sig ⟨S1024x2, .i32⟩) xori,
    TRef.unary (.of main_call0_call0_v4 : TRef sig ⟨S_, .i32⟩) (.of main_call0_call0_call0_v102 : TRef sig ⟨S1024x2, .i32⟩) (broadcastInDim S1024x2 ![] bcast_S_S1024x2),
    TRef.binary (.of main_call0_call0_call0_v95 : TRef sig ⟨S1024x2, .i32⟩) (.of main_call0_call0_call0_v102 : TRef sig ⟨S1024x2, .i32⟩) (.of main_call0_call0_call0_v103 : TRef sig ⟨S1024x2, .i32⟩) addi ]

/-- Piece 12 of the noise. -/
abbrev kp12 : List (HloOp τ sig (Elt F)) :=
  [ TRef.unary (.of main_call0_call0_v6 : TRef sig ⟨S_, .i32⟩) (.of main_call0_call0_call0_v104 : TRef sig ⟨S1024x2, .i32⟩) (broadcastInDim S1024x2 ![] bcast_S_S1024x2),
    TRef.binary (.of main_call0_call0_call0_v101 : TRef sig ⟨S1024x2, .i32⟩) (.of main_call0_call0_call0_v104 : TRef sig ⟨S1024x2, .i32⟩) (.of main_call0_call0_call0_v105 : TRef sig ⟨S1024x2, .i32⟩) addi,
    TRef.nullary (.of main_call0_call0_call0_c_26 : TRef sig ⟨S_, .i32⟩) (constantI S_ 32 3#32),
    TRef.unary (.of main_call0_call0_call0_c_26 : TRef sig ⟨S_, .i32⟩) (.of main_call0_call0_call0_v106 : TRef sig ⟨S1024x2, .i32⟩) (broadcastInDim S1024x2 ![] bcast_S_S1024x2),
    TRef.binary (.of main_call0_call0_call0_v105 : TRef sig ⟨S1024x2, .i32⟩) (.of main_call0_call0_call0_v106 : TRef sig ⟨S1024x2, .i32⟩) (.of main_call0_call0_call0_v107 : TRef sig ⟨S1024x2, .i32⟩) addi,
    TRef.binary (.of main_call0_call0_call0_v103 : TRef sig ⟨S1024x2, .i32⟩) (.of main_call0_call0_call0_v107 : TRef sig ⟨S1024x2, .i32⟩) (.of main_call0_call0_call0_v108 : TRef sig ⟨S1024x2, .i32⟩) addi,
    TRef.nullary (.of main_call0_call0_call0_c_27 : TRef sig ⟨S_, .i32⟩) (constantI S_ 32 17#32),
    TRef.unary (.of main_call0_call0_call0_c_27 : TRef sig ⟨S_, .i32⟩) (.of main_call0_call0_call0_v109 : TRef sig ⟨S1024x2, .i32⟩) (broadcastInDim S1024x2 ![] bcast_S_S1024x2),
    TRef.binary (.of main_call0_call0_call0_v107 : TRef sig ⟨S1024x2, .i32⟩) (.of main_call0_call0_call0_v109 : TRef sig ⟨S1024x2, .i32⟩) (.of main_call0_call0_call0_v110 : TRef sig ⟨S1024x2, .i32⟩) Host.shli,
    TRef.nullary (.of main_call0_call0_call0_c_28 : TRef sig ⟨S_, .i32⟩) (constantI S_ 32 15#32),
    TRef.unary (.of main_call0_call0_call0_c_28 : TRef sig ⟨S_, .i32⟩) (.of main_call0_call0_call0_v111 : TRef sig ⟨S1024x2, .i32⟩) (broadcastInDim S1024x2 ![] bcast_S_S1024x2),
    TRef.binary (.of main_call0_call0_call0_v107 : TRef sig ⟨S1024x2, .i32⟩) (.of main_call0_call0_call0_v111 : TRef sig ⟨S1024x2, .i32⟩) (.of main_call0_call0_call0_v112 : TRef sig ⟨S1024x2, .i32⟩) Host.shrui,
    TRef.binary (.of main_call0_call0_call0_v110 : TRef sig ⟨S1024x2, .i32⟩) (.of main_call0_call0_call0_v112 : TRef sig ⟨S1024x2, .i32⟩) (.of main_call0_call0_call0_v113 : TRef sig ⟨S1024x2, .i32⟩) ori,
    TRef.binary (.of main_call0_call0_call0_v108 : TRef sig ⟨S1024x2, .i32⟩) (.of main_call0_call0_call0_v113 : TRef sig ⟨S1024x2, .i32⟩) (.of main_call0_call0_call0_v114 : TRef sig ⟨S1024x2, .i32⟩) xori ]

/-- Piece 13 of the noise. -/
abbrev kp13 : List (HloOp τ sig (Elt F)) :=
  [ TRef.binary (.of main_call0_call0_call0_v108 : TRef sig ⟨S1024x2, .i32⟩) (.of main_call0_call0_call0_v114 : TRef sig ⟨S1024x2, .i32⟩) (.of main_call0_call0_call0_v115 : TRef sig ⟨S1024x2, .i32⟩) addi,
    TRef.nullary (.of main_call0_call0_call0_c_29 : TRef sig ⟨S_, .i32⟩) (constantI S_ 32 29#32),
    TRef.unary (.of main_call0_call0_call0_c_29 : TRef sig ⟨S_, .i32⟩) (.of main_call0_call0_call0_v116 : TRef sig ⟨S1024x2, .i32⟩) (broadcastInDim S1024x2 ![] bcast_S_S1024x2),
    TRef.binary (.of main_call0_call0_call0_v114 : TRef sig ⟨S1024x2, .i32⟩) (.of main_call0_call0_call0_v116 : TRef sig ⟨S1024x2, .i32⟩) (.of main_call0_call0_call0_v117 : TRef sig ⟨S1024x2, .i32⟩) Host.shli,
    TRef.nullary (.of main_call0_call0_call0_c_30 : TRef sig ⟨S_, .i32⟩) (constantI S_ 32 3#32),
    TRef.unary (.of main_call0_call0_call0_c_30 : TRef sig ⟨S_, .i32⟩) (.of main_call0_call0_call0_v118 : TRef sig ⟨S1024x2, .i32⟩) (broadcastInDim S1024x2 ![] bcast_S_S1024x2),
    TRef.binary (.of main_call0_call0_call0_v114 : TRef sig ⟨S1024x2, .i32⟩) (.of main_call0_call0_call0_v118 : TRef sig ⟨S1024x2, .i32⟩) (.of main_call0_call0_call0_v119 : TRef sig ⟨S1024x2, .i32⟩) Host.shrui,
    TRef.binary (.of main_call0_call0_call0_v117 : TRef sig ⟨S1024x2, .i32⟩) (.of main_call0_call0_call0_v119 : TRef sig ⟨S1024x2, .i32⟩) (.of main_call0_call0_call0_v120 : TRef sig ⟨S1024x2, .i32⟩) ori,
    TRef.binary (.of main_call0_call0_call0_v115 : TRef sig ⟨S1024x2, .i32⟩) (.of main_call0_call0_call0_v120 : TRef sig ⟨S1024x2, .i32⟩) (.of main_call0_call0_call0_v121 : TRef sig ⟨S1024x2, .i32⟩) xori,
    TRef.binary (.of main_call0_call0_call0_v115 : TRef sig ⟨S1024x2, .i32⟩) (.of main_call0_call0_call0_v121 : TRef sig ⟨S1024x2, .i32⟩) (.of main_call0_call0_call0_v122 : TRef sig ⟨S1024x2, .i32⟩) addi,
    TRef.nullary (.of main_call0_call0_call0_c_31 : TRef sig ⟨S_, .i32⟩) (constantI S_ 32 16#32),
    TRef.unary (.of main_call0_call0_call0_c_31 : TRef sig ⟨S_, .i32⟩) (.of main_call0_call0_call0_v123 : TRef sig ⟨S1024x2, .i32⟩) (broadcastInDim S1024x2 ![] bcast_S_S1024x2),
    TRef.binary (.of main_call0_call0_call0_v121 : TRef sig ⟨S1024x2, .i32⟩) (.of main_call0_call0_call0_v123 : TRef sig ⟨S1024x2, .i32⟩) (.of main_call0_call0_call0_v124 : TRef sig ⟨S1024x2, .i32⟩) Host.shli,
    TRef.nullary (.of main_call0_call0_call0_c_32 : TRef sig ⟨S_, .i32⟩) (constantI S_ 32 16#32) ]

/-- Piece 14 of the noise. -/
abbrev kp14 : List (HloOp τ sig (Elt F)) :=
  [ TRef.unary (.of main_call0_call0_call0_c_32 : TRef sig ⟨S_, .i32⟩) (.of main_call0_call0_call0_v125 : TRef sig ⟨S1024x2, .i32⟩) (broadcastInDim S1024x2 ![] bcast_S_S1024x2),
    TRef.binary (.of main_call0_call0_call0_v121 : TRef sig ⟨S1024x2, .i32⟩) (.of main_call0_call0_call0_v125 : TRef sig ⟨S1024x2, .i32⟩) (.of main_call0_call0_call0_v126 : TRef sig ⟨S1024x2, .i32⟩) Host.shrui,
    TRef.binary (.of main_call0_call0_call0_v124 : TRef sig ⟨S1024x2, .i32⟩) (.of main_call0_call0_call0_v126 : TRef sig ⟨S1024x2, .i32⟩) (.of main_call0_call0_call0_v127 : TRef sig ⟨S1024x2, .i32⟩) ori,
    TRef.binary (.of main_call0_call0_call0_v122 : TRef sig ⟨S1024x2, .i32⟩) (.of main_call0_call0_call0_v127 : TRef sig ⟨S1024x2, .i32⟩) (.of main_call0_call0_call0_v128 : TRef sig ⟨S1024x2, .i32⟩) xori,
    TRef.binary (.of main_call0_call0_call0_v122 : TRef sig ⟨S1024x2, .i32⟩) (.of main_call0_call0_call0_v128 : TRef sig ⟨S1024x2, .i32⟩) (.of main_call0_call0_call0_v129 : TRef sig ⟨S1024x2, .i32⟩) addi,
    TRef.nullary (.of main_call0_call0_call0_c_33 : TRef sig ⟨S_, .i32⟩) (constantI S_ 32 24#32),
    TRef.unary (.of main_call0_call0_call0_c_33 : TRef sig ⟨S_, .i32⟩) (.of main_call0_call0_call0_v130 : TRef sig ⟨S1024x2, .i32⟩) (broadcastInDim S1024x2 ![] bcast_S_S1024x2),
    TRef.binary (.of main_call0_call0_call0_v128 : TRef sig ⟨S1024x2, .i32⟩) (.of main_call0_call0_call0_v130 : TRef sig ⟨S1024x2, .i32⟩) (.of main_call0_call0_call0_v131 : TRef sig ⟨S1024x2, .i32⟩) Host.shli,
    TRef.nullary (.of main_call0_call0_call0_c_34 : TRef sig ⟨S_, .i32⟩) (constantI S_ 32 8#32),
    TRef.unary (.of main_call0_call0_call0_c_34 : TRef sig ⟨S_, .i32⟩) (.of main_call0_call0_call0_v132 : TRef sig ⟨S1024x2, .i32⟩) (broadcastInDim S1024x2 ![] bcast_S_S1024x2),
    TRef.binary (.of main_call0_call0_call0_v128 : TRef sig ⟨S1024x2, .i32⟩) (.of main_call0_call0_call0_v132 : TRef sig ⟨S1024x2, .i32⟩) (.of main_call0_call0_call0_v133 : TRef sig ⟨S1024x2, .i32⟩) Host.shrui,
    TRef.binary (.of main_call0_call0_call0_v131 : TRef sig ⟨S1024x2, .i32⟩) (.of main_call0_call0_call0_v133 : TRef sig ⟨S1024x2, .i32⟩) (.of main_call0_call0_call0_v134 : TRef sig ⟨S1024x2, .i32⟩) ori,
    TRef.binary (.of main_call0_call0_call0_v129 : TRef sig ⟨S1024x2, .i32⟩) (.of main_call0_call0_call0_v134 : TRef sig ⟨S1024x2, .i32⟩) (.of main_call0_call0_call0_v135 : TRef sig ⟨S1024x2, .i32⟩) xori,
    TRef.unary (.of main_call0_call0_v6 : TRef sig ⟨S_, .i32⟩) (.of main_call0_call0_call0_v136 : TRef sig ⟨S1024x2, .i32⟩) (broadcastInDim S1024x2 ![] bcast_S_S1024x2) ]

/-- Piece 15 of the noise. -/
abbrev kp15 : List (HloOp τ sig (Elt F)) :=
  [ TRef.binary (.of main_call0_call0_call0_v129 : TRef sig ⟨S1024x2, .i32⟩) (.of main_call0_call0_call0_v136 : TRef sig ⟨S1024x2, .i32⟩) (.of main_call0_call0_call0_v137 : TRef sig ⟨S1024x2, .i32⟩) addi,
    TRef.unary (.of main_call0_call0_call0_v1 : TRef sig ⟨S_, .i32⟩) (.of main_call0_call0_call0_v138 : TRef sig ⟨S1024x2, .i32⟩) (broadcastInDim S1024x2 ![] bcast_S_S1024x2),
    TRef.binary (.of main_call0_call0_call0_v135 : TRef sig ⟨S1024x2, .i32⟩) (.of main_call0_call0_call0_v138 : TRef sig ⟨S1024x2, .i32⟩) (.of main_call0_call0_call0_v139 : TRef sig ⟨S1024x2, .i32⟩) addi,
    TRef.nullary (.of main_call0_call0_call0_c_35 : TRef sig ⟨S_, .i32⟩) (constantI S_ 32 4#32),
    TRef.unary (.of main_call0_call0_call0_c_35 : TRef sig ⟨S_, .i32⟩) (.of main_call0_call0_call0_v140 : TRef sig ⟨S1024x2, .i32⟩) (broadcastInDim S1024x2 ![] bcast_S_S1024x2),
    TRef.binary (.of main_call0_call0_call0_v139 : TRef sig ⟨S1024x2, .i32⟩) (.of main_call0_call0_call0_v140 : TRef sig ⟨S1024x2, .i32⟩) (.of main_call0_call0_call0_v141 : TRef sig ⟨S1024x2, .i32⟩) addi,
    TRef.binary (.of main_call0_call0_call0_v137 : TRef sig ⟨S1024x2, .i32⟩) (.of main_call0_call0_call0_v141 : TRef sig ⟨S1024x2, .i32⟩) (.of main_call0_call0_call0_v142 : TRef sig ⟨S1024x2, .i32⟩) addi,
    TRef.nullary (.of main_call0_call0_call0_c_36 : TRef sig ⟨S_, .i32⟩) (constantI S_ 32 13#32),
    TRef.unary (.of main_call0_call0_call0_c_36 : TRef sig ⟨S_, .i32⟩) (.of main_call0_call0_call0_v143 : TRef sig ⟨S1024x2, .i32⟩) (broadcastInDim S1024x2 ![] bcast_S_S1024x2),
    TRef.binary (.of main_call0_call0_call0_v141 : TRef sig ⟨S1024x2, .i32⟩) (.of main_call0_call0_call0_v143 : TRef sig ⟨S1024x2, .i32⟩) (.of main_call0_call0_call0_v144 : TRef sig ⟨S1024x2, .i32⟩) Host.shli,
    TRef.nullary (.of main_call0_call0_call0_c_37 : TRef sig ⟨S_, .i32⟩) (constantI S_ 32 19#32),
    TRef.unary (.of main_call0_call0_call0_c_37 : TRef sig ⟨S_, .i32⟩) (.of main_call0_call0_call0_v145 : TRef sig ⟨S1024x2, .i32⟩) (broadcastInDim S1024x2 ![] bcast_S_S1024x2),
    TRef.binary (.of main_call0_call0_call0_v141 : TRef sig ⟨S1024x2, .i32⟩) (.of main_call0_call0_call0_v145 : TRef sig ⟨S1024x2, .i32⟩) (.of main_call0_call0_call0_v146 : TRef sig ⟨S1024x2, .i32⟩) Host.shrui,
    TRef.binary (.of main_call0_call0_call0_v144 : TRef sig ⟨S1024x2, .i32⟩) (.of main_call0_call0_call0_v146 : TRef sig ⟨S1024x2, .i32⟩) (.of main_call0_call0_call0_v147 : TRef sig ⟨S1024x2, .i32⟩) ori ]

/-- Piece 16 of the noise. -/
abbrev kp16 : List (HloOp τ sig (Elt F)) :=
  [ TRef.binary (.of main_call0_call0_call0_v142 : TRef sig ⟨S1024x2, .i32⟩) (.of main_call0_call0_call0_v147 : TRef sig ⟨S1024x2, .i32⟩) (.of main_call0_call0_call0_v148 : TRef sig ⟨S1024x2, .i32⟩) xori,
    TRef.binary (.of main_call0_call0_call0_v142 : TRef sig ⟨S1024x2, .i32⟩) (.of main_call0_call0_call0_v148 : TRef sig ⟨S1024x2, .i32⟩) (.of main_call0_call0_call0_v149 : TRef sig ⟨S1024x2, .i32⟩) addi,
    TRef.nullary (.of main_call0_call0_call0_c_38 : TRef sig ⟨S_, .i32⟩) (constantI S_ 32 15#32),
    TRef.unary (.of main_call0_call0_call0_c_38 : TRef sig ⟨S_, .i32⟩) (.of main_call0_call0_call0_v150 : TRef sig ⟨S1024x2, .i32⟩) (broadcastInDim S1024x2 ![] bcast_S_S1024x2),
    TRef.binary (.of main_call0_call0_call0_v148 : TRef sig ⟨S1024x2, .i32⟩) (.of main_call0_call0_call0_v150 : TRef sig ⟨S1024x2, .i32⟩) (.of main_call0_call0_call0_v151 : TRef sig ⟨S1024x2, .i32⟩) Host.shli,
    TRef.nullary (.of main_call0_call0_call0_c_39 : TRef sig ⟨S_, .i32⟩) (constantI S_ 32 17#32),
    TRef.unary (.of main_call0_call0_call0_c_39 : TRef sig ⟨S_, .i32⟩) (.of main_call0_call0_call0_v152 : TRef sig ⟨S1024x2, .i32⟩) (broadcastInDim S1024x2 ![] bcast_S_S1024x2),
    TRef.binary (.of main_call0_call0_call0_v148 : TRef sig ⟨S1024x2, .i32⟩) (.of main_call0_call0_call0_v152 : TRef sig ⟨S1024x2, .i32⟩) (.of main_call0_call0_call0_v153 : TRef sig ⟨S1024x2, .i32⟩) Host.shrui,
    TRef.binary (.of main_call0_call0_call0_v151 : TRef sig ⟨S1024x2, .i32⟩) (.of main_call0_call0_call0_v153 : TRef sig ⟨S1024x2, .i32⟩) (.of main_call0_call0_call0_v154 : TRef sig ⟨S1024x2, .i32⟩) ori,
    TRef.binary (.of main_call0_call0_call0_v149 : TRef sig ⟨S1024x2, .i32⟩) (.of main_call0_call0_call0_v154 : TRef sig ⟨S1024x2, .i32⟩) (.of main_call0_call0_call0_v155 : TRef sig ⟨S1024x2, .i32⟩) xori,
    TRef.binary (.of main_call0_call0_call0_v149 : TRef sig ⟨S1024x2, .i32⟩) (.of main_call0_call0_call0_v155 : TRef sig ⟨S1024x2, .i32⟩) (.of main_call0_call0_call0_v156 : TRef sig ⟨S1024x2, .i32⟩) addi,
    TRef.nullary (.of main_call0_call0_call0_c_40 : TRef sig ⟨S_, .i32⟩) (constantI S_ 32 26#32),
    TRef.unary (.of main_call0_call0_call0_c_40 : TRef sig ⟨S_, .i32⟩) (.of main_call0_call0_call0_v157 : TRef sig ⟨S1024x2, .i32⟩) (broadcastInDim S1024x2 ![] bcast_S_S1024x2),
    TRef.binary (.of main_call0_call0_call0_v155 : TRef sig ⟨S1024x2, .i32⟩) (.of main_call0_call0_call0_v157 : TRef sig ⟨S1024x2, .i32⟩) (.of main_call0_call0_call0_v158 : TRef sig ⟨S1024x2, .i32⟩) Host.shli ]

/-- Piece 17 of the noise. -/
abbrev kp17 : List (HloOp τ sig (Elt F)) :=
  [ TRef.nullary (.of main_call0_call0_call0_c_41 : TRef sig ⟨S_, .i32⟩) (constantI S_ 32 6#32),
    TRef.unary (.of main_call0_call0_call0_c_41 : TRef sig ⟨S_, .i32⟩) (.of main_call0_call0_call0_v159 : TRef sig ⟨S1024x2, .i32⟩) (broadcastInDim S1024x2 ![] bcast_S_S1024x2),
    TRef.binary (.of main_call0_call0_call0_v155 : TRef sig ⟨S1024x2, .i32⟩) (.of main_call0_call0_call0_v159 : TRef sig ⟨S1024x2, .i32⟩) (.of main_call0_call0_call0_v160 : TRef sig ⟨S1024x2, .i32⟩) Host.shrui,
    TRef.binary (.of main_call0_call0_call0_v158 : TRef sig ⟨S1024x2, .i32⟩) (.of main_call0_call0_call0_v160 : TRef sig ⟨S1024x2, .i32⟩) (.of main_call0_call0_call0_v161 : TRef sig ⟨S1024x2, .i32⟩) ori,
    TRef.binary (.of main_call0_call0_call0_v156 : TRef sig ⟨S1024x2, .i32⟩) (.of main_call0_call0_call0_v161 : TRef sig ⟨S1024x2, .i32⟩) (.of main_call0_call0_call0_v162 : TRef sig ⟨S1024x2, .i32⟩) xori,
    TRef.binary (.of main_call0_call0_call0_v156 : TRef sig ⟨S1024x2, .i32⟩) (.of main_call0_call0_call0_v162 : TRef sig ⟨S1024x2, .i32⟩) (.of main_call0_call0_call0_v163 : TRef sig ⟨S1024x2, .i32⟩) addi,
    TRef.nullary (.of main_call0_call0_call0_c_42 : TRef sig ⟨S_, .i32⟩) (constantI S_ 32 6#32),
    TRef.unary (.of main_call0_call0_call0_c_42 : TRef sig ⟨S_, .i32⟩) (.of main_call0_call0_call0_v164 : TRef sig ⟨S1024x2, .i32⟩) (broadcastInDim S1024x2 ![] bcast_S_S1024x2),
    TRef.binary (.of main_call0_call0_call0_v162 : TRef sig ⟨S1024x2, .i32⟩) (.of main_call0_call0_call0_v164 : TRef sig ⟨S1024x2, .i32⟩) (.of main_call0_call0_call0_v165 : TRef sig ⟨S1024x2, .i32⟩) Host.shli,
    TRef.nullary (.of main_call0_call0_call0_c_43 : TRef sig ⟨S_, .i32⟩) (constantI S_ 32 26#32),
    TRef.unary (.of main_call0_call0_call0_c_43 : TRef sig ⟨S_, .i32⟩) (.of main_call0_call0_call0_v166 : TRef sig ⟨S1024x2, .i32⟩) (broadcastInDim S1024x2 ![] bcast_S_S1024x2),
    TRef.binary (.of main_call0_call0_call0_v162 : TRef sig ⟨S1024x2, .i32⟩) (.of main_call0_call0_call0_v166 : TRef sig ⟨S1024x2, .i32⟩) (.of main_call0_call0_call0_v167 : TRef sig ⟨S1024x2, .i32⟩) Host.shrui,
    TRef.binary (.of main_call0_call0_call0_v165 : TRef sig ⟨S1024x2, .i32⟩) (.of main_call0_call0_call0_v167 : TRef sig ⟨S1024x2, .i32⟩) (.of main_call0_call0_call0_v168 : TRef sig ⟨S1024x2, .i32⟩) ori,
    TRef.binary (.of main_call0_call0_call0_v163 : TRef sig ⟨S1024x2, .i32⟩) (.of main_call0_call0_call0_v168 : TRef sig ⟨S1024x2, .i32⟩) (.of main_call0_call0_call0_v169 : TRef sig ⟨S1024x2, .i32⟩) xori ]

/-- Piece 18 of the noise. -/
abbrev kp18 : List (HloOp τ sig (Elt F)) :=
  [ TRef.unary (.of main_call0_call0_call0_v1 : TRef sig ⟨S_, .i32⟩) (.of main_call0_call0_call0_v170 : TRef sig ⟨S1024x2, .i32⟩) (broadcastInDim S1024x2 ![] bcast_S_S1024x2),
    TRef.binary (.of main_call0_call0_call0_v163 : TRef sig ⟨S1024x2, .i32⟩) (.of main_call0_call0_call0_v170 : TRef sig ⟨S1024x2, .i32⟩) (.of main_call0_call0_v18_0 : TRef sig ⟨S1024x2, .i32⟩) addi,
    TRef.unary (.of main_call0_call0_v4 : TRef sig ⟨S_, .i32⟩) (.of main_call0_call0_call0_v172 : TRef sig ⟨S1024x2, .i32⟩) (broadcastInDim S1024x2 ![] bcast_S_S1024x2),
    TRef.binary (.of main_call0_call0_call0_v169 : TRef sig ⟨S1024x2, .i32⟩) (.of main_call0_call0_call0_v172 : TRef sig ⟨S1024x2, .i32⟩) (.of main_call0_call0_call0_v173 : TRef sig ⟨S1024x2, .i32⟩) addi,
    TRef.nullary (.of main_call0_call0_call0_c_44 : TRef sig ⟨S_, .i32⟩) (constantI S_ 32 5#32),
    TRef.unary (.of main_call0_call0_call0_c_44 : TRef sig ⟨S_, .i32⟩) (.of main_call0_call0_call0_v174 : TRef sig ⟨S1024x2, .i32⟩) (broadcastInDim S1024x2 ![] bcast_S_S1024x2),
    TRef.binary (.of main_call0_call0_call0_v173 : TRef sig ⟨S1024x2, .i32⟩) (.of main_call0_call0_call0_v174 : TRef sig ⟨S1024x2, .i32⟩) (.of main_call0_call0_v18_1 : TRef sig ⟨S1024x2, .i32⟩) addi,
    TRef.binary (.of main_call0_call0_v18_0 : TRef sig ⟨S1024x2, .i32⟩) (.of main_call0_call0_v18_1 : TRef sig ⟨S1024x2, .i32⟩) (.of main_call0_call0_v19 : TRef sig ⟨S1024x2, .i32⟩) xori,
    TRef.nullary (.of main_call0_call0_c_2 : TRef sig ⟨S_, .i32⟩) (constantI S_ 32 9#32),
    TRef.unary (.of main_call0_call0_c_2 : TRef sig ⟨S_, .i32⟩) (.of main_call0_call0_v20 : TRef sig ⟨S1024x2, .i32⟩) (broadcastInDim S1024x2 ![] bcast_S_S1024x2),
    TRef.binary (.of main_call0_call0_v19 : TRef sig ⟨S1024x2, .i32⟩) (.of main_call0_call0_v20 : TRef sig ⟨S1024x2, .i32⟩) (.of main_call0_call0_v21 : TRef sig ⟨S1024x2, .i32⟩) Host.shrui,
    TRef.nullary (.of main_call0_call0_c_3 : TRef sig ⟨S_, .i32⟩) (constantI S_ 32 1065353216#32),
    TRef.unary (.of main_call0_call0_c_3 : TRef sig ⟨S_, .i32⟩) (.of main_call0_call0_v22 : TRef sig ⟨S1024x2, .i32⟩) (broadcastInDim S1024x2 ![] bcast_S_S1024x2),
    TRef.binary (.of main_call0_call0_v21 : TRef sig ⟨S1024x2, .i32⟩) (.of main_call0_call0_v22 : TRef sig ⟨S1024x2, .i32⟩) (.of main_call0_call0_v23 : TRef sig ⟨S1024x2, .i32⟩) ori ]

/-- Piece 19 of the noise. -/
abbrev kp19 : List (HloOp τ sig (Elt F)) :=
  [ TRef.unary (.of main_call0_call0_v23 : TRef sig ⟨S1024x2, .i32⟩) (.of main_call0_call0_v24 : TRef sig ⟨S1024x2, .f32⟩) (bitcastToFloat .f32),
    TRef.nullary (.of main_call0_call0_cst : TRef sig ⟨S_, .f32⟩) (constant S_ .f32 0x3F800000#32),
    TRef.unary (.of main_call0_call0_cst : TRef sig ⟨S_, .f32⟩) (.of main_call0_call0_v25 : TRef sig ⟨S1024x2, .f32⟩) (broadcastInDim S1024x2 ![] bcast_S_S1024x2),
    TRef.binary (.of main_call0_call0_v24 : TRef sig ⟨S1024x2, .f32⟩) (.of main_call0_call0_v25 : TRef sig ⟨S1024x2, .f32⟩) (.of main_call0_call0_v26 : TRef sig ⟨S1024x2, .f32⟩) subf,
    TRef.binary (.of main_call0_call0_v2 : TRef sig ⟨S1x1, .f32⟩) (.of main_call0_call0_v1 : TRef sig ⟨S1x1, .f32⟩) (.of main_call0_call0_v27 : TRef sig ⟨S1x1, .f32⟩) subf,
    TRef.unary (.of main_call0_call0_v27 : TRef sig ⟨S1x1, .f32⟩) (.of main_call0_call0_v28 : TRef sig ⟨S1024x2, .f32⟩) (broadcastInDim S1024x2 ![0, 1] bcast_S1x1_S1024x2_0_1),
    TRef.binary (.of main_call0_call0_v26 : TRef sig ⟨S1024x2, .f32⟩) (.of main_call0_call0_v28 : TRef sig ⟨S1024x2, .f32⟩) (.of main_call0_call0_v29 : TRef sig ⟨S1024x2, .f32⟩) mulf,
    TRef.unary (.of main_call0_call0_v1 : TRef sig ⟨S1x1, .f32⟩) (.of main_call0_call0_v30 : TRef sig ⟨S1024x2, .f32⟩) (broadcastInDim S1024x2 ![0, 1] bcast_S1x1_S1024x2_0_1),
    TRef.binary (.of main_call0_call0_v29 : TRef sig ⟨S1024x2, .f32⟩) (.of main_call0_call0_v30 : TRef sig ⟨S1024x2, .f32⟩) (.of main_call0_call0_v31 : TRef sig ⟨S1024x2, .f32⟩) addf,
    TRef.unary (.of main_call0_call0_v1 : TRef sig ⟨S1x1, .f32⟩) (.of main_call0_call0_v32 : TRef sig ⟨S1024x2, .f32⟩) (broadcastInDim S1024x2 ![0, 1] bcast_S1x1_S1024x2_0_1),
    TRef.binary (.of main_call0_call0_v32 : TRef sig ⟨S1024x2, .f32⟩) (.of main_call0_call0_v31 : TRef sig ⟨S1024x2, .f32⟩) (.of main_call0_v0 : TRef sig ⟨S1024x2, .f32⟩) maximumf,
    TRef.unary (.of main_call0_v0 : TRef sig ⟨S1024x2, .f32⟩) (.of main_call0_v1 : TRef sig ⟨S1024x2, .f32⟩) Host.log,
    TRef.unary (.of main_call0_v1 : TRef sig ⟨S1024x2, .f32⟩) (.of main_call0_v2 : TRef sig ⟨S1024x2, .f32⟩) Host.negf,
    TRef.unary (.of main_call0_v2 : TRef sig ⟨S1024x2, .f32⟩) (.of main_call0_v3 : TRef sig ⟨S1024x2, .f32⟩) Host.log ]

/-- Piece 20 of the noise. -/
abbrev kp20 : List (HloOp τ sig (Elt F)) :=
  [ TRef.unary (.of main_call0_v3 : TRef sig ⟨S1024x2, .f32⟩) (.of main_v53 : TRef sig ⟨S1024x2, .f32⟩) Host.negf ]

/-- The noise is its pieces in order. -/
theorem hostOps1_1_cut : (hostOps1_1 : List (HloOp τ sig (Elt F))) = kp1 ++ (kp2 ++ (kp3 ++ (kp4 ++ (kp5 ++ (kp6 ++ (kp7 ++ (kp8 ++ (kp9 ++ (kp10 ++ (kp11 ++ (kp12 ++ (kp13 ++ (kp14 ++ (kp15 ++ (kp16 ++ (kp17 ++ (kp18 ++ (kp19 ++ (kp20))))))))))))))))))) := rfl

theorem hostOps1_1_after (V : Valuation τ sig (Elt F)) : after hostOps1_1 V = after kp20 (after kp19 (after kp18 (after kp17 (after kp16 (after kp15 (after kp14 (after kp13 (after kp12 (after kp11 (after kp10 (after kp9 (after kp8 (after kp7 (after kp6 (after kp5 (after kp4 (after kp3 (after kp2 (after kp1 V))))))))))))))))))) := by
  rw [hostOps1_1_cut]
  simp only [after_append]

end Cert.KernelIdeal.Run
-- ==== Proof.KernEnd.lean ====
/-
  What the kernel's program holds at the end: the arrays its region leaves, then the closing operations.
-/
module

public import proofs.«01_k».proof.Proof.KernArr
public import proofs.«01_k».proof.Proof.TailK

@[expose] public section

set_option maxRecDepth 16384

noncomputable section

namespace Cert.KernelIdeal.Run

open Cert.KernelIdeal Cert.KernelIdeal.Gen
open Idealize.ShloMosaic Idealize.ShloMosaic.TcCoe Idealize.ShloMosaic.StableHlo Idealize.SL.Sem Idealize.ShloMosaic.Tactic

variable (m : (ℓ : Loc nD τ sig) → Buf (Elt Ideal) ℓ) (c : Dev nD)

/-- The buffers as the region leaves them. -/
def T : Valuation τ sig (Elt Ideal) := Pipeline.withArrays (cfgs 0).spec c (V0 m c) fun w => (dats m 0 c).arrAt w (cfgs 0).N

theorem arrays_apart : Function.Injective (Pipeline.arrRef spec0) := by decide +kernel

theorem T_keys : rd (T m c) main_v40_0 = keysArr m c := (Pipeline.withArrays_arr spec0 arrays_apart c _ _ 16).trans (arr16 m c)
theorem T_vals : rd (T m c) main_v40_1 = valsArr m c := (Pipeline.withArrays_arr spec0 arrays_apart c _ _ 17).trans (arr17 m c)
theorem T_pi : rd (T m c) main_v40_2 = piArr m c := (Pipeline.withArrays_arr spec0 arrays_apart c _ _ 18).trans (arr18 m c)
theorem T_ht : rd (T m c) main_v40_4 = htArr m c := (Pipeline.withArrays_arr spec0 arrays_apart c _ _ 20).trans (arr20 m c)
theorem T_ct : rd (T m c) main_v40_5 = ctArr m c := (Pipeline.withArrays_arr spec0 arrays_apart c _ _ 21).trans (arr21 m c)

/-- The buffers at the end. -/
def E : Valuation τ sig (Elt Ideal) :=
  after hostOps1_6 (after hostOps1_5 (after hostOps1_4 (after hostOps1_3 (after hostOps1_2 (after hostOps1_1 (after hostOps1 (T m c)))))))

theorem end_eq (b : Ref sig .tc) :
    Pipeline.afterTail₀ cfgs (dats m) 0 (V0 m) [hostOps1, hostOps1_1, hostOps1_2, hostOps1_3, hostOps1_4, hostOps1_5, hostOps1_6] c b
      = E m c (Proc.devRef .tc b) := by
  unfold Pipeline.afterTail₀ E T
  rw [List.flatten_cons, List.flatten_cons, List.flatten_cons, List.flatten_cons, List.flatten_cons, List.flatten_cons, List.flatten_cons, List.flatten_nil, List.append_nil, after_append, after_append, after_append, after_append, after_append, after_append]

/-- A buffer only the first closing operations write. -/
theorem E_first {r : Ref sig .tc} (h1 : r ∉ hostOps1_1_W) (h2 : r ∉ hostOps1_2_W) (h3 : r ∉ hostOps1_3_W) (h4 : r ∉ hostOps1_4_W)
    (h5 : r ∉ hostOps1_5_W) (h6 : r ∉ hostOps1_6_W) : E m c (Proc.devRef .tc r) = after hostOps1 (T m c) (Proc.devRef .tc r) := by
  unfold E
  rw [after_of_writes_sub (r := r) hostOps1_6 _ hostOps1_6_writes h6, after_of_writes_sub (r := r) hostOps1_5 _ hostOps1_5_writes h5,
    after_of_writes_sub (r := r) hostOps1_4 _ hostOps1_4_writes h4, after_of_writes_sub (r := r) hostOps1_3 _ hostOps1_3_writes h3,
    after_of_writes_sub (r := r) hostOps1_2 _ hostOps1_2_writes h2, after_of_writes_sub (r := r) hostOps1_1 _ hostOps1_1_writes h1]

/-- The new keys. -/
theorem E_keys (r : Fin 100000) (i : Fin 10) : (rd (E m c) main_v41 : FVec Ideal S100000x10 .f32) (ix2 r i)
    = if h : r.val < 1024 then Spec.qry (inp (L m c)) ⟨r.val, h⟩ i else (inp (L m c)).keys r i := by
  have e : rd (E m c) main_v41 = transpose S100000x10 [1, 0] (keysArr m c) transposes_S10x100000_S100000x10_1_0 := by
    refine (E_first m c (by decide +kernel) (by decide +kernel) (by decide +kernel) (by decide +kernel) (by decide +kernel) (by decide +kernel)).trans ?_
    rw [← T_keys]
    after_reads_simp
  refine (congrFun e _).trans ?_
  pointwise [keysArr]

/-- The new values. -/
theorem E_vals (r : Fin 100000) (i : Fin 64) : (rd (E m c) main_v42 : FVec Ideal S100000x64 .f32) (ix2 r i)
    = if h : r.val < 1024 then Spec.ct (inp (L m c)) ⟨r.val, h⟩ i else (inp (L m c)).vals r i := by
  have e : rd (E m c) main_v42 = transpose S100000x64 [1, 0] (valsArr m c) transposes_S64x100000_S100000x64_1_0 := by
    refine (E_first m c (by decide +kernel) (by decide +kernel) (by decide +kernel) (by decide +kernel) (by decide +kernel) (by decide +kernel)).trans ?_
    rw [← T_vals]
    after_reads_simp
  refine (congrFun e _).trans ?_
  pointwise [valsArr]

end Cert.KernelIdeal.Run
-- ==== Proof.RefValue.lean ====
module

public import proofs.«01_k».proof.Proof.RefRun
public import proofs.«01_k».proof.Proof.Spec
public import Idealize.ShloMosaic.Lib.Pointwise
public import Idealize.ShloMosaic.Lib.StableHlo.RunRead

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.SL.Sem

/-! # The reference's buffers, read at an index over the extended reals -/

/-- What a buffer holds. -/
abbrev rd (V : Valuation τ sig (Elt Ideal)) (r : Ref sig .tc) := V (Proc.devRef .tc r)

/-- The reference's inputs, entry by entry. -/
def inp (V : Valuation τ sig (Elt Ideal)) : Spec.Inp where
  x b k := (rd V main_arg0 : FVec Ideal S1024x14 .f32) (ix2 b k)
  h b k := (rd V main_arg1 : FVec Ideal S1x1024x64 .f32) (ix3 0 b k)
  c b k := (rd V main_arg2 : FVec Ideal S1x1024x64 .f32) (ix3 0 b k)
  keys j k := (rd V main_arg3 : FVec Ideal S100000x10 .f32) (ix2 j k)
  vals j k := (rd V main_arg4 : FVec Ideal S100000x64 .f32) (ix2 j k)
  wi r k := (rd V main_arg5 : FVec Ideal S320x14 .f32) (ix2 r k)
  bi r := (rd V main_arg6 : FVec Ideal S320 .f32) (ix1 r)
  wh r k := (rd V main_arg7 : FVec Ideal S320x64 .f32) (ix2 r k)
  bh r := (rd V main_arg8 : FVec Ideal S320 .f32) (ix1 r)
  wf r k := (rd V main_arg9 : FVec Ideal S64x64 .f32) (ix2 r k)
  bf r := (rd V main_arg10 : FVec Ideal S64 .f32) (ix1 r)
  wa r k := (rd V main_arg11 : FVec Ideal S2x64 .f32) (ix2 r k)
  ba r := (rd V main_arg12 : FVec Ideal S2 .f32) (ix1 r)
  wc k := (rd V main_arg13 : FVec Ideal S1x64 .f32) (ix2 0 k)
  bc := (rd V main_arg14 : FVec Ideal S1 .f32) (ix1 0)

variable (V : Valuation τ sig (Elt Ideal)) (b : Fin 1024)

/-- The pre-activations. -/
theorem v12 (r : Fin 320) : (rd (U1 V) main_v12 : FVec Ideal S1024x320 .f32) (ix2 b r) = Spec.pre (inp V) b r := by
  show (rd (after ops0 V) main_v12 : FVec Ideal S1024x320 .f32) (ix2 b r) = _
  after_reads_simp
  pointwise [Spec.pre, inp]

/-- The output gate. -/
theorem v22 (d : Fin 64) : (rd (U1 V) main_v22 : FVec Ideal S1024x64 .f32) (ix2 b d)
    = Ideal.logistic (Spec.pre (inp V) b ⟨128 + d.val, by omega⟩) := by
  show (rd (after ops0 V) main_v22 : FVec Ideal S1024x64 .f32) (ix2 b d) = _
  after_reads_simp
  pointwise [Spec.pre, inp, Ideal.logistic]

/-- The read gate. -/
theorem v23 (d : Fin 64) : (rd (U1 V) main_v23 : FVec Ideal S1024x64 .f32) (ix2 b d)
    = Ideal.logistic (Spec.pre (inp V) b ⟨192 + d.val, by omega⟩) := by
  show (rd (after ops0 V) main_v23 : FVec Ideal S1024x64 .f32) (ix2 b d) = _
  after_reads_simp
  pointwise [Spec.pre, inp, Ideal.logistic]

/-- The cell state before the retrieved value is added. -/
theorem v28 (d : Fin 64) : (rd (U1 V) main_v28 : FVec Ideal S1024x64 .f32) (ix2 b d)
    = Ideal.logistic (Spec.pre (inp V) b ⟨d.val, by omega⟩) * (inp V).c b d
      + Ideal.logistic (Spec.pre (inp V) b ⟨64 + d.val, by omega⟩) * Ideal.tanh (Spec.pre (inp V) b ⟨256 + d.val, by omega⟩) := by
  show (rd (after ops0 V) main_v28 : FVec Ideal S1024x64 .f32) (ix2 b d) = _
  after_reads_simp
  pointwise [Spec.pre, inp, Ideal.logistic]

/-- The query. -/
theorem v29 (i : Fin 10) : (rd (U1 V) main_v29 : FVec Ideal S1024x10 .f32) (ix2 b i) = Spec.qry (inp V) b i := by
  show (rd (after ops0 V) main_v29 : FVec Ideal S1024x10 .f32) (ix2 b i) = _
  after_reads_simp
  pointwise [Spec.qry, inp]

/-- The norms of the queries. -/
theorem v30 : (rd (U2 V) main_v30 : FVec Ideal S1024x1 .f32) (ix2 b 0)
    = Ideal.sqrt (∑ x, Spec.qry (inp V) b x * Spec.qry (inp V) b x) := by
  show (rd (after ops1 (U1 V)) main_v30 : FVec Ideal S1024x1 .f32) (ix2 b 0) = _
  after_reads_simp
  simp only [← v29, TRef.ofBuf, TRef.toBuf, cast_cast, cast_eq]
  pointwise

/-- The normalized queries. -/
theorem v34 (i : Fin 10) : (rd (U3 V) main_v34 : FVec Ideal S1024x10 .f32) (ix2 b i) = Maths.unitv (Spec.qry (inp V) b) i := by
  show (rd (after ops2 (U2 V)) main_v34 : FVec Ideal S1024x10 .f32) (ix2 b i) = _
  unfold Maths.unitv Maths.nrm
  rw [← v30, ← v29]
  after_reads_simp
  rw [U2_keep V (r := main_v29) (by decide)]
  pointwise

/-- The norms of the keys. -/
theorem v35 (j : Fin 100000) : (rd (U4 V) main_v35 : FVec Ideal S100000x1 .f32) (ix2 j 0)
    = Ideal.sqrt (∑ x, (inp V).keys j x * (inp V).keys j x) := by
  show (rd (after ops3 (U3 V)) main_v35 : FVec Ideal S100000x1 .f32) (ix2 j 0) = _
  after_reads_simp
  simp only [TRef.ofBuf, TRef.toBuf, cast_cast, cast_eq]
  rw [U3_keep V (r := main_arg3) (by decide), U2_keep V (r := main_arg3) (by decide), U1_keep V (r := main_arg3) (by decide)]
  unfold U0
  pointwise [inp]

/-- The similarities. -/
theorem v41 (j : Fin 100000) : (rd (U5 V) main_v41 : FVec Ideal S1024x100000 .f32) (ix2 b j)
    = Maths.sim (Spec.qry (inp V) b) ((inp V).keys j) := by
  show (rd (after ops4 (U4 V)) main_v41 : FVec Ideal S1024x100000 .f32) (ix2 b j) = _
  unfold Maths.sim
  simp only [← v34]
  unfold Maths.unitv Maths.nrm
  simp only [← v35]
  after_reads_simp
  rw [U4_keep V (r := main_v34) (by decide), U4_keep V (r := main_arg3) (by decide), U3_keep V (r := main_arg3) (by decide), U2_keep V (r := main_arg3) (by decide), U1_keep V (r := main_arg3) (by decide)]
  unfold U0
  pointwise [inp]

end Cert.ReferenceIdeal.Run
-- ==== Proof.RefCell.lean ====
module

public import proofs.«01_k».proof.Proof.RefRun
public import proofs.«01_k».proof.Proof.Spec
public import proofs.«01_k».proof.Proof.RefValue
public import Idealize.ShloMosaic.Lib.Pointwise
public import Idealize.ShloMosaic.Lib.StableHlo.RunRead

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.SL.Sem

/-! # The reference's buffers, read at an index over the extended reals -/

variable (V : Valuation τ sig (Elt Ideal)) (b : Fin 1024)

/-- The largest of a row. -/
def big (s : Fin 100000 → EReal) : EReal := Finset.univ.fold max ⊥ s

/-- The reference's row maxima of a matrix of similarities. -/
def rowMax (T : FVec Ideal S1024x100000 .f32) : FVec Ideal S1024 .f32 :=
  maximumf (broadcastInDim S1024 ![] bcast_S_S1024 (constant S_ FTy.f32 4286578688#32))
    (Host.reduce FloatOps.maximumf T (constant S_ FTy.f32 4286578688#32) reducesTo_S1024x100000_S1024_d1 h_S_)

/-- The exponentials of the similarities less the row's number. -/
def expo (T : FVec Ideal S1024x100000 .f32) (M : FVec Ideal S1024 .f32) : FVec Ideal S1024x100000 .f32 :=
  Host.exp (subf T (broadcastInDim S1024x100000 ![0, 1] bcast_S1024x1_S1024x100000_0_1
    (broadcastInDim S1024x1 ![0] bcast_S1024_S1024x1_0 M)))

/-- A matrix divided by its row sums. -/
def share (E : FVec Ideal S1024x100000 .f32) : FVec Ideal S1024x100000 .f32 :=
  Host.divf E (broadcastInDim S1024x100000 ![0, 1] bcast_S1024x1_S1024x100000_0_1
    (broadcastInDim S1024x1 ![0] bcast_S1024_S1024x1_0
      (Host.reduceAdd E (constant S_ FTy.f32 0#32) reducesTo_S1024x100000_S1024_d1 h_S_)))

theorem ninf : Ideal.ofBits .f32 4286578688#32 = ⊥ := by
  simp [Ideal.ofBits, Ideal.ieee]

theorem redMax_apply (T : FVec Ideal S1024x100000 .f32) :
    Host.reduce (FloatOps.maximumf (F := Ideal) (φ := .f32)) T (constant S_ .f32 4286578688#32) reducesTo_S1024x100000_S1024_d1 h_S_ (ix1 b)
      = Finset.univ.fold max (Ideal.ofBits .f32 4286578688#32) fun j => T (ix2 b j) := by
  pointwise

theorem maxWith_apply (R : FVec Ideal S1024 .f32) :
    maximumf (broadcastInDim S1024 ![] bcast_S_S1024 (constant S_ FTy.f32 4286578688#32)) R (ix1 b) = R (ix1 b) := by
  have h : maximumf (broadcastInDim S1024 ![] bcast_S_S1024 (constant S_ FTy.f32 4286578688#32)) R (ix1 b)
      = max (Ideal.ofBits .f32 4286578688#32) (R (ix1 b)) := by pointwise
  rw [h, ninf]
  exact max_eq_right bot_le

theorem rowMax_apply (T : FVec Ideal S1024x100000 .f32) : rowMax T (ix1 b) = big fun j => T (ix2 b j) := by
  unfold rowMax big
  rw [maxWith_apply, redMax_apply, ninf]

theorem expo_apply (T : FVec Ideal S1024x100000 .f32) (M : FVec Ideal S1024 .f32) (j : Fin 100000) :
    expo T M (ix2 b j) = Ideal.exp (T (ix2 b j) - M (ix1 b)) := by
  pointwise [expo]

theorem share_apply (E : FVec Ideal S1024x100000 .f32) (j : Fin 100000) :
    share E (ix2 b j) = Ideal.div (E (ix2 b j)) (∑ l, E (ix2 b l)) := by
  pointwise [share]

theorem v52_of : rd (U5 V) main_v52 = share (expo (rd (U5 V) main_v41) (rowMax (rd (U5 V) main_v41))) := by
  show rd (after ops4 (U4 V)) main_v52
    = share (expo (rd (after ops4 (U4 V)) main_v41) (rowMax (rd (after ops4 (U4 V)) main_v41)))
  unfold share expo rowMax
  after_reads_simp

/-- A row of similarities. -/
abbrev sims (j : Fin 100000) : EReal := Maths.sim (Spec.qry (inp V) b) ((inp V).keys j)

/-- The softmax weights of the reference. -/
theorem v52 (j : Fin 100000) : (rd (U5 V) main_v52 : FVec Ideal S1024x100000 .f32) (ix2 b j)
    = Ideal.div (Ideal.exp (sims V b j - big (sims V b))) (∑ l, Ideal.exp (sims V b l - big (sims V b))) := by
  have h : (fun j => (rd (U5 V) main_v41 : FVec Ideal S1024x100000 .f32) (ix2 b j)) = sims V b := funext fun j => v41 V b j
  rw [v52_of, share_apply]
  simp only [expo_apply, rowMax_apply]
  rw [← h]

/-- The retrieved value. -/
theorem v53 (d : Fin 64) : (rd (U6 V) main_v53 : FVec Ideal S1024x64 .f32) (ix2 b d) = Spec.mem (inp V) b d := by
  choose s hs using fun j => Maths.sim_real (Spec.qry (inp V) b) ((inp V).keys j)
  have hM : ∃ r : ℝ, big (sims V b) = (r : EReal) := by
    have e : sims V b = fun j => (s j : EReal) := funext hs
    rw [e]
    exact Maths.fold_max_real s (by norm_num)
  have h := Maths.attend (n := 100000) (by norm_num) (sims V b) (fun j => ⟨s j, hs j⟩) _ hM fun j => (inp V).vals j d
  refine Eq.trans ?_ h
  show (rd (after ops5 (U5 V)) main_v53 : FVec Ideal S1024x64 .f32) (ix2 b d) = _
  simp only [← v52]
  after_reads_simp
  rw [U5_keep V (r := main_arg4) (by decide), U4_keep V (r := main_arg4) (by decide), U3_keep V (r := main_arg4) (by decide), U2_keep V (r := main_arg4) (by decide), U1_keep V (r := main_arg4) (by decide)]
  unfold U0
  pointwise [inp]

theorem gated_apply (x y z : FVec Ideal S1024x64 .f32) (d : Fin 64) :
    addf x (mulf y (Host.tanh z)) (ix2 b d) = x (ix2 b d) + y (ix2 b d) * Ideal.tanh (z (ix2 b d)) := by
  pointwise

theorem hidden_apply (y z : FVec Ideal S1024x64 .f32) (d : Fin 64) :
    mulf y (Host.tanh z) (ix2 b d) = y (ix2 b d) * Ideal.tanh (z (ix2 b d)) := by
  pointwise

/-- The cell state. -/
theorem v56 (d : Fin 64) : (rd (U6 V) main_v56 : FVec Ideal S1024x64 .f32) (ix2 b d) = Spec.ct (inp V) b d := by
  unfold Spec.ct
  rw [← v53, ← v28, ← v23]
  rw [show U6 V = after ops5 (U5 V) from rfl]
  after_reads_simp
  rw [U5_keep V (r := main_v28) (by decide), U4_keep V (r := main_v28) (by decide), U3_keep V (r := main_v28) (by decide), U2_keep V (r := main_v28) (by decide)]
  rw [U5_keep V (r := main_v23) (by decide), U4_keep V (r := main_v23) (by decide), U3_keep V (r := main_v23) (by decide), U2_keep V (r := main_v23) (by decide)]
  exact gated_apply b _ _ _ d

/-- The hidden state. -/
theorem v58 (d : Fin 64) : (rd (U6 V) main_v58 : FVec Ideal S1024x64 .f32) (ix2 b d) = Spec.ht (inp V) b d := by
  unfold Spec.ht
  rw [← v56, ← v22]
  rw [show U6 V = after ops5 (U5 V) from rfl]
  after_reads_simp
  rw [U5_keep V (r := main_v22) (by decide), U4_keep V (r := main_v22) (by decide), U3_keep V (r := main_v22) (by decide), U2_keep V (r := main_v22) (by decide)]
  exact hidden_apply b _ _ d

end Cert.ReferenceIdeal.Run
-- ==== Proof.RefHead.lean ====
module

public import proofs.«01_k».proof.Proof.RefRun
public import proofs.«01_k».proof.Proof.Spec
public import proofs.«01_k».proof.Proof.RefCell
public import Idealize.ShloMosaic.Lib.Pointwise
public import Idealize.ShloMosaic.Lib.StableHlo.RunRead

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.SL.Sem

/-! # The reference's buffers, read at an index over the extended reals -/

variable (V : Valuation τ sig (Elt Ideal)) (b : Fin 1024)

/-- The head's hidden layer before its rectifier. -/
theorem v81 (e : Fin 64) : (rd (U8 V) main_v81 : FVec Ideal S1024x64 .f32) (ix2 b e)
    = (∑ k, Spec.ht (inp V) b k * (inp V).wf e k) + (inp V).bf e := by
  simp only [← v58]
  show (rd (after ops7 (U7 V)) main_v81 : FVec Ideal S1024x64 .f32) (ix2 b e) = _
  after_reads_simp
  rw [U7_keep V (r := main_v58) (by decide)]
  rw [U7_keep V (r := main_arg9) (by decide), U6_keep V (r := main_arg9) (by decide), U5_keep V (r := main_arg9) (by decide), U4_keep V (r := main_arg9) (by decide), U3_keep V (r := main_arg9) (by decide), U2_keep V (r := main_arg9) (by decide), U1_keep V (r := main_arg9) (by decide)]
  rw [U7_keep V (r := main_arg10) (by decide), U6_keep V (r := main_arg10) (by decide), U5_keep V (r := main_arg10) (by decide), U4_keep V (r := main_arg10) (by decide), U3_keep V (r := main_arg10) (by decide), U2_keep V (r := main_arg10) (by decide), U1_keep V (r := main_arg10) (by decide)]
  unfold U0
  pointwise [inp]

/-- The head's hidden layer. -/
theorem v82 (e : Fin 64) : (rd (U9 V) main_v82 : FVec Ideal S1024x64 .f32) (ix2 b e) = Spec.hid (inp V) b e := by
  unfold Spec.hid
  rw [← v81]
  show (rd (after ops8 (U8 V)) main_v82 : FVec Ideal S1024x64 .f32) (ix2 b e) = _
  after_reads_simp
  simp only [TRef.ofBuf, TRef.toBuf, cast_cast, cast_eq]
  pointwise

/-- The logits. -/
theorem v87 (o : Fin 2) : (rd (U10 V) main_v87 : FVec Ideal S1024x2 .f32) (ix2 b o) = Spec.logit (inp V) b o := by
  unfold Spec.logit
  simp only [← v82]
  show (rd (after ops9 (U9 V)) main_v87 : FVec Ideal S1024x2 .f32) (ix2 b o) = _
  after_reads_simp
  rw [U9_keep V (r := main_arg11) (by decide), U8_keep V (r := main_arg11) (by decide), U7_keep V (r := main_arg11) (by decide), U6_keep V (r := main_arg11) (by decide), U5_keep V (r := main_arg11) (by decide), U4_keep V (r := main_arg11) (by decide), U3_keep V (r := main_arg11) (by decide), U2_keep V (r := main_arg11) (by decide), U1_keep V (r := main_arg11) (by decide)]
  rw [U9_keep V (r := main_arg12) (by decide), U8_keep V (r := main_arg12) (by decide), U7_keep V (r := main_arg12) (by decide), U6_keep V (r := main_arg12) (by decide), U5_keep V (r := main_arg12) (by decide), U4_keep V (r := main_arg12) (by decide), U3_keep V (r := main_arg12) (by decide), U2_keep V (r := main_arg12) (by decide), U1_keep V (r := main_arg12) (by decide)]
  unfold U0
  pointwise [inp]

/-- The critic's value. -/
theorem v103 : (rd (U10 V) main_v103 : FVec Ideal S1024x1 .f32) (ix2 b 0) = Spec.val (inp V) b := by
  unfold Spec.val
  simp only [← v82]
  show (rd (after ops9 (U9 V)) main_v103 : FVec Ideal S1024x1 .f32) (ix2 b 0) = _
  after_reads_simp
  rw [U9_keep V (r := main_arg13) (by decide), U8_keep V (r := main_arg13) (by decide), U7_keep V (r := main_arg13) (by decide), U6_keep V (r := main_arg13) (by decide), U5_keep V (r := main_arg13) (by decide), U4_keep V (r := main_arg13) (by decide), U3_keep V (r := main_arg13) (by decide), U2_keep V (r := main_arg13) (by decide), U1_keep V (r := main_arg13) (by decide)]
  rw [U9_keep V (r := main_arg14) (by decide), U8_keep V (r := main_arg14) (by decide), U7_keep V (r := main_arg14) (by decide), U6_keep V (r := main_arg14) (by decide), U5_keep V (r := main_arg14) (by decide), U4_keep V (r := main_arg14) (by decide), U3_keep V (r := main_arg14) (by decide), U2_keep V (r := main_arg14) (by decide), U1_keep V (r := main_arg14) (by decide)]
  unfold U0
  pointwise [inp]

/-- The reference's row maxima of the logits. -/
def topOf (T : FVec Ideal S1024x2 .f32) : FVec Ideal S1024 .f32 :=
  maximumf (broadcastInDim S1024 ![] bcast_S_S1024 (constant S_ FTy.f32 4286578688#32))
    (Host.reduce FloatOps.maximumf T (constant S_ FTy.f32 4286578688#32) reducesTo_S1024x2_S1024_d1 h_S_)

/-- The exponentials of the logits less the row's number. -/
def expo2 (T : FVec Ideal S1024x2 .f32) (M : FVec Ideal S1024 .f32) : FVec Ideal S1024x2 .f32 :=
  Host.exp (subf T (broadcastInDim S1024x2 ![0, 1] bcast_S1024x1_S1024x2_0_1
    (broadcastInDim S1024x1 ![0] bcast_S1024_S1024x1_0 M)))

/-- A matrix divided by its row sums. -/
def share2 (E : FVec Ideal S1024x2 .f32) : FVec Ideal S1024x2 .f32 :=
  Host.divf E (broadcastInDim S1024x2 ![0, 1] bcast_S1024x1_S1024x2_0_1
    (broadcastInDim S1024x1 ![0] bcast_S1024_S1024x1_0
      (Host.reduceAdd E (constant S_ FTy.f32 0#32) reducesTo_S1024x2_S1024_d1 h_S_)))

theorem redTop_apply (T : FVec Ideal S1024x2 .f32) :
    Host.reduce (FloatOps.maximumf (F := Ideal) (φ := .f32)) T (constant S_ .f32 4286578688#32) reducesTo_S1024x2_S1024_d1 h_S_ (ix1 b)
      = Finset.univ.fold max (Ideal.ofBits .f32 4286578688#32) fun j => T (ix2 b j) := by
  pointwise

theorem topOf_apply (T : FVec Ideal S1024x2 .f32) : topOf T (ix1 b) = Finset.univ.fold max ⊥ fun j => T (ix2 b j) := by
  unfold topOf
  rw [maxWith_apply, redTop_apply, ninf]

theorem expo2_apply (T : FVec Ideal S1024x2 .f32) (M : FVec Ideal S1024 .f32) (o : Fin 2) :
    expo2 T M (ix2 b o) = Ideal.exp (T (ix2 b o) - M (ix1 b)) := by
  pointwise [expo2]

theorem share2_apply (E : FVec Ideal S1024x2 .f32) (o : Fin 2) :
    share2 E (ix2 b o) = Ideal.div (E (ix2 b o)) (∑ l, E (ix2 b l)) := by
  have h : share2 E (ix2 b o) = Ideal.div (E (ix2 b o)) (0 + ∑ l, E (ix2 b l)) := by pointwise [share2]
  rw [h, zero_add]

theorem v98_of : rd (U10 V) main_v98 = share2 (expo2 (rd (U10 V) main_v87) (topOf (rd (U10 V) main_v87))) := by
  show rd (after ops9 (U9 V)) main_v98
    = share2 (expo2 (rd (after ops9 (U9 V)) main_v87) (topOf (rd (after ops9 (U9 V)) main_v87)))
  unfold share2 expo2 topOf
  after_reads_simp

/-- The policy. -/
theorem v98 (o : Fin 2) : (rd (U10 V) main_v98 : FVec Ideal S1024x2 .f32) (ix2 b o) = Spec.pi (inp V) b o := by
  have h : (fun j => (rd (U10 V) main_v87 : FVec Ideal S1024x2 .f32) (ix2 b j)) = Spec.logit (inp V) b := funext fun j => v87 V b j
  rw [v98_of, share2_apply]
  simp only [expo2_apply, topOf_apply]
  unfold Spec.pi Spec.top
  rw [← h]

end Cert.ReferenceIdeal.Run
-- ==== Proof.RefStore.lean ====
module

public import proofs.«01_k».proof.Proof.RefRun
public import proofs.«01_k».proof.Proof.Spec
public import proofs.«01_k».proof.Proof.RefCell
public import Idealize.ShloMosaic.Lib.Pointwise
public import Idealize.ShloMosaic.Lib.Routing.OpsSet
public import Idealize.ShloMosaic.Lib.Routing.OpsPair
public import Idealize.ShloMosaic.Lib.StableHlo.RunRead

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.SL.Sem

/-! # The reference's buffers, read at an index over the extended reals -/

variable (V : Valuation τ sig (Elt Ideal)) (b : Fin 1024)

/-- The slots before the wrap-around. -/
theorem v61 (h0 : (rd V main_arg15 : IVec S_ 32) ix0 = 0#32) :
    (rd (U6 V) main_v61 : IVec S1024 32) (ix1 b) = IntOp.addi 0#32 (BitVec.ofNat 32 b.val) := by
  rw [← h0]
  show (rd (after ops5 (U5 V)) main_v61 : IVec S1024 32) (ix1 b) = _
  after_reads_simp
  rw [U5_keep V (r := main_arg15) (by decide), U4_keep V (r := main_arg15) (by decide), U3_keep V (r := main_arg15) (by decide), U2_keep V (r := main_arg15) (by decide), U1_keep V (r := main_arg15) (by decide)]
  unfold U0
  pointwise

theorem c100000 : rd (U6 V) main_c = constantI S_ 32 100000#32 := by
  show rd (after ops5 (U5 V)) main_c = _
  after_reads_simp

/-- The divisor the remainder uses. -/
abbrev divi : BitVec 32 := Scalar.select (IntOp.cmpi CmpIPredicate.eq 100000#32 0#32) (1#32) 100000#32

/-- The remainder of a slot. -/
abbrev rem (x : BitVec 32) : BitVec 32 := IntOp.remsi ArithUnit.host x divi

/-- A slot below 1024 is its own remainder. -/
theorem slot_rem : ∀ b : Fin 1024, Scalar.select
      (IntOp.andi
        (IntOp.cmpi CmpIPredicate.ne (IntOp.cmpi CmpIPredicate.slt (rem (IntOp.addi 0#32 (BitVec.ofNat 32 b.val))) 0#32) (IntOp.cmpi CmpIPredicate.slt divi 0#32))
        (IntOp.cmpi CmpIPredicate.ne (rem (IntOp.addi 0#32 (BitVec.ofNat 32 b.val))) 0#32))
      (IntOp.addi (rem (IntOp.addi 0#32 (BitVec.ofNat 32 b.val))) divi)
      (rem (IntOp.addi 0#32 (BitVec.ofNat 32 b.val))) = BitVec.ofNat 32 b.val := by
  decide +kernel

/-- A slot below 1024 is not negative. -/
theorem slot_pos : ∀ b : Fin 1024, Scalar.select (IntOp.cmpi CmpIPredicate.slt (BitVec.ofNat 32 b.val) 0#32)
      (IntOp.addi (BitVec.ofNat 32 b.val) 100000#32) (BitVec.ofNat 32 b.val) = BitVec.ofNat 32 b.val := by
  decide +kernel

theorem slot_val : ∀ b : Fin 1024, (BitVec.ofNat 32 b.val).toInt = (b.val : ℤ) := by
  decide +kernel

theorem wrapped (W : Valuation τ sig (Elt Ideal)) (h : (rd W main_v61 : IVec S1024 32) (ix1 b) = IntOp.addi 0#32 (BitVec.ofNat 32 b.val))
    (hc : rd W main_c = constantI S_ 32 100000#32) :
    (rd (after ops6 W) main_v62 : IVec S1024 32) (ix1 b) = BitVec.ofNat 32 b.val := by
  refine Eq.trans ?_ (slot_rem b)
  rw [← h]
  after_reads_simp
  simp only [TRef.ofBuf, TRef.toBuf, cast_cast, cast_eq]
  have hc' : W (Proc.devRef .tc main_c) = constantI S_ 32 100000#32 := hc
  rw [hc']
  simp only [id_eq]
  pointwise

/-- The slots: 0, 1, 2, … when the write position is zero. -/
theorem v62 (h0 : (rd V main_arg15 : IVec S_ 32) ix0 = 0#32) :
    (rd (U7 V) main_v62 : IVec S1024 32) (ix1 b) = BitVec.ofNat 32 b.val := by
  exact wrapped b (U6 V) (v61 V b h0) (c100000 V)

theorem slots (W : Valuation τ sig (Elt Ideal)) (h : (rd W main_v62 : IVec S1024 32) (ix1 b) = BitVec.ofNat 32 b.val) :
    (rd (after ops7 W) main_v68 : IVec S1024x1 32) (ix2 b 0) = BitVec.ofNat 32 b.val
      ∧ (rd (after ops7 W) main_v75 : IVec S1024x1 32) (ix2 b 0) = BitVec.ofNat 32 b.val := by
  refine ⟨Eq.trans ?_ (slot_pos b), Eq.trans ?_ (slot_pos b)⟩
  · rw [← h]
    after_reads_simp
    pointwise
  · rw [← h]
    after_reads_simp
    pointwise

/-- Where an update of row `k` lands: the row its index names, in its own column. -/
theorem lands10 (idx : IVec S1024x1 32) (k : Fin 1024) (c : Fin 10) (r : Fin 100000) (e : Fin 10) :
    scatter_S100000x10_S1024x1_S1024x10_1_0_0_1.resultIdx? (ix2 k c) idx = some (ix2 r e) ↔ (idx (ix2 k 0)).toInt = r.val ∧ c.val = e.val := by
  have w0 : scatter_S100000x10_S1024x1_S1024x10_1_0_0_1.window (ix2 k c) 0 = 0 := rfl
  have w1 : scatter_S100000x10_S1024x1_S1024x10_1_0_0_1.window (ix2 k c) 1 = c.val := rfl
  have s0 : scatter_S100000x10_S1024x1_S1024x10_1_0_0_1.start (ix2 k c) idx 0 = (idx (ix2 k 0)).toInt := by
    refine congrArg (fun i => (idx i).toInt) (funext fun b => ?_)
    match b with
    | ⟨0, _⟩ => rfl
    | ⟨1, _⟩ => rfl
  have s1 : scatter_S100000x10_S1024x1_S1024x10_1_0_0_1.start (ix2 k c) idx 1 = 0 := rfl
  refine (Routing.resultIdx?_ix2 _ _ _ r e).trans ?_
  rw [w0, w1, s0, s1]
  omega

/-- Rows written at slots 0, 1, 2, … replace the first rows and leave the others. -/
theorem stored10 (x : FVec Ideal S100000x10 .f32) (idx : IVec S1024x1 32) (hidx : ∀ b : Fin 1024, idx (ix2 b 0) = BitVec.ofNat 32 b.val)
    (u : FVec Ideal S1024x10 .f32) (r : Fin 100000) (e : Fin 10) :
    Host.scatter scatter_S100000x10_S1024x1_S1024x10_1_0_0_1 (fun _ b => b) x idx u (ix2 r e) = if h : r.val < 1024 then u (ix2 ⟨r.val, h⟩ e) else x (ix2 r e) := by
  have hw : ∀ b : Fin 1024, (idx (ix2 b 0)).toInt = b.val := fun b => by rw [hidx]; exact slot_val b
  have hl : ∀ (q : S1024x10.Idx), scatter_S100000x10_S1024x1_S1024x10_1_0_0_1.resultIdx? q idx = some (ix2 r e) → ∃ h : r.val < 1024, q = ix2 ⟨r.val, h⟩ e := by
    intro q hq
    obtain ⟨k, c, rfl⟩ : ∃ (k : Fin 1024) (c : Fin 10), q = ix2 k c := ⟨q 0, q 1, eq_ix2 q⟩
    have h := (lands10 idx k c r e).1 hq
    rw [hw] at h
    have h1 : k.val = r.val := by exact_mod_cast h.1
    have hc : c = e := Fin.ext h.2
    subst hc
    exact ⟨h1 ▸ k.isLt, congrArg (fun k => ix2 k c) (Fin.ext h1)⟩
  by_cases h : r.val < 1024
  · rw [dif_pos h]
    refine Routing.scatter_set_hit _ x idx u _ _ (fun q hq => ?_) (ix2 ⟨r.val, h⟩ e) ((lands10 idx _ e r e).2 ⟨hw _, rfl⟩)
    obtain ⟨_, rfl⟩ := hl q hq
    rfl
  · rw [dif_neg h]
    exact Routing.scatter_set_miss _ x idx u _ fun q hq => h (hl q hq).1

/-- Where an update of row `k` lands: the row its index names, in its own column. -/
theorem lands64 (idx : IVec S1024x1 32) (k : Fin 1024) (c : Fin 64) (r : Fin 100000) (e : Fin 64) :
    scatter_S100000x64_S1024x1_S1024x64_1_0_0_1.resultIdx? (ix2 k c) idx = some (ix2 r e) ↔ (idx (ix2 k 0)).toInt = r.val ∧ c.val = e.val := by
  have w0 : scatter_S100000x64_S1024x1_S1024x64_1_0_0_1.window (ix2 k c) 0 = 0 := rfl
  have w1 : scatter_S100000x64_S1024x1_S1024x64_1_0_0_1.window (ix2 k c) 1 = c.val := rfl
  have s0 : scatter_S100000x64_S1024x1_S1024x64_1_0_0_1.start (ix2 k c) idx 0 = (idx (ix2 k 0)).toInt := by
    refine congrArg (fun i => (idx i).toInt) (funext fun b => ?_)
    match b with
    | ⟨0, _⟩ => rfl
    | ⟨1, _⟩ => rfl
  have s1 : scatter_S100000x64_S1024x1_S1024x64_1_0_0_1.start (ix2 k c) idx 1 = 0 := rfl
  refine (Routing.resultIdx?_ix2 _ _ _ r e).trans ?_
  rw [w0, w1, s0, s1]
  omega

/-- Rows written at slots 0, 1, 2, … replace the first rows and leave the others. -/
theorem stored64 (x : FVec Ideal S100000x64 .f32) (idx : IVec S1024x1 32) (hidx : ∀ b : Fin 1024, idx (ix2 b 0) = BitVec.ofNat 32 b.val)
    (u : FVec Ideal S1024x64 .f32) (r : Fin 100000) (e : Fin 64) :
    Host.scatter scatter_S100000x64_S1024x1_S1024x64_1_0_0_1 (fun _ b => b) x idx u (ix2 r e) = if h : r.val < 1024 then u (ix2 ⟨r.val, h⟩ e) else x (ix2 r e) := by
  have hw : ∀ b : Fin 1024, (idx (ix2 b 0)).toInt = b.val := fun b => by rw [hidx]; exact slot_val b
  have hl : ∀ (q : S1024x64.Idx), scatter_S100000x64_S1024x1_S1024x64_1_0_0_1.resultIdx? q idx = some (ix2 r e) → ∃ h : r.val < 1024, q = ix2 ⟨r.val, h⟩ e := by
    intro q hq
    obtain ⟨k, c, rfl⟩ : ∃ (k : Fin 1024) (c : Fin 64), q = ix2 k c := ⟨q 0, q 1, eq_ix2 q⟩
    have h := (lands64 idx k c r e).1 hq
    rw [hw] at h
    have h1 : k.val = r.val := by exact_mod_cast h.1
    have hc : c = e := Fin.ext h.2
    subst hc
    exact ⟨h1 ▸ k.isLt, congrArg (fun k => ix2 k c) (Fin.ext h1)⟩
  by_cases h : r.val < 1024
  · rw [dif_pos h]
    refine Routing.scatter_set_hit _ x idx u _ _ (fun q hq => ?_) (ix2 ⟨r.val, h⟩ e) ((lands64 idx _ e r e).2 ⟨hw _, rfl⟩)
    obtain ⟨_, rfl⟩ := hl q hq
    rfl
  · rw [dif_neg h]
    exact Routing.scatter_set_miss _ x idx u _ fun q hq => h (hl q hq).1

/-- The new keys: the queries in the first slots. -/
theorem v69 (h0 : (rd V main_arg15 : IVec S_ 32) ix0 = 0#32) (r : Fin 100000) (e : Fin 10) :
    (rd (U8 V) main_v69 : FVec Ideal S100000x10 .f32) (ix2 r e)
      = if h : r.val < 1024 then Spec.qry (inp V) ⟨r.val, h⟩ e else (inp V).keys r e := by
  have hs := stored10 (rd V main_arg3) (rd (U8 V) main_v68) (fun b => (slots b (U7 V) (v62 V b h0)).1) (rd (U1 V) main_v29) r e
  simp only [← v29]
  refine Eq.trans (congrFun ?_ _) hs
  show rd (after ops7 (U7 V)) main_v69 = Host.scatter _ _ _ (rd (after ops7 (U7 V)) main_v68) _
  after_reads_simp
  rw [U7_keep V (r := main_arg3) (by decide), U6_keep V (r := main_arg3) (by decide), U5_keep V (r := main_arg3) (by decide), U4_keep V (r := main_arg3) (by decide), U3_keep V (r := main_arg3) (by decide), U2_keep V (r := main_arg3) (by decide), U1_keep V (r := main_arg3) (by decide)]
  rw [U7_keep V (r := main_v29) (by decide), U6_keep V (r := main_v29) (by decide), U5_keep V (r := main_v29) (by decide), U4_keep V (r := main_v29) (by decide), U3_keep V (r := main_v29) (by decide), U2_keep V (r := main_v29) (by decide)]

/-- The new values: the cell states in the first slots. -/
theorem v76 (h0 : (rd V main_arg15 : IVec S_ 32) ix0 = 0#32) (r : Fin 100000) (e : Fin 64) :
    (rd (U8 V) main_v76 : FVec Ideal S100000x64 .f32) (ix2 r e)
      = if h : r.val < 1024 then Spec.ct (inp V) ⟨r.val, h⟩ e else (inp V).vals r e := by
  have hs := stored64 (rd V main_arg4) (rd (U8 V) main_v75) (fun b => (slots b (U7 V) (v62 V b h0)).2) (rd (U6 V) main_v56) r e
  simp only [← v56]
  refine Eq.trans (congrFun ?_ _) hs
  show rd (after ops7 (U7 V)) main_v76 = Host.scatter _ _ _ (rd (after ops7 (U7 V)) main_v75) _
  after_reads_simp
  rw [U7_keep V (r := main_arg4) (by decide), U6_keep V (r := main_arg4) (by decide), U5_keep V (r := main_arg4) (by decide), U4_keep V (r := main_arg4) (by decide), U3_keep V (r := main_arg4) (by decide), U2_keep V (r := main_arg4) (by decide), U1_keep V (r := main_arg4) (by decide)]
  rw [U7_keep V (r := main_v56) (by decide)]

end Cert.ReferenceIdeal.Run
-- ==== Proof.TailR.lean ====
/-
  The reference's noise operations, cut into short pieces.
-/
module

public import proofs.«01_k».proof.Proof.RefRun

@[expose] public section

set_option maxRecDepth 16384
set_option maxHeartbeats 4000000

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- Piece 1 of the noise. -/
abbrev rp1 : List (HloOp τ sig (Elt F)) :=
  [ TRef.nullary (.of main_call4_cst : TRef sig ⟨S_, .f32⟩) (constant S_ .f32 0x3F800000#32),
    TRef.nullary (.of main_call4_cst_0 : TRef sig ⟨S_, .f32⟩) (constant S_ .f32 0x00800000#32),
    TRef.unary (.of main_call4_cst : TRef sig ⟨S_, .f32⟩) (.of main_call4_call0_v0 : TRef sig ⟨S_, .f32⟩) id,
    TRef.unary (.of main_call4_cst_0 : TRef sig ⟨S_, .f32⟩) (.of main_call4_call0_v1 : TRef sig ⟨S1x1, .f32⟩) (broadcastInDim S1x1 ![] bcast_S_S1x1),
    TRef.unary (.of main_call4_call0_v0 : TRef sig ⟨S_, .f32⟩) (.of main_call4_call0_v2 : TRef sig ⟨S1x1, .f32⟩) (broadcastInDim S1x1 ![] bcast_S_S1x1),
    TRef.unary (.of main_v110 : TRef sig ⟨S2, .i32⟩) (.of main_call4_call0_v3 : TRef sig ⟨S1, .i32⟩) (extractStridedSlice S1 ![0] · slices_S2_S1_0),
    TRef.reshape (.of main_call4_call0_v3 : TRef sig ⟨S1, .i32⟩) (.of main_call4_call0_v4 : TRef sig ⟨S_, .i32⟩) (rfl : (.i32 : EltTy) = .i32) shapeCasts_S1_S_,
    TRef.unary (.of main_v110 : TRef sig ⟨S2, .i32⟩) (.of main_call4_call0_v5 : TRef sig ⟨S1, .i32⟩) (extractStridedSlice S1 ![1] · slices_S2_S1_1),
    TRef.reshape (.of main_call4_call0_v5 : TRef sig ⟨S1, .i32⟩) (.of main_call4_call0_v6 : TRef sig ⟨S_, .i32⟩) (rfl : (.i32 : EltTy) = .i32) shapeCasts_S1_S_,
    TRef.nullary (.of main_call4_call0_v7 : TRef sig ⟨S1024x2, .i64⟩) (iotaInDim S1024x2 64 0),
    TRef.nullary (.of main_call4_call0_v8 : TRef sig ⟨S1024x2, .i64⟩) (iotaInDim S1024x2 64 1),
    TRef.nullary (.of main_call4_call0_c : TRef sig ⟨S_, .i64⟩) (constantI S_ 64 2#64),
    TRef.unary (.of main_call4_call0_c : TRef sig ⟨S_, .i64⟩) (.of main_call4_call0_v9 : TRef sig ⟨S1024x2, .i64⟩) (broadcastInDim S1024x2 ![] bcast_S_S1024x2),
    TRef.binary (.of main_call4_call0_v9 : TRef sig ⟨S1024x2, .i64⟩) (.of main_call4_call0_v7 : TRef sig ⟨S1024x2, .i64⟩) (.of main_call4_call0_v10 : TRef sig ⟨S1024x2, .i64⟩) muli ]

/-- Piece 2 of the noise. -/
abbrev rp2 : List (HloOp τ sig (Elt F)) :=
  [ TRef.nullary (.of main_call4_call0_c_0 : TRef sig ⟨S_, .i64⟩) (constantI S_ 64 1#64),
    TRef.unary (.of main_call4_call0_c_0 : TRef sig ⟨S_, .i64⟩) (.of main_call4_call0_v11 : TRef sig ⟨S1024x2, .i64⟩) (broadcastInDim S1024x2 ![] bcast_S_S1024x2),
    TRef.binary (.of main_call4_call0_v11 : TRef sig ⟨S1024x2, .i64⟩) (.of main_call4_call0_v8 : TRef sig ⟨S1024x2, .i64⟩) (.of main_call4_call0_v12 : TRef sig ⟨S1024x2, .i64⟩) muli,
    TRef.binary (.of main_call4_call0_v10 : TRef sig ⟨S1024x2, .i64⟩) (.of main_call4_call0_v12 : TRef sig ⟨S1024x2, .i64⟩) (.of main_call4_call0_v13 : TRef sig ⟨S1024x2, .i64⟩) addi,
    TRef.nullary (.of main_call4_call0_c_1 : TRef sig ⟨S_, .i64⟩) (constantI S_ 64 32#64),
    TRef.unary (.of main_call4_call0_c_1 : TRef sig ⟨S_, .i64⟩) (.of main_call4_call0_v14 : TRef sig ⟨S1024x2, .i64⟩) (broadcastInDim S1024x2 ![] bcast_S_S1024x2),
    TRef.binary (.of main_call4_call0_v13 : TRef sig ⟨S1024x2, .i64⟩) (.of main_call4_call0_v14 : TRef sig ⟨S1024x2, .i64⟩) (.of main_call4_call0_v15 : TRef sig ⟨S1024x2, .i64⟩) Host.shrui,
    TRef.unary (.of main_call4_call0_v13 : TRef sig ⟨S1024x2, .i64⟩) (.of main_call4_call0_v16 : TRef sig ⟨S1024x2, .i32⟩) (trunci 32 · natLt_32_64),
    TRef.unary (.of main_call4_call0_v15 : TRef sig ⟨S1024x2, .i64⟩) (.of main_call4_call0_v17 : TRef sig ⟨S1024x2, .i32⟩) (trunci 32 · natLt_32_64),
    TRef.binary (.of main_call4_call0_v4 : TRef sig ⟨S_, .i32⟩) (.of main_call4_call0_v6 : TRef sig ⟨S_, .i32⟩) (.of main_call4_call0_call0_v0 : TRef sig ⟨S_, .i32⟩) xori,
    TRef.nullary (.of main_call4_call0_call0_c : TRef sig ⟨S_, .i32⟩) (constantI S_ 32 466688986#32),
    TRef.binary (.of main_call4_call0_call0_v0 : TRef sig ⟨S_, .i32⟩) (.of main_call4_call0_call0_c : TRef sig ⟨S_, .i32⟩) (.of main_call4_call0_call0_v1 : TRef sig ⟨S_, .i32⟩) xori,
    TRef.unary (.of main_call4_call0_v4 : TRef sig ⟨S_, .i32⟩) (.of main_call4_call0_call0_v2 : TRef sig ⟨S1024x2, .i32⟩) (broadcastInDim S1024x2 ![] bcast_S_S1024x2),
    TRef.binary (.of main_call4_call0_v17 : TRef sig ⟨S1024x2, .i32⟩) (.of main_call4_call0_call0_v2 : TRef sig ⟨S1024x2, .i32⟩) (.of main_call4_call0_call0_v3 : TRef sig ⟨S1024x2, .i32⟩) addi ]

/-- Piece 3 of the noise. -/
abbrev rp3 : List (HloOp τ sig (Elt F)) :=
  [ TRef.unary (.of main_call4_call0_v6 : TRef sig ⟨S_, .i32⟩) (.of main_call4_call0_call0_v4 : TRef sig ⟨S1024x2, .i32⟩) (broadcastInDim S1024x2 ![] bcast_S_S1024x2),
    TRef.binary (.of main_call4_call0_v16 : TRef sig ⟨S1024x2, .i32⟩) (.of main_call4_call0_call0_v4 : TRef sig ⟨S1024x2, .i32⟩) (.of main_call4_call0_call0_v5 : TRef sig ⟨S1024x2, .i32⟩) addi,
    TRef.binary (.of main_call4_call0_call0_v3 : TRef sig ⟨S1024x2, .i32⟩) (.of main_call4_call0_call0_v5 : TRef sig ⟨S1024x2, .i32⟩) (.of main_call4_call0_call0_v6 : TRef sig ⟨S1024x2, .i32⟩) addi,
    TRef.nullary (.of main_call4_call0_call0_c_0 : TRef sig ⟨S_, .i32⟩) (constantI S_ 32 13#32),
    TRef.unary (.of main_call4_call0_call0_c_0 : TRef sig ⟨S_, .i32⟩) (.of main_call4_call0_call0_v7 : TRef sig ⟨S1024x2, .i32⟩) (broadcastInDim S1024x2 ![] bcast_S_S1024x2),
    TRef.binary (.of main_call4_call0_call0_v5 : TRef sig ⟨S1024x2, .i32⟩) (.of main_call4_call0_call0_v7 : TRef sig ⟨S1024x2, .i32⟩) (.of main_call4_call0_call0_v8 : TRef sig ⟨S1024x2, .i32⟩) Host.shli,
    TRef.nullary (.of main_call4_call0_call0_c_1 : TRef sig ⟨S_, .i32⟩) (constantI S_ 32 19#32),
    TRef.unary (.of main_call4_call0_call0_c_1 : TRef sig ⟨S_, .i32⟩) (.of main_call4_call0_call0_v9 : TRef sig ⟨S1024x2, .i32⟩) (broadcastInDim S1024x2 ![] bcast_S_S1024x2),
    TRef.binary (.of main_call4_call0_call0_v5 : TRef sig ⟨S1024x2, .i32⟩) (.of main_call4_call0_call0_v9 : TRef sig ⟨S1024x2, .i32⟩) (.of main_call4_call0_call0_v10 : TRef sig ⟨S1024x2, .i32⟩) Host.shrui,
    TRef.binary (.of main_call4_call0_call0_v8 : TRef sig ⟨S1024x2, .i32⟩) (.of main_call4_call0_call0_v10 : TRef sig ⟨S1024x2, .i32⟩) (.of main_call4_call0_call0_v11 : TRef sig ⟨S1024x2, .i32⟩) ori,
    TRef.binary (.of main_call4_call0_call0_v6 : TRef sig ⟨S1024x2, .i32⟩) (.of main_call4_call0_call0_v11 : TRef sig ⟨S1024x2, .i32⟩) (.of main_call4_call0_call0_v12 : TRef sig ⟨S1024x2, .i32⟩) xori,
    TRef.binary (.of main_call4_call0_call0_v6 : TRef sig ⟨S1024x2, .i32⟩) (.of main_call4_call0_call0_v12 : TRef sig ⟨S1024x2, .i32⟩) (.of main_call4_call0_call0_v13 : TRef sig ⟨S1024x2, .i32⟩) addi,
    TRef.nullary (.of main_call4_call0_call0_c_2 : TRef sig ⟨S_, .i32⟩) (constantI S_ 32 15#32),
    TRef.unary (.of main_call4_call0_call0_c_2 : TRef sig ⟨S_, .i32⟩) (.of main_call4_call0_call0_v14 : TRef sig ⟨S1024x2, .i32⟩) (broadcastInDim S1024x2 ![] bcast_S_S1024x2) ]

/-- Piece 4 of the noise. -/
abbrev rp4 : List (HloOp τ sig (Elt F)) :=
  [ TRef.binary (.of main_call4_call0_call0_v12 : TRef sig ⟨S1024x2, .i32⟩) (.of main_call4_call0_call0_v14 : TRef sig ⟨S1024x2, .i32⟩) (.of main_call4_call0_call0_v15 : TRef sig ⟨S1024x2, .i32⟩) Host.shli,
    TRef.nullary (.of main_call4_call0_call0_c_3 : TRef sig ⟨S_, .i32⟩) (constantI S_ 32 17#32),
    TRef.unary (.of main_call4_call0_call0_c_3 : TRef sig ⟨S_, .i32⟩) (.of main_call4_call0_call0_v16 : TRef sig ⟨S1024x2, .i32⟩) (broadcastInDim S1024x2 ![] bcast_S_S1024x2),
    TRef.binary (.of main_call4_call0_call0_v12 : TRef sig ⟨S1024x2, .i32⟩) (.of main_call4_call0_call0_v16 : TRef sig ⟨S1024x2, .i32⟩) (.of main_call4_call0_call0_v17 : TRef sig ⟨S1024x2, .i32⟩) Host.shrui,
    TRef.binary (.of main_call4_call0_call0_v15 : TRef sig ⟨S1024x2, .i32⟩) (.of main_call4_call0_call0_v17 : TRef sig ⟨S1024x2, .i32⟩) (.of main_call4_call0_call0_v18 : TRef sig ⟨S1024x2, .i32⟩) ori,
    TRef.binary (.of main_call4_call0_call0_v13 : TRef sig ⟨S1024x2, .i32⟩) (.of main_call4_call0_call0_v18 : TRef sig ⟨S1024x2, .i32⟩) (.of main_call4_call0_call0_v19 : TRef sig ⟨S1024x2, .i32⟩) xori,
    TRef.binary (.of main_call4_call0_call0_v13 : TRef sig ⟨S1024x2, .i32⟩) (.of main_call4_call0_call0_v19 : TRef sig ⟨S1024x2, .i32⟩) (.of main_call4_call0_call0_v20 : TRef sig ⟨S1024x2, .i32⟩) addi,
    TRef.nullary (.of main_call4_call0_call0_c_4 : TRef sig ⟨S_, .i32⟩) (constantI S_ 32 26#32),
    TRef.unary (.of main_call4_call0_call0_c_4 : TRef sig ⟨S_, .i32⟩) (.of main_call4_call0_call0_v21 : TRef sig ⟨S1024x2, .i32⟩) (broadcastInDim S1024x2 ![] bcast_S_S1024x2),
    TRef.binary (.of main_call4_call0_call0_v19 : TRef sig ⟨S1024x2, .i32⟩) (.of main_call4_call0_call0_v21 : TRef sig ⟨S1024x2, .i32⟩) (.of main_call4_call0_call0_v22 : TRef sig ⟨S1024x2, .i32⟩) Host.shli,
    TRef.nullary (.of main_call4_call0_call0_c_5 : TRef sig ⟨S_, .i32⟩) (constantI S_ 32 6#32),
    TRef.unary (.of main_call4_call0_call0_c_5 : TRef sig ⟨S_, .i32⟩) (.of main_call4_call0_call0_v23 : TRef sig ⟨S1024x2, .i32⟩) (broadcastInDim S1024x2 ![] bcast_S_S1024x2),
    TRef.binary (.of main_call4_call0_call0_v19 : TRef sig ⟨S1024x2, .i32⟩) (.of main_call4_call0_call0_v23 : TRef sig ⟨S1024x2, .i32⟩) (.of main_call4_call0_call0_v24 : TRef sig ⟨S1024x2, .i32⟩) Host.shrui,
    TRef.binary (.of main_call4_call0_call0_v22 : TRef sig ⟨S1024x2, .i32⟩) (.of main_call4_call0_call0_v24 : TRef sig ⟨S1024x2, .i32⟩) (.of main_call4_call0_call0_v25 : TRef sig ⟨S1024x2, .i32⟩) ori ]

/-- Piece 5 of the noise. -/
abbrev rp5 : List (HloOp τ sig (Elt F)) :=
  [ TRef.binary (.of main_call4_call0_call0_v20 : TRef sig ⟨S1024x2, .i32⟩) (.of main_call4_call0_call0_v25 : TRef sig ⟨S1024x2, .i32⟩) (.of main_call4_call0_call0_v26 : TRef sig ⟨S1024x2, .i32⟩) xori,
    TRef.binary (.of main_call4_call0_call0_v20 : TRef sig ⟨S1024x2, .i32⟩) (.of main_call4_call0_call0_v26 : TRef sig ⟨S1024x2, .i32⟩) (.of main_call4_call0_call0_v27 : TRef sig ⟨S1024x2, .i32⟩) addi,
    TRef.nullary (.of main_call4_call0_call0_c_6 : TRef sig ⟨S_, .i32⟩) (constantI S_ 32 6#32),
    TRef.unary (.of main_call4_call0_call0_c_6 : TRef sig ⟨S_, .i32⟩) (.of main_call4_call0_call0_v28 : TRef sig ⟨S1024x2, .i32⟩) (broadcastInDim S1024x2 ![] bcast_S_S1024x2),
    TRef.binary (.of main_call4_call0_call0_v26 : TRef sig ⟨S1024x2, .i32⟩) (.of main_call4_call0_call0_v28 : TRef sig ⟨S1024x2, .i32⟩) (.of main_call4_call0_call0_v29 : TRef sig ⟨S1024x2, .i32⟩) Host.shli,
    TRef.nullary (.of main_call4_call0_call0_c_7 : TRef sig ⟨S_, .i32⟩) (constantI S_ 32 26#32),
    TRef.unary (.of main_call4_call0_call0_c_7 : TRef sig ⟨S_, .i32⟩) (.of main_call4_call0_call0_v30 : TRef sig ⟨S1024x2, .i32⟩) (broadcastInDim S1024x2 ![] bcast_S_S1024x2),
    TRef.binary (.of main_call4_call0_call0_v26 : TRef sig ⟨S1024x2, .i32⟩) (.of main_call4_call0_call0_v30 : TRef sig ⟨S1024x2, .i32⟩) (.of main_call4_call0_call0_v31 : TRef sig ⟨S1024x2, .i32⟩) Host.shrui,
    TRef.binary (.of main_call4_call0_call0_v29 : TRef sig ⟨S1024x2, .i32⟩) (.of main_call4_call0_call0_v31 : TRef sig ⟨S1024x2, .i32⟩) (.of main_call4_call0_call0_v32 : TRef sig ⟨S1024x2, .i32⟩) ori,
    TRef.binary (.of main_call4_call0_call0_v27 : TRef sig ⟨S1024x2, .i32⟩) (.of main_call4_call0_call0_v32 : TRef sig ⟨S1024x2, .i32⟩) (.of main_call4_call0_call0_v33 : TRef sig ⟨S1024x2, .i32⟩) xori,
    TRef.unary (.of main_call4_call0_v6 : TRef sig ⟨S_, .i32⟩) (.of main_call4_call0_call0_v34 : TRef sig ⟨S1024x2, .i32⟩) (broadcastInDim S1024x2 ![] bcast_S_S1024x2),
    TRef.binary (.of main_call4_call0_call0_v27 : TRef sig ⟨S1024x2, .i32⟩) (.of main_call4_call0_call0_v34 : TRef sig ⟨S1024x2, .i32⟩) (.of main_call4_call0_call0_v35 : TRef sig ⟨S1024x2, .i32⟩) addi,
    TRef.unary (.of main_call4_call0_call0_v1 : TRef sig ⟨S_, .i32⟩) (.of main_call4_call0_call0_v36 : TRef sig ⟨S1024x2, .i32⟩) (broadcastInDim S1024x2 ![] bcast_S_S1024x2),
    TRef.binary (.of main_call4_call0_call0_v33 : TRef sig ⟨S1024x2, .i32⟩) (.of main_call4_call0_call0_v36 : TRef sig ⟨S1024x2, .i32⟩) (.of main_call4_call0_call0_v37 : TRef sig ⟨S1024x2, .i32⟩) addi ]

/-- Piece 6 of the noise. -/
abbrev rp6 : List (HloOp τ sig (Elt F)) :=
  [ TRef.nullary (.of main_call4_call0_call0_c_8 : TRef sig ⟨S_, .i32⟩) (constantI S_ 32 1#32),
    TRef.unary (.of main_call4_call0_call0_c_8 : TRef sig ⟨S_, .i32⟩) (.of main_call4_call0_call0_v38 : TRef sig ⟨S1024x2, .i32⟩) (broadcastInDim S1024x2 ![] bcast_S_S1024x2),
    TRef.binary (.of main_call4_call0_call0_v37 : TRef sig ⟨S1024x2, .i32⟩) (.of main_call4_call0_call0_v38 : TRef sig ⟨S1024x2, .i32⟩) (.of main_call4_call0_call0_v39 : TRef sig ⟨S1024x2, .i32⟩) addi,
    TRef.binary (.of main_call4_call0_call0_v35 : TRef sig ⟨S1024x2, .i32⟩) (.of main_call4_call0_call0_v39 : TRef sig ⟨S1024x2, .i32⟩) (.of main_call4_call0_call0_v40 : TRef sig ⟨S1024x2, .i32⟩) addi,
    TRef.nullary (.of main_call4_call0_call0_c_9 : TRef sig ⟨S_, .i32⟩) (constantI S_ 32 17#32),
    TRef.unary (.of main_call4_call0_call0_c_9 : TRef sig ⟨S_, .i32⟩) (.of main_call4_call0_call0_v41 : TRef sig ⟨S1024x2, .i32⟩) (broadcastInDim S1024x2 ![] bcast_S_S1024x2),
    TRef.binary (.of main_call4_call0_call0_v39 : TRef sig ⟨S1024x2, .i32⟩) (.of main_call4_call0_call0_v41 : TRef sig ⟨S1024x2, .i32⟩) (.of main_call4_call0_call0_v42 : TRef sig ⟨S1024x2, .i32⟩) Host.shli,
    TRef.nullary (.of main_call4_call0_call0_c_10 : TRef sig ⟨S_, .i32⟩) (constantI S_ 32 15#32),
    TRef.unary (.of main_call4_call0_call0_c_10 : TRef sig ⟨S_, .i32⟩) (.of main_call4_call0_call0_v43 : TRef sig ⟨S1024x2, .i32⟩) (broadcastInDim S1024x2 ![] bcast_S_S1024x2),
    TRef.binary (.of main_call4_call0_call0_v39 : TRef sig ⟨S1024x2, .i32⟩) (.of main_call4_call0_call0_v43 : TRef sig ⟨S1024x2, .i32⟩) (.of main_call4_call0_call0_v44 : TRef sig ⟨S1024x2, .i32⟩) Host.shrui,
    TRef.binary (.of main_call4_call0_call0_v42 : TRef sig ⟨S1024x2, .i32⟩) (.of main_call4_call0_call0_v44 : TRef sig ⟨S1024x2, .i32⟩) (.of main_call4_call0_call0_v45 : TRef sig ⟨S1024x2, .i32⟩) ori,
    TRef.binary (.of main_call4_call0_call0_v40 : TRef sig ⟨S1024x2, .i32⟩) (.of main_call4_call0_call0_v45 : TRef sig ⟨S1024x2, .i32⟩) (.of main_call4_call0_call0_v46 : TRef sig ⟨S1024x2, .i32⟩) xori,
    TRef.binary (.of main_call4_call0_call0_v40 : TRef sig ⟨S1024x2, .i32⟩) (.of main_call4_call0_call0_v46 : TRef sig ⟨S1024x2, .i32⟩) (.of main_call4_call0_call0_v47 : TRef sig ⟨S1024x2, .i32⟩) addi,
    TRef.nullary (.of main_call4_call0_call0_c_11 : TRef sig ⟨S_, .i32⟩) (constantI S_ 32 29#32) ]

/-- Piece 7 of the noise. -/
abbrev rp7 : List (HloOp τ sig (Elt F)) :=
  [ TRef.unary (.of main_call4_call0_call0_c_11 : TRef sig ⟨S_, .i32⟩) (.of main_call4_call0_call0_v48 : TRef sig ⟨S1024x2, .i32⟩) (broadcastInDim S1024x2 ![] bcast_S_S1024x2),
    TRef.binary (.of main_call4_call0_call0_v46 : TRef sig ⟨S1024x2, .i32⟩) (.of main_call4_call0_call0_v48 : TRef sig ⟨S1024x2, .i32⟩) (.of main_call4_call0_call0_v49 : TRef sig ⟨S1024x2, .i32⟩) Host.shli,
    TRef.nullary (.of main_call4_call0_call0_c_12 : TRef sig ⟨S_, .i32⟩) (constantI S_ 32 3#32),
    TRef.unary (.of main_call4_call0_call0_c_12 : TRef sig ⟨S_, .i32⟩) (.of main_call4_call0_call0_v50 : TRef sig ⟨S1024x2, .i32⟩) (broadcastInDim S1024x2 ![] bcast_S_S1024x2),
    TRef.binary (.of main_call4_call0_call0_v46 : TRef sig ⟨S1024x2, .i32⟩) (.of main_call4_call0_call0_v50 : TRef sig ⟨S1024x2, .i32⟩) (.of main_call4_call0_call0_v51 : TRef sig ⟨S1024x2, .i32⟩) Host.shrui,
    TRef.binary (.of main_call4_call0_call0_v49 : TRef sig ⟨S1024x2, .i32⟩) (.of main_call4_call0_call0_v51 : TRef sig ⟨S1024x2, .i32⟩) (.of main_call4_call0_call0_v52 : TRef sig ⟨S1024x2, .i32⟩) ori,
    TRef.binary (.of main_call4_call0_call0_v47 : TRef sig ⟨S1024x2, .i32⟩) (.of main_call4_call0_call0_v52 : TRef sig ⟨S1024x2, .i32⟩) (.of main_call4_call0_call0_v53 : TRef sig ⟨S1024x2, .i32⟩) xori,
    TRef.binary (.of main_call4_call0_call0_v47 : TRef sig ⟨S1024x2, .i32⟩) (.of main_call4_call0_call0_v53 : TRef sig ⟨S1024x2, .i32⟩) (.of main_call4_call0_call0_v54 : TRef sig ⟨S1024x2, .i32⟩) addi,
    TRef.nullary (.of main_call4_call0_call0_c_13 : TRef sig ⟨S_, .i32⟩) (constantI S_ 32 16#32),
    TRef.unary (.of main_call4_call0_call0_c_13 : TRef sig ⟨S_, .i32⟩) (.of main_call4_call0_call0_v55 : TRef sig ⟨S1024x2, .i32⟩) (broadcastInDim S1024x2 ![] bcast_S_S1024x2),
    TRef.binary (.of main_call4_call0_call0_v53 : TRef sig ⟨S1024x2, .i32⟩) (.of main_call4_call0_call0_v55 : TRef sig ⟨S1024x2, .i32⟩) (.of main_call4_call0_call0_v56 : TRef sig ⟨S1024x2, .i32⟩) Host.shli,
    TRef.nullary (.of main_call4_call0_call0_c_14 : TRef sig ⟨S_, .i32⟩) (constantI S_ 32 16#32),
    TRef.unary (.of main_call4_call0_call0_c_14 : TRef sig ⟨S_, .i32⟩) (.of main_call4_call0_call0_v57 : TRef sig ⟨S1024x2, .i32⟩) (broadcastInDim S1024x2 ![] bcast_S_S1024x2),
    TRef.binary (.of main_call4_call0_call0_v53 : TRef sig ⟨S1024x2, .i32⟩) (.of main_call4_call0_call0_v57 : TRef sig ⟨S1024x2, .i32⟩) (.of main_call4_call0_call0_v58 : TRef sig ⟨S1024x2, .i32⟩) Host.shrui ]

/-- Piece 8 of the noise. -/
abbrev rp8 : List (HloOp τ sig (Elt F)) :=
  [ TRef.binary (.of main_call4_call0_call0_v56 : TRef sig ⟨S1024x2, .i32⟩) (.of main_call4_call0_call0_v58 : TRef sig ⟨S1024x2, .i32⟩) (.of main_call4_call0_call0_v59 : TRef sig ⟨S1024x2, .i32⟩) ori,
    TRef.binary (.of main_call4_call0_call0_v54 : TRef sig ⟨S1024x2, .i32⟩) (.of main_call4_call0_call0_v59 : TRef sig ⟨S1024x2, .i32⟩) (.of main_call4_call0_call0_v60 : TRef sig ⟨S1024x2, .i32⟩) xori,
    TRef.binary (.of main_call4_call0_call0_v54 : TRef sig ⟨S1024x2, .i32⟩) (.of main_call4_call0_call0_v60 : TRef sig ⟨S1024x2, .i32⟩) (.of main_call4_call0_call0_v61 : TRef sig ⟨S1024x2, .i32⟩) addi,
    TRef.nullary (.of main_call4_call0_call0_c_15 : TRef sig ⟨S_, .i32⟩) (constantI S_ 32 24#32),
    TRef.unary (.of main_call4_call0_call0_c_15 : TRef sig ⟨S_, .i32⟩) (.of main_call4_call0_call0_v62 : TRef sig ⟨S1024x2, .i32⟩) (broadcastInDim S1024x2 ![] bcast_S_S1024x2),
    TRef.binary (.of main_call4_call0_call0_v60 : TRef sig ⟨S1024x2, .i32⟩) (.of main_call4_call0_call0_v62 : TRef sig ⟨S1024x2, .i32⟩) (.of main_call4_call0_call0_v63 : TRef sig ⟨S1024x2, .i32⟩) Host.shli,
    TRef.nullary (.of main_call4_call0_call0_c_16 : TRef sig ⟨S_, .i32⟩) (constantI S_ 32 8#32),
    TRef.unary (.of main_call4_call0_call0_c_16 : TRef sig ⟨S_, .i32⟩) (.of main_call4_call0_call0_v64 : TRef sig ⟨S1024x2, .i32⟩) (broadcastInDim S1024x2 ![] bcast_S_S1024x2),
    TRef.binary (.of main_call4_call0_call0_v60 : TRef sig ⟨S1024x2, .i32⟩) (.of main_call4_call0_call0_v64 : TRef sig ⟨S1024x2, .i32⟩) (.of main_call4_call0_call0_v65 : TRef sig ⟨S1024x2, .i32⟩) Host.shrui,
    TRef.binary (.of main_call4_call0_call0_v63 : TRef sig ⟨S1024x2, .i32⟩) (.of main_call4_call0_call0_v65 : TRef sig ⟨S1024x2, .i32⟩) (.of main_call4_call0_call0_v66 : TRef sig ⟨S1024x2, .i32⟩) ori,
    TRef.binary (.of main_call4_call0_call0_v61 : TRef sig ⟨S1024x2, .i32⟩) (.of main_call4_call0_call0_v66 : TRef sig ⟨S1024x2, .i32⟩) (.of main_call4_call0_call0_v67 : TRef sig ⟨S1024x2, .i32⟩) xori,
    TRef.unary (.of main_call4_call0_call0_v1 : TRef sig ⟨S_, .i32⟩) (.of main_call4_call0_call0_v68 : TRef sig ⟨S1024x2, .i32⟩) (broadcastInDim S1024x2 ![] bcast_S_S1024x2),
    TRef.binary (.of main_call4_call0_call0_v61 : TRef sig ⟨S1024x2, .i32⟩) (.of main_call4_call0_call0_v68 : TRef sig ⟨S1024x2, .i32⟩) (.of main_call4_call0_call0_v69 : TRef sig ⟨S1024x2, .i32⟩) addi,
    TRef.unary (.of main_call4_call0_v4 : TRef sig ⟨S_, .i32⟩) (.of main_call4_call0_call0_v70 : TRef sig ⟨S1024x2, .i32⟩) (broadcastInDim S1024x2 ![] bcast_S_S1024x2) ]

/-- Piece 9 of the noise. -/
abbrev rp9 : List (HloOp τ sig (Elt F)) :=
  [ TRef.binary (.of main_call4_call0_call0_v67 : TRef sig ⟨S1024x2, .i32⟩) (.of main_call4_call0_call0_v70 : TRef sig ⟨S1024x2, .i32⟩) (.of main_call4_call0_call0_v71 : TRef sig ⟨S1024x2, .i32⟩) addi,
    TRef.nullary (.of main_call4_call0_call0_c_17 : TRef sig ⟨S_, .i32⟩) (constantI S_ 32 2#32),
    TRef.unary (.of main_call4_call0_call0_c_17 : TRef sig ⟨S_, .i32⟩) (.of main_call4_call0_call0_v72 : TRef sig ⟨S1024x2, .i32⟩) (broadcastInDim S1024x2 ![] bcast_S_S1024x2),
    TRef.binary (.of main_call4_call0_call0_v71 : TRef sig ⟨S1024x2, .i32⟩) (.of main_call4_call0_call0_v72 : TRef sig ⟨S1024x2, .i32⟩) (.of main_call4_call0_call0_v73 : TRef sig ⟨S1024x2, .i32⟩) addi,
    TRef.binary (.of main_call4_call0_call0_v69 : TRef sig ⟨S1024x2, .i32⟩) (.of main_call4_call0_call0_v73 : TRef sig ⟨S1024x2, .i32⟩) (.of main_call4_call0_call0_v74 : TRef sig ⟨S1024x2, .i32⟩) addi,
    TRef.nullary (.of main_call4_call0_call0_c_18 : TRef sig ⟨S_, .i32⟩) (constantI S_ 32 13#32),
    TRef.unary (.of main_call4_call0_call0_c_18 : TRef sig ⟨S_, .i32⟩) (.of main_call4_call0_call0_v75 : TRef sig ⟨S1024x2, .i32⟩) (broadcastInDim S1024x2 ![] bcast_S_S1024x2),
    TRef.binary (.of main_call4_call0_call0_v73 : TRef sig ⟨S1024x2, .i32⟩) (.of main_call4_call0_call0_v75 : TRef sig ⟨S1024x2, .i32⟩) (.of main_call4_call0_call0_v76 : TRef sig ⟨S1024x2, .i32⟩) Host.shli,
    TRef.nullary (.of main_call4_call0_call0_c_19 : TRef sig ⟨S_, .i32⟩) (constantI S_ 32 19#32),
    TRef.unary (.of main_call4_call0_call0_c_19 : TRef sig ⟨S_, .i32⟩) (.of main_call4_call0_call0_v77 : TRef sig ⟨S1024x2, .i32⟩) (broadcastInDim S1024x2 ![] bcast_S_S1024x2),
    TRef.binary (.of main_call4_call0_call0_v73 : TRef sig ⟨S1024x2, .i32⟩) (.of main_call4_call0_call0_v77 : TRef sig ⟨S1024x2, .i32⟩) (.of main_call4_call0_call0_v78 : TRef sig ⟨S1024x2, .i32⟩) Host.shrui,
    TRef.binary (.of main_call4_call0_call0_v76 : TRef sig ⟨S1024x2, .i32⟩) (.of main_call4_call0_call0_v78 : TRef sig ⟨S1024x2, .i32⟩) (.of main_call4_call0_call0_v79 : TRef sig ⟨S1024x2, .i32⟩) ori,
    TRef.binary (.of main_call4_call0_call0_v74 : TRef sig ⟨S1024x2, .i32⟩) (.of main_call4_call0_call0_v79 : TRef sig ⟨S1024x2, .i32⟩) (.of main_call4_call0_call0_v80 : TRef sig ⟨S1024x2, .i32⟩) xori,
    TRef.binary (.of main_call4_call0_call0_v74 : TRef sig ⟨S1024x2, .i32⟩) (.of main_call4_call0_call0_v80 : TRef sig ⟨S1024x2, .i32⟩) (.of main_call4_call0_call0_v81 : TRef sig ⟨S1024x2, .i32⟩) addi ]

/-- Piece 10 of the noise. -/
abbrev rp10 : List (HloOp τ sig (Elt F)) :=
  [ TRef.nullary (.of main_call4_call0_call0_c_20 : TRef sig ⟨S_, .i32⟩) (constantI S_ 32 15#32),
    TRef.unary (.of main_call4_call0_call0_c_20 : TRef sig ⟨S_, .i32⟩) (.of main_call4_call0_call0_v82 : TRef sig ⟨S1024x2, .i32⟩) (broadcastInDim S1024x2 ![] bcast_S_S1024x2),
    TRef.binary (.of main_call4_call0_call0_v80 : TRef sig ⟨S1024x2, .i32⟩) (.of main_call4_call0_call0_v82 : TRef sig ⟨S1024x2, .i32⟩) (.of main_call4_call0_call0_v83 : TRef sig ⟨S1024x2, .i32⟩) Host.shli,
    TRef.nullary (.of main_call4_call0_call0_c_21 : TRef sig ⟨S_, .i32⟩) (constantI S_ 32 17#32),
    TRef.unary (.of main_call4_call0_call0_c_21 : TRef sig ⟨S_, .i32⟩) (.of main_call4_call0_call0_v84 : TRef sig ⟨S1024x2, .i32⟩) (broadcastInDim S1024x2 ![] bcast_S_S1024x2),
    TRef.binary (.of main_call4_call0_call0_v80 : TRef sig ⟨S1024x2, .i32⟩) (.of main_call4_call0_call0_v84 : TRef sig ⟨S1024x2, .i32⟩) (.of main_call4_call0_call0_v85 : TRef sig ⟨S1024x2, .i32⟩) Host.shrui,
    TRef.binary (.of main_call4_call0_call0_v83 : TRef sig ⟨S1024x2, .i32⟩) (.of main_call4_call0_call0_v85 : TRef sig ⟨S1024x2, .i32⟩) (.of main_call4_call0_call0_v86 : TRef sig ⟨S1024x2, .i32⟩) ori,
    TRef.binary (.of main_call4_call0_call0_v81 : TRef sig ⟨S1024x2, .i32⟩) (.of main_call4_call0_call0_v86 : TRef sig ⟨S1024x2, .i32⟩) (.of main_call4_call0_call0_v87 : TRef sig ⟨S1024x2, .i32⟩) xori,
    TRef.binary (.of main_call4_call0_call0_v81 : TRef sig ⟨S1024x2, .i32⟩) (.of main_call4_call0_call0_v87 : TRef sig ⟨S1024x2, .i32⟩) (.of main_call4_call0_call0_v88 : TRef sig ⟨S1024x2, .i32⟩) addi,
    TRef.nullary (.of main_call4_call0_call0_c_22 : TRef sig ⟨S_, .i32⟩) (constantI S_ 32 26#32),
    TRef.unary (.of main_call4_call0_call0_c_22 : TRef sig ⟨S_, .i32⟩) (.of main_call4_call0_call0_v89 : TRef sig ⟨S1024x2, .i32⟩) (broadcastInDim S1024x2 ![] bcast_S_S1024x2),
    TRef.binary (.of main_call4_call0_call0_v87 : TRef sig ⟨S1024x2, .i32⟩) (.of main_call4_call0_call0_v89 : TRef sig ⟨S1024x2, .i32⟩) (.of main_call4_call0_call0_v90 : TRef sig ⟨S1024x2, .i32⟩) Host.shli,
    TRef.nullary (.of main_call4_call0_call0_c_23 : TRef sig ⟨S_, .i32⟩) (constantI S_ 32 6#32),
    TRef.unary (.of main_call4_call0_call0_c_23 : TRef sig ⟨S_, .i32⟩) (.of main_call4_call0_call0_v91 : TRef sig ⟨S1024x2, .i32⟩) (broadcastInDim S1024x2 ![] bcast_S_S1024x2) ]

/-- Piece 11 of the noise. -/
abbrev rp11 : List (HloOp τ sig (Elt F)) :=
  [ TRef.binary (.of main_call4_call0_call0_v87 : TRef sig ⟨S1024x2, .i32⟩) (.of main_call4_call0_call0_v91 : TRef sig ⟨S1024x2, .i32⟩) (.of main_call4_call0_call0_v92 : TRef sig ⟨S1024x2, .i32⟩) Host.shrui,
    TRef.binary (.of main_call4_call0_call0_v90 : TRef sig ⟨S1024x2, .i32⟩) (.of main_call4_call0_call0_v92 : TRef sig ⟨S1024x2, .i32⟩) (.of main_call4_call0_call0_v93 : TRef sig ⟨S1024x2, .i32⟩) ori,
    TRef.binary (.of main_call4_call0_call0_v88 : TRef sig ⟨S1024x2, .i32⟩) (.of main_call4_call0_call0_v93 : TRef sig ⟨S1024x2, .i32⟩) (.of main_call4_call0_call0_v94 : TRef sig ⟨S1024x2, .i32⟩) xori,
    TRef.binary (.of main_call4_call0_call0_v88 : TRef sig ⟨S1024x2, .i32⟩) (.of main_call4_call0_call0_v94 : TRef sig ⟨S1024x2, .i32⟩) (.of main_call4_call0_call0_v95 : TRef sig ⟨S1024x2, .i32⟩) addi,
    TRef.nullary (.of main_call4_call0_call0_c_24 : TRef sig ⟨S_, .i32⟩) (constantI S_ 32 6#32),
    TRef.unary (.of main_call4_call0_call0_c_24 : TRef sig ⟨S_, .i32⟩) (.of main_call4_call0_call0_v96 : TRef sig ⟨S1024x2, .i32⟩) (broadcastInDim S1024x2 ![] bcast_S_S1024x2),
    TRef.binary (.of main_call4_call0_call0_v94 : TRef sig ⟨S1024x2, .i32⟩) (.of main_call4_call0_call0_v96 : TRef sig ⟨S1024x2, .i32⟩) (.of main_call4_call0_call0_v97 : TRef sig ⟨S1024x2, .i32⟩) Host.shli,
    TRef.nullary (.of main_call4_call0_call0_c_25 : TRef sig ⟨S_, .i32⟩) (constantI S_ 32 26#32),
    TRef.unary (.of main_call4_call0_call0_c_25 : TRef sig ⟨S_, .i32⟩) (.of main_call4_call0_call0_v98 : TRef sig ⟨S1024x2, .i32⟩) (broadcastInDim S1024x2 ![] bcast_S_S1024x2),
    TRef.binary (.of main_call4_call0_call0_v94 : TRef sig ⟨S1024x2, .i32⟩) (.of main_call4_call0_call0_v98 : TRef sig ⟨S1024x2, .i32⟩) (.of main_call4_call0_call0_v99 : TRef sig ⟨S1024x2, .i32⟩) Host.shrui,
    TRef.binary (.of main_call4_call0_call0_v97 : TRef sig ⟨S1024x2, .i32⟩) (.of main_call4_call0_call0_v99 : TRef sig ⟨S1024x2, .i32⟩) (.of main_call4_call0_call0_v100 : TRef sig ⟨S1024x2, .i32⟩) ori,
    TRef.binary (.of main_call4_call0_call0_v95 : TRef sig ⟨S1024x2, .i32⟩) (.of main_call4_call0_call0_v100 : TRef sig ⟨S1024x2, .i32⟩) (.of main_call4_call0_call0_v101 : TRef sig ⟨S1024x2, .i32⟩) xori,
    TRef.unary (.of main_call4_call0_v4 : TRef sig ⟨S_, .i32⟩) (.of main_call4_call0_call0_v102 : TRef sig ⟨S1024x2, .i32⟩) (broadcastInDim S1024x2 ![] bcast_S_S1024x2),
    TRef.binary (.of main_call4_call0_call0_v95 : TRef sig ⟨S1024x2, .i32⟩) (.of main_call4_call0_call0_v102 : TRef sig ⟨S1024x2, .i32⟩) (.of main_call4_call0_call0_v103 : TRef sig ⟨S1024x2, .i32⟩) addi ]

/-- Piece 12 of the noise. -/
abbrev rp12 : List (HloOp τ sig (Elt F)) :=
  [ TRef.unary (.of main_call4_call0_v6 : TRef sig ⟨S_, .i32⟩) (.of main_call4_call0_call0_v104 : TRef sig ⟨S1024x2, .i32⟩) (broadcastInDim S1024x2 ![] bcast_S_S1024x2),
    TRef.binary (.of main_call4_call0_call0_v101 : TRef sig ⟨S1024x2, .i32⟩) (.of main_call4_call0_call0_v104 : TRef sig ⟨S1024x2, .i32⟩) (.of main_call4_call0_call0_v105 : TRef sig ⟨S1024x2, .i32⟩) addi,
    TRef.nullary (.of main_call4_call0_call0_c_26 : TRef sig ⟨S_, .i32⟩) (constantI S_ 32 3#32),
    TRef.unary (.of main_call4_call0_call0_c_26 : TRef sig ⟨S_, .i32⟩) (.of main_call4_call0_call0_v106 : TRef sig ⟨S1024x2, .i32⟩) (broadcastInDim S1024x2 ![] bcast_S_S1024x2),
    TRef.binary (.of main_call4_call0_call0_v105 : TRef sig ⟨S1024x2, .i32⟩) (.of main_call4_call0_call0_v106 : TRef sig ⟨S1024x2, .i32⟩) (.of main_call4_call0_call0_v107 : TRef sig ⟨S1024x2, .i32⟩) addi,
    TRef.binary (.of main_call4_call0_call0_v103 : TRef sig ⟨S1024x2, .i32⟩) (.of main_call4_call0_call0_v107 : TRef sig ⟨S1024x2, .i32⟩) (.of main_call4_call0_call0_v108 : TRef sig ⟨S1024x2, .i32⟩) addi,
    TRef.nullary (.of main_call4_call0_call0_c_27 : TRef sig ⟨S_, .i32⟩) (constantI S_ 32 17#32),
    TRef.unary (.of main_call4_call0_call0_c_27 : TRef sig ⟨S_, .i32⟩) (.of main_call4_call0_call0_v109 : TRef sig ⟨S1024x2, .i32⟩) (broadcastInDim S1024x2 ![] bcast_S_S1024x2),
    TRef.binary (.of main_call4_call0_call0_v107 : TRef sig ⟨S1024x2, .i32⟩) (.of main_call4_call0_call0_v109 : TRef sig ⟨S1024x2, .i32⟩) (.of main_call4_call0_call0_v110 : TRef sig ⟨S1024x2, .i32⟩) Host.shli,
    TRef.nullary (.of main_call4_call0_call0_c_28 : TRef sig ⟨S_, .i32⟩) (constantI S_ 32 15#32),
    TRef.unary (.of main_call4_call0_call0_c_28 : TRef sig ⟨S_, .i32⟩) (.of main_call4_call0_call0_v111 : TRef sig ⟨S1024x2, .i32⟩) (broadcastInDim S1024x2 ![] bcast_S_S1024x2),
    TRef.binary (.of main_call4_call0_call0_v107 : TRef sig ⟨S1024x2, .i32⟩) (.of main_call4_call0_call0_v111 : TRef sig ⟨S1024x2, .i32⟩) (.of main_call4_call0_call0_v112 : TRef sig ⟨S1024x2, .i32⟩) Host.shrui,
    TRef.binary (.of main_call4_call0_call0_v110 : TRef sig ⟨S1024x2, .i32⟩) (.of main_call4_call0_call0_v112 : TRef sig ⟨S1024x2, .i32⟩) (.of main_call4_call0_call0_v113 : TRef sig ⟨S1024x2, .i32⟩) ori,
    TRef.binary (.of main_call4_call0_call0_v108 : TRef sig ⟨S1024x2, .i32⟩) (.of main_call4_call0_call0_v113 : TRef sig ⟨S1024x2, .i32⟩) (.of main_call4_call0_call0_v114 : TRef sig ⟨S1024x2, .i32⟩) xori ]

/-- Piece 13 of the noise. -/
abbrev rp13 : List (HloOp τ sig (Elt F)) :=
  [ TRef.binary (.of main_call4_call0_call0_v108 : TRef sig ⟨S1024x2, .i32⟩) (.of main_call4_call0_call0_v114 : TRef sig ⟨S1024x2, .i32⟩) (.of main_call4_call0_call0_v115 : TRef sig ⟨S1024x2, .i32⟩) addi,
    TRef.nullary (.of main_call4_call0_call0_c_29 : TRef sig ⟨S_, .i32⟩) (constantI S_ 32 29#32),
    TRef.unary (.of main_call4_call0_call0_c_29 : TRef sig ⟨S_, .i32⟩) (.of main_call4_call0_call0_v116 : TRef sig ⟨S1024x2, .i32⟩) (broadcastInDim S1024x2 ![] bcast_S_S1024x2),
    TRef.binary (.of main_call4_call0_call0_v114 : TRef sig ⟨S1024x2, .i32⟩) (.of main_call4_call0_call0_v116 : TRef sig ⟨S1024x2, .i32⟩) (.of main_call4_call0_call0_v117 : TRef sig ⟨S1024x2, .i32⟩) Host.shli,
    TRef.nullary (.of main_call4_call0_call0_c_30 : TRef sig ⟨S_, .i32⟩) (constantI S_ 32 3#32),
    TRef.unary (.of main_call4_call0_call0_c_30 : TRef sig ⟨S_, .i32⟩) (.of main_call4_call0_call0_v118 : TRef sig ⟨S1024x2, .i32⟩) (broadcastInDim S1024x2 ![] bcast_S_S1024x2),
    TRef.binary (.of main_call4_call0_call0_v114 : TRef sig ⟨S1024x2, .i32⟩) (.of main_call4_call0_call0_v118 : TRef sig ⟨S1024x2, .i32⟩) (.of main_call4_call0_call0_v119 : TRef sig ⟨S1024x2, .i32⟩) Host.shrui,
    TRef.binary (.of main_call4_call0_call0_v117 : TRef sig ⟨S1024x2, .i32⟩) (.of main_call4_call0_call0_v119 : TRef sig ⟨S1024x2, .i32⟩) (.of main_call4_call0_call0_v120 : TRef sig ⟨S1024x2, .i32⟩) ori,
    TRef.binary (.of main_call4_call0_call0_v115 : TRef sig ⟨S1024x2, .i32⟩) (.of main_call4_call0_call0_v120 : TRef sig ⟨S1024x2, .i32⟩) (.of main_call4_call0_call0_v121 : TRef sig ⟨S1024x2, .i32⟩) xori,
    TRef.binary (.of main_call4_call0_call0_v115 : TRef sig ⟨S1024x2, .i32⟩) (.of main_call4_call0_call0_v121 : TRef sig ⟨S1024x2, .i32⟩) (.of main_call4_call0_call0_v122 : TRef sig ⟨S1024x2, .i32⟩) addi,
    TRef.nullary (.of main_call4_call0_call0_c_31 : TRef sig ⟨S_, .i32⟩) (constantI S_ 32 16#32),
    TRef.unary (.of main_call4_call0_call0_c_31 : TRef sig ⟨S_, .i32⟩) (.of main_call4_call0_call0_v123 : TRef sig ⟨S1024x2, .i32⟩) (broadcastInDim S1024x2 ![] bcast_S_S1024x2),
    TRef.binary (.of main_call4_call0_call0_v121 : TRef sig ⟨S1024x2, .i32⟩) (.of main_call4_call0_call0_v123 : TRef sig ⟨S1024x2, .i32⟩) (.of main_call4_call0_call0_v124 : TRef sig ⟨S1024x2, .i32⟩) Host.shli,
    TRef.nullary (.of main_call4_call0_call0_c_32 : TRef sig ⟨S_, .i32⟩) (constantI S_ 32 16#32) ]

/-- Piece 14 of the noise. -/
abbrev rp14 : List (HloOp τ sig (Elt F)) :=
  [ TRef.unary (.of main_call4_call0_call0_c_32 : TRef sig ⟨S_, .i32⟩) (.of main_call4_call0_call0_v125 : TRef sig ⟨S1024x2, .i32⟩) (broadcastInDim S1024x2 ![] bcast_S_S1024x2),
    TRef.binary (.of main_call4_call0_call0_v121 : TRef sig ⟨S1024x2, .i32⟩) (.of main_call4_call0_call0_v125 : TRef sig ⟨S1024x2, .i32⟩) (.of main_call4_call0_call0_v126 : TRef sig ⟨S1024x2, .i32⟩) Host.shrui,
    TRef.binary (.of main_call4_call0_call0_v124 : TRef sig ⟨S1024x2, .i32⟩) (.of main_call4_call0_call0_v126 : TRef sig ⟨S1024x2, .i32⟩) (.of main_call4_call0_call0_v127 : TRef sig ⟨S1024x2, .i32⟩) ori,
    TRef.binary (.of main_call4_call0_call0_v122 : TRef sig ⟨S1024x2, .i32⟩) (.of main_call4_call0_call0_v127 : TRef sig ⟨S1024x2, .i32⟩) (.of main_call4_call0_call0_v128 : TRef sig ⟨S1024x2, .i32⟩) xori,
    TRef.binary (.of main_call4_call0_call0_v122 : TRef sig ⟨S1024x2, .i32⟩) (.of main_call4_call0_call0_v128 : TRef sig ⟨S1024x2, .i32⟩) (.of main_call4_call0_call0_v129 : TRef sig ⟨S1024x2, .i32⟩) addi,
    TRef.nullary (.of main_call4_call0_call0_c_33 : TRef sig ⟨S_, .i32⟩) (constantI S_ 32 24#32),
    TRef.unary (.of main_call4_call0_call0_c_33 : TRef sig ⟨S_, .i32⟩) (.of main_call4_call0_call0_v130 : TRef sig ⟨S1024x2, .i32⟩) (broadcastInDim S1024x2 ![] bcast_S_S1024x2),
    TRef.binary (.of main_call4_call0_call0_v128 : TRef sig ⟨S1024x2, .i32⟩) (.of main_call4_call0_call0_v130 : TRef sig ⟨S1024x2, .i32⟩) (.of main_call4_call0_call0_v131 : TRef sig ⟨S1024x2, .i32⟩) Host.shli,
    TRef.nullary (.of main_call4_call0_call0_c_34 : TRef sig ⟨S_, .i32⟩) (constantI S_ 32 8#32),
    TRef.unary (.of main_call4_call0_call0_c_34 : TRef sig ⟨S_, .i32⟩) (.of main_call4_call0_call0_v132 : TRef sig ⟨S1024x2, .i32⟩) (broadcastInDim S1024x2 ![] bcast_S_S1024x2),
    TRef.binary (.of main_call4_call0_call0_v128 : TRef sig ⟨S1024x2, .i32⟩) (.of main_call4_call0_call0_v132 : TRef sig ⟨S1024x2, .i32⟩) (.of main_call4_call0_call0_v133 : TRef sig ⟨S1024x2, .i32⟩) Host.shrui,
    TRef.binary (.of main_call4_call0_call0_v131 : TRef sig ⟨S1024x2, .i32⟩) (.of main_call4_call0_call0_v133 : TRef sig ⟨S1024x2, .i32⟩) (.of main_call4_call0_call0_v134 : TRef sig ⟨S1024x2, .i32⟩) ori,
    TRef.binary (.of main_call4_call0_call0_v129 : TRef sig ⟨S1024x2, .i32⟩) (.of main_call4_call0_call0_v134 : TRef sig ⟨S1024x2, .i32⟩) (.of main_call4_call0_call0_v135 : TRef sig ⟨S1024x2, .i32⟩) xori,
    TRef.unary (.of main_call4_call0_v6 : TRef sig ⟨S_, .i32⟩) (.of main_call4_call0_call0_v136 : TRef sig ⟨S1024x2, .i32⟩) (broadcastInDim S1024x2 ![] bcast_S_S1024x2) ]

/-- Piece 15 of the noise. -/
abbrev rp15 : List (HloOp τ sig (Elt F)) :=
  [ TRef.binary (.of main_call4_call0_call0_v129 : TRef sig ⟨S1024x2, .i32⟩) (.of main_call4_call0_call0_v136 : TRef sig ⟨S1024x2, .i32⟩) (.of main_call4_call0_call0_v137 : TRef sig ⟨S1024x2, .i32⟩) addi,
    TRef.unary (.of main_call4_call0_call0_v1 : TRef sig ⟨S_, .i32⟩) (.of main_call4_call0_call0_v138 : TRef sig ⟨S1024x2, .i32⟩) (broadcastInDim S1024x2 ![] bcast_S_S1024x2),
    TRef.binary (.of main_call4_call0_call0_v135 : TRef sig ⟨S1024x2, .i32⟩) (.of main_call4_call0_call0_v138 : TRef sig ⟨S1024x2, .i32⟩) (.of main_call4_call0_call0_v139 : TRef sig ⟨S1024x2, .i32⟩) addi,
    TRef.nullary (.of main_call4_call0_call0_c_35 : TRef sig ⟨S_, .i32⟩) (constantI S_ 32 4#32),
    TRef.unary (.of main_call4_call0_call0_c_35 : TRef sig ⟨S_, .i32⟩) (.of main_call4_call0_call0_v140 : TRef sig ⟨S1024x2, .i32⟩) (broadcastInDim S1024x2 ![] bcast_S_S1024x2),
    TRef.binary (.of main_call4_call0_call0_v139 : TRef sig ⟨S1024x2, .i32⟩) (.of main_call4_call0_call0_v140 : TRef sig ⟨S1024x2, .i32⟩) (.of main_call4_call0_call0_v141 : TRef sig ⟨S1024x2, .i32⟩) addi,
    TRef.binary (.of main_call4_call0_call0_v137 : TRef sig ⟨S1024x2, .i32⟩) (.of main_call4_call0_call0_v141 : TRef sig ⟨S1024x2, .i32⟩) (.of main_call4_call0_call0_v142 : TRef sig ⟨S1024x2, .i32⟩) addi,
    TRef.nullary (.of main_call4_call0_call0_c_36 : TRef sig ⟨S_, .i32⟩) (constantI S_ 32 13#32),
    TRef.unary (.of main_call4_call0_call0_c_36 : TRef sig ⟨S_, .i32⟩) (.of main_call4_call0_call0_v143 : TRef sig ⟨S1024x2, .i32⟩) (broadcastInDim S1024x2 ![] bcast_S_S1024x2),
    TRef.binary (.of main_call4_call0_call0_v141 : TRef sig ⟨S1024x2, .i32⟩) (.of main_call4_call0_call0_v143 : TRef sig ⟨S1024x2, .i32⟩) (.of main_call4_call0_call0_v144 : TRef sig ⟨S1024x2, .i32⟩) Host.shli,
    TRef.nullary (.of main_call4_call0_call0_c_37 : TRef sig ⟨S_, .i32⟩) (constantI S_ 32 19#32),
    TRef.unary (.of main_call4_call0_call0_c_37 : TRef sig ⟨S_, .i32⟩) (.of main_call4_call0_call0_v145 : TRef sig ⟨S1024x2, .i32⟩) (broadcastInDim S1024x2 ![] bcast_S_S1024x2),
    TRef.binary (.of main_call4_call0_call0_v141 : TRef sig ⟨S1024x2, .i32⟩) (.of main_call4_call0_call0_v145 : TRef sig ⟨S1024x2, .i32⟩) (.of main_call4_call0_call0_v146 : TRef sig ⟨S1024x2, .i32⟩) Host.shrui,
    TRef.binary (.of main_call4_call0_call0_v144 : TRef sig ⟨S1024x2, .i32⟩) (.of main_call4_call0_call0_v146 : TRef sig ⟨S1024x2, .i32⟩) (.of main_call4_call0_call0_v147 : TRef sig ⟨S1024x2, .i32⟩) ori ]

/-- Piece 16 of the noise. -/
abbrev rp16 : List (HloOp τ sig (Elt F)) :=
  [ TRef.binary (.of main_call4_call0_call0_v142 : TRef sig ⟨S1024x2, .i32⟩) (.of main_call4_call0_call0_v147 : TRef sig ⟨S1024x2, .i32⟩) (.of main_call4_call0_call0_v148 : TRef sig ⟨S1024x2, .i32⟩) xori,
    TRef.binary (.of main_call4_call0_call0_v142 : TRef sig ⟨S1024x2, .i32⟩) (.of main_call4_call0_call0_v148 : TRef sig ⟨S1024x2, .i32⟩) (.of main_call4_call0_call0_v149 : TRef sig ⟨S1024x2, .i32⟩) addi,
    TRef.nullary (.of main_call4_call0_call0_c_38 : TRef sig ⟨S_, .i32⟩) (constantI S_ 32 15#32),
    TRef.unary (.of main_call4_call0_call0_c_38 : TRef sig ⟨S_, .i32⟩) (.of main_call4_call0_call0_v150 : TRef sig ⟨S1024x2, .i32⟩) (broadcastInDim S1024x2 ![] bcast_S_S1024x2),
    TRef.binary (.of main_call4_call0_call0_v148 : TRef sig ⟨S1024x2, .i32⟩) (.of main_call4_call0_call0_v150 : TRef sig ⟨S1024x2, .i32⟩) (.of main_call4_call0_call0_v151 : TRef sig ⟨S1024x2, .i32⟩) Host.shli,
    TRef.nullary (.of main_call4_call0_call0_c_39 : TRef sig ⟨S_, .i32⟩) (constantI S_ 32 17#32),
    TRef.unary (.of main_call4_call0_call0_c_39 : TRef sig ⟨S_, .i32⟩) (.of main_call4_call0_call0_v152 : TRef sig ⟨S1024x2, .i32⟩) (broadcastInDim S1024x2 ![] bcast_S_S1024x2),
    TRef.binary (.of main_call4_call0_call0_v148 : TRef sig ⟨S1024x2, .i32⟩) (.of main_call4_call0_call0_v152 : TRef sig ⟨S1024x2, .i32⟩) (.of main_call4_call0_call0_v153 : TRef sig ⟨S1024x2, .i32⟩) Host.shrui,
    TRef.binary (.of main_call4_call0_call0_v151 : TRef sig ⟨S1024x2, .i32⟩) (.of main_call4_call0_call0_v153 : TRef sig ⟨S1024x2, .i32⟩) (.of main_call4_call0_call0_v154 : TRef sig ⟨S1024x2, .i32⟩) ori,
    TRef.binary (.of main_call4_call0_call0_v149 : TRef sig ⟨S1024x2, .i32⟩) (.of main_call4_call0_call0_v154 : TRef sig ⟨S1024x2, .i32⟩) (.of main_call4_call0_call0_v155 : TRef sig ⟨S1024x2, .i32⟩) xori,
    TRef.binary (.of main_call4_call0_call0_v149 : TRef sig ⟨S1024x2, .i32⟩) (.of main_call4_call0_call0_v155 : TRef sig ⟨S1024x2, .i32⟩) (.of main_call4_call0_call0_v156 : TRef sig ⟨S1024x2, .i32⟩) addi,
    TRef.nullary (.of main_call4_call0_call0_c_40 : TRef sig ⟨S_, .i32⟩) (constantI S_ 32 26#32),
    TRef.unary (.of main_call4_call0_call0_c_40 : TRef sig ⟨S_, .i32⟩) (.of main_call4_call0_call0_v157 : TRef sig ⟨S1024x2, .i32⟩) (broadcastInDim S1024x2 ![] bcast_S_S1024x2),
    TRef.binary (.of main_call4_call0_call0_v155 : TRef sig ⟨S1024x2, .i32⟩) (.of main_call4_call0_call0_v157 : TRef sig ⟨S1024x2, .i32⟩) (.of main_call4_call0_call0_v158 : TRef sig ⟨S1024x2, .i32⟩) Host.shli ]

/-- Piece 17 of the noise. -/
abbrev rp17 : List (HloOp τ sig (Elt F)) :=
  [ TRef.nullary (.of main_call4_call0_call0_c_41 : TRef sig ⟨S_, .i32⟩) (constantI S_ 32 6#32),
    TRef.unary (.of main_call4_call0_call0_c_41 : TRef sig ⟨S_, .i32⟩) (.of main_call4_call0_call0_v159 : TRef sig ⟨S1024x2, .i32⟩) (broadcastInDim S1024x2 ![] bcast_S_S1024x2),
    TRef.binary (.of main_call4_call0_call0_v155 : TRef sig ⟨S1024x2, .i32⟩) (.of main_call4_call0_call0_v159 : TRef sig ⟨S1024x2, .i32⟩) (.of main_call4_call0_call0_v160 : TRef sig ⟨S1024x2, .i32⟩) Host.shrui,
    TRef.binary (.of main_call4_call0_call0_v158 : TRef sig ⟨S1024x2, .i32⟩) (.of main_call4_call0_call0_v160 : TRef sig ⟨S1024x2, .i32⟩) (.of main_call4_call0_call0_v161 : TRef sig ⟨S1024x2, .i32⟩) ori,
    TRef.binary (.of main_call4_call0_call0_v156 : TRef sig ⟨S1024x2, .i32⟩) (.of main_call4_call0_call0_v161 : TRef sig ⟨S1024x2, .i32⟩) (.of main_call4_call0_call0_v162 : TRef sig ⟨S1024x2, .i32⟩) xori,
    TRef.binary (.of main_call4_call0_call0_v156 : TRef sig ⟨S1024x2, .i32⟩) (.of main_call4_call0_call0_v162 : TRef sig ⟨S1024x2, .i32⟩) (.of main_call4_call0_call0_v163 : TRef sig ⟨S1024x2, .i32⟩) addi,
    TRef.nullary (.of main_call4_call0_call0_c_42 : TRef sig ⟨S_, .i32⟩) (constantI S_ 32 6#32),
    TRef.unary (.of main_call4_call0_call0_c_42 : TRef sig ⟨S_, .i32⟩) (.of main_call4_call0_call0_v164 : TRef sig ⟨S1024x2, .i32⟩) (broadcastInDim S1024x2 ![] bcast_S_S1024x2),
    TRef.binary (.of main_call4_call0_call0_v162 : TRef sig ⟨S1024x2, .i32⟩) (.of main_call4_call0_call0_v164 : TRef sig ⟨S1024x2, .i32⟩) (.of main_call4_call0_call0_v165 : TRef sig ⟨S1024x2, .i32⟩) Host.shli,
    TRef.nullary (.of main_call4_call0_call0_c_43 : TRef sig ⟨S_, .i32⟩) (constantI S_ 32 26#32),
    TRef.unary (.of main_call4_call0_call0_c_43 : TRef sig ⟨S_, .i32⟩) (.of main_call4_call0_call0_v166 : TRef sig ⟨S1024x2, .i32⟩) (broadcastInDim S1024x2 ![] bcast_S_S1024x2),
    TRef.binary (.of main_call4_call0_call0_v162 : TRef sig ⟨S1024x2, .i32⟩) (.of main_call4_call0_call0_v166 : TRef sig ⟨S1024x2, .i32⟩) (.of main_call4_call0_call0_v167 : TRef sig ⟨S1024x2, .i32⟩) Host.shrui,
    TRef.binary (.of main_call4_call0_call0_v165 : TRef sig ⟨S1024x2, .i32⟩) (.of main_call4_call0_call0_v167 : TRef sig ⟨S1024x2, .i32⟩) (.of main_call4_call0_call0_v168 : TRef sig ⟨S1024x2, .i32⟩) ori,
    TRef.binary (.of main_call4_call0_call0_v163 : TRef sig ⟨S1024x2, .i32⟩) (.of main_call4_call0_call0_v168 : TRef sig ⟨S1024x2, .i32⟩) (.of main_call4_call0_call0_v169 : TRef sig ⟨S1024x2, .i32⟩) xori ]

/-- Piece 18 of the noise. -/
abbrev rp18 : List (HloOp τ sig (Elt F)) :=
  [ TRef.unary (.of main_call4_call0_call0_v1 : TRef sig ⟨S_, .i32⟩) (.of main_call4_call0_call0_v170 : TRef sig ⟨S1024x2, .i32⟩) (broadcastInDim S1024x2 ![] bcast_S_S1024x2),
    TRef.binary (.of main_call4_call0_call0_v163 : TRef sig ⟨S1024x2, .i32⟩) (.of main_call4_call0_call0_v170 : TRef sig ⟨S1024x2, .i32⟩) (.of main_call4_call0_v18_0 : TRef sig ⟨S1024x2, .i32⟩) addi,
    TRef.unary (.of main_call4_call0_v4 : TRef sig ⟨S_, .i32⟩) (.of main_call4_call0_call0_v172 : TRef sig ⟨S1024x2, .i32⟩) (broadcastInDim S1024x2 ![] bcast_S_S1024x2),
    TRef.binary (.of main_call4_call0_call0_v169 : TRef sig ⟨S1024x2, .i32⟩) (.of main_call4_call0_call0_v172 : TRef sig ⟨S1024x2, .i32⟩) (.of main_call4_call0_call0_v173 : TRef sig ⟨S1024x2, .i32⟩) addi,
    TRef.nullary (.of main_call4_call0_call0_c_44 : TRef sig ⟨S_, .i32⟩) (constantI S_ 32 5#32),
    TRef.unary (.of main_call4_call0_call0_c_44 : TRef sig ⟨S_, .i32⟩) (.of main_call4_call0_call0_v174 : TRef sig ⟨S1024x2, .i32⟩) (broadcastInDim S1024x2 ![] bcast_S_S1024x2),
    TRef.binary (.of main_call4_call0_call0_v173 : TRef sig ⟨S1024x2, .i32⟩) (.of main_call4_call0_call0_v174 : TRef sig ⟨S1024x2, .i32⟩) (.of main_call4_call0_v18_1 : TRef sig ⟨S1024x2, .i32⟩) addi,
    TRef.binary (.of main_call4_call0_v18_0 : TRef sig ⟨S1024x2, .i32⟩) (.of main_call4_call0_v18_1 : TRef sig ⟨S1024x2, .i32⟩) (.of main_call4_call0_v19 : TRef sig ⟨S1024x2, .i32⟩) xori,
    TRef.nullary (.of main_call4_call0_c_2 : TRef sig ⟨S_, .i32⟩) (constantI S_ 32 9#32),
    TRef.unary (.of main_call4_call0_c_2 : TRef sig ⟨S_, .i32⟩) (.of main_call4_call0_v20 : TRef sig ⟨S1024x2, .i32⟩) (broadcastInDim S1024x2 ![] bcast_S_S1024x2),
    TRef.binary (.of main_call4_call0_v19 : TRef sig ⟨S1024x2, .i32⟩) (.of main_call4_call0_v20 : TRef sig ⟨S1024x2, .i32⟩) (.of main_call4_call0_v21 : TRef sig ⟨S1024x2, .i32⟩) Host.shrui,
    TRef.nullary (.of main_call4_call0_c_3 : TRef sig ⟨S_, .i32⟩) (constantI S_ 32 1065353216#32),
    TRef.unary (.of main_call4_call0_c_3 : TRef sig ⟨S_, .i32⟩) (.of main_call4_call0_v22 : TRef sig ⟨S1024x2, .i32⟩) (broadcastInDim S1024x2 ![] bcast_S_S1024x2),
    TRef.binary (.of main_call4_call0_v21 : TRef sig ⟨S1024x2, .i32⟩) (.of main_call4_call0_v22 : TRef sig ⟨S1024x2, .i32⟩) (.of main_call4_call0_v23 : TRef sig ⟨S1024x2, .i32⟩) ori ]

/-- Piece 19 of the noise. -/
abbrev rp19 : List (HloOp τ sig (Elt F)) :=
  [ TRef.unary (.of main_call4_call0_v23 : TRef sig ⟨S1024x2, .i32⟩) (.of main_call4_call0_v24 : TRef sig ⟨S1024x2, .f32⟩) (bitcastToFloat .f32),
    TRef.nullary (.of main_call4_call0_cst : TRef sig ⟨S_, .f32⟩) (constant S_ .f32 0x3F800000#32),
    TRef.unary (.of main_call4_call0_cst : TRef sig ⟨S_, .f32⟩) (.of main_call4_call0_v25 : TRef sig ⟨S1024x2, .f32⟩) (broadcastInDim S1024x2 ![] bcast_S_S1024x2),
    TRef.binary (.of main_call4_call0_v24 : TRef sig ⟨S1024x2, .f32⟩) (.of main_call4_call0_v25 : TRef sig ⟨S1024x2, .f32⟩) (.of main_call4_call0_v26 : TRef sig ⟨S1024x2, .f32⟩) subf,
    TRef.binary (.of main_call4_call0_v2 : TRef sig ⟨S1x1, .f32⟩) (.of main_call4_call0_v1 : TRef sig ⟨S1x1, .f32⟩) (.of main_call4_call0_v27 : TRef sig ⟨S1x1, .f32⟩) subf,
    TRef.unary (.of main_call4_call0_v27 : TRef sig ⟨S1x1, .f32⟩) (.of main_call4_call0_v28 : TRef sig ⟨S1024x2, .f32⟩) (broadcastInDim S1024x2 ![0, 1] bcast_S1x1_S1024x2_0_1),
    TRef.binary (.of main_call4_call0_v26 : TRef sig ⟨S1024x2, .f32⟩) (.of main_call4_call0_v28 : TRef sig ⟨S1024x2, .f32⟩) (.of main_call4_call0_v29 : TRef sig ⟨S1024x2, .f32⟩) mulf,
    TRef.unary (.of main_call4_call0_v1 : TRef sig ⟨S1x1, .f32⟩) (.of main_call4_call0_v30 : TRef sig ⟨S1024x2, .f32⟩) (broadcastInDim S1024x2 ![0, 1] bcast_S1x1_S1024x2_0_1),
    TRef.binary (.of main_call4_call0_v29 : TRef sig ⟨S1024x2, .f32⟩) (.of main_call4_call0_v30 : TRef sig ⟨S1024x2, .f32⟩) (.of main_call4_call0_v31 : TRef sig ⟨S1024x2, .f32⟩) addf,
    TRef.unary (.of main_call4_call0_v1 : TRef sig ⟨S1x1, .f32⟩) (.of main_call4_call0_v32 : TRef sig ⟨S1024x2, .f32⟩) (broadcastInDim S1024x2 ![0, 1] bcast_S1x1_S1024x2_0_1),
    TRef.binary (.of main_call4_call0_v32 : TRef sig ⟨S1024x2, .f32⟩) (.of main_call4_call0_v31 : TRef sig ⟨S1024x2, .f32⟩) (.of main_call4_v0 : TRef sig ⟨S1024x2, .f32⟩) maximumf,
    TRef.unary (.of main_call4_v0 : TRef sig ⟨S1024x2, .f32⟩) (.of main_call4_v1 : TRef sig ⟨S1024x2, .f32⟩) Host.log,
    TRef.unary (.of main_call4_v1 : TRef sig ⟨S1024x2, .f32⟩) (.of main_call4_v2 : TRef sig ⟨S1024x2, .f32⟩) Host.negf,
    TRef.unary (.of main_call4_v2 : TRef sig ⟨S1024x2, .f32⟩) (.of main_call4_v3 : TRef sig ⟨S1024x2, .f32⟩) Host.log ]

/-- Piece 20 of the noise. -/
abbrev rp20 : List (HloOp τ sig (Elt F)) :=
  [ TRef.unary (.of main_call4_v3 : TRef sig ⟨S1024x2, .f32⟩) (.of main_v114 : TRef sig ⟨S1024x2, .f32⟩) Host.negf ]

/-- The noise is its pieces in order. -/
theorem ops11_cut : (ops11 : List (HloOp τ sig (Elt F))) = rp1 ++ (rp2 ++ (rp3 ++ (rp4 ++ (rp5 ++ (rp6 ++ (rp7 ++ (rp8 ++ (rp9 ++ (rp10 ++ (rp11 ++ (rp12 ++ (rp13 ++ (rp14 ++ (rp15 ++ (rp16 ++ (rp17 ++ (rp18 ++ (rp19 ++ (rp20))))))))))))))))))) := rfl

theorem ops11_after (V : Valuation τ sig (Elt F)) : after ops11 V = after rp20 (after rp19 (after rp18 (after rp17 (after rp16 (after rp15 (after rp14 (after rp13 (after rp12 (after rp11 (after rp10 (after rp9 (after rp8 (after rp7 (after rp6 (after rp5 (after rp4 (after rp3 (after rp2 (after rp1 V))))))))))))))))))) := by
  rw [ops11_cut]
  simp only [after_append]

end Cert.ReferenceIdeal.Run
-- ==== Proof.Tail.lean ====
/-
  The two programs' closing operations compute the same from the same: the sampled action and its log probability depend
  on the policy alone. Piece by piece, equal buffers going in give equal buffers coming out.
-/
module

public import proofs.«01_k».proof.Proof.TailK
public import proofs.«01_k».proof.Proof.TailR

@[expose] public section

set_option maxRecDepth 16384
set_option maxHeartbeats 4000000

noncomputable section

namespace Cert.Tail

open Idealize.ShloMosaic Idealize.ShloMosaic.TcCoe Idealize.ShloMosaic.StableHlo Idealize.SL.Sem

variable {F : FTy → Type} [FloatOps F] [Named F]

/-- What a buffer of the kernel's program holds. -/
abbrev kd (V : Valuation Cert.KernelIdeal.τ Cert.KernelIdeal.sig (Elt F)) (r : Ref Cert.KernelIdeal.sig .tc) := V (Proc.devRef .tc r)
/-- What a buffer of the reference's program holds. -/
abbrev rd (W : Valuation Cert.ReferenceIdeal.τ Cert.ReferenceIdeal.sig (Elt F)) (r : Ref Cert.ReferenceIdeal.sig .tc) := W (Proc.devRef .tc r)

section

variable (V : Valuation Cert.KernelIdeal.τ Cert.KernelIdeal.sig (Elt F)) (W : Valuation Cert.ReferenceIdeal.τ Cert.ReferenceIdeal.sig (Elt F))

/-- What the two programs share before the closing operations. -/
def Same0 : Prop :=
  kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ (rd W Cert.ReferenceIdeal.main_c_13 : IVec Cert.ReferenceIdeal.S_ 32) = constantI Cert.ReferenceIdeal.S_ 32 1#32

/-- What the two programs share after piece 0. -/
def Same1 : Prop :=
  kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v49 = rd W Cert.ReferenceIdeal.main_v110
  ∧ kd V Cert.KernelIdeal.main_v52 = rd W Cert.ReferenceIdeal.main_v113

/-- What the two programs share after piece 1. -/
def Same2 : Prop :=
  kd V Cert.KernelIdeal.main_call0_call0_v1 = rd W Cert.ReferenceIdeal.main_call4_call0_v1
  ∧ kd V Cert.KernelIdeal.main_call0_call0_v10 = rd W Cert.ReferenceIdeal.main_call4_call0_v10
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_call0_call0_v6 = rd W Cert.ReferenceIdeal.main_call4_call0_v6
  ∧ kd V Cert.KernelIdeal.main_call0_call0_v8 = rd W Cert.ReferenceIdeal.main_call4_call0_v8
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 2. -/
def Same3 : Prop :=
  kd V Cert.KernelIdeal.main_call0_call0_call0_v1 = rd W Cert.ReferenceIdeal.main_call4_call0_call0_v1
  ∧ kd V Cert.KernelIdeal.main_call0_call0_call0_v3 = rd W Cert.ReferenceIdeal.main_call4_call0_call0_v3
  ∧ kd V Cert.KernelIdeal.main_call0_call0_v1 = rd W Cert.ReferenceIdeal.main_call4_call0_v1
  ∧ kd V Cert.KernelIdeal.main_call0_call0_v16 = rd W Cert.ReferenceIdeal.main_call4_call0_v16
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_call0_call0_v6 = rd W Cert.ReferenceIdeal.main_call4_call0_v6
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 3. -/
def Same4 : Prop :=
  kd V Cert.KernelIdeal.main_call0_call0_call0_v1 = rd W Cert.ReferenceIdeal.main_call4_call0_call0_v1
  ∧ kd V Cert.KernelIdeal.main_call0_call0_call0_v12 = rd W Cert.ReferenceIdeal.main_call4_call0_call0_v12
  ∧ kd V Cert.KernelIdeal.main_call0_call0_call0_v13 = rd W Cert.ReferenceIdeal.main_call4_call0_call0_v13
  ∧ kd V Cert.KernelIdeal.main_call0_call0_call0_v14 = rd W Cert.ReferenceIdeal.main_call4_call0_call0_v14
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_call0_call0_v6 = rd W Cert.ReferenceIdeal.main_call4_call0_v6
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 4. -/
def Same5 : Prop :=
  kd V Cert.KernelIdeal.main_call0_call0_call0_v1 = rd W Cert.ReferenceIdeal.main_call4_call0_call0_v1
  ∧ kd V Cert.KernelIdeal.main_call0_call0_call0_v20 = rd W Cert.ReferenceIdeal.main_call4_call0_call0_v20
  ∧ kd V Cert.KernelIdeal.main_call0_call0_call0_v25 = rd W Cert.ReferenceIdeal.main_call4_call0_call0_v25
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_call0_call0_v6 = rd W Cert.ReferenceIdeal.main_call4_call0_v6
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 5. -/
def Same6 : Prop :=
  kd V Cert.KernelIdeal.main_call0_call0_call0_v1 = rd W Cert.ReferenceIdeal.main_call4_call0_call0_v1
  ∧ kd V Cert.KernelIdeal.main_call0_call0_call0_v35 = rd W Cert.ReferenceIdeal.main_call4_call0_call0_v35
  ∧ kd V Cert.KernelIdeal.main_call0_call0_call0_v37 = rd W Cert.ReferenceIdeal.main_call4_call0_call0_v37
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_call0_call0_v6 = rd W Cert.ReferenceIdeal.main_call4_call0_v6
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 6. -/
def Same7 : Prop :=
  kd V Cert.KernelIdeal.main_call0_call0_call0_c_11 = rd W Cert.ReferenceIdeal.main_call4_call0_call0_c_11
  ∧ kd V Cert.KernelIdeal.main_call0_call0_call0_v1 = rd W Cert.ReferenceIdeal.main_call4_call0_call0_v1
  ∧ kd V Cert.KernelIdeal.main_call0_call0_call0_v46 = rd W Cert.ReferenceIdeal.main_call4_call0_call0_v46
  ∧ kd V Cert.KernelIdeal.main_call0_call0_call0_v47 = rd W Cert.ReferenceIdeal.main_call4_call0_call0_v47
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_call0_call0_v6 = rd W Cert.ReferenceIdeal.main_call4_call0_v6
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 7. -/
def Same8 : Prop :=
  kd V Cert.KernelIdeal.main_call0_call0_call0_v1 = rd W Cert.ReferenceIdeal.main_call4_call0_call0_v1
  ∧ kd V Cert.KernelIdeal.main_call0_call0_call0_v54 = rd W Cert.ReferenceIdeal.main_call4_call0_call0_v54
  ∧ kd V Cert.KernelIdeal.main_call0_call0_call0_v56 = rd W Cert.ReferenceIdeal.main_call4_call0_call0_v56
  ∧ kd V Cert.KernelIdeal.main_call0_call0_call0_v58 = rd W Cert.ReferenceIdeal.main_call4_call0_call0_v58
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_call0_call0_v6 = rd W Cert.ReferenceIdeal.main_call4_call0_v6
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 8. -/
def Same9 : Prop :=
  kd V Cert.KernelIdeal.main_call0_call0_call0_v1 = rd W Cert.ReferenceIdeal.main_call4_call0_call0_v1
  ∧ kd V Cert.KernelIdeal.main_call0_call0_call0_v67 = rd W Cert.ReferenceIdeal.main_call4_call0_call0_v67
  ∧ kd V Cert.KernelIdeal.main_call0_call0_call0_v69 = rd W Cert.ReferenceIdeal.main_call4_call0_call0_v69
  ∧ kd V Cert.KernelIdeal.main_call0_call0_call0_v70 = rd W Cert.ReferenceIdeal.main_call4_call0_call0_v70
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_call0_call0_v6 = rd W Cert.ReferenceIdeal.main_call4_call0_v6
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 9. -/
def Same10 : Prop :=
  kd V Cert.KernelIdeal.main_call0_call0_call0_v1 = rd W Cert.ReferenceIdeal.main_call4_call0_call0_v1
  ∧ kd V Cert.KernelIdeal.main_call0_call0_call0_v80 = rd W Cert.ReferenceIdeal.main_call4_call0_call0_v80
  ∧ kd V Cert.KernelIdeal.main_call0_call0_call0_v81 = rd W Cert.ReferenceIdeal.main_call4_call0_call0_v81
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_call0_call0_v6 = rd W Cert.ReferenceIdeal.main_call4_call0_v6
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 10. -/
def Same11 : Prop :=
  kd V Cert.KernelIdeal.main_call0_call0_call0_v1 = rd W Cert.ReferenceIdeal.main_call4_call0_call0_v1
  ∧ kd V Cert.KernelIdeal.main_call0_call0_call0_v87 = rd W Cert.ReferenceIdeal.main_call4_call0_call0_v87
  ∧ kd V Cert.KernelIdeal.main_call0_call0_call0_v88 = rd W Cert.ReferenceIdeal.main_call4_call0_call0_v88
  ∧ kd V Cert.KernelIdeal.main_call0_call0_call0_v90 = rd W Cert.ReferenceIdeal.main_call4_call0_call0_v90
  ∧ kd V Cert.KernelIdeal.main_call0_call0_call0_v91 = rd W Cert.ReferenceIdeal.main_call4_call0_call0_v91
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_call0_call0_v6 = rd W Cert.ReferenceIdeal.main_call4_call0_v6
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 11. -/
def Same12 : Prop :=
  kd V Cert.KernelIdeal.main_call0_call0_call0_v1 = rd W Cert.ReferenceIdeal.main_call4_call0_call0_v1
  ∧ kd V Cert.KernelIdeal.main_call0_call0_call0_v101 = rd W Cert.ReferenceIdeal.main_call4_call0_call0_v101
  ∧ kd V Cert.KernelIdeal.main_call0_call0_call0_v103 = rd W Cert.ReferenceIdeal.main_call4_call0_call0_v103
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_call0_call0_v6 = rd W Cert.ReferenceIdeal.main_call4_call0_v6
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 12. -/
def Same13 : Prop :=
  kd V Cert.KernelIdeal.main_call0_call0_call0_v1 = rd W Cert.ReferenceIdeal.main_call4_call0_call0_v1
  ∧ kd V Cert.KernelIdeal.main_call0_call0_call0_v108 = rd W Cert.ReferenceIdeal.main_call4_call0_call0_v108
  ∧ kd V Cert.KernelIdeal.main_call0_call0_call0_v114 = rd W Cert.ReferenceIdeal.main_call4_call0_call0_v114
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_call0_call0_v6 = rd W Cert.ReferenceIdeal.main_call4_call0_v6
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 13. -/
def Same14 : Prop :=
  kd V Cert.KernelIdeal.main_call0_call0_call0_c_32 = rd W Cert.ReferenceIdeal.main_call4_call0_call0_c_32
  ∧ kd V Cert.KernelIdeal.main_call0_call0_call0_v1 = rd W Cert.ReferenceIdeal.main_call4_call0_call0_v1
  ∧ kd V Cert.KernelIdeal.main_call0_call0_call0_v121 = rd W Cert.ReferenceIdeal.main_call4_call0_call0_v121
  ∧ kd V Cert.KernelIdeal.main_call0_call0_call0_v122 = rd W Cert.ReferenceIdeal.main_call4_call0_call0_v122
  ∧ kd V Cert.KernelIdeal.main_call0_call0_call0_v124 = rd W Cert.ReferenceIdeal.main_call4_call0_call0_v124
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_call0_call0_v6 = rd W Cert.ReferenceIdeal.main_call4_call0_v6
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 14. -/
def Same15 : Prop :=
  kd V Cert.KernelIdeal.main_call0_call0_call0_v1 = rd W Cert.ReferenceIdeal.main_call4_call0_call0_v1
  ∧ kd V Cert.KernelIdeal.main_call0_call0_call0_v129 = rd W Cert.ReferenceIdeal.main_call4_call0_call0_v129
  ∧ kd V Cert.KernelIdeal.main_call0_call0_call0_v135 = rd W Cert.ReferenceIdeal.main_call4_call0_call0_v135
  ∧ kd V Cert.KernelIdeal.main_call0_call0_call0_v136 = rd W Cert.ReferenceIdeal.main_call4_call0_call0_v136
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 15. -/
def Same16 : Prop :=
  kd V Cert.KernelIdeal.main_call0_call0_call0_v1 = rd W Cert.ReferenceIdeal.main_call4_call0_call0_v1
  ∧ kd V Cert.KernelIdeal.main_call0_call0_call0_v142 = rd W Cert.ReferenceIdeal.main_call4_call0_call0_v142
  ∧ kd V Cert.KernelIdeal.main_call0_call0_call0_v147 = rd W Cert.ReferenceIdeal.main_call4_call0_call0_v147
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 16. -/
def Same17 : Prop :=
  kd V Cert.KernelIdeal.main_call0_call0_call0_v1 = rd W Cert.ReferenceIdeal.main_call4_call0_call0_v1
  ∧ kd V Cert.KernelIdeal.main_call0_call0_call0_v155 = rd W Cert.ReferenceIdeal.main_call4_call0_call0_v155
  ∧ kd V Cert.KernelIdeal.main_call0_call0_call0_v156 = rd W Cert.ReferenceIdeal.main_call4_call0_call0_v156
  ∧ kd V Cert.KernelIdeal.main_call0_call0_call0_v158 = rd W Cert.ReferenceIdeal.main_call4_call0_call0_v158
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 17. -/
def Same18 : Prop :=
  kd V Cert.KernelIdeal.main_call0_call0_call0_v1 = rd W Cert.ReferenceIdeal.main_call4_call0_call0_v1
  ∧ kd V Cert.KernelIdeal.main_call0_call0_call0_v163 = rd W Cert.ReferenceIdeal.main_call4_call0_call0_v163
  ∧ kd V Cert.KernelIdeal.main_call0_call0_call0_v169 = rd W Cert.ReferenceIdeal.main_call4_call0_call0_v169
  ∧ kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v4 = rd W Cert.ReferenceIdeal.main_call4_call0_v4
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 18. -/
def Same19 : Prop :=
  kd V Cert.KernelIdeal.main_call0_call0_v1 = rd W Cert.ReferenceIdeal.main_call4_call0_v1
  ∧ kd V Cert.KernelIdeal.main_call0_call0_v2 = rd W Cert.ReferenceIdeal.main_call4_call0_v2
  ∧ kd V Cert.KernelIdeal.main_call0_call0_v23 = rd W Cert.ReferenceIdeal.main_call4_call0_v23
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 19. -/
def Same20 : Prop :=
  kd V Cert.KernelIdeal.main_call0_v3 = rd W Cert.ReferenceIdeal.main_call4_v3
  ∧ kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113

/-- What the two programs share after piece 20. -/
def Same21 : Prop :=
  kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v52 = rd W Cert.ReferenceIdeal.main_v113
  ∧ kd V Cert.KernelIdeal.main_v53 = rd W Cert.ReferenceIdeal.main_v114

/-- What the two programs share after piece 21. -/
def Same22 : Prop :=
  kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v54 = rd W Cert.ReferenceIdeal.main_v115

/-- What the two programs share after piece 22. -/
def Same23 : Prop :=
  kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v55 = rd W Cert.ReferenceIdeal.main_v116

/-- What the two programs share after piece 23. -/
def Same24 : Prop :=
  kd V Cert.KernelIdeal.main_v40_2 = rd W Cert.ReferenceIdeal.main_v98
  ∧ kd V Cert.KernelIdeal.main_v40_4 = rd W Cert.ReferenceIdeal.main_v58
  ∧ kd V Cert.KernelIdeal.main_v40_5 = rd W Cert.ReferenceIdeal.main_v56
  ∧ kd V Cert.KernelIdeal.main_v55 = rd W Cert.ReferenceIdeal.main_v116
  ∧ kd V Cert.KernelIdeal.main_v56 = rd W Cert.ReferenceIdeal.main_v117

/-- What the two programs share after piece 24. -/
def Same25 : Prop :=
  kd V Cert.KernelIdeal.main_v40_4 = rd W Cert.ReferenceIdeal.main_v58
  ∧ kd V Cert.KernelIdeal.main_v40_5 = rd W Cert.ReferenceIdeal.main_v56
  ∧ kd V Cert.KernelIdeal.main_v55 = rd W Cert.ReferenceIdeal.main_v116
  ∧ kd V Cert.KernelIdeal.main_v57 = rd W Cert.ReferenceIdeal.main_v118

/-- What the two programs share after piece 25. -/
def Same26 : Prop :=
  kd V Cert.KernelIdeal.main_v55 = rd W Cert.ReferenceIdeal.main_v116
  ∧ kd V Cert.KernelIdeal.main_v61 = rd W Cert.ReferenceIdeal.main_v122
  ∧ kd V Cert.KernelIdeal.main_v62 = rd W Cert.ReferenceIdeal.main_v123
  ∧ kd V Cert.KernelIdeal.main_v63 = rd W Cert.ReferenceIdeal.main_v124

/-- The two words of the key, joined in either program. -/
theorem joined {α : Type} {a b : Cert.KernelIdeal.S1.Idx → α} {a' b' : Cert.ReferenceIdeal.S1.Idx → α} (ha : a = a') (hb : b = b') :
    concatenate Cert.KernelIdeal.S2 0 [⟨Cert.KernelIdeal.S1, a⟩, ⟨Cert.KernelIdeal.S1, b⟩] Cert.KernelIdeal.Gen.concatenates_S1_S1_S2_d0
      = concatenate Cert.ReferenceIdeal.S2 0 [⟨Cert.ReferenceIdeal.S1, a'⟩, ⟨Cert.ReferenceIdeal.S1, b'⟩] Cert.ReferenceIdeal.Gen.concatenates_S1_S1_S2_d0 := by
  subst ha hb
  rfl

theorem step0 (h : Same0 V W) : Same1 (after Cert.KernelIdeal.Gen.hostOps1 V) (after Cert.ReferenceIdeal.Run.ops10 W) := by
  obtain ⟨h0, h1, h2, h3⟩ := h
  refine ⟨?_, ?_, ?_, ?_, ?_⟩ <;>
  · after_reads_simp
    try simp only [TRef.ofBuf, TRef.toBuf, cast_cast, cast_eq]
    try simp only [h0, h1, h2, h3]
    try (refine joined ?_ ?_ <;> (after_reads_simp; try simp only [h3]; try rfl))
    try rfl

theorem step1 (h : Same1 V W) : Same2 (after Cert.KernelIdeal.Run.kp1 V) (after Cert.ReferenceIdeal.Run.rp1 W) := by
  obtain ⟨h0, h1, h2, h3, h4⟩ := h
  refine ⟨?_, ?_, ?_, ?_, ?_, ?_, ?_, ?_, ?_, ?_⟩ <;>
  · after_reads_simp
    try simp only [TRef.ofBuf, TRef.toBuf, cast_cast, cast_eq]
    try simp only [h0, h1, h2, h3, h4]
    try rfl

theorem step2 (h : Same2 V W) : Same3 (after Cert.KernelIdeal.Run.kp2 V) (after Cert.ReferenceIdeal.Run.rp2 W) := by
  obtain ⟨h0, h1, h2, h3, h4, h5, h6, h7, h8, h9⟩ := h
  refine ⟨?_, ?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9]
    try rfl

theorem step3 (h : Same3 V W) : Same4 (after Cert.KernelIdeal.Run.kp3 V) (after Cert.ReferenceIdeal.Run.rp3 W) := by
  obtain ⟨h0, h1, h2, h3, h4, h5, h6, h7, h8, h9, h10⟩ := h
  refine ⟨?_, ?_, ?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9, h10]
    try rfl

theorem step4 (h : Same4 V W) : Same5 (after Cert.KernelIdeal.Run.kp4 V) (after Cert.ReferenceIdeal.Run.rp4 W) := by
  obtain ⟨h0, h1, h2, h3, h4, h5, h6, h7, h8, h9, h10, h11⟩ := h
  refine ⟨?_, ?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9, h10, h11]
    try rfl

theorem step5 (h : Same5 V W) : Same6 (after Cert.KernelIdeal.Run.kp5 V) (after Cert.ReferenceIdeal.Run.rp5 W) := by
  obtain ⟨h0, h1, h2, h3, h4, h5, h6, h7, h8, h9, h10⟩ := h
  refine ⟨?_, ?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9, h10]
    try rfl

theorem step6 (h : Same6 V W) : Same7 (after Cert.KernelIdeal.Run.kp6 V) (after Cert.ReferenceIdeal.Run.rp6 W) := by
  obtain ⟨h0, h1, h2, h3, h4, h5, h6, h7, h8, h9, h10⟩ := h
  refine ⟨?_, ?_, ?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9, h10]
    try rfl

theorem step7 (h : Same7 V W) : Same8 (after Cert.KernelIdeal.Run.kp7 V) (after Cert.ReferenceIdeal.Run.rp7 W) := by
  obtain ⟨h0, h1, h2, h3, h4, h5, h6, h7, h8, h9, h10, h11⟩ := h
  refine ⟨?_, ?_, ?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9, h10, h11]
    try rfl

theorem step8 (h : Same8 V W) : Same9 (after Cert.KernelIdeal.Run.kp8 V) (after Cert.ReferenceIdeal.Run.rp8 W) := by
  obtain ⟨h0, h1, h2, h3, h4, h5, h6, h7, h8, h9, h10, h11⟩ := h
  refine ⟨?_, ?_, ?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9, h10, h11]
    try rfl

theorem step9 (h : Same9 V W) : Same10 (after Cert.KernelIdeal.Run.kp9 V) (after Cert.ReferenceIdeal.Run.rp9 W) := by
  obtain ⟨h0, h1, h2, h3, h4, h5, h6, h7, h8, h9, h10, h11⟩ := h
  refine ⟨?_, ?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9, h10, h11]
    try rfl

theorem step10 (h : Same10 V W) : Same11 (after Cert.KernelIdeal.Run.kp10 V) (after Cert.ReferenceIdeal.Run.rp10 W) := by
  obtain ⟨h0, h1, h2, h3, h4, h5, h6, h7, h8, h9, h10⟩ := h
  refine ⟨?_, ?_, ?_, ?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9, h10]
    try rfl

theorem step11 (h : Same11 V W) : Same12 (after Cert.KernelIdeal.Run.kp11 V) (after Cert.ReferenceIdeal.Run.rp11 W) := by
  obtain ⟨h0, h1, h2, h3, h4, h5, h6, h7, h8, h9, h10, h11, h12⟩ := h
  refine ⟨?_, ?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9, h10, h11, h12]
    try rfl

theorem step12 (h : Same12 V W) : Same13 (after Cert.KernelIdeal.Run.kp12 V) (after Cert.ReferenceIdeal.Run.rp12 W) := by
  obtain ⟨h0, h1, h2, h3, h4, h5, h6, h7, h8, h9, h10⟩ := h
  refine ⟨?_, ?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9, h10]
    try rfl

theorem step13 (h : Same13 V W) : Same14 (after Cert.KernelIdeal.Run.kp13 V) (after Cert.ReferenceIdeal.Run.rp13 W) := by
  obtain ⟨h0, h1, h2, h3, h4, h5, h6, h7, h8, h9, h10⟩ := h
  refine ⟨?_, ?_, ?_, ?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9, h10]
    try rfl

theorem step14 (h : Same14 V W) : Same15 (after Cert.KernelIdeal.Run.kp14 V) (after Cert.ReferenceIdeal.Run.rp14 W) := by
  obtain ⟨h0, h1, h2, h3, h4, h5, h6, h7, h8, h9, h10, h11, h12⟩ := h
  refine ⟨?_, ?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9, h10, h11, h12]
    try rfl

theorem step15 (h : Same15 V W) : Same16 (after Cert.KernelIdeal.Run.kp15 V) (after Cert.ReferenceIdeal.Run.rp15 W) := by
  obtain ⟨h0, h1, h2, h3, h4, h5, h6, h7, h8, h9, h10⟩ := h
  refine ⟨?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9, h10]
    try rfl

theorem step16 (h : Same16 V W) : Same17 (after Cert.KernelIdeal.Run.kp16 V) (after Cert.ReferenceIdeal.Run.rp16 W) := by
  obtain ⟨h0, h1, h2, h3, h4, h5, h6, h7, h8, h9⟩ := h
  refine ⟨?_, ?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9]
    try rfl

theorem step17 (h : Same17 V W) : Same18 (after Cert.KernelIdeal.Run.kp17 V) (after Cert.ReferenceIdeal.Run.rp17 W) := by
  obtain ⟨h0, h1, h2, h3, h4, h5, h6, h7, h8, h9, h10⟩ := h
  refine ⟨?_, ?_, ?_, ?_, ?_, ?_, ?_, ?_, ?_, ?_⟩ <;>
  · after_reads_simp
    try simp only [TRef.ofBuf, TRef.toBuf, cast_cast, cast_eq]
    try simp only [h0, h1, h2, h3, h4, h5, h6, h7, h8, h9, h10]
    try rfl

theorem step18 (h : Same18 V W) : Same19 (after Cert.KernelIdeal.Run.kp18 V) (after Cert.ReferenceIdeal.Run.rp18 W) := by
  obtain ⟨h0, h1, h2, h3, h4, h5, h6, h7, h8, h9⟩ := h
  refine ⟨?_, ?_, ?_, ?_, ?_, ?_, ?_⟩ <;>
  · after_reads_simp
    try simp only [TRef.ofBuf, TRef.toBuf, cast_cast, cast_eq]
    try simp only [h0, h1, h2, h3, h4, h5, h6, h7, h8, h9]
    try rfl

theorem step19 (h : Same19 V W) : Same20 (after Cert.KernelIdeal.Run.kp19 V) (after Cert.ReferenceIdeal.Run.rp19 W) := by
  obtain ⟨h0, h1, h2, h3, h4, h5, h6⟩ := h
  refine ⟨?_, ?_, ?_, ?_, ?_⟩ <;>
  · after_reads_simp
    try simp only [TRef.ofBuf, TRef.toBuf, cast_cast, cast_eq]
    try simp only [h0, h1, h2, h3, h4, h5, h6]
    try rfl

theorem step20 (h : Same20 V W) : Same21 (after Cert.KernelIdeal.Run.kp20 V) (after Cert.ReferenceIdeal.Run.rp20 W) := by
  obtain ⟨h0, h1, h2, h3, h4⟩ := h
  refine ⟨?_, ?_, ?_, ?_, ?_⟩ <;>
  · after_reads_simp
    try simp only [TRef.ofBuf, TRef.toBuf, cast_cast, cast_eq]
    try simp only [h0, h1, h2, h3, h4]
    try rfl

theorem step21 (h : Same21 V W) : Same22 (after Cert.KernelIdeal.Gen.hostOps1_2 V) (after Cert.ReferenceIdeal.Run.ops12 W) := by
  obtain ⟨h0, h1, h2, h3, h4⟩ := h
  refine ⟨?_, ?_, ?_, ?_⟩ <;>
  · after_reads_simp
    try simp only [TRef.ofBuf, TRef.toBuf, cast_cast, cast_eq]
    try simp only [h0, h1, h2, h3, h4]
    try rfl

theorem step22 (h : Same22 V W) : Same23 (after Cert.KernelIdeal.Gen.hostOps1_3 V) (after Cert.ReferenceIdeal.Run.ops13 W) := by
  obtain ⟨h0, h1, h2, h3⟩ := h
  refine ⟨?_, ?_, ?_, ?_⟩ <;>
  · after_reads_simp
    try simp only [TRef.ofBuf, TRef.toBuf, cast_cast, cast_eq]
    try simp only [h0, h1, h2, h3]
    try rfl

theorem step23 (h : Same23 V W) : Same24 (after Cert.KernelIdeal.Gen.hostOps1_4 V) (after Cert.ReferenceIdeal.Run.ops14 W) := by
  obtain ⟨h0, h1, h2, h3⟩ := h
  refine ⟨?_, ?_, ?_, ?_, ?_⟩ <;>
  · after_reads_simp
    try simp only [TRef.ofBuf, TRef.toBuf, cast_cast, cast_eq]
    try simp only [h0, h1, h2, h3]
    try rfl

theorem step24 (h : Same24 V W) : Same25 (after Cert.KernelIdeal.Gen.hostOps1_5 V) (after Cert.ReferenceIdeal.Run.ops15 W) := by
  obtain ⟨h0, h1, h2, h3, h4⟩ := h
  refine ⟨?_, ?_, ?_, ?_⟩ <;>
  · after_reads_simp
    try simp only [TRef.ofBuf, TRef.toBuf, cast_cast, cast_eq]
    try simp only [h0, h1, h2, h3, h4]
    try rfl

theorem step25 (h : Same25 V W) : Same26 (after Cert.KernelIdeal.Gen.hostOps1_6 V) (after Cert.ReferenceIdeal.Run.ops16 W) := by
  obtain ⟨h0, h1, h2, h3⟩ := h
  refine ⟨?_, ?_, ?_, ?_⟩ <;>
  · after_reads_simp
    try simp only [TRef.ofBuf, TRef.toBuf, cast_cast, cast_eq]
    try simp only [h0, h1, h2, h3]
    try rfl

end

end Cert.Tail
-- ==== Proof.Equation.lean ====
/-
  The equation: from equal arguments, the write index zero, the kernel and the reference end with equal results.
-/
module

public import proofs.«01_k».proof.Defs
public import proofs.«01_k».proof.Proof.KernEnd
public import proofs.«01_k».proof.Proof.RefHead
public import proofs.«01_k».proof.Proof.RefStore
public import proofs.«01_k».proof.Proof.Tail

@[expose] public section

set_option maxRecDepth 16384

noncomputable section

namespace Cert.Equation

open Idealize.ShloMosaic Idealize.ShloMosaic.TcCoe Idealize.ShloMosaic.StableHlo Idealize.SL.Sem
open Cert.KernelIdeal.Run (L T E)
open Cert.ReferenceIdeal.Run (U6 U8 U10 U17)
open Cert.Tail (kd rd)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- What the reference's device holds at the launch. -/
abbrev R : Valuation Cert.ReferenceIdeal.τ Cert.ReferenceIdeal.sig (Elt Ideal) := launchContents m' c

/-- The two programs' arguments agree. -/
def Agree : Prop :=
  rd (R m' c) Cert.ReferenceIdeal.main_arg0 = kd (L m c) Cert.KernelIdeal.main_arg0
  ∧ rd (R m' c) Cert.ReferenceIdeal.main_arg1 = kd (L m c) Cert.KernelIdeal.main_arg1
  ∧ rd (R m' c) Cert.ReferenceIdeal.main_arg2 = kd (L m c) Cert.KernelIdeal.main_arg2
  ∧ rd (R m' c) Cert.ReferenceIdeal.main_arg3 = kd (L m c) Cert.KernelIdeal.main_arg3
  ∧ rd (R m' c) Cert.ReferenceIdeal.main_arg4 = kd (L m c) Cert.KernelIdeal.main_arg4
  ∧ rd (R m' c) Cert.ReferenceIdeal.main_arg5 = kd (L m c) Cert.KernelIdeal.main_arg5
  ∧ rd (R m' c) Cert.ReferenceIdeal.main_arg6 = kd (L m c) Cert.KernelIdeal.main_arg6
  ∧ rd (R m' c) Cert.ReferenceIdeal.main_arg7 = kd (L m c) Cert.KernelIdeal.main_arg7
  ∧ rd (R m' c) Cert.ReferenceIdeal.main_arg8 = kd (L m c) Cert.KernelIdeal.main_arg8
  ∧ rd (R m' c) Cert.ReferenceIdeal.main_arg9 = kd (L m c) Cert.KernelIdeal.main_arg9
  ∧ rd (R m' c) Cert.ReferenceIdeal.main_arg10 = kd (L m c) Cert.KernelIdeal.main_arg10
  ∧ rd (R m' c) Cert.ReferenceIdeal.main_arg11 = kd (L m c) Cert.KernelIdeal.main_arg11
  ∧ rd (R m' c) Cert.ReferenceIdeal.main_arg12 = kd (L m c) Cert.KernelIdeal.main_arg12
  ∧ rd (R m' c) Cert.ReferenceIdeal.main_arg13 = kd (L m c) Cert.KernelIdeal.main_arg13
  ∧ rd (R m' c) Cert.ReferenceIdeal.main_arg14 = kd (L m c) Cert.KernelIdeal.main_arg14
  ∧ rd (R m' c) Cert.ReferenceIdeal.main_arg15 = kd (L m c) Cert.KernelIdeal.main_arg15

variable {m m' c}

theorem inp_eq (h : Agree m m' c) : Cert.ReferenceIdeal.Run.inp (R m' c) = Cert.KernelIdeal.Run.inp (L m c) := by
  obtain ⟨h0, h1, h2, h3, h4, h5, h6, h7, h8, h9, h10, h11, h12, h13, h14, h15⟩ := h
  refine (Spec.Inp.mk.injEq ..).mpr ⟨?_, ?_, ?_, ?_, ?_, ?_, ?_, ?_, ?_, ?_, ?_, ?_, ?_, ?_, ?_⟩
  · funext b k
    exact congrFun h0 _
  · funext b k
    exact congrFun h1 _
  · funext b k
    exact congrFun h2 _
  · funext b k
    exact congrFun h3 _
  · funext b k
    exact congrFun h4 _
  · funext b k
    exact congrFun h5 _
  · funext b
    exact congrFun h6 _
  · funext b k
    exact congrFun h7 _
  · funext b
    exact congrFun h8 _
  · funext b k
    exact congrFun h9 _
  · funext b
    exact congrFun h10 _
  · funext b k
    exact congrFun h11 _
  · funext b
    exact congrFun h12 _
  · funext b
    exact congrFun h13 _
  · exact congrFun h14 _

/-- What the two programs share before the closing operations. -/
theorem same_start (h : Agree m m' c) : Tail.Same0 (T m c) (U10 (R m' c)) := by
  refine ⟨?_, ?_, ?_, ?_⟩
  · refine (Cert.KernelIdeal.Run.T_pi m c).trans (funext fun y => ?_)
    obtain ⟨b, d, rfl⟩ : ∃ (b : Fin 1024) (d : Fin 2), y = ix2 b d := ⟨y 0, y 1, eq_ix2 y⟩
    refine Eq.trans ?_ (Cert.ReferenceIdeal.Run.v98 (R m' c) b d).symm
    rw [inp_eq h]
    rfl
  · refine (Cert.KernelIdeal.Run.T_ht m c).trans (funext fun y => ?_)
    obtain ⟨b, d, rfl⟩ : ∃ (b : Fin 1024) (d : Fin 64), y = ix2 b d := ⟨y 0, y 1, eq_ix2 y⟩
    have k : rd (U10 (R m' c)) Cert.ReferenceIdeal.main_v58 = rd (U6 (R m' c)) Cert.ReferenceIdeal.main_v58 := by
      unfold rd
      rw [Cert.ReferenceIdeal.Run.U10_keep _ (r := Cert.ReferenceIdeal.main_v58) (by decide +kernel), Cert.ReferenceIdeal.Run.U9_keep _ (r := Cert.ReferenceIdeal.main_v58) (by decide +kernel), Cert.ReferenceIdeal.Run.U8_keep _ (r := Cert.ReferenceIdeal.main_v58) (by decide +kernel), Cert.ReferenceIdeal.Run.U7_keep _ (r := Cert.ReferenceIdeal.main_v58) (by decide +kernel)]
    refine Eq.trans ?_ ((congrFun k (ix2 b d)).trans (Cert.ReferenceIdeal.Run.v58 (R m' c) b d)).symm
    rw [inp_eq h]
    rfl
  · refine (Cert.KernelIdeal.Run.T_ct m c).trans (funext fun y => ?_)
    obtain ⟨b, d, rfl⟩ : ∃ (b : Fin 1024) (d : Fin 64), y = ix2 b d := ⟨y 0, y 1, eq_ix2 y⟩
    have k : rd (U10 (R m' c)) Cert.ReferenceIdeal.main_v56 = rd (U6 (R m' c)) Cert.ReferenceIdeal.main_v56 := by
      unfold rd
      rw [Cert.ReferenceIdeal.Run.U10_keep _ (r := Cert.ReferenceIdeal.main_v56) (by decide +kernel), Cert.ReferenceIdeal.Run.U9_keep _ (r := Cert.ReferenceIdeal.main_v56) (by decide +kernel), Cert.ReferenceIdeal.Run.U8_keep _ (r := Cert.ReferenceIdeal.main_v56) (by decide +kernel), Cert.ReferenceIdeal.Run.U7_keep _ (r := Cert.ReferenceIdeal.main_v56) (by decide +kernel)]
    refine Eq.trans ?_ ((congrFun k (ix2 b d)).trans (Cert.ReferenceIdeal.Run.v56 (R m' c) b d)).symm
    rw [inp_eq h]
    rfl
  · show rd (after Cert.ReferenceIdeal.Run.ops9 (Cert.ReferenceIdeal.Run.U9 (R m' c))) Cert.ReferenceIdeal.main_c_13 = _
    after_reads_simp

/-- The noise, piece by piece. -/
theorem same_noise {V : Valuation Cert.KernelIdeal.τ Cert.KernelIdeal.sig (Elt Ideal)} {W : Valuation Cert.ReferenceIdeal.τ Cert.ReferenceIdeal.sig (Elt Ideal)}
    (h : Tail.Same1 V W) : Tail.Same21 (after Cert.KernelIdeal.Gen.hostOps1_1 V) (after Cert.ReferenceIdeal.Run.ops11 W) := by
  rw [Cert.KernelIdeal.Run.hostOps1_1_after, Cert.ReferenceIdeal.Run.ops11_after]
  exact Tail.step20 _ _ (Tail.step19 _ _ (Tail.step18 _ _ (Tail.step17 _ _ (Tail.step16 _ _ (Tail.step15 _ _ (Tail.step14 _ _ (Tail.step13 _ _ (Tail.step12 _ _ (Tail.step11 _ _ (Tail.step10 _ _ (Tail.step9 _ _ (Tail.step8 _ _ (Tail.step7 _ _ (Tail.step6 _ _ (Tail.step5 _ _ (Tail.step4 _ _ (Tail.step3 _ _ (Tail.step2 _ _ (Tail.step1 _ _ h)))))))))))))))))))

/-- The results of the closing operations agree. -/
theorem same_end (h : Agree m m' c) : Tail.Same26 (E m c) (U17 (R m' c)) := by
  have e := Tail.step25 _ _ (Tail.step24 _ _ (Tail.step23 _ _ (Tail.step22 _ _ (Tail.step21 _ _ (same_noise (Tail.step0 _ _ (same_start h)))))))
  exact e

/-- The new keys agree, the write index zero. -/
theorem same_keys (h : Agree m m' c) (h0 : (rd (R m' c) Cert.ReferenceIdeal.main_arg15 : IVec Cert.ReferenceIdeal.S_ 32) ix0 = 0#32) :
    kd (E m c) Cert.KernelIdeal.main_v41 = rd (U17 (R m' c)) Cert.ReferenceIdeal.main_v69 := by
  have k : rd (U17 (R m' c)) Cert.ReferenceIdeal.main_v69 = rd (U8 (R m' c)) Cert.ReferenceIdeal.main_v69 := by
    unfold rd
    rw [Cert.ReferenceIdeal.Run.U17_keep _ (r := Cert.ReferenceIdeal.main_v69) (by decide +kernel), Cert.ReferenceIdeal.Run.U16_keep _ (r := Cert.ReferenceIdeal.main_v69) (by decide +kernel), Cert.ReferenceIdeal.Run.U15_keep _ (r := Cert.ReferenceIdeal.main_v69) (by decide +kernel), Cert.ReferenceIdeal.Run.U14_keep _ (r := Cert.ReferenceIdeal.main_v69) (by decide +kernel), Cert.ReferenceIdeal.Run.U13_keep _ (r := Cert.ReferenceIdeal.main_v69) (by decide +kernel), Cert.ReferenceIdeal.Run.U12_keep _ (r := Cert.ReferenceIdeal.main_v69) (by decide +kernel), Cert.ReferenceIdeal.Run.U11_keep _ (r := Cert.ReferenceIdeal.main_v69) (by decide +kernel), Cert.ReferenceIdeal.Run.U10_keep _ (r := Cert.ReferenceIdeal.main_v69) (by decide +kernel), Cert.ReferenceIdeal.Run.U9_keep _ (r := Cert.ReferenceIdeal.main_v69) (by decide +kernel)]
  rw [k]
  funext y
  obtain ⟨r, d, rfl⟩ : ∃ (r : Fin 100000) (d : Fin 10), y = ix2 r d := ⟨y 0, y 1, eq_ix2 y⟩
  refine (Cert.KernelIdeal.Run.E_keys m c r d).trans (Eq.trans ?_ (Cert.ReferenceIdeal.Run.v69 (R m' c) h0 r d).symm)
  rw [inp_eq h]

/-- The new values agree, the write index zero. -/
theorem same_vals (h : Agree m m' c) (h0 : (rd (R m' c) Cert.ReferenceIdeal.main_arg15 : IVec Cert.ReferenceIdeal.S_ 32) ix0 = 0#32) :
    kd (E m c) Cert.KernelIdeal.main_v42 = rd (U17 (R m' c)) Cert.ReferenceIdeal.main_v76 := by
  have k : rd (U17 (R m' c)) Cert.ReferenceIdeal.main_v76 = rd (U8 (R m' c)) Cert.ReferenceIdeal.main_v76 := by
    unfold rd
    rw [Cert.ReferenceIdeal.Run.U17_keep _ (r := Cert.ReferenceIdeal.main_v76) (by decide +kernel), Cert.ReferenceIdeal.Run.U16_keep _ (r := Cert.ReferenceIdeal.main_v76) (by decide +kernel), Cert.ReferenceIdeal.Run.U15_keep _ (r := Cert.ReferenceIdeal.main_v76) (by decide +kernel), Cert.ReferenceIdeal.Run.U14_keep _ (r := Cert.ReferenceIdeal.main_v76) (by decide +kernel), Cert.ReferenceIdeal.Run.U13_keep _ (r := Cert.ReferenceIdeal.main_v76) (by decide +kernel), Cert.ReferenceIdeal.Run.U12_keep _ (r := Cert.ReferenceIdeal.main_v76) (by decide +kernel), Cert.ReferenceIdeal.Run.U11_keep _ (r := Cert.ReferenceIdeal.main_v76) (by decide +kernel), Cert.ReferenceIdeal.Run.U10_keep _ (r := Cert.ReferenceIdeal.main_v76) (by decide +kernel), Cert.ReferenceIdeal.Run.U9_keep _ (r := Cert.ReferenceIdeal.main_v76) (by decide +kernel)]
  rw [k]
  funext y
  obtain ⟨r, d, rfl⟩ : ∃ (r : Fin 100000) (d : Fin 64), y = ix2 r d := ⟨y 0, y 1, eq_ix2 y⟩
  refine (Cert.KernelIdeal.Run.E_vals m c r d).trans (Eq.trans ?_ (Cert.ReferenceIdeal.Run.v76 (R m' c) h0 r d).symm)
  rw [inp_eq h]

/-- The state values agree. -/
theorem same_val (h : Agree m m' c) : (Cert.KernelIdeal.Run.valArr m c : Cert.KernelIdeal.S1024x1.Idx → EReal) = rd (U17 (R m' c)) Cert.ReferenceIdeal.main_v103 := by
  have k : rd (U17 (R m' c)) Cert.ReferenceIdeal.main_v103 = rd (U10 (R m' c)) Cert.ReferenceIdeal.main_v103 := by
    unfold rd
    rw [Cert.ReferenceIdeal.Run.U17_keep _ (r := Cert.ReferenceIdeal.main_v103) (by decide +kernel), Cert.ReferenceIdeal.Run.U16_keep _ (r := Cert.ReferenceIdeal.main_v103) (by decide +kernel), Cert.ReferenceIdeal.Run.U15_keep _ (r := Cert.ReferenceIdeal.main_v103) (by decide +kernel), Cert.ReferenceIdeal.Run.U14_keep _ (r := Cert.ReferenceIdeal.main_v103) (by decide +kernel), Cert.ReferenceIdeal.Run.U13_keep _ (r := Cert.ReferenceIdeal.main_v103) (by decide +kernel), Cert.ReferenceIdeal.Run.U12_keep _ (r := Cert.ReferenceIdeal.main_v103) (by decide +kernel), Cert.ReferenceIdeal.Run.U11_keep _ (r := Cert.ReferenceIdeal.main_v103) (by decide +kernel)]
  rw [k]
  funext y
  obtain ⟨b, d, rfl⟩ : ∃ (b : Fin 1024) (d : Fin 1), y = ix2 b d := ⟨y 0, y 1, eq_ix2 y⟩
  obtain rfl := Fin.eq_zero d
  refine Eq.trans ?_ (Cert.ReferenceIdeal.Run.v103 (R m' c) b).symm
  rw [inp_eq h]
  rfl

end Cert.Equation
-- ==== Proof.lean ====
module

public import proofs.«01_k».proof.Defs
public import proofs.«01_k».proof.Proof.KernelFrame
public import proofs.«01_k».proof.Proof.IdealFrame
public import proofs.«01_k».proof.Proof.Pure
public import proofs.«01_k».proof.Proof.RefRun
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The kernel terminates without a fault, keeps its arguments and leaves every counter at zero, whatever the floats are. -/
theorem frame_kernel : Cert.quiescent_Kernel := fun m ρ _ => Cert.Kernel.Run.frame m ρ

/-- So does its reading over the extended reals; the ragged chunk reads only lanes inside the memory. -/
theorem frame_ideal : Cert.quiescent_KernelIdeal := fun m ρ _ => Cert.KernelIdeal.Run.frame m ρ Cert.KernelIdeal.Run.ragged

/-- So does the reference. -/
theorem frame_reference : Cert.quiescent_ReferenceIdeal := by
  intro m ρ _
  refine θ_run_mono (Cert.ReferenceIdeal.Run.run_main m ρ) fun r h => ⟨fun c => ?_, h.2⟩
  refine ⟨?_, ?_, ?_, ?_, ?_, ?_, ?_, ?_, ?_, ?_, ?_, ?_, ?_, ?_, ?_, ?_⟩ <;>
    exact (h.1 c _).trans (Cert.ReferenceIdeal.Run.kept _ (by decide +kernel))

/-- The one literal that is named is the rounded `1 / log 2`. -/
theorem preserves : Cert.preserves_Kernel_KernelIdeal :=
  IdealRules.named_const.statement Cert.KernelIdeal.κ "log2e" .f32 0x3FB8AA3B#32 (((Real.log 2)⁻¹ : ℝ) : EReal) rfl

/-- The precondition says that the write index is zero. -/
theorem index_zero (m : (ℓ : Loc Cert.KernelIdeal.nD Cert.KernelIdeal.τ Cert.KernelIdeal.sig) → Buf (Elt Ideal) ℓ)
    (h : Cert.Pre_KernelIdeal_write_idx_zero (hPre_write_idx_zero := ⟨⟩) m) (c : Dev Cert.KernelIdeal.nD) :
    (Tail.kd (Cert.KernelIdeal.Run.L m c) Cert.KernelIdeal.main_arg15 : IVec Cert.KernelIdeal.S_ 32) ix0 = 0#32 := by
  have e : BitVec.ofBool ((Tail.kd (Cert.KernelIdeal.Run.L m c) Cert.KernelIdeal.main_arg15 : IVec Cert.KernelIdeal.S_ 32) ix0 == 0#32) = 1#1 := congrFun (h c) ix0
  by_contra hne
  rw [beq_eq_false_iff_ne.mpr hne] at e
  exact absurd e (by decide)

/-- From equal arguments and the write index zero, the kernel's ideal reading and the reference end with equal results. -/
theorem algebraic : Cert.algebraic_KernelIdeal_ReferenceIdeal_pre_write_idx_zero (hKernelIdeal := Cert.KernelIdeal.Gen.facts)
    (hReferenceIdeal := Cert.ReferenceIdeal.Gen.facts) (hPre_write_idx_zero := ⟨⟩) := by
  intro m g m' g' hpre hargs
  have hagree : ∀ c, Equation.Agree m m' c := fun c => hargs c
  have hz : ∀ c, (Tail.rd (Equation.R m' c) Cert.ReferenceIdeal.main_arg15 : IVec Cert.ReferenceIdeal.S_ 32) ix0 = 0#32 := fun c =>
    (congrFun (hargs c).2.2.2.2.2.2.2.2.2.2.2.2.2.2.2 ix0).trans (index_zero m hpre c)
  refine ⟨fun c => Cert.KernelIdeal.Run.E m c (Proc.devRef .tc Cert.KernelIdeal.main_v55),
    fun c => Cert.KernelIdeal.Run.E m c (Proc.devRef .tc Cert.KernelIdeal.main_v61),
    fun c => Cert.KernelIdeal.Run.valArr m c,
    fun c => Cert.KernelIdeal.Run.E m c (Proc.devRef .tc Cert.KernelIdeal.main_v62),
    fun c => Cert.KernelIdeal.Run.E m c (Proc.devRef .tc Cert.KernelIdeal.main_v63),
    fun c => Cert.KernelIdeal.Run.E m c (Proc.devRef .tc Cert.KernelIdeal.main_v41),
    fun c => Cert.KernelIdeal.Run.E m c (Proc.devRef .tc Cert.KernelIdeal.main_v42), ?_, ?_⟩
  · refine θ_run_mono (θ_run_and (Cert.KernelIdeal.Run.run_main m g Cert.KernelIdeal.Run.ragged) (Cert.KernelIdeal.Run.frame m g Cert.KernelIdeal.Run.ragged)) fun r h c =>
      ⟨?_, ?_, ?_, ?_, ?_, ?_, ?_, h.2.1 c⟩
    · exact ((h.1 c).2 Cert.KernelIdeal.main_v55 (Pipeline.mem_restRefs_of Cert.KernelIdeal.main_v55 (by decide) (by decide))).trans (Cert.KernelIdeal.Run.end_eq m c Cert.KernelIdeal.main_v55)
    · exact ((h.1 c).2 Cert.KernelIdeal.main_v61 (Pipeline.mem_restRefs_of Cert.KernelIdeal.main_v61 (by decide) (by decide))).trans (Cert.KernelIdeal.Run.end_eq m c Cert.KernelIdeal.main_v61)
    · exact ((h.1 c).1 19).trans (Cert.KernelIdeal.Run.arr19 m c)
    · exact ((h.1 c).2 Cert.KernelIdeal.main_v62 (Pipeline.mem_restRefs_of Cert.KernelIdeal.main_v62 (by decide) (by decide))).trans (Cert.KernelIdeal.Run.end_eq m c Cert.KernelIdeal.main_v62)
    · exact ((h.1 c).2 Cert.KernelIdeal.main_v63 (Pipeline.mem_restRefs_of Cert.KernelIdeal.main_v63 (by decide) (by decide))).trans (Cert.KernelIdeal.Run.end_eq m c Cert.KernelIdeal.main_v63)
    · exact ((h.1 c).2 Cert.KernelIdeal.main_v41 (Pipeline.mem_restRefs_of Cert.KernelIdeal.main_v41 (by decide) (by decide))).trans (Cert.KernelIdeal.Run.end_eq m c Cert.KernelIdeal.main_v41)
    · exact ((h.1 c).2 Cert.KernelIdeal.main_v42 (Pipeline.mem_restRefs_of Cert.KernelIdeal.main_v42 (by decide) (by decide))).trans (Cert.KernelIdeal.Run.end_eq m c Cert.KernelIdeal.main_v42)
  · refine θ_run_mono (Cert.ReferenceIdeal.Run.run_main m' g') fun r h c => ?_
    have e := Equation.same_end (hagree c)
    refine ⟨?_, ?_, ?_, ?_, ?_, ?_, ?_, ?_, ?_, ?_, ?_, ?_, ?_, ?_, ?_, ?_, ?_, ?_, ?_, ?_, ?_, ?_, ?_⟩
    · exact (h.1 c _).trans (Eq.symm (e.1))
    · exact (h.1 c _).trans (Eq.symm (e.2.1))
    · exact (h.1 c _).trans (Eq.symm (Equation.same_val (hagree c)))
    · exact (h.1 c _).trans (Eq.symm (e.2.2.1))
    · exact (h.1 c _).trans (Eq.symm (e.2.2.2))
    · exact (h.1 c _).trans (Eq.symm (Equation.same_keys (hagree c) (hz c)))
    · exact (h.1 c _).trans (Eq.symm (Equation.same_vals (hagree c) (hz c)))
    all_goals exact (h.1 c _).trans (Cert.ReferenceIdeal.Run.kept _ (by decide +kernel))

theorem claim : Cert.Claim := ⟨Cert.Kernel.Gen.facts, Cert.KernelIdeal.Gen.facts, Cert.ReferenceIdeal.Gen.facts, ⟨⟩,
  frame_kernel, frame_ideal, fun m ρ _ => frame_ideal m ρ trivial, frame_reference, fun m ρ _ => frame_reference m ρ trivial,
  preserves, algebraic⟩

end Cert.Proof

end
